-- ==== Defs.lean ====
def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_KernelIdeal_sound [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def Pre_Words [hPre_in_range : Cert.Pre_in_range.Facts] (m : (ℓ : Loc Cert.Words.nD Cert.Words.τ Cert.Words.sig) → Buf (Elt Bits) ℓ) : Prop :=
  ∀ c : Dev Cert.Words.nD,
    (Cert.Pre_in_range.fn (F := Bits) (m ((c.tc : Thread Cert.Words.nD Cert.Words.τ).loc Cert.Words.main_arg0)) (m ((c.tc : Thread Cert.Words.nD Cert.Words.τ).loc Cert.Words.main_arg1)) (m ((c.tc : Thread Cert.Words.nD Cert.Words.τ).loc Cert.Words.main_arg2)) (m ((c.tc : Thread Cert.Words.nD Cert.Words.τ).loc Cert.Words.main_arg3)) (m ((c.tc : Thread Cert.Words.nD Cert.Words.τ).loc Cert.Words.main_arg4)) (m ((c.tc : Thread Cert.Words.nD Cert.Words.τ).loc Cert.Words.main_arg5)) (m ((c.tc : Thread Cert.Words.nD Cert.Words.τ).loc Cert.Words.main_arg6)) (m ((c.tc : Thread Cert.Words.nD Cert.Words.τ).loc Cert.Words.main_arg7)) (m ((c.tc : Thread Cert.Words.nD Cert.Words.τ).loc Cert.Words.main_arg8))).1 = (fun _ => 1#1)
    ∧ (Cert.Pre_in_range.fn (F := Bits) (m ((c.tc : Thread Cert.Words.nD Cert.Words.τ).loc Cert.Words.main_arg0)) (m ((c.tc : Thread Cert.Words.nD Cert.Words.τ).loc Cert.Words.main_arg1)) (m ((c.tc : Thread Cert.Words.nD Cert.Words.τ).loc Cert.Words.main_arg2)) (m ((c.tc : Thread Cert.Words.nD Cert.Words.τ).loc Cert.Words.main_arg3)) (m ((c.tc : Thread Cert.Words.nD Cert.Words.τ).loc Cert.Words.main_arg4)) (m ((c.tc : Thread Cert.Words.nD Cert.Words.τ).loc Cert.Words.main_arg5)) (m ((c.tc : Thread Cert.Words.nD Cert.Words.τ).loc Cert.Words.main_arg6)) (m ((c.tc : Thread Cert.Words.nD Cert.Words.τ).loc Cert.Words.main_arg7)) (m ((c.tc : Thread Cert.Words.nD Cert.Words.τ).loc Cert.Words.main_arg8))).2 = (fun _ => 1#1)

def Pre_WordsIdeal [hPre_in_range : Cert.Pre_in_range.Facts] (m : (ℓ : Loc Cert.WordsIdeal.nD Cert.WordsIdeal.τ Cert.WordsIdeal.sig) → Buf (Elt Ideal) ℓ) : Prop :=
  ∀ c : Dev Cert.WordsIdeal.nD,
    (Cert.Pre_in_range.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).1 = (fun _ => 1#1)
    ∧ (Cert.Pre_in_range.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2 = (fun _ => 1#1)

def Pre_WordsIdeal_sound [hPre_sound : Cert.Pre_sound.Facts] (m : (ℓ : Loc Cert.WordsIdeal.nD Cert.WordsIdeal.τ Cert.WordsIdeal.sig) → Buf (Elt Ideal) ℓ) : Prop :=
  ∀ c : Dev Cert.WordsIdeal.nD,
    (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.2.1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.2.2.1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.2.2.2.1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.2.2.2.2.1 = (fun _ => 1#1)
    ∧ (Cert.Pre_sound.fn (F := Ideal) (m ((c.tc : Thread Cert.WordsIdeal.nD Cert.WordsIdeal.τ).loc Cert.WordsIdeal.main_arg0)) (m ((c.tc : Thread Cert.WordsIdeal.nD Cert.WordsIdeal.τ).loc Cert.WordsIdeal.main_arg1)) (m ((c.tc : Thread Cert.WordsIdeal.nD Cert.WordsIdeal.τ).loc Cert.WordsIdeal.main_arg2)) (m ((c.tc : Thread Cert.WordsIdeal.nD Cert.WordsIdeal.τ).loc Cert.WordsIdeal.main_arg3)) (m ((c.tc : Thread Cert.WordsIdeal.nD Cert.WordsIdeal.τ).loc Cert.WordsIdeal.main_arg4)) (m ((c.tc : Thread Cert.WordsIdeal.nD Cert.WordsIdeal.τ).loc Cert.WordsIdeal.main_arg5)) (m ((c.tc : Thread Cert.WordsIdeal.nD Cert.WordsIdeal.τ).loc Cert.WordsIdeal.main_arg6)) (m ((c.tc : Thread Cert.WordsIdeal.nD Cert.WordsIdeal.τ).loc Cert.WordsIdeal.main_arg7)) (m ((c.tc : Thread Cert.WordsIdeal.nD Cert.WordsIdeal.τ).loc Cert.WordsIdeal.main_arg8))).2.2.2.2.2.2 = (fun _ => 1#1)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_sound [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Words [hWords : Cert.Words.Facts] [hPre_in_range : Cert.Pre_in_range.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0)
      ∧ r.2.mem ((c.tc : Thread Cert.Words.nD Cert.Words.τ).loc Cert.Words.main_arg1) = m ((c.tc : Thread Cert.Words.nD Cert.Words.τ).loc Cert.Words.main_arg1)
      ∧ r.2.mem ((c.tc : Thread Cert.Words.nD Cert.Words.τ).loc Cert.Words.main_arg2) = m ((c.tc : Thread Cert.Words.nD Cert.Words.τ).loc Cert.Words.main_arg2)
      ∧ r.2.mem ((c.tc : Thread Cert.Words.nD Cert.Words.τ).loc Cert.Words.main_arg3) = m ((c.tc : Thread Cert.Words.nD Cert.Words.τ).loc Cert.Words.main_arg3)
      ∧ r.2.mem ((c.tc : Thread Cert.Words.nD Cert.Words.τ).loc Cert.Words.main_arg4) = m ((c.tc : Thread Cert.Words.nD Cert.Words.τ).loc Cert.Words.main_arg4)
      ∧ r.2.mem ((c.tc : Thread Cert.Words.nD Cert.Words.τ).loc Cert.Words.main_arg5) = m ((c.tc : Thread Cert.Words.nD Cert.Words.τ).loc Cert.Words.main_arg5)
      ∧ r.2.mem ((c.tc : Thread Cert.Words.nD Cert.Words.τ).loc Cert.Words.main_arg6) = m ((c.tc : Thread Cert.Words.nD Cert.Words.τ).loc Cert.Words.main_arg6)
      ∧ r.2.mem ((c.tc : Thread Cert.Words.nD Cert.Words.τ).loc Cert.Words.main_arg7) = m ((c.tc : Thread Cert.Words.nD Cert.Words.τ).loc Cert.Words.main_arg7)
      ∧ r.2.mem ((c.tc : Thread Cert.Words.nD Cert.Words.τ).loc Cert.Words.main_arg8) = m ((c.tc : Thread Cert.Words.nD Cert.Words.τ).loc Cert.Words.main_arg8))
      ∧ r.2.sem = fun _ => 0)

def quiescent_WordsIdeal [hWordsIdeal : Cert.WordsIdeal.Facts] [hPre_in_range : Cert.Pre_in_range.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal m →
    θ_run (Cert.WordsIdeal.defs (F := Ideal)) (onTc (τ := Cert.WordsIdeal.τ) (Cert.WordsIdeal.main (F := Ideal))) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
      ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
      ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
      ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3)
      ∧ r.2.mem ((c.tc : Thread Cert.WordsIdeal.nD Cert.WordsIdeal.τ).loc Cert.WordsIdeal.main_arg4) = m ((c.tc : Thread Cert.WordsIdeal.nD Cert.WordsIdeal.τ).loc Cert.WordsIdeal.main_arg4)
      ∧ r.2.mem ((c.tc : Thread Cert.WordsIdeal.nD Cert.WordsIdeal.τ).loc Cert.WordsIdeal.main_arg5) = m ((c.tc : Thread Cert.WordsIdeal.nD Cert.WordsIdeal.τ).loc Cert.WordsIdeal.main_arg5)
      ∧ r.2.mem ((c.tc : Thread Cert.WordsIdeal.nD Cert.WordsIdeal.τ).loc Cert.WordsIdeal.main_arg6) = m ((c.tc : Thread Cert.WordsIdeal.nD Cert.WordsIdeal.τ).loc Cert.WordsIdeal.main_arg6)
      ∧ r.2.mem ((c.tc : Thread Cert.WordsIdeal.nD Cert.WordsIdeal.τ).loc Cert.WordsIdeal.main_arg7) = m ((c.tc : Thread Cert.WordsIdeal.nD Cert.WordsIdeal.τ).loc Cert.WordsIdeal.main_arg7)
      ∧ r.2.mem ((c.tc : Thread Cert.WordsIdeal.nD Cert.WordsIdeal.τ).loc Cert.WordsIdeal.main_arg8) = m ((c.tc : Thread Cert.WordsIdeal.nD Cert.WordsIdeal.τ).loc Cert.WordsIdeal.main_arg8))
      ∧ r.2.sem = fun _ => 0)

def quiescent_WordsIdeal_pre_sound [hWordsIdeal : Cert.WordsIdeal.Facts] [hPre_sound : Cert.Pre_sound.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal_sound m →
    θ_run (Cert.WordsIdeal.defs (F := Ideal)) (onTc (τ := Cert.WordsIdeal.τ) (Cert.WordsIdeal.main (F := Ideal))) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
      ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
      ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
      ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3)
      ∧ r.2.mem ((c.tc : Thread Cert.WordsIdeal.nD Cert.WordsIdeal.τ).loc Cert.WordsIdeal.main_arg4) = m ((c.tc : Thread Cert.WordsIdeal.nD Cert.WordsIdeal.τ).loc Cert.WordsIdeal.main_arg4)
      ∧ r.2.mem ((c.tc : Thread Cert.WordsIdeal.nD Cert.WordsIdeal.τ).loc Cert.WordsIdeal.main_arg5) = m ((c.tc : Thread Cert.WordsIdeal.nD Cert.WordsIdeal.τ).loc Cert.WordsIdeal.main_arg5)
      ∧ r.2.mem ((c.tc : Thread Cert.WordsIdeal.nD Cert.WordsIdeal.τ).loc Cert.WordsIdeal.main_arg6) = m ((c.tc : Thread Cert.WordsIdeal.nD Cert.WordsIdeal.τ).loc Cert.WordsIdeal.main_arg6)
      ∧ r.2.mem ((c.tc : Thread Cert.WordsIdeal.nD Cert.WordsIdeal.τ).loc Cert.WordsIdeal.main_arg7) = m ((c.tc : Thread Cert.WordsIdeal.nD Cert.WordsIdeal.τ).loc Cert.WordsIdeal.main_arg7)
      ∧ r.2.mem ((c.tc : Thread Cert.WordsIdeal.nD Cert.WordsIdeal.τ).loc Cert.WordsIdeal.main_arg8) = m ((c.tc : Thread Cert.WordsIdeal.nD Cert.WordsIdeal.τ).loc Cert.WordsIdeal.main_arg8))
      ∧ r.2.sem = fun _ => 0)

def algebraic_KernelIdeal_ReferenceIdeal_pre_sound [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Words_WordsIdeal : Prop :=
  True

def algebraic_WordsIdeal_ReferenceIdeal_pre_sound [hWordsIdeal : Cert.WordsIdeal.Facts] [hReferenceIdeal : Cert.ReferenceIdeal.Facts] [hPre_sound : Cert.Pre_sound.Facts] : Prop :=
  ∀ (m : (ℓ : Loc Cert.WordsIdeal.nD Cert.WordsIdeal.τ Cert.WordsIdeal.sig) → Buf (Elt Ideal) ℓ) (g : Dev Cert.WordsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_WordsIdeal_sound m →
    (∀ c : Dev Cert.WordsIdeal.nD,
      m' ((c.tc : Thread Cert.ReferenceIdeal.nD Cert.ReferenceIdeal.τ).loc Cert.ReferenceIdeal.main_arg0) = m ((c.tc : Thread Cert.WordsIdeal.nD Cert.WordsIdeal.τ).loc Cert.WordsIdeal.main_arg0)
      ∧ m' ((c.tc : Thread Cert.ReferenceIdeal.nD Cert.ReferenceIdeal.τ).loc Cert.ReferenceIdeal.main_arg1) = m ((c.tc : Thread Cert.WordsIdeal.nD Cert.WordsIdeal.τ).loc Cert.WordsIdeal.main_arg1)
      ∧ m' ((c.tc : Thread Cert.ReferenceIdeal.nD Cert.ReferenceIdeal.τ).loc Cert.ReferenceIdeal.main_arg2) = m ((c.tc : Thread Cert.WordsIdeal.nD Cert.WordsIdeal.τ).loc Cert.WordsIdeal.main_arg2)
      ∧ m' ((c.tc : Thread Cert.ReferenceIdeal.nD Cert.ReferenceIdeal.τ).loc Cert.ReferenceIdeal.main_arg3) = m ((c.tc : Thread Cert.WordsIdeal.nD Cert.WordsIdeal.τ).loc Cert.WordsIdeal.main_arg3)
      ∧ m' ((c.tc : Thread Cert.ReferenceIdeal.nD Cert.ReferenceIdeal.τ).loc Cert.ReferenceIdeal.main_arg4) = m ((c.tc : Thread Cert.WordsIdeal.nD Cert.WordsIdeal.τ).loc Cert.WordsIdeal.main_arg4)
      ∧ m' ((c.tc : Thread Cert.ReferenceIdeal.nD Cert.ReferenceIdeal.τ).loc Cert.ReferenceIdeal.main_arg5) = m ((c.tc : Thread Cert.WordsIdeal.nD Cert.WordsIdeal.τ).loc Cert.WordsIdeal.main_arg5)
      ∧ m' ((c.tc : Thread Cert.ReferenceIdeal.nD Cert.ReferenceIdeal.τ).loc Cert.ReferenceIdeal.main_arg6) = m ((c.tc : Thread Cert.WordsIdeal.nD Cert.WordsIdeal.τ).loc Cert.WordsIdeal.main_arg6)
      ∧ m' ((c.tc : Thread Cert.ReferenceIdeal.nD Cert.ReferenceIdeal.τ).loc Cert.ReferenceIdeal.main_arg7) = m ((c.tc : Thread Cert.WordsIdeal.nD Cert.WordsIdeal.τ).loc Cert.WordsIdeal.main_arg7)
      ∧ m' ((c.tc : Thread Cert.ReferenceIdeal.nD Cert.ReferenceIdeal.τ).loc Cert.ReferenceIdeal.main_arg8) = m ((c.tc : Thread Cert.WordsIdeal.nD Cert.WordsIdeal.τ).loc Cert.WordsIdeal.main_arg8)) →
    ∃ (v0 : (c : Dev Cert.WordsIdeal.nD) → Buf (Elt Ideal) ((c.tc : Thread Cert.WordsIdeal.nD Cert.WordsIdeal.τ).loc Cert.WordsIdeal.main_v14)),
      θ_run (Cert.WordsIdeal.defs (F := Ideal)) (onTc (τ := Cert.WordsIdeal.τ) (Cert.WordsIdeal.main (F := Ideal))) ⟨m, fun _ => 0, g⟩ (fun r => ∀ c : Dev Cert.WordsIdeal.nD,
          r.2.mem ((c.tc : Thread Cert.WordsIdeal.nD Cert.WordsIdeal.τ).loc Cert.WordsIdeal.main_v14) = v0 c
          ∧ r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
          ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
          ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
          ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3)
          ∧ r.2.mem ((c.tc : Thread Cert.WordsIdeal.nD Cert.WordsIdeal.τ).loc Cert.WordsIdeal.main_arg4) = m ((c.tc : Thread Cert.WordsIdeal.nD Cert.WordsIdeal.τ).loc Cert.WordsIdeal.main_arg4)
          ∧ r.2.mem ((c.tc : Thread Cert.WordsIdeal.nD Cert.WordsIdeal.τ).loc Cert.WordsIdeal.main_arg5) = m ((c.tc : Thread Cert.WordsIdeal.nD Cert.WordsIdeal.τ).loc Cert.WordsIdeal.main_arg5)
          ∧ r.2.mem ((c.tc : Thread Cert.WordsIdeal.nD Cert.WordsIdeal.τ).loc Cert.WordsIdeal.main_arg6) = m ((c.tc : Thread Cert.WordsIdeal.nD Cert.WordsIdeal.τ).loc Cert.WordsIdeal.main_arg6)
          ∧ r.2.mem ((c.tc : Thread Cert.WordsIdeal.nD Cert.WordsIdeal.τ).loc Cert.WordsIdeal.main_arg7) = m ((c.tc : Thread Cert.WordsIdeal.nD Cert.WordsIdeal.τ).loc Cert.WordsIdeal.main_arg7)
          ∧ r.2.mem ((c.tc : Thread Cert.WordsIdeal.nD Cert.WordsIdeal.τ).loc Cert.WordsIdeal.main_arg8) = m ((c.tc : Thread Cert.WordsIdeal.nD Cert.WordsIdeal.τ).loc Cert.WordsIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernelIdeal : Cert.KernelIdeal.Facts) (hReferenceIdeal : Cert.ReferenceIdeal.Facts) (hWords : Cert.Words.Facts) (hWordsIdeal : Cert.WordsIdeal.Facts) (hPre_in_range : Cert.Pre_in_range.Facts) (hPre_sound : Cert.Pre_sound.Facts),
    quiescent_KernelIdeal (hKernelIdeal := hKernelIdeal) (hPre_in_range := hPre_in_range)
    ∧ quiescent_KernelIdeal_pre_sound (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ quiescent_Words (hWords := hWords) (hPre_in_range := hPre_in_range)
    ∧ quiescent_WordsIdeal (hWordsIdeal := hWordsIdeal) (hPre_in_range := hPre_in_range)
    ∧ quiescent_WordsIdeal_pre_sound (hWordsIdeal := hWordsIdeal) (hPre_sound := hPre_sound)
    ∧ algebraic_KernelIdeal_ReferenceIdeal_pre_sound (hKernelIdeal := hKernelIdeal) (hReferenceIdeal := hReferenceIdeal) (hPre_sound := hPre_sound)
    ∧ preserves_Words_WordsIdeal
    ∧ algebraic_WordsIdeal_ReferenceIdeal_pre_sound (hWordsIdeal := hWordsIdeal) (hReferenceIdeal := hReferenceIdeal) (hPre_sound := hPre_sound)
-- ==== Pre_in_range.lean ====
abbrev S100000x128 : Shape := ⟨2, ![100000, 128]⟩
abbrev S1000x128 : Shape := ⟨2, ![1000, 128]⟩
abbrev S100000x1 : Shape := ⟨2, ![100000, 1]⟩
abbrev S100000 : Shape := ⟨1, ![100000]⟩
abbrev S1x4x32 : Shape := ⟨3, ![1, 4, 32]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S1000x128 .f32) (main_arg2 : FVec F S100000x1 .f32) (main_arg3 : IVec S100000 32) (main_arg4 : FVec F S1x4x32 .f32) (main_arg5 : FVec F S128x128 .f32) (main_arg6 : FVec F S128 .f32) (main_arg7 : FVec F S128x128 .f32) (main_arg8 : FVec F S128 .f32) : IVec S_ 1 × IVec S_ 1 :=
  let main_c : IVec S_ 32 := constantI S_ 32 0#32
  let main_v0 : IVec S100000 32 := broadcastInDim S100000 ![] bcast_S_S100000 main_c
  let main_v1 : IVec S100000 1 := cmpi .sge main_arg3 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 1000#32
  let main_v3 : IVec S100000 32 := broadcastInDim S100000 ![] bcast_S_S100000 main_c_1
  let main_v4 : IVec S100000 1 := cmpi .slt main_arg3 main_v3
  let main_c_2 : IVec S_ 1 := constantI S_ 1 1#1
  let main_v5 : IVec S_ 1 := (fun x v => Host.reduce IntOp.andi x v reducesTo_S100000_S_d0 h_S_) main_v4 main_c_2
  (main_v2, main_v5)
-- ==== Pre_sound.lean ====
abbrev S100000x128 : Shape := ⟨2, ![100000, 128]⟩
abbrev S1000x128 : Shape := ⟨2, ![1000, 128]⟩
abbrev S100000x1 : Shape := ⟨2, ![100000, 1]⟩
abbrev S100000 : Shape := ⟨1, ![100000]⟩
abbrev S1x4x32 : Shape := ⟨3, ![1, 4, 32]⟩
abbrev S128x128 : Shape := ⟨2, ![128, 128]⟩
abbrev S128 : Shape := ⟨1, ![128]⟩
abbrev S_ : Shape := ⟨0, ![]⟩
abbrev S99999 : Shape := ⟨1, ![99999]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S1x4x32 : S_.BroadcastsInDim S1x4x32 (![] : Fin 0 → Fin S1x4x32.rank)
  reducesTo_S1x4x32_S_d0_1_2 : S1x4x32.ReducesTo [0, 1, 2] S_
  bcast_S_S100000 : S_.BroadcastsInDim S100000 (![] : Fin 0 → Fin S100000.rank)
  reducesTo_S100000_S_d0 : S100000.ReducesTo [0] S_
  slices_S100000_S99999_0 : S100000.Slices ![0] S99999
  slices_S100000_S99999_1 : S100000.Slices ![1] S99999
  reducesTo_S99999_S_d0 : S99999.ReducesTo [0] S_

variable [Facts]

def fn_part1 {F : FTy → Type} [FloatOps F] (main_arg3 : IVec S100000 32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_c_6 : IVec S_ 32 := constantI S_ 32 0#32
  let main_v16 : IVec S100000 32 := broadcastInDim S100000 ![] bcast_S_S100000 main_c_6
  let main_v17 : IVec S100000 1 := cmpi .sge main_arg3 main_v16
  let main_c_7 : IVec S_ 1 := constantI S_ 1 1#1
  let main_v18 : IVec S_ 1 := (fun x v => Host.reduce IntOp.andi x v reducesTo_S100000_S_d0 h_S_) main_v17 main_c_7
  let main_c_8 : IVec S_ 32 := constantI S_ 32 1000#32
  let main_v19 : IVec S100000 32 := broadcastInDim S100000 ![] bcast_S_S100000 main_c_8
  let main_v20 : IVec S100000 1 := cmpi .slt main_arg3 main_v19
  let main_c_9 : IVec S_ 1 := constantI S_ 1 1#1
  let main_v21 : IVec S_ 1 := (fun x v => Host.reduce IntOp.andi x v reducesTo_S100000_S_d0 h_S_) main_v20 main_c_9
  let main_v22 : IVec S99999 32 := (extractStridedSlice S99999 ![0] · slices_S100000_S99999_0) main_arg3
  let main_v23 : IVec S99999 32 := (extractStridedSlice S99999 ![1] · slices_S100000_S99999_1) main_arg3
  let main_v24 : IVec S99999 1 := cmpi .sle main_v22 main_v23
  let main_c_10 : IVec S_ 1 := constantI S_ 1 1#1
  let main_v25 : IVec S_ 1 := (fun x v => Host.reduce IntOp.andi x v reducesTo_S99999_S_d0 h_S_) main_v24 main_c_10
  (main_v3, main_v7, main_v11, main_v15, main_v18, main_v21, main_v25)

def fn {F : FTy → Type} [FloatOps F] (main_arg0 : FVec F S100000x128 .f32) (main_arg1 : FVec F S1000x128 .f32) (main_arg2 : FVec F S100000x1 .f32) (main_arg3 : IVec S100000 32) (main_arg4 : FVec F S1x4x32 .f32) (main_arg5 : FVec F S128x128 .f32) (main_arg6 : FVec F S128 .f32) (main_arg7 : FVec F S128x128 .f32) (main_arg8 : FVec F S128 .f32) : IVec S_ 1 × IVec S_ 1 × IVec S_ 1 × IVec S_ 1 × IVec S_ 1 × IVec S_ 1 × IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : FVec F S100000x1 .f32 := Host.absf main_arg2
  let main_cst_2 : FVec F S_ .f32 := constant S_ .f32 0x7F800000#32
  let main_v9 : FVec F S100000x1 .f32 := broadcastInDim S100000x1 ![] bcast_S_S100000x1 main_cst_2
  let main_v10 : IVec S100000x1 1 := cmpf .olt main_v8 main_v9
  let main_c_3 : IVec S_ 1 := constantI S_ 1 1#1
  let main_v11 : IVec S_ 1 := (fun x v => Host.reduce IntOp.andi x v reducesTo_S100000x1_S_d0_1 h_S_) main_v10 main_c_3
  let main_v12 : FVec F S1x4x32 .f32 := Host.absf main_arg4
  let main_cst_4 : FVec F S_ .f32 := constant S_ .f32 0x7F800000#32
  let main_v13 : FVec F S1x4x32 .f32 := broadcastInDim S1x4x32 ![] bcast_S_S1x4x32 main_cst_4
  let main_v14 : IVec S1x4x32 1 := cmpf .olt main_v12 main_v13
  let main_c_5 : IVec S_ 1 := constantI S_ 1 1#1
  let main_v15 : IVec S_ 1 := (fun x v => Host.reduce IntOp.andi x v reducesTo_S1x4x32_S_d0_1_2 h_S_) main_v14 main_c_5
  fn_part1 (F := F) main_arg3 main_v3 main_v7 main_v11 main_v15
-- ==== KernelIdeal.lean ====
abbrev S100000x128 : Shape := ⟨2, ![100000, 128]⟩
abbrev S1000x128 : Shape := ⟨2, ![1000, 128]⟩
abbrev S100000x1 : Shape := ⟨2, ![100000, 1]⟩
abbrev S100000 : Shape := ⟨1, ![100000]⟩
abbrev S1x4x32 : Shape := ⟨3, ![1, 4, 32]⟩
abbrev S128x128 : Shape := ⟨2, ![128, 128]⟩
abbrev S128 : Shape := ⟨1, ![128]⟩
abbrev S25x1x4000 : Shape := ⟨3, ![25, 1, 4000]⟩
abbrev S1x128 : Shape := ⟨2, ![1, 128]⟩
abbrev S_ : Shape := ⟨0, ![]⟩
abbrev S128x1 : Shape := ⟨2, ![128, 1]⟩
abbrev S4000x128 : Shape := ⟨2, ![4000, 128]⟩
abbrev S4000x1 : Shape := ⟨2, ![4000, 1]⟩
abbrev S1x1x4000 : Shape := ⟨3, ![1, 1, 4000]⟩
abbrev S1152x256 : Shape := ⟨2, ![1152, 256]⟩
abbrev S1152x128 : Shape := ⟨2, ![1152, 128]⟩
abbrev S1x4000 : Shape := ⟨2, ![1, 4000]⟩
abbrev S1x1 : Shape := ⟨2, ![1, 1]⟩
abbrev S4000x256 : Shape := ⟨2, ![4000, 256]⟩
abbrev S256x128 : Shape := ⟨2, ![256, 128]⟩
abbrev S128x4000 : Shape := ⟨2, ![128, 4000]⟩
abbrev S128x256 : Shape := ⟨2, ![128, 256]⟩

abbrev nBuf : Space → Nat
  | .hbm => 26
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1000x128, .f32⟩
  | .hbm, ⟨2, _⟩ => ⟨S100000x1, .f32⟩
  | .hbm, ⟨3, _⟩ => ⟨S100000, .i32⟩
  | .hbm, ⟨4, _⟩ => ⟨S1x4x32, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000, .f32⟩
  | .hbm, ⟨11, _⟩ => ⟨S100000x1, .f32⟩
  | .hbm, ⟨12, _⟩ => ⟨S25x1x4000, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .bf16⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S1x128, .f32⟩
  | .hbm, ⟨25, _⟩ => ⟨S1000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x1x4000, .f32⟩
  | .local _ .vmem, ⟨5, _⟩ => ⟨S1x1x4000, .f32⟩
  | .local _ .vmem, ⟨6, _⟩ => ⟨S4000x1, .f32⟩
  | .local _ .vmem, ⟨7, _⟩ => ⟨S4000x1, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S128x128, .bf16⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1152x256, .f32⟩
  | .local _ .vmem, ⟨18, _⟩ => ⟨S1152x128, .bf16⟩
  | .local _ .vmem, ⟨19, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![25], ![false]⟩

def k0_mult1 (v22 : BitVec 32) : BitVec 32 :=
  v22

def k0_off1 (v22 : BitVec 32) : Fin 2 → Nat :=
  let v23 : BitVec 32 := v22
  let v35 : Index := Scalar.indexCast v23
  let c0_16 : Index := 0#32
  ![v35.toNat, 0]
def k0_off2 (v22 : BitVec 32) : Fin 2 → Nat :=
  let v23 : BitVec 32 := v22
  let c128_i32 : BitVec 32 := 128#32
  let v143 : BitVec 32 := Scalar.addi v23 c128_i32
  let v144 : Index := Scalar.indexCast v143
  let c0_61 : Index := 0#32
  ![v144.toNat, 0]
def k0_cond2 (v48 : BitVec 1) : BitVec 1 :=
  let v49 : BitVec 32 := Scalar.extui v48
  let c0_i32_23 : BitVec 32 := 0#32
  let v50 : BitVec 1 := Scalar.cmpi .ne v49 c0_i32_23
  v50

def k0_chk2 (v22 : BitVec 32) (v48 : BitVec 1) : Prop :=
  (∀ (k0_h2 : k0_cond2 v48 = 1#1), ∀ a, (k0_off2 v22) a + S128x128.size a ≤ S1152x128.size a)
theorem k0_off2_inb : ∀ (v22 : BitVec 32) (v48 : BitVec 1) (k0_hw2 : k0_chk2 v22 v48), ∀ (k0_h2 : k0_cond2 v48 = 1#1), ∀ a, (k0_off2 v22) a + S128x128.size a ≤ S1152x128.size a := fun v22 v48 k0_hw2 k0_h2 => k0_hw2 k0_h2

def k0_off3 (v22 : BitVec 32) : Fin 2 → Nat :=
  let v23 : BitVec 32 := v22
  let c256_i32 : BitVec 32 := 256#32
  let v143 : BitVec 32 := Scalar.addi v23 c256_i32
  let v144 : Index := Scalar.indexCast v143
  let c0_61 : Index := 0#32
  ![v144.toNat, 0]
def k0_cond3 (v52 : BitVec 1) : BitVec 1 :=
  let v53 : BitVec 32 := Scalar.extui v52
  let c0_i32_25 : BitVec 32 := 0#32
  let v54 : BitVec 1 := Scalar.cmpi .ne v53 c0_i32_25
  v54

def k0_chk3 (v22 : BitVec 32) (v52 : BitVec 1) : Prop :=
  (∀ (k0_h3 : k0_cond3 v52 = 1#1), ∀ a, (k0_off3 v22) a + S128x128.size a ≤ S1152x128.size a)
theorem k0_off3_inb : ∀ (v22 : BitVec 32) (v52 : BitVec 1) (k0_hw3 : k0_chk3 v22 v52), ∀ (k0_h3 : k0_cond3 v52 = 1#1), ∀ a, (k0_off3 v22) a + S128x128.size a ≤ S1152x128.size a := fun v22 v52 k0_hw3 k0_h3 => k0_hw3 k0_h3

def k0_off4 (v22 : BitVec 32) : Fin 2 → Nat :=
  let v23 : BitVec 32 := v22
  let c384_i32 : BitVec 32 := 384#32
  let v143 : BitVec 32 := Scalar.addi v23 c384_i32
  let v144 : Index := Scalar.indexCast v143
  let c0_61 : Index := 0#32
  ![v144.toNat, 0]
def k0_cond4 (v56 : BitVec 1) : BitVec 1 :=
  let v57 : BitVec 32 := Scalar.extui v56
  let c0_i32_27 : BitVec 32 := 0#32
  let v58 : BitVec 1 := Scalar.cmpi .ne v57 c0_i32_27
  v58

def k0_chk4 (v22 : BitVec 32) (v56 : BitVec 1) : Prop :=
  (∀ (k0_h4 : k0_cond4 v56 = 1#1), ∀ a, (k0_off4 v22) a + S128x128.size a ≤ S1152x128.size a)
theorem k0_off4_inb : ∀ (v22 : BitVec 32) (v56 : BitVec 1) (k0_hw4 : k0_chk4 v22 v56), ∀ (k0_h4 : k0_cond4 v56 = 1#1), ∀ a, (k0_off4 v22) a + S128x128.size a ≤ S1152x128.size a := fun v22 v56 k0_hw4 k0_h4 => k0_hw4 k0_h4

def k0_off5 (v22 : BitVec 32) : Fin 2 → Nat :=
  let v23 : BitVec 32 := v22
  let c512_i32 : BitVec 32 := 512#32
  let v143 : BitVec 32 := Scalar.addi v23 c512_i32
  let v144 : Index := Scalar.indexCast v143
  let c0_61 : Index := 0#32
  ![v144.toNat, 0]
def k0_cond5 (v60 : BitVec 1) : BitVec 1 :=
  let v61 : BitVec 32 := Scalar.extui v60
  let c0_i32_29 : BitVec 32 := 0#32
  let v62 : BitVec 1 := Scalar.cmpi .ne v61 c0_i32_29
  v62

def k0_chk5 (v22 : BitVec 32) (v60 : BitVec 1) : Prop :=
  (∀ (k0_h5 : k0_cond5 v60 = 1#1), ∀ a, (k0_off5 v22) a + S128x128.size a ≤ S1152x128.size a)
theorem k0_off5_inb : ∀ (v22 : BitVec 32) (v60 : BitVec 1) (k0_hw5 : k0_chk5 v22 v60), ∀ (k0_h5 : k0_cond5 v60 = 1#1), ∀ a, (k0_off5 v22) a + S128x128.size a ≤ S1152x128.size a := fun v22 v60 k0_hw5 k0_h5 => k0_hw5 k0_h5

def k0_off6 (v22 : BitVec 32) : Fin 2 → Nat :=
  let v23 : BitVec 32 := v22
  let c640_i32 : BitVec 32 := 640#32
  let v143 : BitVec 32 := Scalar.addi v23 c640_i32
  let v144 : Index := Scalar.indexCast v143
  let c0_61 : Index := 0#32
  ![v144.toNat, 0]
def k0_cond6 (v64 : BitVec 1) : BitVec 1 :=
  let v65 : BitVec 32 := Scalar.extui v64
  let c0_i32_31 : BitVec 32 := 0#32
  let v66 : BitVec 1 := Scalar.cmpi .ne v65 c0_i32_31
  v66

def k0_chk6 (v22 : BitVec 32) (v64 : BitVec 1) : Prop :=
  (∀ (k0_h6 : k0_cond6 v64 = 1#1), ∀ a, (k0_off6 v22) a + S128x128.size a ≤ S1152x128.size a)
theorem k0_off6_inb : ∀ (v22 : BitVec 32) (v64 : BitVec 1) (k0_hw6 : k0_chk6 v22 v64), ∀ (k0_h6 : k0_cond6 v64 = 1#1), ∀ a, (k0_off6 v22) a + S128x128.size a ≤ S1152x128.size a := fun v22 v64 k0_hw6 k0_h6 => k0_hw6 k0_h6

def k0_off7 (v22 : BitVec 32) : Fin 2 → Nat :=
  let v23 : BitVec 32 := v22
  let c768_i32 : BitVec 32 := 768#32
  let v143 : BitVec 32 := Scalar.addi v23 c768_i32
  let v144 : Index := Scalar.indexCast v143
  let c0_61 : Index := 0#32
  ![v144.toNat, 0]
def k0_cond7 (v68 : BitVec 1) : BitVec 1 :=
  let v69 : BitVec 32 := Scalar.extui v68
  let c0_i32_33 : BitVec 32 := 0#32
  let v70 : BitVec 1 := Scalar.cmpi .ne v69 c0_i32_33
  v70

def k0_chk7 (v22 : BitVec 32) (v68 : BitVec 1) : Prop :=
  (∀ (k0_h7 : k0_cond7 v68 = 1#1), ∀ a, (k0_off7 v22) a + S128x128.size a ≤ S1152x128.size a)
theorem k0_off7_inb : ∀ (v22 : BitVec 32) (v68 : BitVec 1) (k0_hw7 : k0_chk7 v22 v68), ∀ (k0_h7 : k0_cond7 v68 = 1#1), ∀ a, (k0_off7 v22) a + S128x128.size a ≤ S1152x128.size a := fun v22 v68 k0_hw7 k0_h7 => k0_hw7 k0_h7

def k0_off8 (v22 : BitVec 32) : Fin 2 → Nat :=
  let v23 : BitVec 32 := v22
  let c896_i32 : BitVec 32 := 896#32
  let v143 : BitVec 32 := Scalar.addi v23 c896_i32
  let v144 : Index := Scalar.indexCast v143
  let c0_61 : Index := 0#32
  ![v144.toNat, 0]
def k0_cond8 (v72 : BitVec 1) : BitVec 1 :=
  let v73 : BitVec 32 := Scalar.extui v72
  let c0_i32_35 : BitVec 32 := 0#32
  let v74 : BitVec 1 := Scalar.cmpi .ne v73 c0_i32_35
  v74

def k0_chk8 (v22 : BitVec 32) (v72 : BitVec 1) : Prop :=
  (∀ (k0_h8 : k0_cond8 v72 = 1#1), ∀ a, (k0_off8 v22) a + S128x128.size a ≤ S1152x128.size a)
theorem k0_off8_inb : ∀ (v22 : BitVec 32) (v72 : BitVec 1) (k0_hw8 : k0_chk8 v22 v72), ∀ (k0_h8 : k0_cond8 v72 = 1#1), ∀ a, (k0_off8 v22) a + S128x128.size a ≤ S1152x128.size a := fun v22 v72 k0_hw8 k0_h8 => k0_hw8 k0_h8

def k0_off9 (v22 : BitVec 32) : Fin 2 → Nat :=
  let v23 : BitVec 32 := v22
  let c1024_i32 : BitVec 32 := 1024#32
  let v143 : BitVec 32 := Scalar.addi v23 c1024_i32
  let v144 : Index := Scalar.indexCast v143
  let c0_61 : Index := 0#32
  ![v144.toNat, 0]
def k0_cond9 (v76 : BitVec 1) : BitVec 1 :=
  let v77 : BitVec 32 := Scalar.extui v76
  let c0_i32_37 : BitVec 32 := 0#32
  let v78 : BitVec 1 := Scalar.cmpi .ne v77 c0_i32_37
  v78

def k0_chk9 (v22 : BitVec 32) (v76 : BitVec 1) : Prop :=
  (∀ (k0_h9 : k0_cond9 v76 = 1#1), ∀ a, (k0_off9 v22) a + S128x128.size a ≤ S1152x128.size a)
theorem k0_off9_inb : ∀ (v22 : BitVec 32) (v76 : BitVec 1) (k0_hw9 : k0_chk9 v22 v76), ∀ (k0_h9 : k0_cond9 v76 = 1#1), ∀ a, (k0_off9 v22) a + S128x128.size a ≤ S1152x128.size a := fun v22 v76 k0_hw9 k0_h9 => k0_hw9 k0_h9

def k0_off10 (v22 : BitVec 32) : Fin 2 → Nat :=
  let v23 : BitVec 32 := v22
  let v91 : Index := Scalar.indexCast v23
  let c0_40 : Index := 0#32
  ![v91.toNat, 0]

def k0_chk1 (v22 : BitVec 32) : Prop :=
  (16 ∣ (k0_mult1 v22).toNat) ∧
  (∀ a, (k0_off1 v22) a + S128x128.size a ≤ S1152x128.size a) ∧
  (∀ a, (k0_off10 v22) a + S128x256.size a ≤ S1152x256.size a)
theorem k0_mult1_dvd : ∀ (v22 : BitVec 32) (k0_hw1 : k0_chk1 v22), 16 ∣ (k0_mult1 v22).toNat := fun v22 k0_hw1 => k0_hw1.1
theorem k0_off1_inb : ∀ (v22 : BitVec 32) (k0_hw1 : k0_chk1 v22), ∀ a, (k0_off1 v22) a + S128x128.size a ≤ S1152x128.size a := fun v22 k0_hw1 => k0_hw1.2.1
theorem k0_off10_inb : ∀ (v22 : BitVec 32) (k0_hw1 : k0_chk1 v22), ∀ a, (k0_off10 v22) a + S128x256.size a ≤ S1152x256.size a := fun v22 k0_hw1 => k0_hw1.2.2

def k0_off11 (v22 : BitVec 32) : Fin 2 → Nat :=
  let v23 : BitVec 32 := v22
  let c128_i32 : BitVec 32 := 128#32
  let v143 : BitVec 32 := Scalar.addi v23 c128_i32
  let v144 : Index := Scalar.indexCast v143
  let c0_61 : Index := 0#32
  ![v144.toNat, 0]
def k0_cond10 (v100 : BitVec 1) : BitVec 1 :=
  let v101 : BitVec 32 := Scalar.extui v100
  let c0_i32_44 : BitVec 32 := 0#32
  let v102 : BitVec 1 := Scalar.cmpi .ne v101 c0_i32_44
  v102

def k0_chk10 (v22 : BitVec 32) (v100 : BitVec 1) : Prop :=
  (∀ (k0_h10 : k0_cond10 v100 = 1#1), ∀ a, (k0_off11 v22) a + S128x256.size a ≤ S1152x256.size a)
theorem k0_off11_inb : ∀ (v22 : BitVec 32) (v100 : BitVec 1) (k0_hw10 : k0_chk10 v22 v100), ∀ (k0_h10 : k0_cond10 v100 = 1#1), ∀ a, (k0_off11 v22) a + S128x256.size a ≤ S1152x256.size a := fun v22 v100 k0_hw10 k0_h10 => k0_hw10 k0_h10

def k0_off12 (v22 : BitVec 32) : Fin 2 → Nat :=
  let v23 : BitVec 32 := v22
  let c256_i32 : BitVec 32 := 256#32
  let v143 : BitVec 32 := Scalar.addi v23 c256_i32
  let v144 : Index := Scalar.indexCast v143
  let c0_61 : Index := 0#32
  ![v144.toNat, 0]
def k0_cond11 (v104 : BitVec 1) : BitVec 1 :=
  let v105 : BitVec 32 := Scalar.extui v104
  let c0_i32_46 : BitVec 32 := 0#32
  let v106 : BitVec 1 := Scalar.cmpi .ne v105 c0_i32_46
  v106

def k0_chk11 (v22 : BitVec 32) (v104 : BitVec 1) : Prop :=
  (∀ (k0_h11 : k0_cond11 v104 = 1#1), ∀ a, (k0_off12 v22) a + S128x256.size a ≤ S1152x256.size a)
theorem k0_off12_inb : ∀ (v22 : BitVec 32) (v104 : BitVec 1) (k0_hw11 : k0_chk11 v22 v104), ∀ (k0_h11 : k0_cond11 v104 = 1#1), ∀ a, (k0_off12 v22) a + S128x256.size a ≤ S1152x256.size a := fun v22 v104 k0_hw11 k0_h11 => k0_hw11 k0_h11

def k0_off13 (v22 : BitVec 32) : Fin 2 → Nat :=
  let v23 : BitVec 32 := v22
  let c384_i32 : BitVec 32 := 384#32
  let v143 : BitVec 32 := Scalar.addi v23 c384_i32
  let v144 : Index := Scalar.indexCast v143
  let c0_61 : Index := 0#32
  ![v144.toNat, 0]
def k0_cond12 (v108 : BitVec 1) : BitVec 1 :=
  let v109 : BitVec 32 := Scalar.extui v108
  let c0_i32_48 : BitVec 32 := 0#32
  let v110 : BitVec 1 := Scalar.cmpi .ne v109 c0_i32_48
  v110

def k0_chk12 (v22 : BitVec 32) (v108 : BitVec 1) : Prop :=
  (∀ (k0_h12 : k0_cond12 v108 = 1#1), ∀ a, (k0_off13 v22) a + S128x256.size a ≤ S1152x256.size a)
theorem k0_off13_inb : ∀ (v22 : BitVec 32) (v108 : BitVec 1) (k0_hw12 : k0_chk12 v22 v108), ∀ (k0_h12 : k0_cond12 v108 = 1#1), ∀ a, (k0_off13 v22) a + S128x256.size a ≤ S1152x256.size a := fun v22 v108 k0_hw12 k0_h12 => k0_hw12 k0_h12

def k0_off14 (v22 : BitVec 32) : Fin 2 → Nat :=
  let v23 : BitVec 32 := v22
  let c512_i32 : BitVec 32 := 512#32
  let v143 : BitVec 32 := Scalar.addi v23 c512_i32
  let v144 : Index := Scalar.indexCast v143
  let c0_61 : Index := 0#32
  ![v144.toNat, 0]
def k0_cond13 (v112 : BitVec 1) : BitVec 1 :=
  let v113 : BitVec 32 := Scalar.extui v112
  let c0_i32_50 : BitVec 32 := 0#32
  let v114 : BitVec 1 := Scalar.cmpi .ne v113 c0_i32_50
  v114

def k0_chk13 (v22 : BitVec 32) (v112 : BitVec 1) : Prop :=
  (∀ (k0_h13 : k0_cond13 v112 = 1#1), ∀ a, (k0_off14 v22) a + S128x256.size a ≤ S1152x256.size a)
theorem k0_off14_inb : ∀ (v22 : BitVec 32) (v112 : BitVec 1) (k0_hw13 : k0_chk13 v22 v112), ∀ (k0_h13 : k0_cond13 v112 = 1#1), ∀ a, (k0_off14 v22) a + S128x256.size a ≤ S1152x256.size a := fun v22 v112 k0_hw13 k0_h13 => k0_hw13 k0_h13

def k0_off15 (v22 : BitVec 32) : Fin 2 → Nat :=
  let v23 : BitVec 32 := v22
  let c640_i32 : BitVec 32 := 640#32
  let v143 : BitVec 32 := Scalar.addi v23 c640_i32
  let v144 : Index := Scalar.indexCast v143
  let c0_61 : Index := 0#32
  ![v144.toNat, 0]
def k0_cond14 (v116 : BitVec 1) : BitVec 1 :=
  let v117 : BitVec 32 := Scalar.extui v116
  let c0_i32_52 : BitVec 32 := 0#32
  let v118 : BitVec 1 := Scalar.cmpi .ne v117 c0_i32_52
  v118

def k0_chk14 (v22 : BitVec 32) (v116 : BitVec 1) : Prop :=
  (∀ (k0_h14 : k0_cond14 v116 = 1#1), ∀ a, (k0_off15 v22) a + S128x256.size a ≤ S1152x256.size a)
theorem k0_off15_inb : ∀ (v22 : BitVec 32) (v116 : BitVec 1) (k0_hw14 : k0_chk14 v22 v116), ∀ (k0_h14 : k0_cond14 v116 = 1#1), ∀ a, (k0_off15 v22) a + S128x256.size a ≤ S1152x256.size a := fun v22 v116 k0_hw14 k0_h14 => k0_hw14 k0_h14

def k0_off16 (v22 : BitVec 32) : Fin 2 → Nat :=
  let v23 : BitVec 32 := v22
  let c768_i32 : BitVec 32 := 768#32
  let v143 : BitVec 32 := Scalar.addi v23 c768_i32
  let v144 : Index := Scalar.indexCast v143
  let c0_61 : Index := 0#32
  ![v144.toNat, 0]
def k0_cond15 (v120 : BitVec 1) : BitVec 1 :=
  let v121 : BitVec 32 := Scalar.extui v120
  let c0_i32_54 : BitVec 32 := 0#32
  let v122 : BitVec 1 := Scalar.cmpi .ne v121 c0_i32_54
  v122

def k0_chk15 (v22 : BitVec 32) (v120 : BitVec 1) : Prop :=
  (∀ (k0_h15 : k0_cond15 v120 = 1#1), ∀ a, (k0_off16 v22) a + S128x256.size a ≤ S1152x256.size a)
theorem k0_off16_inb : ∀ (v22 : BitVec 32) (v120 : BitVec 1) (k0_hw15 : k0_chk15 v22 v120), ∀ (k0_h15 : k0_cond15 v120 = 1#1), ∀ a, (k0_off16 v22) a + S128x256.size a ≤ S1152x256.size a := fun v22 v120 k0_hw15 k0_h15 => k0_hw15 k0_h15

def k0_off17 (v22 : BitVec 32) : Fin 2 → Nat :=
  let v23 : BitVec 32 := v22
  let c896_i32 : BitVec 32 := 896#32
  let v143 : BitVec 32 := Scalar.addi v23 c896_i32
  let v144 : Index := Scalar.indexCast v143
  let c0_61 : Index := 0#32
  ![v144.toNat, 0]
def k0_cond16 (v124 : BitVec 1) : BitVec 1 :=
  let v125 : BitVec 32 := Scalar.extui v124
  let c0_i32_56 : BitVec 32 := 0#32
  let v126 : BitVec 1 := Scalar.cmpi .ne v125 c0_i32_56
  v126

def k0_chk16 (v22 : BitVec 32) (v124 : BitVec 1) : Prop :=
  (∀ (k0_h16 : k0_cond16 v124 = 1#1), ∀ a, (k0_off17 v22) a + S128x256.size a ≤ S1152x256.size a)
theorem k0_off17_inb : ∀ (v22 : BitVec 32) (v124 : BitVec 1) (k0_hw16 : k0_chk16 v22 v124), ∀ (k0_h16 : k0_cond16 v124 = 1#1), ∀ a, (k0_off17 v22) a + S128x256.size a ≤ S1152x256.size a := fun v22 v124 k0_hw16 k0_h16 => k0_hw16 k0_h16

def k0_off18 (v22 : BitVec 32) : Fin 2 → Nat :=
  let v23 : BitVec 32 := v22
  let c1024_i32 : BitVec 32 := 1024#32
  let v143 : BitVec 32 := Scalar.addi v23 c1024_i32
  let v144 : Index := Scalar.indexCast v143
  let c0_61 : Index := 0#32
  ![v144.toNat, 0]
def k0_cond17 (v128 : BitVec 1) : BitVec 1 :=
  let v129 : BitVec 32 := Scalar.extui v128
  let c0_i32_58 : BitVec 32 := 0#32
  let v130 : BitVec 1 := Scalar.cmpi .ne v129 c0_i32_58
  v130

def k0_chk17 (v22 : BitVec 32) (v128 : BitVec 1) : Prop :=
  (∀ (k0_h17 : k0_cond17 v128 = 1#1), ∀ a, (k0_off18 v22) a + S128x256.size a ≤ S1152x256.size a)
theorem k0_off18_inb : ∀ (v22 : BitVec 32) (v128 : BitVec 1) (k0_hw17 : k0_chk17 v22 v128), ∀ (k0_h17 : k0_cond17 v128 = 1#1), ∀ a, (k0_off18 v22) a + S128x256.size a ≤ S1152x256.size a := fun v22 v128 k0_hw17 k0_h17 => k0_hw17 k0_h17

def k0_cond18 (i : grid0.Coords) : BitVec 1 :=
  let arg0 : BitVec 32 := BitVec.ofNat 32 (i 0).val
  let c24_i32 : BitVec 32 := 24#32
  let v131 : BitVec 1 := Scalar.cmpi .eq arg0 c24_i32
  let v132 : BitVec 32 := Scalar.extui v131
  let c0_i32_59 : BitVec 32 := 0#32
  let v133 : BitVec 1 := Scalar.cmpi .ne v132 c0_i32_59
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S100000x128 : Shape := ⟨2, ![100000, 128]⟩
abbrev S1000x128 : Shape := ⟨2, ![1000, 128]⟩
abbrev S100000x1 : Shape := ⟨2, ![100000, 1]⟩
abbrev S100000 : Shape := ⟨1, ![100000]⟩
abbrev S1x4x32 : Shape := ⟨3, ![1, 4, 32]⟩
abbrev S128x128 : Shape := ⟨2, ![128, 128]⟩
abbrev S128 : Shape := ⟨1, ![128]⟩
abbrev S_ : Shape := ⟨0, ![]⟩
abbrev S1 : Shape := ⟨1, ![1]⟩
abbrev S1x1 : Shape := ⟨2, ![1, 1]⟩
abbrev S100000x4x32 : Shape := ⟨3, ![100000, 4, 32]⟩
abbrev S100000x4 : Shape := ⟨2, ![100000, 4]⟩
abbrev S100000x4x1 : Shape := ⟨3, ![100000, 4, 1]⟩
abbrev S100000x1x1 : Shape := ⟨3, ![100000, 1, 1]⟩
abbrev S1000 : Shape := ⟨1, ![1000]⟩
abbrev S1x1000 : Shape := ⟨2, ![1, 1000]⟩
abbrev S100000x1000 : Shape := ⟨2, ![100000, 1000]⟩
abbrev S100000x1000x1 : Shape := ⟨3, ![100000, 1000, 1]⟩
abbrev S100000x1x4 : Shape := ⟨3, ![100000, 1, 4]⟩
abbrev S100000x1000x4 : Shape := ⟨3, ![100000, 1000, 4]⟩
abbrev S1000x4 : Shape := ⟨2, ![1000, 4]⟩
abbrev S1000x4x32 : Shape := ⟨3, ![1000, 4, 32]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S1000x128, .f32⟩
  | 2 => ⟨S100000x1, .f32⟩
  | 3 => ⟨S100000, .i32⟩
  | 4 => ⟨S1x4x32, .f32⟩
  | 5 => ⟨S128x128, .f32⟩
  | 6 => ⟨S128, .f32⟩
  | 7 => ⟨S128x128, .f32⟩
  | 8 => ⟨S128, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x128, .f32⟩
  | 28 => ⟨S100000x128, .i1⟩
  | 29 => ⟨S_, .f32⟩
  | 30 => ⟨S100000x128, .f32⟩
  | 31 => ⟨S100000x128, .f32⟩
  | 32 => ⟨S100000x128, .f32⟩
  | 33 => ⟨S100000x4x32, .f32⟩
  | 34 => ⟨S100000x4x32, .f32⟩
  | 35 => ⟨S100000x4x32, .f32⟩
  | 36 => ⟨S_, .f32⟩
  | 37 => ⟨S100000x4, .f32⟩
  | 38 => ⟨S100000x4x1, .f32⟩
  | 39 => ⟨S100000x1x1, .f32⟩
  | 40 => ⟨S100000x4x1, .f32⟩
  | 41 => ⟨S100000x4x1, .f32⟩
  | 42 => ⟨S100000x4, .f32⟩
  | 43 => ⟨S100000x1, .i32⟩
  | 44 => ⟨S1000, .i32⟩
  | 45 => ⟨S1x1000, .i32⟩
  | 46 => ⟨S100000x1000, .i32⟩
  | 47 => ⟨S100000x1000, .i32⟩
  | 48 => ⟨S100000x1000, .i1⟩
  | 49 => ⟨S100000x1000x1, .i1⟩
  | 50 => ⟨S100000x1x4, .f32⟩
  | 51 => ⟨S_, .f32⟩
  | 52 => ⟨S_, .f32⟩
  | 53 => ⟨S100000x1000x4, .i1⟩
  | 54 => ⟨S100000x1000x4, .f32⟩
  | 55 => ⟨S100000x1000x4, .f32⟩
  | 56 => ⟨S100000x1000x4, .f32⟩
  | 57 => ⟨S_, .f32⟩
  | 58 => ⟨S1000x4, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S1, .i32⟩
  | 68 => ⟨S_, .i32⟩
  | 69 => ⟨S100000x1, .i32⟩
  | 70 => ⟨S100000x1, .i1⟩
  | 71 => ⟨S1x1, .i32⟩
  | 72 => ⟨S100000x1, .i32⟩
  | 73 => ⟨S100000x1, .i1⟩
  | 74 => ⟨S100000x1, .i1⟩
  | 75 => ⟨S_, .i1⟩
  | 76 => ⟨S100000, .i1⟩
  | 77 => ⟨S100000x4, .f32⟩
  | 78 => ⟨S100000x4, .i1⟩
  | 79 => ⟨S_, .f32⟩
  | 80 => ⟨S100000x4, .f32⟩
  | 81 => ⟨S100000x4, .f32⟩
  | 82 => ⟨S100000x4, .f32⟩
  | 83 => ⟨S100000x4, .f32⟩
  | 84 => ⟨S_, .f32⟩
  | 85 => ⟨S1000x4, .f32⟩
  | 86 => ⟨S100000x1, .i32⟩
  | 87 => ⟨S1000x4, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S1, .i32⟩
  | 97 => ⟨S_, .i32⟩
  | 98 => ⟨S100000x1, .i32⟩
  | 99 => ⟨S100000x1, .i1⟩
  | 100 => ⟨S1x1, .i32⟩
  | 101 => ⟨S100000x1, .i32⟩
  | 102 => ⟨S100000x1, .i1⟩
  | 103 => ⟨S100000x1, .i1⟩
  | 104 => ⟨S_, .i1⟩
  | 105 => ⟨S100000, .i1⟩
  | 106 => ⟨S100000x4, .f32⟩
  | 107 => ⟨S100000x4, .i1⟩
  | 108 => ⟨S_, .f32⟩
  | 109 => ⟨S100000x4, .f32⟩
  | 110 => ⟨S100000x4, .f32⟩
  | 111 => ⟨S100000x4, .f32⟩
  | 112 => ⟨S100000x4x1, .f32⟩
  | 113 => ⟨S100000x4x32, .f32⟩
  | 114 => ⟨S100000x4x32, .f32⟩
  | 115 => ⟨S_, .f32⟩
  | 116 => ⟨S1000x4x32, .f32⟩
  | 117 => ⟨S100000x1, .i32⟩
  | 118 => ⟨S1000x4x32, .f32⟩
  | 119 => ⟨S1000x128, .f32⟩
  | 120 => ⟨S128x128, .f32⟩
  | 121 => ⟨S1000x128, .f32⟩
  | 122 => ⟨S1x128, .f32⟩
  | 123 => ⟨S1000x128, .f32⟩
  | 124 => ⟨S1000x128, .f32⟩
  | 125 => ⟨S_, .f32⟩
  | 126 => ⟨S1000x128, .f32⟩
  | 127 => ⟨S1000x128, .f32⟩
  | _ => ⟨S100000x128, .f32⟩

abbrev hbmTy0_1 (i : Nat) : BufTy := match i % 128 with
  | 0 => ⟨S128x128, .f32⟩
  | 1 => ⟨S1000x128, .f32⟩
  | 2 => ⟨S1x128, .f32⟩
  | 3 => ⟨S1000x128, .f32⟩
  | 4 => ⟨S1000x128, .f32⟩
  | 5 => ⟨S1000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_cst_2 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_cst_3 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_call4_cst : Ref sig .tc := ⟨.hbm, 125, rfl⟩
abbrev main_call4_v0 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩

abbrev nD : Nat := 1
abbrev τ : Topo := Topo.v7x

variable {F : FTy → Type} [FloatOps F]
-- ==== Words.lean ====
abbrev S100000x128 : Shape := ⟨2, ![100000, 128]⟩
abbrev S1000x128 : Shape := ⟨2, ![1000, 128]⟩
abbrev S100000x1 : Shape := ⟨2, ![100000, 1]⟩
abbrev S100000 : Shape := ⟨1, ![100000]⟩
abbrev S1x4x32 : Shape := ⟨3, ![1, 4, 32]⟩
abbrev S128x128 : Shape := ⟨2, ![128, 128]⟩
abbrev S128 : Shape := ⟨1, ![128]⟩
abbrev S25x1x4000 : Shape := ⟨3, ![25, 1, 4000]⟩
abbrev S1x128 : Shape := ⟨2, ![1, 128]⟩
abbrev S_ : Shape := ⟨0, ![]⟩
abbrev S128x1 : Shape := ⟨2, ![128, 1]⟩
abbrev S4000x128 : Shape := ⟨2, ![4000, 128]⟩
abbrev S4000x1 : Shape := ⟨2, ![4000, 1]⟩
abbrev S1x1x4000 : Shape := ⟨3, ![1, 1, 4000]⟩
abbrev S1152x256 : Shape := ⟨2, ![1152, 256]⟩
abbrev S1152x128 : Shape := ⟨2, ![1152, 128]⟩
abbrev S1x4000 : Shape := ⟨2, ![1, 4000]⟩
abbrev S1x1 : Shape := ⟨2, ![1, 1]⟩
abbrev S4000x256 : Shape := ⟨2, ![4000, 256]⟩
abbrev S256x128 : Shape := ⟨2, ![256, 128]⟩
abbrev S128x4000 : Shape := ⟨2, ![128, 4000]⟩
abbrev S128x256 : Shape := ⟨2, ![128, 256]⟩

abbrev nBuf : Space → Nat
  | .hbm => 26
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1000x128, .f32⟩
  | .hbm, ⟨2, _⟩ => ⟨S100000x1, .f32⟩
  | .hbm, ⟨3, _⟩ => ⟨S100000, .i32⟩
  | .hbm, ⟨4, _⟩ => ⟨S1x4x32, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000, .f32⟩
  | .hbm, ⟨11, _⟩ => ⟨S100000x1, .f32⟩
  | .hbm, ⟨12, _⟩ => ⟨S25x1x4000, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .bf16⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S1x128, .f32⟩
  | .hbm, ⟨25, _⟩ => ⟨S1000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x1x4000, .f32⟩
  | .local _ .vmem, ⟨5, _⟩ => ⟨S1x1x4000, .f32⟩
  | .local _ .vmem, ⟨6, _⟩ => ⟨S4000x1, .f32⟩
  | .local _ .vmem, ⟨7, _⟩ => ⟨S4000x1, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S128x128, .bf16⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1152x256, .f32⟩
  | .local _ .vmem, ⟨18, _⟩ => ⟨S1152x128, .bf16⟩
  | .local _ .vmem, ⟨19, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![25], ![false]⟩

def k0_mult1 (v23 : BitVec 32) : BitVec 32 :=
  v23

def k0_off1 (v23 : BitVec 32) : Fin 2 → Nat :=
  let v24 : BitVec 32 := v23
  let v36 : Index := Scalar.indexCast v24
  let c0_14 : Index := 0#32
  ![v36.toNat, 0]
def k0_off2 (v23 : BitVec 32) : Fin 2 → Nat :=
  let v24 : BitVec 32 := v23
  let c128_i32 : BitVec 32 := 128#32
  let v144 : BitVec 32 := Scalar.addi v24 c128_i32
  let v145 : Index := Scalar.indexCast v144
  let c0_59 : Index := 0#32
  ![v145.toNat, 0]
def k0_cond2 (v49 : BitVec 1) : BitVec 1 :=
  let v50 : BitVec 32 := Scalar.extui v49
  let c0_i32_21 : BitVec 32 := 0#32
  let v51 : BitVec 1 := Scalar.cmpi .ne v50 c0_i32_21
  v51

def k0_chk2 (v23 : BitVec 32) (v49 : BitVec 1) : Prop :=
  (∀ (k0_h2 : k0_cond2 v49 = 1#1), ∀ a, (k0_off2 v23) a + S128x128.size a ≤ S1152x128.size a)
theorem k0_off2_inb : ∀ (v23 : BitVec 32) (v49 : BitVec 1) (k0_hw2 : k0_chk2 v23 v49), ∀ (k0_h2 : k0_cond2 v49 = 1#1), ∀ a, (k0_off2 v23) a + S128x128.size a ≤ S1152x128.size a := fun v23 v49 k0_hw2 k0_h2 => k0_hw2 k0_h2

def k0_off3 (v23 : BitVec 32) : Fin 2 → Nat :=
  let v24 : BitVec 32 := v23
  let c256_i32 : BitVec 32 := 256#32
  let v144 : BitVec 32 := Scalar.addi v24 c256_i32
  let v145 : Index := Scalar.indexCast v144
  let c0_59 : Index := 0#32
  ![v145.toNat, 0]
def k0_cond3 (v53 : BitVec 1) : BitVec 1 :=
  let v54 : BitVec 32 := Scalar.extui v53
  let c0_i32_23 : BitVec 32 := 0#32
  let v55 : BitVec 1 := Scalar.cmpi .ne v54 c0_i32_23
  v55

def k0_chk3 (v23 : BitVec 32) (v53 : BitVec 1) : Prop :=
  (∀ (k0_h3 : k0_cond3 v53 = 1#1), ∀ a, (k0_off3 v23) a + S128x128.size a ≤ S1152x128.size a)
theorem k0_off3_inb : ∀ (v23 : BitVec 32) (v53 : BitVec 1) (k0_hw3 : k0_chk3 v23 v53), ∀ (k0_h3 : k0_cond3 v53 = 1#1), ∀ a, (k0_off3 v23) a + S128x128.size a ≤ S1152x128.size a := fun v23 v53 k0_hw3 k0_h3 => k0_hw3 k0_h3

def k0_off4 (v23 : BitVec 32) : Fin 2 → Nat :=
  let v24 : BitVec 32 := v23
  let c384_i32 : BitVec 32 := 384#32
  let v144 : BitVec 32 := Scalar.addi v24 c384_i32
  let v145 : Index := Scalar.indexCast v144
  let c0_59 : Index := 0#32
  ![v145.toNat, 0]
def k0_cond4 (v57 : BitVec 1) : BitVec 1 :=
  let v58 : BitVec 32 := Scalar.extui v57
  let c0_i32_25 : BitVec 32 := 0#32
  let v59 : BitVec 1 := Scalar.cmpi .ne v58 c0_i32_25
  v59

def k0_chk4 (v23 : BitVec 32) (v57 : BitVec 1) : Prop :=
  (∀ (k0_h4 : k0_cond4 v57 = 1#1), ∀ a, (k0_off4 v23) a + S128x128.size a ≤ S1152x128.size a)
theorem k0_off4_inb : ∀ (v23 : BitVec 32) (v57 : BitVec 1) (k0_hw4 : k0_chk4 v23 v57), ∀ (k0_h4 : k0_cond4 v57 = 1#1), ∀ a, (k0_off4 v23) a + S128x128.size a ≤ S1152x128.size a := fun v23 v57 k0_hw4 k0_h4 => k0_hw4 k0_h4

def k0_off5 (v23 : BitVec 32) : Fin 2 → Nat :=
  let v24 : BitVec 32 := v23
  let c512_i32 : BitVec 32 := 512#32
  let v144 : BitVec 32 := Scalar.addi v24 c512_i32
  let v145 : Index := Scalar.indexCast v144
  let c0_59 : Index := 0#32
  ![v145.toNat, 0]
def k0_cond5 (v61 : BitVec 1) : BitVec 1 :=
  let v62 : BitVec 32 := Scalar.extui v61
  let c0_i32_27 : BitVec 32 := 0#32
  let v63 : BitVec 1 := Scalar.cmpi .ne v62 c0_i32_27
  v63

def k0_chk5 (v23 : BitVec 32) (v61 : BitVec 1) : Prop :=
  (∀ (k0_h5 : k0_cond5 v61 = 1#1), ∀ a, (k0_off5 v23) a + S128x128.size a ≤ S1152x128.size a)
theorem k0_off5_inb : ∀ (v23 : BitVec 32) (v61 : BitVec 1) (k0_hw5 : k0_chk5 v23 v61), ∀ (k0_h5 : k0_cond5 v61 = 1#1), ∀ a, (k0_off5 v23) a + S128x128.size a ≤ S1152x128.size a := fun v23 v61 k0_hw5 k0_h5 => k0_hw5 k0_h5

def k0_off6 (v23 : BitVec 32) : Fin 2 → Nat :=
  let v24 : BitVec 32 := v23
  let c640_i32 : BitVec 32 := 640#32
  let v144 : BitVec 32 := Scalar.addi v24 c640_i32
  let v145 : Index := Scalar.indexCast v144
  let c0_59 : Index := 0#32
  ![v145.toNat, 0]
def k0_cond6 (v65 : BitVec 1) : BitVec 1 :=
  let v66 : BitVec 32 := Scalar.extui v65
  let c0_i32_29 : BitVec 32 := 0#32
  let v67 : BitVec 1 := Scalar.cmpi .ne v66 c0_i32_29
  v67

def k0_chk6 (v23 : BitVec 32) (v65 : BitVec 1) : Prop :=
  (∀ (k0_h6 : k0_cond6 v65 = 1#1), ∀ a, (k0_off6 v23) a + S128x128.size a ≤ S1152x128.size a)
theorem k0_off6_inb : ∀ (v23 : BitVec 32) (v65 : BitVec 1) (k0_hw6 : k0_chk6 v23 v65), ∀ (k0_h6 : k0_cond6 v65 = 1#1), ∀ a, (k0_off6 v23) a + S128x128.size a ≤ S1152x128.size a := fun v23 v65 k0_hw6 k0_h6 => k0_hw6 k0_h6

def k0_off7 (v23 : BitVec 32) : Fin 2 → Nat :=
  let v24 : BitVec 32 := v23
  let c768_i32 : BitVec 32 := 768#32
  let v144 : BitVec 32 := Scalar.addi v24 c768_i32
  let v145 : Index := Scalar.indexCast v144
  let c0_59 : Index := 0#32
  ![v145.toNat, 0]
def k0_cond7 (v69 : BitVec 1) : BitVec 1 :=
  let v70 : BitVec 32 := Scalar.extui v69
  let c0_i32_31 : BitVec 32 := 0#32
  let v71 : BitVec 1 := Scalar.cmpi .ne v70 c0_i32_31
  v71

def k0_chk7 (v23 : BitVec 32) (v69 : BitVec 1) : Prop :=
  (∀ (k0_h7 : k0_cond7 v69 = 1#1), ∀ a, (k0_off7 v23) a + S128x128.size a ≤ S1152x128.size a)
theorem k0_off7_inb : ∀ (v23 : BitVec 32) (v69 : BitVec 1) (k0_hw7 : k0_chk7 v23 v69), ∀ (k0_h7 : k0_cond7 v69 = 1#1), ∀ a, (k0_off7 v23) a + S128x128.size a ≤ S1152x128.size a := fun v23 v69 k0_hw7 k0_h7 => k0_hw7 k0_h7

def k0_off8 (v23 : BitVec 32) : Fin 2 → Nat :=
  let v24 : BitVec 32 := v23
  let c896_i32 : BitVec 32 := 896#32
  let v144 : BitVec 32 := Scalar.addi v24 c896_i32
  let v145 : Index := Scalar.indexCast v144
  let c0_59 : Index := 0#32
  ![v145.toNat, 0]
def k0_cond8 (v73 : BitVec 1) : BitVec 1 :=
  let v74 : BitVec 32 := Scalar.extui v73
  let c0_i32_33 : BitVec 32 := 0#32
  let v75 : BitVec 1 := Scalar.cmpi .ne v74 c0_i32_33
  v75

def k0_chk8 (v23 : BitVec 32) (v73 : BitVec 1) : Prop :=
  (∀ (k0_h8 : k0_cond8 v73 = 1#1), ∀ a, (k0_off8 v23) a + S128x128.size a ≤ S1152x128.size a)
theorem k0_off8_inb : ∀ (v23 : BitVec 32) (v73 : BitVec 1) (k0_hw8 : k0_chk8 v23 v73), ∀ (k0_h8 : k0_cond8 v73 = 1#1), ∀ a, (k0_off8 v23) a + S128x128.size a ≤ S1152x128.size a := fun v23 v73 k0_hw8 k0_h8 => k0_hw8 k0_h8

def k0_off9 (v23 : BitVec 32) : Fin 2 → Nat :=
  let v24 : BitVec 32 := v23
  let c1024_i32 : BitVec 32 := 1024#32
  let v144 : BitVec 32 := Scalar.addi v24 c1024_i32
  let v145 : Index := Scalar.indexCast v144
  let c0_59 : Index := 0#32
  ![v145.toNat, 0]
def k0_cond9 (v77 : BitVec 1) : BitVec 1 :=
  let v78 : BitVec 32 := Scalar.extui v77
  let c0_i32_35 : BitVec 32 := 0#32
  let v79 : BitVec 1 := Scalar.cmpi .ne v78 c0_i32_35
  v79

def k0_chk9 (v23 : BitVec 32) (v77 : BitVec 1) : Prop :=
  (∀ (k0_h9 : k0_cond9 v77 = 1#1), ∀ a, (k0_off9 v23) a + S128x128.size a ≤ S1152x128.size a)
theorem k0_off9_inb : ∀ (v23 : BitVec 32) (v77 : BitVec 1) (k0_hw9 : k0_chk9 v23 v77), ∀ (k0_h9 : k0_cond9 v77 = 1#1), ∀ a, (k0_off9 v23) a + S128x128.size a ≤ S1152x128.size a := fun v23 v77 k0_hw9 k0_h9 => k0_hw9 k0_h9

def k0_off10 (v23 : BitVec 32) : Fin 2 → Nat :=
  let v24 : BitVec 32 := v23
  let v92 : Index := Scalar.indexCast v24
  let c0_38 : Index := 0#32
  ![v92.toNat, 0]

def k0_chk1 (v23 : BitVec 32) : Prop :=
  (16 ∣ (k0_mult1 v23).toNat) ∧
  (∀ a, (k0_off1 v23) a + S128x128.size a ≤ S1152x128.size a) ∧
  (∀ a, (k0_off10 v23) a + S128x256.size a ≤ S1152x256.size a)
theorem k0_mult1_dvd : ∀ (v23 : BitVec 32) (k0_hw1 : k0_chk1 v23), 16 ∣ (k0_mult1 v23).toNat := fun v23 k0_hw1 => k0_hw1.1
theorem k0_off1_inb : ∀ (v23 : BitVec 32) (k0_hw1 : k0_chk1 v23), ∀ a, (k0_off1 v23) a + S128x128.size a ≤ S1152x128.size a := fun v23 k0_hw1 => k0_hw1.2.1
theorem k0_off10_inb : ∀ (v23 : BitVec 32) (k0_hw1 : k0_chk1 v23), ∀ a, (k0_off10 v23) a + S128x256.size a ≤ S1152x256.size a := fun v23 k0_hw1 => k0_hw1.2.2

def k0_off11 (v23 : BitVec 32) : Fin 2 → Nat :=
  let v24 : BitVec 32 := v23
  let c128_i32 : BitVec 32 := 128#32
  let v144 : BitVec 32 := Scalar.addi v24 c128_i32
  let v145 : Index := Scalar.indexCast v144
  let c0_59 : Index := 0#32
  ![v145.toNat, 0]
def k0_cond10 (v101 : BitVec 1) : BitVec 1 :=
  let v102 : BitVec 32 := Scalar.extui v101
  let c0_i32_42 : BitVec 32 := 0#32
  let v103 : BitVec 1 := Scalar.cmpi .ne v102 c0_i32_42
  v103

def k0_chk10 (v23 : BitVec 32) (v101 : BitVec 1) : Prop :=
  (∀ (k0_h10 : k0_cond10 v101 = 1#1), ∀ a, (k0_off11 v23) a + S128x256.size a ≤ S1152x256.size a)
theorem k0_off11_inb : ∀ (v23 : BitVec 32) (v101 : BitVec 1) (k0_hw10 : k0_chk10 v23 v101), ∀ (k0_h10 : k0_cond10 v101 = 1#1), ∀ a, (k0_off11 v23) a + S128x256.size a ≤ S1152x256.size a := fun v23 v101 k0_hw10 k0_h10 => k0_hw10 k0_h10

def k0_off12 (v23 : BitVec 32) : Fin 2 → Nat :=
  let v24 : BitVec 32 := v23
  let c256_i32 : BitVec 32 := 256#32
  let v144 : BitVec 32 := Scalar.addi v24 c256_i32
  let v145 : Index := Scalar.indexCast v144
  let c0_59 : Index := 0#32
  ![v145.toNat, 0]
def k0_cond11 (v105 : BitVec 1) : BitVec 1 :=
  let v106 : BitVec 32 := Scalar.extui v105
  let c0_i32_44 : BitVec 32 := 0#32
  let v107 : BitVec 1 := Scalar.cmpi .ne v106 c0_i32_44
  v107

def k0_chk11 (v23 : BitVec 32) (v105 : BitVec 1) : Prop :=
  (∀ (k0_h11 : k0_cond11 v105 = 1#1), ∀ a, (k0_off12 v23) a + S128x256.size a ≤ S1152x256.size a)
theorem k0_off12_inb : ∀ (v23 : BitVec 32) (v105 : BitVec 1) (k0_hw11 : k0_chk11 v23 v105), ∀ (k0_h11 : k0_cond11 v105 = 1#1), ∀ a, (k0_off12 v23) a + S128x256.size a ≤ S1152x256.size a := fun v23 v105 k0_hw11 k0_h11 => k0_hw11 k0_h11

def k0_off13 (v23 : BitVec 32) : Fin 2 → Nat :=
  let v24 : BitVec 32 := v23
  let c384_i32 : BitVec 32 := 384#32
  let v144 : BitVec 32 := Scalar.addi v24 c384_i32
  let v145 : Index := Scalar.indexCast v144
  let c0_59 : Index := 0#32
  ![v145.toNat, 0]
def k0_cond12 (v109 : BitVec 1) : BitVec 1 :=
  let v110 : BitVec 32 := Scalar.extui v109
  let c0_i32_46 : BitVec 32 := 0#32
  let v111 : BitVec 1 := Scalar.cmpi .ne v110 c0_i32_46
  v111

def k0_chk12 (v23 : BitVec 32) (v109 : BitVec 1) : Prop :=
  (∀ (k0_h12 : k0_cond12 v109 = 1#1), ∀ a, (k0_off13 v23) a + S128x256.size a ≤ S1152x256.size a)
theorem k0_off13_inb : ∀ (v23 : BitVec 32) (v109 : BitVec 1) (k0_hw12 : k0_chk12 v23 v109), ∀ (k0_h12 : k0_cond12 v109 = 1#1), ∀ a, (k0_off13 v23) a + S128x256.size a ≤ S1152x256.size a := fun v23 v109 k0_hw12 k0_h12 => k0_hw12 k0_h12

def k0_off14 (v23 : BitVec 32) : Fin 2 → Nat :=
  let v24 : BitVec 32 := v23
  let c512_i32 : BitVec 32 := 512#32
  let v144 : BitVec 32 := Scalar.addi v24 c512_i32
  let v145 : Index := Scalar.indexCast v144
  let c0_59 : Index := 0#32
  ![v145.toNat, 0]
def k0_cond13 (v113 : BitVec 1) : BitVec 1 :=
  let v114 : BitVec 32 := Scalar.extui v113
  let c0_i32_48 : BitVec 32 := 0#32
  let v115 : BitVec 1 := Scalar.cmpi .ne v114 c0_i32_48
  v115

def k0_chk13 (v23 : BitVec 32) (v113 : BitVec 1) : Prop :=
  (∀ (k0_h13 : k0_cond13 v113 = 1#1), ∀ a, (k0_off14 v23) a + S128x256.size a ≤ S1152x256.size a)
theorem k0_off14_inb : ∀ (v23 : BitVec 32) (v113 : BitVec 1) (k0_hw13 : k0_chk13 v23 v113), ∀ (k0_h13 : k0_cond13 v113 = 1#1), ∀ a, (k0_off14 v23) a + S128x256.size a ≤ S1152x256.size a := fun v23 v113 k0_hw13 k0_h13 => k0_hw13 k0_h13

def k0_off15 (v23 : BitVec 32) : Fin 2 → Nat :=
  let v24 : BitVec 32 := v23
  let c640_i32 : BitVec 32 := 640#32
  let v144 : BitVec 32 := Scalar.addi v24 c640_i32
  let v145 : Index := Scalar.indexCast v144
  let c0_59 : Index := 0#32
  ![v145.toNat, 0]
def k0_cond14 (v117 : BitVec 1) : BitVec 1 :=
  let v118 : BitVec 32 := Scalar.extui v117
  let c0_i32_50 : BitVec 32 := 0#32
  let v119 : BitVec 1 := Scalar.cmpi .ne v118 c0_i32_50
  v119

def k0_chk14 (v23 : BitVec 32) (v117 : BitVec 1) : Prop :=
  (∀ (k0_h14 : k0_cond14 v117 = 1#1), ∀ a, (k0_off15 v23) a + S128x256.size a ≤ S1152x256.size a)
theorem k0_off15_inb : ∀ (v23 : BitVec 32) (v117 : BitVec 1) (k0_hw14 : k0_chk14 v23 v117), ∀ (k0_h14 : k0_cond14 v117 = 1#1), ∀ a, (k0_off15 v23) a + S128x256.size a ≤ S1152x256.size a := fun v23 v117 k0_hw14 k0_h14 => k0_hw14 k0_h14

def k0_off16 (v23 : BitVec 32) : Fin 2 → Nat :=
  let v24 : BitVec 32 := v23
  let c768_i32 : BitVec 32 := 768#32
  let v144 : BitVec 32 := Scalar.addi v24 c768_i32
  let v145 : Index := Scalar.indexCast v144
  let c0_59 : Index := 0#32
  ![v145.toNat, 0]
def k0_cond15 (v121 : BitVec 1) : BitVec 1 :=
  let v122 : BitVec 32 := Scalar.extui v121
  let c0_i32_52 : BitVec 32 := 0#32
  let v123 : BitVec 1 := Scalar.cmpi .ne v122 c0_i32_52
  v123

def k0_chk15 (v23 : BitVec 32) (v121 : BitVec 1) : Prop :=
  (∀ (k0_h15 : k0_cond15 v121 = 1#1), ∀ a, (k0_off16 v23) a + S128x256.size a ≤ S1152x256.size a)
theorem k0_off16_inb : ∀ (v23 : BitVec 32) (v121 : BitVec 1) (k0_hw15 : k0_chk15 v23 v121), ∀ (k0_h15 : k0_cond15 v121 = 1#1), ∀ a, (k0_off16 v23) a + S128x256.size a ≤ S1152x256.size a := fun v23 v121 k0_hw15 k0_h15 => k0_hw15 k0_h15

def k0_off17 (v23 : BitVec 32) : Fin 2 → Nat :=
  let v24 : BitVec 32 := v23
  let c896_i32 : BitVec 32 := 896#32
  let v144 : BitVec 32 := Scalar.addi v24 c896_i32
  let v145 : Index := Scalar.indexCast v144
  let c0_59 : Index := 0#32
  ![v145.toNat, 0]
def k0_cond16 (v125 : BitVec 1) : BitVec 1 :=
  let v126 : BitVec 32 := Scalar.extui v125
  let c0_i32_54 : BitVec 32 := 0#32
  let v127 : BitVec 1 := Scalar.cmpi .ne v126 c0_i32_54
  v127

def k0_chk16 (v23 : BitVec 32) (v125 : BitVec 1) : Prop :=
  (∀ (k0_h16 : k0_cond16 v125 = 1#1), ∀ a, (k0_off17 v23) a + S128x256.size a ≤ S1152x256.size a)
theorem k0_off17_inb : ∀ (v23 : BitVec 32) (v125 : BitVec 1) (k0_hw16 : k0_chk16 v23 v125), ∀ (k0_h16 : k0_cond16 v125 = 1#1), ∀ a, (k0_off17 v23) a + S128x256.size a ≤ S1152x256.size a := fun v23 v125 k0_hw16 k0_h16 => k0_hw16 k0_h16

def k0_off18 (v23 : BitVec 32) : Fin 2 → Nat :=
  let v24 : BitVec 32 := v23
  let c1024_i32 : BitVec 32 := 1024#32
  let v144 : BitVec 32 := Scalar.addi v24 c1024_i32
  let v145 : Index := Scalar.indexCast v144
  let c0_59 : Index := 0#32
  ![v145.toNat, 0]
def k0_cond17 (v129 : BitVec 1) : BitVec 1 :=
  let v130 : BitVec 32 := Scalar.extui v129
  let c0_i32_56 : BitVec 32 := 0#32
  let v131 : BitVec 1 := Scalar.cmpi .ne v130 c0_i32_56
  v131

def k0_chk17 (v23 : BitVec 32) (v129 : BitVec 1) : Prop :=
  (∀ (k0_h17 : k0_cond17 v129 = 1#1), ∀ a, (k0_off18 v23) a + S128x256.size a ≤ S1152x256.size a)
theorem k0_off18_inb : ∀ (v23 : BitVec 32) (v129 : BitVec 1) (k0_hw17 : k0_chk17 v23 v129), ∀ (k0_h17 : k0_cond17 v129 = 1#1), ∀ a, (k0_off18 v23) a + S128x256.size a ≤ S1152x256.size a := fun v23 v129 k0_hw17 k0_h17 => k0_hw17 k0_h17

def k0_cond18 (i : grid0.Coords) : BitVec 1 :=
  let arg0 : BitVec 32 := BitVec.ofNat 32 (i 0).val
  let c24_i32 : BitVec 32 := 24#32
  let v132 : BitVec 1 := Scalar.cmpi .eq arg0 c24_i32
  let v133 : BitVec 32 := Scalar.extui v132
  let c0_i32_57 : BitVec 32 := 0#32
  let v134 : BitVec 1 := Scalar.cmpi .ne v133 c0_i32_57
  v134

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Proof.Region.lean ====
/- One window of the pooling body as a rule of the logic: a conditional region that reads a window of one scratch
   buffer and updates another (or the same one), both ways of its condition at once, with what it leaves in closed form. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a gather region leaves in the weight buffer `w`: under its condition `C` the update of `w` by the window of `gz`
at `off`, else `w` itself. -/
def gathered {C : Prop} [dec : Decidable C] (off : Fin 2 → ℕ) (inb : C → ∀ a, off a + S128x128.size a ≤ S1152x128.size a)
    (pay : Vec F S128x128 .bf16 → Vec F S4000x128 .bf16 → Vec F S4000x128 .bf16) (gz : Vec F S1152x128 .bf16)
    (w : Vec F S4000x128 .bf16) : Vec F S4000x128 .bf16 :=
  @dite _ C dec (fun h => pay (VecWindow.window gz off S128x128.size (inb h)) w) (fun _ => w)

/-- What a scatter region leaves in the accumulator `sd`: under its condition `C` the window at `off` updated, else `sd`. -/
def scattered {C : Prop} [dec : Decidable C] (off : Fin 2 → ℕ) (inb : C → ∀ a, off a + S128x256.size a ≤ S1152x256.size a)
    (pay : Vec F S128x256 .f32 → Vec F S128x256 .f32) (sd : Vec F S1152x256 .f32) : Vec F S1152x256 .f32 :=
  @dite _ C dec (fun h => VecWindow.put sd off S128x256.size (pay (VecWindow.window sd off S128x256.size (inb h)))) (fun _ => sd)

/-- A gather region: with the projected table at `gz` and the weights at `w`, it goes on to `J` with the weights at
`gathered`, whichever way its condition goes. -/
theorem gather_region (c : Dev nD) (gzb : Memref sig .tc .vmem S1152x128 .bf16) (hgz : gzb.IsWhole)
    (wb : Memref sig .tc .vmem S4000x128 .bf16) (hw : wb.IsWhole) {C : Prop} (dec : Decidable C) (off : Fin 2 → ℕ)
    (inb : C → ∀ a, off a + S128x128.size a ≤ S1152x128.size a)
    (pay : Vec F S128x128 .bf16 → Vec F S4000x128 .bf16 → Vec F S4000x128 .bf16)
    (gz : Vec F S1152x128 .bf16) (w : Vec F S4000x128 .bf16)
    (hl1 : ∀ h, gzb.view.LoadsAt (Rect.unit (s := S1152x128) off S128x128.size (inb h)).toLoadRect)
    (hl2 : wb.view.LoadsAt (Rect.unit (s := S4000x128) ![0, 0] S4000x128.size inb_S4000x128_S4000x128_0_0).toLoadRect)
    (hx : (wb.access (Rect.unit (s := S4000x128) ![0, 0] S4000x128.size inb_S4000x128_S4000x128_0_0)).Stores Finset.univ)
    (hm : (Finset.univ : Finset (Rect.unit (s := S4000x128) ![0, 0] S4000x128.size inb_S4000x128_S4000x128_0_0).shape.Idx) = Finset.univ
      ∨ ∀ a, (Rect.unit (s := S4000x128) ![0, 0] S4000x128.size inb_S4000x128_S4000x128_0_0).stride a = 1)
    {α : Type} (J : Prog (TpuEff nD τ sig (Elt F) Λ₀ .tc) α) (E : Set ℕ) (Q : α → sProp 𝕄) :
    iprop((gzb.view.loc (c : Thread nD τ) ↦[gzb.view.set]{fullShare} hgz.unread gz)
        ∗ (wb.view.loc (c : Thread nD τ) ↦[wb.view.set]{fullShare} hw.unread w)
        ∗ (iprop((gzb.view.loc (c : Thread nD τ) ↦[gzb.view.set]{fullShare} hgz.unread gz)
            ∗ (wb.view.loc (c : Thread nD τ) ↦[wb.view.set]{fullShare} hw.unread (gathered (C := C) off inb pay gz w)))
          -∗ wp frame (wpE (defs₀ (F := F)) Variants.none c none) E J Q))
      ⊢ wp frame (wpE (defs₀ (F := F)) Variants.none c none) E
        (@dite _ C dec
          (fun h => do
            let v145 ← Prog.lift (.load gzb (Rect.unit (s := S1152x128) off S128x128.size (inb h)).toLoadRect (hl1 h))
            let v147 ← Prog.lift (.load wb (Rect.unit (s := S4000x128) ![0, 0] S4000x128.size inb_S4000x128_S4000x128_0_0).toLoadRect hl2)
            let _ ← Prog.lift (.load wb (Rect.unit (s := S4000x128) ![0, 0] S4000x128.size inb_S4000x128_S4000x128_0_0).toLoadRect hl2)
            Prog.lift (.store wb (Rect.unit (s := S4000x128) ![0, 0] S4000x128.size inb_S4000x128_S4000x128_0_0) (pay v145 v147) Finset.univ hx hm)
            J)
          (fun _ => J)) Q := by
  by_cases h : C
  · rw [dif_pos h]
    iintro ⟨HG, HW, Hk⟩
    sl_exec
    have e : wb.view.writes (Elt F) (hw.unread w) [⟨Rect.unit ![0, 0] S4000x128.size inb_S4000x128_S4000x128_0_0,
        pay (View.readAt (Elt F) gzb.view (Rect.unit (s := S1152x128) off S128x128.size (inb h)).toLoadRect (hgz.unread gz))
          (View.readAt (Elt F) wb.view (Rect.unit (s := S4000x128) ![0, 0] S4000x128.size inb_S4000x128_S4000x128_0_0).toLoadRect (hw.unread w))⟩]
        = hw.unread (gathered (C := C) off inb pay gz w) := hw.eq_unread (by
      rw [View.read_writes_full, View.readAt_full, hw.read_unread, View.readAt_unit _ _ _ rfl (inb h), hgz.read_unread]
      unfold gathered; rw [dif_pos h])
    iapply Hk
    isplitl [HG]; · iexact HG
    rw [← e]
    iexact HW
  · rw [dif_neg h]
    iintro ⟨HG, HW, Hk⟩
    iapply Hk
    isplitl [HG]; · iexact HG
    rw [show gathered (C := C) off inb pay gz w = w from dif_neg h]
    iexact HW

/-- A scatter region: with the accumulator at `sd`, it goes on to `J` with the accumulator at `scattered`, whichever way
its condition goes. -/
theorem scatter_region (c : Dev nD) (sdb : Memref sig .tc .vmem S1152x256 .f32) (hsd : sdb.IsWhole)
    {C : Prop} (dec : Decidable C) (off : Fin 2 → ℕ)
    (inb : C → ∀ a, off a + S128x256.size a ≤ S1152x256.size a)
    (pay : Vec F S128x256 .f32 → Vec F S128x256 .f32) (sd : Vec F S1152x256 .f32)
    (hl1 : ∀ h, sdb.view.LoadsAt (Rect.unit (s := S1152x256) off S128x256.size (inb h)).toLoadRect)
    (hx : ∀ h, (sdb.access (Rect.unit (s := S1152x256) off S128x256.size (inb h))).Stores Finset.univ)
    (hm : ∀ h, (Finset.univ : Finset (Rect.unit (s := S1152x256) off S128x256.size (inb h)).shape.Idx) = Finset.univ
      ∨ ∀ a, (Rect.unit (s := S1152x256) off S128x256.size (inb h)).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (iprop(sdb.view.loc (c : Thread nD τ) ↦[sdb.view.set]{fullShare} hsd.unread (scattered (C := C) off inb pay sd))
          -∗ wp frame (wpE (defs₀ (F := F)) Variants.none c none) E J Q))
      ⊢ wp frame (wpE (defs₀ (F := F)) Variants.none c none) E
        (@dite _ C dec
          (fun h => do
            let v145 ← Prog.lift (.load sdb (Rect.unit (s := S1152x256) off S128x256.size (inb h)).toLoadRect (hl1 h))
            let _ ← Prog.lift (.load sdb (Rect.unit (s := S1152x256) off S128x256.size (inb h)).toLoadRect (hl1 h))
            Prog.lift (.store sdb (Rect.unit (s := S1152x256) off S128x256.size (inb h)) (pay v145) Finset.univ (hx h) (hm h))
            J)
          (fun _ => J)) Q := by
  by_cases h : C
  · rw [dif_pos h]
    iintro ⟨HG, Hk⟩
    sl_exec
    have e : sdb.view.writes (Elt F) (hsd.unread sd) [⟨Rect.unit off S128x256.size (inb h),
        pay (View.readAt (Elt F) sdb.view (Rect.unit (s := S1152x256) off S128x256.size (inb h)).toLoadRect (hsd.unread sd))⟩]
        = hsd.unread (scattered (C := C) off inb pay sd) := hsd.eq_unread (by
      rw [View.read_writes_cons_put _ _ (inb h) _ _ rfl, View.readAt_unit _ _ _ rfl (inb h), View.writes_nil, hsd.read_unread]
      unfold scattered; rw [dif_pos h])
    iapply Hk
    rw [← e]
    iexact HG
  · rw [dif_neg h]
    iintro ⟨HG, Hk⟩
    iapply Hk
    rw [show scattered (C := C) off inb pay sd = sd from dif_neg h]
    iexact HG

/-- What the opening region leaves in the projected table: under its condition zero rows with the first thousand replaced by
the projected graph features, else what it held. -/
def seeded {C : Prop} [dec : Decidable C] (g : Vec F S1000x128 .f32) (a : Vec F S128x128 .bf16) (gz : Vec F S1152x128 .bf16) :
    Vec F S1152x128 .bf16 :=
  @ite _ C dec (VecWindow.put (k0_pay16 (F := F)) ![0, 0] S1000x128.size (k0_pay17 g a)) gz

/-- What the opening region leaves in the accumulator: under its condition zeros, else what it held. -/
def cleared {C : Prop} [dec : Decidable C] (sd : Vec F S1152x256 .f32) : Vec F S1152x256 .f32 :=
  @ite _ C dec (k0_pay15 (F := F)) sd

/-- The opening region, both ways of its condition. -/
theorem init_region (c : Dev nD) (sdb : Memref sig .tc .vmem S1152x256 .f32) (hsd : sdb.IsWhole)
    (gzb : Memref sig .tc .vmem S1152x128 .bf16) (hgz : gzb.IsWhole) (gb : Memref sig .tc .vmem S1000x128 .f32) (hg : gb.IsWhole)
    (ab : Memref sig .tc .vmem S128x128 .bf16) (ha : ab.IsWhole)
    {C : Prop} (dec : Decidable C) (sd : Vec F S1152x256 .f32) (gz : Vec F S1152x128 .bf16) (g : Vec F S1000x128 .f32)
    (a : Vec F S128x128 .bf16)
    (hl1 : sdb.view.LoadsAt (Rect.unit (s := S1152x256) ![0, 0] S1152x256.size inb_S1152x256_S1152x256_0_0).toLoadRect)
    (hl2 : gzb.view.LoadsAt (Rect.unit (s := S1152x128) ![0, 0] S1152x128.size inb_S1152x128_S1152x128_0_0).toLoadRect)
    (hl3 : gb.view.LoadsAt (Rect.unit (s := S1000x128) ![0, 0] S1000x128.size inb_S1000x128_S1000x128_0_0).toLoadRect)
    (hl4 : ab.view.LoadsAt (Rect.unit (s := S128x128) ![0, 0] S128x128.size inb_S128x128_S128x128_0_0).toLoadRect)
    (hl5 : gzb.view.LoadsAt (Rect.unit (s := S1152x128) ![0, 0] S1000x128.size inb_S1152x128_S1000x128_0_0).toLoadRect)
    (hx1 : (sdb.access (Rect.unit (s := S1152x256) ![0, 0] S1152x256.size inb_S1152x256_S1152x256_0_0)).Stores Finset.univ)
    (hm1 : (Finset.univ : Finset (Rect.unit (s := S1152x256) ![0, 0] S1152x256.size inb_S1152x256_S1152x256_0_0).shape.Idx) = Finset.univ ∨ ∀ a, (Rect.unit (s := S1152x256) ![0, 0] S1152x256.size inb_S1152x256_S1152x256_0_0).stride a = 1)
    (hx2 : (gzb.access (Rect.unit (s := S1152x128) ![0, 0] S1152x128.size inb_S1152x128_S1152x128_0_0)).Stores Finset.univ)
    (hm2 : (Finset.univ : Finset (Rect.unit (s := S1152x128) ![0, 0] S1152x128.size inb_S1152x128_S1152x128_0_0).shape.Idx) = Finset.univ ∨ ∀ a, (Rect.unit (s := S1152x128) ![0, 0] S1152x128.size inb_S1152x128_S1152x128_0_0).stride a = 1)
    (hx3 : (gzb.access (Rect.unit (s := S1152x128) ![0, 0] S1000x128.size inb_S1152x128_S1000x128_0_0)).Stores Finset.univ)
    (hm3 : (Finset.univ : Finset (Rect.unit (s := S1152x128) ![0, 0] S1000x128.size inb_S1152x128_S1000x128_0_0).shape.Idx) = Finset.univ ∨ ∀ a, (Rect.unit (s := S1152x128) ![0, 0] S1000x128.size inb_S1152x128_S1000x128_0_0).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (gzb.view.loc (c : Thread nD τ) ↦[gzb.view.set]{fullShare} hgz.unread gz)
        ∗ (gb.view.loc (c : Thread nD τ) ↦[gb.view.set]{fullShare} hg.unread g)
        ∗ (ab.view.loc (c : Thread nD τ) ↦[ab.view.set]{fullShare} ha.unread a)
        ∗ (iprop((sdb.view.loc (c : Thread nD τ) ↦[sdb.view.set]{fullShare} hsd.unread (cleared (C := C) sd))
            ∗ (gzb.view.loc (c : Thread nD τ) ↦[gzb.view.set]{fullShare} hgz.unread (seeded (C := C) g a gz))
            ∗ (gb.view.loc (c : Thread nD τ) ↦[gb.view.set]{fullShare} hg.unread g)
            ∗ (ab.view.loc (c : Thread nD τ) ↦[ab.view.set]{fullShare} ha.unread a)) -∗ wp frame (wpE (defs₀ (F := F)) Variants.none c none) E J Q))
      ⊢ wp frame (wpE (defs₀ (F := F)) Variants.none c none) E
        (@dite _ C dec
          (fun _ => do
            let _ ← Prog.lift (.load sdb (Rect.unit (s := S1152x256) ![0, 0] S1152x256.size inb_S1152x256_S1152x256_0_0).toLoadRect hl1)
            Prog.lift (.store sdb (Rect.unit (s := S1152x256) ![0, 0] S1152x256.size inb_S1152x256_S1152x256_0_0) (k0_pay15 (F := F)) Finset.univ hx1 hm1)
            let _ ← Prog.lift (.load gzb (Rect.unit (s := S1152x128) ![0, 0] S1152x128.size inb_S1152x128_S1152x128_0_0).toLoadRect hl2)
            Prog.lift (.store gzb (Rect.unit (s := S1152x128) ![0, 0] S1152x128.size inb_S1152x128_S1152x128_0_0) (k0_pay16 (F := F)) Finset.univ hx2 hm2)
            let v142 ← Prog.lift (.load gb (Rect.unit (s := S1000x128) ![0, 0] S1000x128.size inb_S1000x128_S1000x128_0_0).toLoadRect hl3)
            let v144 ← Prog.lift (.load ab (Rect.unit (s := S128x128) ![0, 0] S128x128.size inb_S128x128_S128x128_0_0).toLoadRect hl4)
            let _ ← Prog.lift (.load gzb (Rect.unit (s := S1152x128) ![0, 0] S1000x128.size inb_S1152x128_S1000x128_0_0).toLoadRect hl5)
            Prog.lift (.store gzb (Rect.unit (s := S1152x128) ![0, 0] S1000x128.size inb_S1152x128_S1000x128_0_0) (k0_pay17 v142 v144) Finset.univ hx3 hm3)
            J)
          (fun _ => J)) Q := by
  by_cases h : C
  · rw [dif_pos h]
    iintro ⟨HS, HG, H1, H2, Hk⟩
    sl_exec
    have e1 : sdb.view.writes (Elt F) (hsd.unread sd) [⟨Rect.unit (s := S1152x256) ![0, 0] S1152x256.size inb_S1152x256_S1152x256_0_0, k0_pay15 (F := F)⟩]
        = hsd.unread (cleared (C := C) sd) := hsd.eq_unread (by
      rw [View.read_writes_full]; unfold cleared; rw [if_pos h])
    have e2 : gzb.view.writes (Elt F) (hgz.unread gz) [⟨Rect.unit (s := S1152x128) ![0, 0] S1000x128.size inb_S1152x128_S1000x128_0_0,
          k0_pay17 (View.readAt (Elt F) gb.view (Rect.unit (s := S1000x128) ![0, 0] S1000x128.size inb_S1000x128_S1000x128_0_0).toLoadRect (hg.unread g)) (View.readAt (Elt F) ab.view (Rect.unit (s := S128x128) ![0, 0] S128x128.size inb_S128x128_S128x128_0_0).toLoadRect (ha.unread a))⟩,
          ⟨Rect.unit (s := S1152x128) ![0, 0] S1152x128.size inb_S1152x128_S1152x128_0_0, k0_pay16 (F := F)⟩]
        = hgz.unread (seeded (C := C) g a gz) := hgz.eq_unread (by
      rw [View.read_writes_cons_put _ _ _ _ _ rfl, View.read_writes_full, View.readAt_full, View.readAt_full, hg.read_unread, ha.read_unread]
      unfold seeded; rw [if_pos h])
    iapply Hk
    isplitl [HS]; · rw [← e1]; iexact HS
    isplitl [HG]; · rw [← e2]; iexact HG
    isplitl [H1]; · iexact H1
    iexact H2
  · rw [dif_neg h]
    iintro ⟨HS, HG, H1, H2, Hk⟩
    iapply Hk
    rw [show cleared (C := C) sd = sd from if_neg h, show seeded (C := C) g a gz = gz from if_neg h]
    isplitl [HS]; · iexact HS
    isplitl [HG]; · iexact HG
    isplitl [H1]; · iexact H1
    iexact H2

/-- What the closing region leaves in the result: under its condition the two layers over the quotients, else what it held. -/
def finished {C : Prop} [dec : Decidable C] (sd : Vec F S1152x256 .f32) (g : Vec F S1000x128 .f32) (w1 : Vec F S128x128 .f32)
    (b1 : Vec F S1x128 .f32) (w2 : Vec F S128x128 .f32) (b2 : Vec F S1x128 .f32) (out : Vec F S1000x128 .f32) : Vec F S1000x128 .f32 :=
  @ite _ C dec (k0_pay14 (VecWindow.window sd ![0, 0] S1000x128.size inb_S1152x256_S1000x128_0_0)
    (VecWindow.window sd ![0, 128] S1000x128.size inb_S1152x256_S1000x128_0_128) g w1 b1 w2 b2) out

/-- The closing region, both ways of its condition. -/
theorem finish_region (c : Dev nD) (sdb : Memref sig .tc .vmem S1152x256 .f32) (hsd : sdb.IsWhole) (gb : Memref sig .tc .vmem S1000x128 .f32) (hg : gb.IsWhole) (w1b : Memref sig .tc .vmem S128x128 .f32) (hw1 : w1b.IsWhole) (b1b : Memref sig .tc .vmem S1x128 .f32) (hb1 : b1b.IsWhole) (w2b : Memref sig .tc .vmem S128x128 .f32) (hw2 : w2b.IsWhole) (b2b : Memref sig .tc .vmem S1x128 .f32) (hb2 : b2b.IsWhole) (ob : Memref sig .tc .vmem S1000x128 .f32) (ho : ob.IsWhole)
    {C : Prop} (dec : Decidable C) (sd : Vec F S1152x256 .f32) (g : Vec F S1000x128 .f32) (w1 : Vec F S128x128 .f32) (b1 : Vec F S1x128 .f32) (w2 : Vec F S128x128 .f32) (b2 : Vec F S1x128 .f32) (out : Vec F S1000x128 .f32)
    (hl1 : sdb.view.LoadsAt (Rect.unit (s := S1152x256) ![0, 0] S1000x128.size inb_S1152x256_S1000x128_0_0).toLoadRect)
    (hl2 : sdb.view.LoadsAt (Rect.unit (s := S1152x256) ![0, 128] S1000x128.size inb_S1152x256_S1000x128_0_128).toLoadRect)
    (hl3 : gb.view.LoadsAt (Rect.unit (s := S1000x128) ![0, 0] S1000x128.size inb_S1000x128_S1000x128_0_0).toLoadRect)
    (hl4 : w1b.view.LoadsAt (Rect.unit (s := S128x128) ![0, 0] S128x128.size inb_S128x128_S128x128_0_0).toLoadRect)
    (hl5 : b1b.view.LoadsAt (Rect.unit (s := S1x128) ![0, 0] S1x128.size inb_S1x128_S1x128_0_0).toLoadRect)
    (hl6 : w2b.view.LoadsAt (Rect.unit (s := S128x128) ![0, 0] S128x128.size inb_S128x128_S128x128_0_0).toLoadRect)
    (hl7 : b2b.view.LoadsAt (Rect.unit (s := S1x128) ![0, 0] S1x128.size inb_S1x128_S1x128_0_0).toLoadRect)
    (hl8 : ob.view.LoadsAt (Rect.unit (s := S1000x128) ![0, 0] S1000x128.size inb_S1000x128_S1000x128_0_0).toLoadRect)
    (hx1 : (ob.access (Rect.unit (s := S1000x128) ![0, 0] S1000x128.size inb_S1000x128_S1000x128_0_0)).Stores Finset.univ)
    (hm1 : (Finset.univ : Finset (Rect.unit (s := S1000x128) ![0, 0] S1000x128.size inb_S1000x128_S1000x128_0_0).shape.Idx) = Finset.univ ∨ ∀ a, (Rect.unit (s := S1000x128) ![0, 0] S1000x128.size inb_S1000x128_S1000x128_0_0).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (gb.view.loc (c : Thread nD τ) ↦[gb.view.set]{fullShare} hg.unread g)
        ∗ (w1b.view.loc (c : Thread nD τ) ↦[w1b.view.set]{fullShare} hw1.unread w1)
        ∗ (b1b.view.loc (c : Thread nD τ) ↦[b1b.view.set]{fullShare} hb1.unread b1)
        ∗ (w2b.view.loc (c : Thread nD τ) ↦[w2b.view.set]{fullShare} hw2.unread w2)
        ∗ (b2b.view.loc (c : Thread nD τ) ↦[b2b.view.set]{fullShare} hb2.unread b2)
        ∗ (ob.view.loc (c : Thread nD τ) ↦[ob.view.set]{fullShare} ho.unread out)
        ∗ (iprop((sdb.view.loc (c : Thread nD τ) ↦[sdb.view.set]{fullShare} hsd.unread sd)
            ∗ (gb.view.loc (c : Thread nD τ) ↦[gb.view.set]{fullShare} hg.unread g)
            ∗ (w1b.view.loc (c : Thread nD τ) ↦[w1b.view.set]{fullShare} hw1.unread w1)
            ∗ (b1b.view.loc (c : Thread nD τ) ↦[b1b.view.set]{fullShare} hb1.unread b1)
            ∗ (w2b.view.loc (c : Thread nD τ) ↦[w2b.view.set]{fullShare} hw2.unread w2)
            ∗ (b2b.view.loc (c : Thread nD τ) ↦[b2b.view.set]{fullShare} hb2.unread b2)
            ∗ (ob.view.loc (c : Thread nD τ) ↦[ob.view.set]{fullShare} ho.unread (finished (C := C) sd g w1 b1 w2 b2 out))) -∗ wp frame (wpE (defs₀ (F := F)) Variants.none c none) E J Q))
      ⊢ wp frame (wpE (defs₀ (F := F)) Variants.none c none) E
        (@dite _ C dec
          (fun _ => do
            let v134 ← Prog.lift (.load sdb (Rect.unit (s := S1152x256) ![0, 0] S1000x128.size inb_S1152x256_S1000x128_0_0).toLoadRect hl1)
            let v135 ← Prog.lift (.load sdb (Rect.unit (s := S1152x256) ![0, 128] S1000x128.size inb_S1152x256_S1000x128_0_128).toLoadRect hl2)
            let v136 ← Prog.lift (.load gb (Rect.unit (s := S1000x128) ![0, 0] S1000x128.size inb_S1000x128_S1000x128_0_0).toLoadRect hl3)
            let v143 ← Prog.lift (.load w1b (Rect.unit (s := S128x128) ![0, 0] S128x128.size inb_S128x128_S128x128_0_0).toLoadRect hl4)
            let v146 ← Prog.lift (.load b1b (Rect.unit (s := S1x128) ![0, 0] S1x128.size inb_S1x128_S1x128_0_0).toLoadRect hl5)
            let v152 ← Prog.lift (.load w2b (Rect.unit (s := S128x128) ![0, 0] S128x128.size inb_S128x128_S128x128_0_0).toLoadRect hl6)
            let v155 ← Prog.lift (.load b2b (Rect.unit (s := S1x128) ![0, 0] S1x128.size inb_S1x128_S1x128_0_0).toLoadRect hl7)
            let _ ← Prog.lift (.load ob (Rect.unit (s := S1000x128) ![0, 0] S1000x128.size inb_S1000x128_S1000x128_0_0).toLoadRect hl8)
            Prog.lift (.store ob (Rect.unit (s := S1000x128) ![0, 0] S1000x128.size inb_S1000x128_S1000x128_0_0) (k0_pay14 v134 v135 v136 v143 v146 v152 v155) Finset.univ hx1 hm1)
            J)
          (fun _ => J)) Q := by
  by_cases h : C
  · rw [dif_pos h]
    iintro ⟨HS, H1, H2, H3, H4, H5, HO, Hk⟩
    sl_exec
    have e1 : ob.view.writes (Elt F) (ho.unread out) [⟨Rect.unit (s := S1000x128) ![0, 0] S1000x128.size inb_S1000x128_S1000x128_0_0,
          k0_pay14 (View.readAt (Elt F) sdb.view (Rect.unit (s := S1152x256) ![0, 0] S1000x128.size inb_S1152x256_S1000x128_0_0).toLoadRect (hsd.unread sd)) (View.readAt (Elt F) sdb.view (Rect.unit (s := S1152x256) ![0, 128] S1000x128.size inb_S1152x256_S1000x128_0_128).toLoadRect (hsd.unread sd))
            (View.readAt (Elt F) gb.view (Rect.unit (s := S1000x128) ![0, 0] S1000x128.size inb_S1000x128_S1000x128_0_0).toLoadRect (hg.unread g)) (View.readAt (Elt F) w1b.view (Rect.unit (s := S128x128) ![0, 0] S128x128.size inb_S128x128_S128x128_0_0).toLoadRect (hw1.unread w1))
            (View.readAt (Elt F) b1b.view (Rect.unit (s := S1x128) ![0, 0] S1x128.size inb_S1x128_S1x128_0_0).toLoadRect (hb1.unread b1)) (View.readAt (Elt F) w2b.view (Rect.unit (s := S128x128) ![0, 0] S128x128.size inb_S128x128_S128x128_0_0).toLoadRect (hw2.unread w2))
            (View.readAt (Elt F) b2b.view (Rect.unit (s := S1x128) ![0, 0] S1x128.size inb_S1x128_S1x128_0_0).toLoadRect (hb2.unread b2))⟩]
        = ho.unread (finished (C := C) sd g w1 b1 w2 b2 out) := ho.eq_unread (by
      rw [View.read_writes_full, View.readAt_unit _ _ _ rfl inb_S1152x256_S1000x128_0_0, View.readAt_unit _ _ _ rfl inb_S1152x256_S1000x128_0_128]
      rw [View.readAt_full, View.readAt_full, View.readAt_full, View.readAt_full, View.readAt_full, hsd.read_unread, hg.read_unread, hw1.read_unread, hb1.read_unread, hw2.read_unread, hb2.read_unread]
      unfold finished; rw [if_pos h])
    iapply Hk
    isplitl [HS]; · iexact HS
    isplitl [H1]; · iexact H1
    isplitl [H2]; · iexact H2
    isplitl [H3]; · iexact H3
    isplitl [H4]; · iexact H4
    isplitl [H5]; · iexact H5
    rw [← e1]; iexact HO
  · rw [dif_neg h]
    iintro ⟨HS, H1, H2, H3, H4, H5, HO, Hk⟩
    iapply Hk
    rw [show finished (C := C) sd g w1 b1 w2 b2 out = out from if_neg h]
    isplitl [HS]; · iexact HS
    isplitl [H1]; · iexact H1
    isplitl [H2]; · iexact H2
    isplitl [H3]; · iexact H3
    isplitl [H4]; · iexact H4
    isplitl [H5]; · iexact H5
    iexact HO

end Cert.KernelIdeal.Pool

end
-- ==== Proof.Step.lean ====
/- What one grid point of the pooling body leaves in each buffer, as functions of the blocks it reads. -/
module

public import proofs.«01_k».proof.Proof.Region

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The node ids' last entry as the body reads it. -/
abbrev lastId (x1 : Vec F S4000x1 .f32) : F .f32 := k0_pay23 x1

/-- The base of the block's windows: its first id rounded down to a multiple of sixteen. -/
abbrev baseId (x1 : Vec F S4000x1 .f32) : F .f32 := k0_pay24 x1

/-- The base as a word. -/
abbrev baseW (x1 : Vec F S4000x1 .f32) : BitVec 32 := Scalar.fptosi 32 (k0_pay24 x1)

/-- The word deciding region 2. -/
abbrev bit2 (x1 : Vec F S4000x1 .f32) : BitVec 1 := Scalar.cmpf .ole (k0_pay28 (baseId x1)) (lastId x1)

/-- The word deciding region 3. -/
abbrev bit3 (x1 : Vec F S4000x1 .f32) : BitVec 1 := Scalar.cmpf .ole (k0_pay30 (baseId x1)) (lastId x1)

/-- The word deciding region 4. -/
abbrev bit4 (x1 : Vec F S4000x1 .f32) : BitVec 1 := Scalar.cmpf .ole (k0_pay32 (baseId x1)) (lastId x1)

/-- The word deciding region 5. -/
abbrev bit5 (x1 : Vec F S4000x1 .f32) : BitVec 1 := Scalar.cmpf .ole (k0_pay34 (baseId x1)) (lastId x1)

/-- The word deciding region 6. -/
abbrev bit6 (x1 : Vec F S4000x1 .f32) : BitVec 1 := Scalar.cmpf .ole (k0_pay36 (baseId x1)) (lastId x1)

/-- The word deciding region 7. -/
abbrev bit7 (x1 : Vec F S4000x1 .f32) : BitVec 1 := Scalar.cmpf .ole (k0_pay38 (baseId x1)) (lastId x1)

/-- The word deciding region 8. -/
abbrev bit8 (x1 : Vec F S4000x1 .f32) : BitVec 1 := Scalar.cmpf .ole (k0_pay40 (baseId x1)) (lastId x1)

/-- The word deciding region 9. -/
abbrev bit9 (x1 : Vec F S4000x1 .f32) : BitVec 1 := Scalar.cmpf .ole (k0_pay42 (baseId x1)) (lastId x1)

/-- The word deciding region 10. -/
abbrev bit10 (x1 : Vec F S4000x1 .f32) : BitVec 1 := Scalar.cmpf .ole (k0_pay46 (baseId x1)) (lastId x1)

/-- The word deciding region 11. -/
abbrev bit11 (x1 : Vec F S4000x1 .f32) : BitVec 1 := Scalar.cmpf .ole (k0_pay48 (baseId x1)) (lastId x1)

/-- The word deciding region 12. -/
abbrev bit12 (x1 : Vec F S4000x1 .f32) : BitVec 1 := Scalar.cmpf .ole (k0_pay2 (baseId x1)) (lastId x1)

/-- The word deciding region 13. -/
abbrev bit13 (x1 : Vec F S4000x1 .f32) : BitVec 1 := Scalar.cmpf .ole (k0_pay4 (baseId x1)) (lastId x1)

/-- The word deciding region 14. -/
abbrev bit14 (x1 : Vec F S4000x1 .f32) : BitVec 1 := Scalar.cmpf .ole (k0_pay6 (baseId x1)) (lastId x1)

/-- The word deciding region 15. -/
abbrev bit15 (x1 : Vec F S4000x1 .f32) : BitVec 1 := Scalar.cmpf .ole (k0_pay8 (baseId x1)) (lastId x1)

/-- The word deciding region 16. -/
abbrev bit16 (x1 : Vec F S4000x1 .f32) : BitVec 1 := Scalar.cmpf .ole (k0_pay10 (baseId x1)) (lastId x1)

/-- The word deciding region 17. -/
abbrev bit17 (x1 : Vec F S4000x1 .f32) : BitVec 1 := Scalar.cmpf .ole (k0_pay12 (baseId x1)) (lastId x1)

/-- The side conditions of one grid point: every window the body touches lies inside its buffer. -/
structure Checks (x1 : Vec F S4000x1 .f32) : Prop where
  c1 : k0_chk1 (baseW x1)
  c2 : k0_chk2 (baseW x1) (bit2 x1)
  c3 : k0_chk3 (baseW x1) (bit3 x1)
  c4 : k0_chk4 (baseW x1) (bit4 x1)
  c5 : k0_chk5 (baseW x1) (bit5 x1)
  c6 : k0_chk6 (baseW x1) (bit6 x1)
  c7 : k0_chk7 (baseW x1) (bit7 x1)
  c8 : k0_chk8 (baseW x1) (bit8 x1)
  c9 : k0_chk9 (baseW x1) (bit9 x1)
  c10 : k0_chk10 (baseW x1) (bit10 x1)
  c11 : k0_chk11 (baseW x1) (bit11 x1)
  c12 : k0_chk12 (baseW x1) (bit12 x1)
  c13 : k0_chk13 (baseW x1) (bit13 x1)
  c14 : k0_chk14 (baseW x1) (bit14 x1)
  c15 : k0_chk15 (baseW x1) (bit15 x1)
  c16 : k0_chk16 (baseW x1) (bit16 x1)
  c17 : k0_chk17 (baseW x1) (bit17 x1)

section
variable (x0 : Vec F S4000x128 .f32) (x1 : Vec F S4000x1 .f32) (x2 : Vec F S1x1x4000 .f32) (x3 : Vec F S4000x1 .f32)
  (x4 : Vec F S1x128 .f32) (x5 : Vec F S1x128 .f32) (x7 : Vec F S128x128 .bf16) (hk : Checks x1)

/-- The weights after the first window. -/
def wgt1 (gz : Vec F S1152x128 .bf16) : Vec F S4000x128 .bf16 :=
  k0_pay27 (k0_pay25 x3 x5) (k0_pay26 x0 x1 x4 x5)
    (VecWindow.window gz (k0_off1 (baseW x1)) S128x128.size (k0_off1_inb (baseW x1) hk.c1)) x7

/-- The weights after the gather region 2. -/
def wgt2 (gz : Vec F S1152x128 .bf16) : Vec F S4000x128 .bf16 :=
  gathered (C := k0_cond2 (bit2 x1) = 1#1) (k0_off2 (baseW x1)) (k0_off2_inb (baseW x1) (bit2 x1) hk.c2)
    (k0_pay29 (k0_pay19 x1) (k0_pay21 x4) (baseId x1) (k0_pay25 x3 x5)) gz (wgt1 x0 x1 x3 x4 x5 x7 hk gz)

/-- The weights after the gather region 3. -/
def wgt3 (gz : Vec F S1152x128 .bf16) : Vec F S4000x128 .bf16 :=
  gathered (C := k0_cond3 (bit3 x1) = 1#1) (k0_off3 (baseW x1)) (k0_off3_inb (baseW x1) (bit3 x1) hk.c3)
    (k0_pay31 (k0_pay19 x1) (k0_pay21 x4) (baseId x1) (k0_pay25 x3 x5)) gz (wgt2 x0 x1 x3 x4 x5 x7 hk gz)

/-- The weights after the gather region 4. -/
def wgt4 (gz : Vec F S1152x128 .bf16) : Vec F S4000x128 .bf16 :=
  gathered (C := k0_cond4 (bit4 x1) = 1#1) (k0_off4 (baseW x1)) (k0_off4_inb (baseW x1) (bit4 x1) hk.c4)
    (k0_pay33 (k0_pay19 x1) (k0_pay21 x4) (baseId x1) (k0_pay25 x3 x5)) gz (wgt3 x0 x1 x3 x4 x5 x7 hk gz)

/-- The weights after the gather region 5. -/
def wgt5 (gz : Vec F S1152x128 .bf16) : Vec F S4000x128 .bf16 :=
  gathered (C := k0_cond5 (bit5 x1) = 1#1) (k0_off5 (baseW x1)) (k0_off5_inb (baseW x1) (bit5 x1) hk.c5)
    (k0_pay35 (k0_pay19 x1) (k0_pay21 x4) (baseId x1) (k0_pay25 x3 x5)) gz (wgt4 x0 x1 x3 x4 x5 x7 hk gz)

/-- The weights after the gather region 6. -/
def wgt6 (gz : Vec F S1152x128 .bf16) : Vec F S4000x128 .bf16 :=
  gathered (C := k0_cond6 (bit6 x1) = 1#1) (k0_off6 (baseW x1)) (k0_off6_inb (baseW x1) (bit6 x1) hk.c6)
    (k0_pay37 (k0_pay19 x1) (k0_pay21 x4) (baseId x1) (k0_pay25 x3 x5)) gz (wgt5 x0 x1 x3 x4 x5 x7 hk gz)

/-- The weights after the gather region 7. -/
def wgt7 (gz : Vec F S1152x128 .bf16) : Vec F S4000x128 .bf16 :=
  gathered (C := k0_cond7 (bit7 x1) = 1#1) (k0_off7 (baseW x1)) (k0_off7_inb (baseW x1) (bit7 x1) hk.c7)
    (k0_pay39 (k0_pay19 x1) (k0_pay21 x4) (baseId x1) (k0_pay25 x3 x5)) gz (wgt6 x0 x1 x3 x4 x5 x7 hk gz)

/-- The weights after the gather region 8. -/
def wgt8 (gz : Vec F S1152x128 .bf16) : Vec F S4000x128 .bf16 :=
  gathered (C := k0_cond8 (bit8 x1) = 1#1) (k0_off8 (baseW x1)) (k0_off8_inb (baseW x1) (bit8 x1) hk.c8)
    (k0_pay41 (k0_pay19 x1) (k0_pay21 x4) (baseId x1) (k0_pay25 x3 x5)) gz (wgt7 x0 x1 x3 x4 x5 x7 hk gz)

/-- The weights after the gather region 9. -/
def wgt9 (gz : Vec F S1152x128 .bf16) : Vec F S4000x128 .bf16 :=
  gathered (C := k0_cond9 (bit9 x1) = 1#1) (k0_off9 (baseW x1)) (k0_off9_inb (baseW x1) (bit9 x1) hk.c9)
    (k0_pay43 (k0_pay19 x1) (k0_pay21 x4) (baseId x1) (k0_pay25 x3 x5)) gz (wgt8 x0 x1 x3 x4 x5 x7 hk gz)

/-- The accumulator after the first window. -/
def acc9 (w : Vec F S4000x128 .bf16) (sd : Vec F S1152x256 .f32) : Vec F S1152x256 .f32 :=
  VecWindow.put sd (k0_off10 (baseW x1)) S128x256.size (k0_pay45 (k0_pay18 x0) (k0_pay20 x2) (baseId x1) w
    (VecWindow.window sd (k0_off10 (baseW x1)) S128x256.size (k0_off10_inb (baseW x1) hk.c1)))

/-- The accumulator after the scatter region 10. -/
def acc10 (w : Vec F S4000x128 .bf16) (sd : Vec F S1152x256 .f32) : Vec F S1152x256 .f32 :=
  scattered (C := k0_cond10 (bit10 x1) = 1#1) (k0_off11 (baseW x1)) (k0_off11_inb (baseW x1) (bit10 x1) hk.c10)
    (k0_pay47 (k0_pay18 x0) (k0_pay19 x1) (k0_pay21 x4) (baseId x1) w) (acc9 x0 x1 x2 hk w sd)

/-- The accumulator after the scatter region 11. -/
def acc11 (w : Vec F S4000x128 .bf16) (sd : Vec F S1152x256 .f32) : Vec F S1152x256 .f32 :=
  scattered (C := k0_cond11 (bit11 x1) = 1#1) (k0_off12 (baseW x1)) (k0_off12_inb (baseW x1) (bit11 x1) hk.c11)
    (k0_pay1 (k0_pay19 x1) (k0_pay21 x4) (baseId x1) (k0_pay44 (k0_pay18 x0) w)) (acc10 x0 x1 x2 x4 hk w sd)

/-- The accumulator after the scatter region 12. -/
def acc12 (w : Vec F S4000x128 .bf16) (sd : Vec F S1152x256 .f32) : Vec F S1152x256 .f32 :=
  scattered (C := k0_cond12 (bit12 x1) = 1#1) (k0_off13 (baseW x1)) (k0_off13_inb (baseW x1) (bit12 x1) hk.c12)
    (k0_pay3 (k0_pay19 x1) (k0_pay21 x4) (baseId x1) (k0_pay44 (k0_pay18 x0) w)) (acc11 x0 x1 x2 x4 hk w sd)

/-- The accumulator after the scatter region 13. -/
def acc13 (w : Vec F S4000x128 .bf16) (sd : Vec F S1152x256 .f32) : Vec F S1152x256 .f32 :=
  scattered (C := k0_cond13 (bit13 x1) = 1#1) (k0_off14 (baseW x1)) (k0_off14_inb (baseW x1) (bit13 x1) hk.c13)
    (k0_pay5 (k0_pay19 x1) (k0_pay21 x4) (baseId x1) (k0_pay44 (k0_pay18 x0) w)) (acc12 x0 x1 x2 x4 hk w sd)

/-- The accumulator after the scatter region 14. -/
def acc14 (w : Vec F S4000x128 .bf16) (sd : Vec F S1152x256 .f32) : Vec F S1152x256 .f32 :=
  scattered (C := k0_cond14 (bit14 x1) = 1#1) (k0_off15 (baseW x1)) (k0_off15_inb (baseW x1) (bit14 x1) hk.c14)
    (k0_pay7 (k0_pay19 x1) (k0_pay21 x4) (baseId x1) (k0_pay44 (k0_pay18 x0) w)) (acc13 x0 x1 x2 x4 hk w sd)

/-- The accumulator after the scatter region 15. -/
def acc15 (w : Vec F S4000x128 .bf16) (sd : Vec F S1152x256 .f32) : Vec F S1152x256 .f32 :=
  scattered (C := k0_cond15 (bit15 x1) = 1#1) (k0_off16 (baseW x1)) (k0_off16_inb (baseW x1) (bit15 x1) hk.c15)
    (k0_pay9 (k0_pay19 x1) (k0_pay21 x4) (baseId x1) (k0_pay44 (k0_pay18 x0) w)) (acc14 x0 x1 x2 x4 hk w sd)

/-- The accumulator after the scatter region 16. -/
def acc16 (w : Vec F S4000x128 .bf16) (sd : Vec F S1152x256 .f32) : Vec F S1152x256 .f32 :=
  scattered (C := k0_cond16 (bit16 x1) = 1#1) (k0_off17 (baseW x1)) (k0_off17_inb (baseW x1) (bit16 x1) hk.c16)
    (k0_pay11 (k0_pay19 x1) (k0_pay21 x4) (baseId x1) (k0_pay44 (k0_pay18 x0) w)) (acc15 x0 x1 x2 x4 hk w sd)

/-- The accumulator after the scatter region 17. -/
def acc17 (w : Vec F S4000x128 .bf16) (sd : Vec F S1152x256 .f32) : Vec F S1152x256 .f32 :=
  scattered (C := k0_cond17 (bit17 x1) = 1#1) (k0_off18 (baseW x1)) (k0_off18_inb (baseW x1) (bit17 x1) hk.c17)
    (k0_pay13 (k0_pay19 x1) (k0_pay21 x4) (baseId x1) (k0_pay44 (k0_pay18 x0) w)) (acc16 x0 x1 x2 x4 hk w sd)

end

/-- The opening region's condition: the first grid point. -/
abbrev IsFirst (i : grid0.Coords) : Prop :=
  Scalar.cmpi .ne (Scalar.extui (Scalar.cmpi .eq (BitVec.ofNat 32 (i 0).val) 0#32)) 0#32 = 1#1

/-- The closing region's condition: the last grid point. -/
abbrev IsLast (i : grid0.Coords) : Prop := k0_cond18 i = 1#1

/-- The projected table after a grid point. -/
def gzAfter (i : grid0.Coords) (x6 : Vec F S1000x128 .f32) (x7 : Vec F S128x128 .bf16) (gz : Vec F S1152x128 .bf16) :
    Vec F S1152x128 .bf16 :=
  seeded (C := IsFirst i) x6 x7 gz

/-- The accumulator after a grid point, over the table it used. -/
def sdAfter (i : grid0.Coords) (x0 : Vec F S4000x128 .f32) (x1 : Vec F S4000x1 .f32) (x2 : Vec F S1x1x4000 .f32)
    (x3 : Vec F S4000x1 .f32) (x4 : Vec F S1x128 .f32) (x5 : Vec F S1x128 .f32) (x7 : Vec F S128x128 .bf16) (hk : Checks x1)
    (gz : Vec F S1152x128 .bf16) (sd : Vec F S1152x256 .f32) : Vec F S1152x256 .f32 :=
  acc17 x0 x1 x2 x4 hk (wgt9 x0 x1 x3 x4 x5 x7 hk gz) (cleared (C := IsFirst i) sd)

/-- The result block after a grid point, over the accumulator it used. -/
def outAfter (i : grid0.Coords) (sd : Vec F S1152x256 .f32) (x6 : Vec F S1000x128 .f32) (x8 : Vec F S128x128 .f32)
    (x9 : Vec F S128x128 .f32) (x10 : Vec F S1x128 .f32) (x11 : Vec F S1x128 .f32) (out : Vec F S1000x128 .f32) :
    Vec F S1000x128 .f32 :=
  finished (C := IsLast i) sd x6 x8 x10 x9 x11 out

end Cert.KernelIdeal.Pool

end
-- ==== Proof.Base.lean ====
/-
  The block's window base and window conditions over the extended reals.

  A block's ids are whole numbers `S r` below a thousand, ascending. Its base is `16 * (S 0 / 16)`, as
  a real, as a word and as an offset; window `w` is on exactly when `base + 128 w` is at most the
  block's last id; and every window that is on lies inside the table and the accumulator.
-/
module
public import proofs.«01_k».proof.Proof.Step
public import Idealize.ShloMosaic.PureOps.Ideal
public import Idealize.ShloMosaic.PureOps.Ideal.Laws
public import Idealize.ShloMosaic.Lib.IdealHost
public import Idealize.ShloMosaic.Lib.ValueIdx
public import Idealize.ShloMosaic.Lib.ValueLayout
public import Idealize.ShloMosaic.Lib.ValueLayoutCasts
@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

/-- A whole number as an extended real. -/
abbrev nr (n : ℕ) : EReal := (((n : ℕ) : ℝ) : EReal)

theorem nr_add (a b : ℕ) : nr a + nr b = nr (a + b) := by
  unfold nr; rw [← EReal.coe_add]; push_cast; rfl

theorem nr_le {a b : ℕ} : nr a ≤ nr b ↔ a ≤ b := by
  unfold nr; rw [EReal.coe_le_coe_iff, Nat.cast_le]

theorem ofBool_le (a b : ℕ) : BitVec.ofBool (decide (nr a ≤ nr b)) = 1#1 ↔ a ≤ b := by
  by_cases hh : nr a ≤ nr b
  · simp [hh, nr_le.1 hh]
  · simp [hh, mt nr_le.2 hh]

theorem nr_inj {a b : ℕ} : nr a = nr b ↔ a = b := by
  unfold nr; rw [EReal.coe_eq_coe_iff, Nat.cast_inj]

/-- The word of 16. -/
theorem word_16 : Ideal.ofBits .f32 0x41800000#32 = nr 16 := by
  unfold nr
  simp [Ideal.ofBits, Ideal.ieee, -EReal.coe_mul]; norm_num

/-- The word of 128. -/
theorem word_128 : Ideal.ofBits .f32 0x43000000#32 = nr 128 := by
  unfold nr
  simp [Ideal.ofBits, Ideal.ieee, -EReal.coe_mul]; norm_num

/-- The word of 256. -/
theorem word_256 : Ideal.ofBits .f32 0x43800000#32 = nr 256 := by
  unfold nr
  simp [Ideal.ofBits, Ideal.ieee, -EReal.coe_mul]; norm_num

/-- The word of 384. -/
theorem word_384 : Ideal.ofBits .f32 0x43C00000#32 = nr 384 := by
  unfold nr
  simp [Ideal.ofBits, Ideal.ieee, -EReal.coe_mul]; norm_num

/-- The word of 512. -/
theorem word_512 : Ideal.ofBits .f32 0x44000000#32 = nr 512 := by
  unfold nr
  simp [Ideal.ofBits, Ideal.ieee, -EReal.coe_mul]; norm_num

/-- The word of 640. -/
theorem word_640 : Ideal.ofBits .f32 0x44200000#32 = nr 640 := by
  unfold nr
  simp [Ideal.ofBits, Ideal.ieee, -EReal.coe_mul]; norm_num

/-- The word of 768. -/
theorem word_768 : Ideal.ofBits .f32 0x44400000#32 = nr 768 := by
  unfold nr
  simp [Ideal.ofBits, Ideal.ieee, -EReal.coe_mul]; norm_num

/-- The word of 896. -/
theorem word_896 : Ideal.ofBits .f32 0x44600000#32 = nr 896 := by
  unfold nr
  simp [Ideal.ofBits, Ideal.ieee, -EReal.coe_mul]; norm_num

/-- The word of 1024. -/
theorem word_1024 : Ideal.ofBits .f32 0x44800000#32 = nr 1024 := by
  unfold nr
  simp [Ideal.ofBits, Ideal.ieee, -EReal.coe_mul]; norm_num

/-- One block's ids: the column the body reads holds the whole numbers `S`, below a thousand. -/
structure Ids (x1 : Vec Ideal S4000x1 .f32) (S : Fin 4000 → ℕ) : Prop where
  col : ∀ r, x1 (ix2 r 0) = nr (S r)
  lt : ∀ r, S r < 1000

/-- The base of the windows. -/
abbrev base (S : Fin 4000 → ℕ) : ℕ := 16 * (S 0 / 16)

variable {x1 : Vec Ideal S4000x1 .f32} {S : Fin 4000 → ℕ} (h : Ids x1 S)
include h

theorem lastId_eq : lastId x1 = nr (S 3999) := by
  rw [← h.col]
  show (shapeCast S4000x1 x1 _) _ = _
  exact shapeCast_apply _ _ _ _ rfl

theorem firstId_eq : extractAt ![0, 0] (extractStridedSlice S1x1 ![0, 0] (k0_pay19 x1) slices_S4000x1_o0_0_S1x1) inpos_S1x1_p0_0 = nr (S 0) := by
  rw [← h.col]
  show (shapeCast S4000x1 x1 _) _ = _
  exact shapeCast_apply _ _ _ _ rfl

theorem baseId_eq : baseId x1 = nr (base S) := by
  show Ideal.liftRound Int.floor (Ideal.div (extractAt ![0, 0] (extractStridedSlice S1x1 ![0, 0] (k0_pay19 x1) slices_S4000x1_o0_0_S1x1) inpos_S1x1_p0_0) (Ideal.ofBits .f32 0x41800000#32)) * Ideal.ofBits .f32 0x41800000#32 = _
  rw [firstId_eq h, word_16]
  unfold nr
  rw [Ideal.div_coe (by norm_num), ← EReal.coe_mul, Ideal.liftRound_coe, ← EReal.coe_mul]
  congr 1
  have : ⌊((S 0 : ℕ) : ℝ) * (1 / ((16 : ℕ) : ℝ))⌋ = ((S 0 / 16 : ℕ) : ℤ) := by
    have h1 : ((S 0 : ℕ) : ℝ) = 16 * ((S 0 / 16 : ℕ) : ℝ) + ((S 0 % 16 : ℕ) : ℝ) := by
      exact_mod_cast (Nat.div_add_mod (S 0) 16).symm
    have h2 : ((S 0 % 16 : ℕ) : ℝ) < 16 := by exact_mod_cast Nat.mod_lt _ (by norm_num)
    have h3 : (0 : ℝ) ≤ ((S 0 % 16 : ℕ) : ℝ) := by positivity
    rw [Int.floor_eq_iff, Int.cast_natCast, h1]
    push_cast
    constructor <;> linarith
  rw [this, Int.cast_natCast, ← Nat.cast_mul, Nat.mul_comm]

theorem baseW_eq : baseW x1 = BitVec.ofNat 32 (base S) := by
  show Ideal.fptosi 32 (baseId x1) = _
  rw [baseId_eq h]
  have h0 := h.lt 0
  show BitVec.ofInt 32 (Ideal.toIntClamped _ _ (nr (base S))) = _
  unfold nr
  rw [Ideal.toIntClamped_coe, if_pos (by positivity), Int.floor_natCast,
    min_eq_right (by norm_num; omega), max_eq_right (by norm_num; omega)]
  rfl

theorem base_le : base S ≤ 992 := by
  have h0 := h.lt 0
  unfold base; omega

omit h in
theorem base_le_id (r : Fin 4000) (h0 : S 0 ≤ S r) : base S ≤ S r := by
  unfold base; omega

theorem bit2_iff : bit2 x1 = 1#1 ↔ base S + 128 ≤ S 3999 := by
  show BitVec.ofBool (decide (baseId x1 + Ideal.ofBits .f32 0x43000000#32 ≤ lastId x1)) = 1#1 ↔ _
  rw [baseId_eq h, word_128, lastId_eq h, nr_add]
  exact ofBool_le _ _

theorem bit10_iff : bit10 x1 = 1#1 ↔ base S + 128 ≤ S 3999 := by
  show BitVec.ofBool (decide (baseId x1 + Ideal.ofBits .f32 0x43000000#32 ≤ lastId x1)) = 1#1 ↔ _
  rw [baseId_eq h, word_128, lastId_eq h, nr_add]
  exact ofBool_le _ _

theorem bit3_iff : bit3 x1 = 1#1 ↔ base S + 256 ≤ S 3999 := by
  show BitVec.ofBool (decide (baseId x1 + Ideal.ofBits .f32 0x43800000#32 ≤ lastId x1)) = 1#1 ↔ _
  rw [baseId_eq h, word_256, lastId_eq h, nr_add]
  exact ofBool_le _ _

theorem bit11_iff : bit11 x1 = 1#1 ↔ base S + 256 ≤ S 3999 := by
  show BitVec.ofBool (decide (baseId x1 + Ideal.ofBits .f32 0x43800000#32 ≤ lastId x1)) = 1#1 ↔ _
  rw [baseId_eq h, word_256, lastId_eq h, nr_add]
  exact ofBool_le _ _

theorem bit4_iff : bit4 x1 = 1#1 ↔ base S + 384 ≤ S 3999 := by
  show BitVec.ofBool (decide (baseId x1 + Ideal.ofBits .f32 0x43C00000#32 ≤ lastId x1)) = 1#1 ↔ _
  rw [baseId_eq h, word_384, lastId_eq h, nr_add]
  exact ofBool_le _ _

theorem bit12_iff : bit12 x1 = 1#1 ↔ base S + 384 ≤ S 3999 := by
  show BitVec.ofBool (decide (baseId x1 + Ideal.ofBits .f32 0x43C00000#32 ≤ lastId x1)) = 1#1 ↔ _
  rw [baseId_eq h, word_384, lastId_eq h, nr_add]
  exact ofBool_le _ _

theorem bit5_iff : bit5 x1 = 1#1 ↔ base S + 512 ≤ S 3999 := by
  show BitVec.ofBool (decide (baseId x1 + Ideal.ofBits .f32 0x44000000#32 ≤ lastId x1)) = 1#1 ↔ _
  rw [baseId_eq h, word_512, lastId_eq h, nr_add]
  exact ofBool_le _ _

theorem bit13_iff : bit13 x1 = 1#1 ↔ base S + 512 ≤ S 3999 := by
  show BitVec.ofBool (decide (baseId x1 + Ideal.ofBits .f32 0x44000000#32 ≤ lastId x1)) = 1#1 ↔ _
  rw [baseId_eq h, word_512, lastId_eq h, nr_add]
  exact ofBool_le _ _

theorem bit6_iff : bit6 x1 = 1#1 ↔ base S + 640 ≤ S 3999 := by
  show BitVec.ofBool (decide (baseId x1 + Ideal.ofBits .f32 0x44200000#32 ≤ lastId x1)) = 1#1 ↔ _
  rw [baseId_eq h, word_640, lastId_eq h, nr_add]
  exact ofBool_le _ _

theorem bit14_iff : bit14 x1 = 1#1 ↔ base S + 640 ≤ S 3999 := by
  show BitVec.ofBool (decide (baseId x1 + Ideal.ofBits .f32 0x44200000#32 ≤ lastId x1)) = 1#1 ↔ _
  rw [baseId_eq h, word_640, lastId_eq h, nr_add]
  exact ofBool_le _ _

theorem bit7_iff : bit7 x1 = 1#1 ↔ base S + 768 ≤ S 3999 := by
  show BitVec.ofBool (decide (baseId x1 + Ideal.ofBits .f32 0x44400000#32 ≤ lastId x1)) = 1#1 ↔ _
  rw [baseId_eq h, word_768, lastId_eq h, nr_add]
  exact ofBool_le _ _

theorem bit15_iff : bit15 x1 = 1#1 ↔ base S + 768 ≤ S 3999 := by
  show BitVec.ofBool (decide (baseId x1 + Ideal.ofBits .f32 0x44400000#32 ≤ lastId x1)) = 1#1 ↔ _
  rw [baseId_eq h, word_768, lastId_eq h, nr_add]
  exact ofBool_le _ _

theorem bit8_iff : bit8 x1 = 1#1 ↔ base S + 896 ≤ S 3999 := by
  show BitVec.ofBool (decide (baseId x1 + Ideal.ofBits .f32 0x44600000#32 ≤ lastId x1)) = 1#1 ↔ _
  rw [baseId_eq h, word_896, lastId_eq h, nr_add]
  exact ofBool_le _ _

theorem bit16_iff : bit16 x1 = 1#1 ↔ base S + 896 ≤ S 3999 := by
  show BitVec.ofBool (decide (baseId x1 + Ideal.ofBits .f32 0x44600000#32 ≤ lastId x1)) = 1#1 ↔ _
  rw [baseId_eq h, word_896, lastId_eq h, nr_add]
  exact ofBool_le _ _

theorem bit9_iff : bit9 x1 = 1#1 ↔ base S + 1024 ≤ S 3999 := by
  show BitVec.ofBool (decide (baseId x1 + Ideal.ofBits .f32 0x44800000#32 ≤ lastId x1)) = 1#1 ↔ _
  rw [baseId_eq h, word_1024, lastId_eq h, nr_add]
  exact ofBool_le _ _

theorem bit17_iff : bit17 x1 = 1#1 ↔ base S + 1024 ≤ S 3999 := by
  show BitVec.ofBool (decide (baseId x1 + Ideal.ofBits .f32 0x44800000#32 ≤ lastId x1)) = 1#1 ↔ _
  rw [baseId_eq h, word_1024, lastId_eq h, nr_add]
  exact ofBool_le _ _

omit h in
theorem on_iff (b : BitVec 1) : Scalar.cmpi .ne (Scalar.extui b : BitVec 32) 0#32 = 1#1 ↔ b = 1#1 := by
  revert b; decide

theorem on2 : k0_cond2 (bit2 x1) = 1#1 ↔ base S + 128 ≤ S 3999 := (on_iff _).trans (bit2_iff h)

theorem on10 : k0_cond10 (bit10 x1) = 1#1 ↔ base S + 128 ≤ S 3999 := (on_iff _).trans (bit10_iff h)

theorem on3 : k0_cond3 (bit3 x1) = 1#1 ↔ base S + 256 ≤ S 3999 := (on_iff _).trans (bit3_iff h)

theorem on11 : k0_cond11 (bit11 x1) = 1#1 ↔ base S + 256 ≤ S 3999 := (on_iff _).trans (bit11_iff h)

theorem on4 : k0_cond4 (bit4 x1) = 1#1 ↔ base S + 384 ≤ S 3999 := (on_iff _).trans (bit4_iff h)

theorem on12 : k0_cond12 (bit12 x1) = 1#1 ↔ base S + 384 ≤ S 3999 := (on_iff _).trans (bit12_iff h)

theorem on5 : k0_cond5 (bit5 x1) = 1#1 ↔ base S + 512 ≤ S 3999 := (on_iff _).trans (bit5_iff h)

theorem on13 : k0_cond13 (bit13 x1) = 1#1 ↔ base S + 512 ≤ S 3999 := (on_iff _).trans (bit13_iff h)

theorem on6 : k0_cond6 (bit6 x1) = 1#1 ↔ base S + 640 ≤ S 3999 := (on_iff _).trans (bit6_iff h)

theorem on14 : k0_cond14 (bit14 x1) = 1#1 ↔ base S + 640 ≤ S 3999 := (on_iff _).trans (bit14_iff h)

theorem on7 : k0_cond7 (bit7 x1) = 1#1 ↔ base S + 768 ≤ S 3999 := (on_iff _).trans (bit7_iff h)

theorem on15 : k0_cond15 (bit15 x1) = 1#1 ↔ base S + 768 ≤ S 3999 := (on_iff _).trans (bit15_iff h)

theorem on8 : k0_cond8 (bit8 x1) = 1#1 ↔ base S + 896 ≤ S 3999 := (on_iff _).trans (bit8_iff h)

theorem on16 : k0_cond16 (bit16 x1) = 1#1 ↔ base S + 896 ≤ S 3999 := (on_iff _).trans (bit16_iff h)

theorem on9 : k0_cond9 (bit9 x1) = 1#1 ↔ base S + 1024 ≤ S 3999 := (on_iff _).trans (bit9_iff h)

theorem on17 : k0_cond17 (bit17 x1) = 1#1 ↔ base S + 1024 ≤ S 3999 := (on_iff _).trans (bit17_iff h)

theorem off1_eq : k0_off1 (baseW x1) = ![base S, 0] := by
  have hb := base_le h
  show ![(baseW x1).toNat, 0] = _
  rw [baseW_eq h, BitVec.toNat_ofNat, Nat.mod_eq_of_lt (by omega)]

theorem off10_eq : k0_off10 (baseW x1) = ![base S, 0] := by
  have hb := base_le h
  show ![(baseW x1).toNat, 0] = _
  rw [baseW_eq h, BitVec.toNat_ofNat, Nat.mod_eq_of_lt (by omega)]

theorem off2_eq : k0_off2 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off11_eq : k0_off11 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off3_eq : k0_off3 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off12_eq : k0_off12 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off4_eq : k0_off4 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off13_eq : k0_off13 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off5_eq : k0_off5 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off14_eq : k0_off14 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off6_eq : k0_off6 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off15_eq : k0_off15 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off7_eq : k0_off7 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off16_eq : k0_off16 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off8_eq : k0_off8 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off17_eq : k0_off17 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off9_eq : k0_off9 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

theorem off18_eq : k0_off18 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

/-- Every window the body touches lies inside its buffer. -/
theorem checks : Checks x1 := by
  have hb := base_le h
  have hl := h.lt 3999
  refine ⟨⟨?_, ?_, ?_⟩, ?_, ?_, ?_, ?_, ?_, ?_, ?_, ?_, ?_, ?_, ?_, ?_, ?_, ?_, ?_, ?_⟩
  · show 16 ∣ (baseW x1).toNat
    rw [baseW_eq h, BitVec.toNat_ofNat, Nat.mod_eq_of_lt (by omega)]
    exact ⟨_, rfl⟩
  · intro a; rw [off1_eq h]
    fin_cases a
    · show base S + 128 ≤ 1152; omega
    · show 0 + 128 ≤ 128; omega
  · intro a; rw [off10_eq h]
    fin_cases a
    · show base S + 128 ≤ 1152; omega
    · show 0 + 256 ≤ 256; omega

  · intro hc a
    have hon := (on2 h).1 hc
    rw [off2_eq h]
    fin_cases a
    · show base S + 128 + 128 ≤ 1152; omega
    · show 0 + 128 ≤ 128; omega

  · intro hc a
    have hon := (on3 h).1 hc
    rw [off3_eq h]
    fin_cases a
    · show base S + 256 + 128 ≤ 1152; omega
    · show 0 + 128 ≤ 128; omega

  · intro hc a
    have hon := (on4 h).1 hc
    rw [off4_eq h]
    fin_cases a
    · show base S + 384 + 128 ≤ 1152; omega
    · show 0 + 128 ≤ 128; omega

  · intro hc a
    have hon := (on5 h).1 hc
    rw [off5_eq h]
    fin_cases a
    · show base S + 512 + 128 ≤ 1152; omega
    · show 0 + 128 ≤ 128; omega

  · intro hc a
    have hon := (on6 h).1 hc
    rw [off6_eq h]
    fin_cases a
    · show base S + 640 + 128 ≤ 1152; omega
    · show 0 + 128 ≤ 128; omega

  · intro hc a
    have hon := (on7 h).1 hc
    rw [off7_eq h]
    fin_cases a
    · show base S + 768 + 128 ≤ 1152; omega
    · show 0 + 128 ≤ 128; omega

  · intro hc a
    have hon := (on8 h).1 hc
    rw [off8_eq h]
    fin_cases a
    · show base S + 896 + 128 ≤ 1152; omega
    · show 0 + 128 ≤ 128; omega

  · intro hc a
    have hon := (on9 h).1 hc
    rw [off9_eq h]
    fin_cases a
    · show base S + 1024 + 128 ≤ 1152; omega
    · show 0 + 128 ≤ 128; omega

  · intro hc a
    have hon := (on10 h).1 hc
    rw [off11_eq h]
    fin_cases a
    · show base S + 128 + 128 ≤ 1152; omega
    · show 0 + 256 ≤ 256; omega

  · intro hc a
    have hon := (on11 h).1 hc
    rw [off12_eq h]
    fin_cases a
    · show base S + 256 + 128 ≤ 1152; omega
    · show 0 + 256 ≤ 256; omega

  · intro hc a
    have hon := (on12 h).1 hc
    rw [off13_eq h]
    fin_cases a
    · show base S + 384 + 128 ≤ 1152; omega
    · show 0 + 256 ≤ 256; omega

  · intro hc a
    have hon := (on13 h).1 hc
    rw [off14_eq h]
    fin_cases a
    · show base S + 512 + 128 ≤ 1152; omega
    · show 0 + 256 ≤ 256; omega

  · intro hc a
    have hon := (on14 h).1 hc
    rw [off15_eq h]
    fin_cases a
    · show base S + 640 + 128 ≤ 1152; omega
    · show 0 + 256 ≤ 256; omega

  · intro hc a
    have hon := (on15 h).1 hc
    rw [off16_eq h]
    fin_cases a
    · show base S + 768 + 128 ≤ 1152; omega
    · show 0 + 256 ≤ 256; omega

  · intro hc a
    have hon := (on16 h).1 hc
    rw [off17_eq h]
    fin_cases a
    · show base S + 896 + 128 ≤ 1152; omega
    · show 0 + 256 ≤ 256; omega

  · intro hc a
    have hon := (on17 h).1 hc
    rw [off18_eq h]
    fin_cases a
    · show base S + 1024 + 128 ≤ 1152; omega
    · show 0 + 256 ≤ 256; omega

end Cert.KernelIdeal.Pool
-- ==== Proof.Run.lean ====
/- The pooling body run at any grid point: from the blocks it reads and the scratch contents it finds to what it leaves. -/
module

public import proofs.«01_k».proof.Proof.Step

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body at one grid point over its buffers' contents; `r0 …` are the blocks as its loads read them. -/
theorem run_raw (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x1x4000 .f32) (harg3 : arg3.IsWhole) (arg4 : Memref sig .tc .vmem S4000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S128x128 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1000x128 .f32) (harg13 : arg13.IsWhole) (arg14 : Memref sig .tc .vmem S1152x256 .f32) (harg14 : arg14.IsWhole) (arg15 : Memref sig .tc .vmem S1152x128 .bf16) (harg15 : arg15.IsWhole) (arg16 : Memref sig .tc .vmem S4000x128 .bf16) (harg16 : arg16.IsWhole)
    (x0 : Vec F S4000x128 .f32) (x1 : Vec F S4000x1 .f32) (x2 : Vec F S1x1x4000 .f32) (x3 : Vec F S4000x1 .f32) (x4 : Vec F S1x128 .f32) (x5 : Vec F S1x128 .f32) (x6 : Vec F S1000x128 .f32) (x7 : Vec F S128x128 .bf16) (x8 : Vec F S128x128 .f32) (x9 : Vec F S128x128 .f32) (x10 : Vec F S1x128 .f32) (x11 : Vec F S1x128 .f32)
    (xi12 : Vec F S1000x128 .f32) (xs0 : Vec F S1152x256 .f32) (xs1 : Vec F S1152x128 .bf16) (f16 : arg16.view.ty.Contents (Elt F))
    (r0 : Vec F S4000x128 .f32) (hr0 : r0 = View.readAt (Elt F) arg1.view (Rect.unit (s := S4000x128) ![0, 0] S4000x128.size inb_S4000x128_S4000x128_0_0).toLoadRect (harg1.unread x0)) (r1 : Vec F S4000x1 .f32) (hr1 : r1 = View.readAt (Elt F) arg2.view (Rect.unit (s := S4000x1) ![0, 0] S4000x1.size inb_S4000x1_S4000x1_0_0).toLoadRect (harg2.unread x1)) (r2 : Vec F S1x1x4000 .f32) (hr2 : r2 = View.readAt (Elt F) arg3.view (Rect.unit (s := S1x1x4000) ![0, 0, 0] S1x1x4000.size inb_S1x1x4000_S1x1x4000_0_0_0).toLoadRect (harg3.unread x2)) (r3 : Vec F S4000x1 .f32) (hr3 : r3 = View.readAt (Elt F) arg4.view (Rect.unit (s := S4000x1) ![0, 0] S4000x1.size inb_S4000x1_S4000x1_0_0).toLoadRect (harg4.unread x3)) (r4 : Vec F S1x128 .f32) (hr4 : r4 = View.readAt (Elt F) arg5.view (Rect.unit (s := S1x128) ![0, 0] S1x128.size inb_S1x128_S1x128_0_0).toLoadRect (harg5.unread x4)) (r5 : Vec F S1x128 .f32) (hr5 : r5 = View.readAt (Elt F) arg6.view (Rect.unit (s := S1x128) ![0, 0] S1x128.size inb_S1x128_S1x128_0_0).toLoadRect (harg6.unread x5)) (r7 : Vec F S128x128 .bf16) (hr7 : r7 = View.readAt (Elt F) arg8.view (Rect.unit (s := S128x128) ![0, 0] S128x128.size inb_S128x128_S128x128_0_0).toLoadRect (harg8.unread x7))
    (hk : Checks r1) (E : Set ℕ) (K : PUnit → sProp 𝕄) :
    iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg5.view.loc (c : Thread nD τ) ↦[arg5.view.set]{fullShare} harg5.unread x4)
      ∗ (arg6.view.loc (c : Thread nD τ) ↦[arg6.view.set]{fullShare} harg6.unread x5)
      ∗ (arg7.view.loc (c : Thread nD τ) ↦[arg7.view.set]{fullShare} harg7.unread x6)
      ∗ (arg8.view.loc (c : Thread nD τ) ↦[arg8.view.set]{fullShare} harg8.unread x7)
      ∗ (arg9.view.loc (c : Thread nD τ) ↦[arg9.view.set]{fullShare} harg9.unread x8)
      ∗ (arg10.view.loc (c : Thread nD τ) ↦[arg10.view.set]{fullShare} harg10.unread x9)
      ∗ (arg11.view.loc (c : Thread nD τ) ↦[arg11.view.set]{fullShare} harg11.unread x10)
      ∗ (arg12.view.loc (c : Thread nD τ) ↦[arg12.view.set]{fullShare} harg12.unread x11)
      ∗ (arg13.view.loc (c : Thread nD τ) ↦[arg13.view.set]{fullShare} harg13.unread xi12)
      ∗ (arg14.view.loc (c : Thread nD τ) ↦[arg14.view.set]{fullShare} harg14.unread xs0)
      ∗ (arg15.view.loc (c : Thread nD τ) ↦[arg15.view.set]{fullShare} harg15.unread xs1)
      ∗ (arg16.view.loc (c : Thread nD τ) ↦[arg16.view.set]{fullShare} f16)
      ∗ (iprop((arg1.view.loc (c : Thread nD τ) ↦[arg1.view.set]{fullShare} harg1.unread x0)
          ∗ (arg2.view.loc (c : Thread nD τ) ↦[arg2.view.set]{fullShare} harg2.unread x1)
          ∗ (arg3.view.loc (c : Thread nD τ) ↦[arg3.view.set]{fullShare} harg3.unread x2)
          ∗ (arg4.view.loc (c : Thread nD τ) ↦[arg4.view.set]{fullShare} harg4.unread x3)
          ∗ (arg5.view.loc (c : Thread nD τ) ↦[arg5.view.set]{fullShare} harg5.unread x4)
          ∗ (arg6.view.loc (c : Thread nD τ) ↦[arg6.view.set]{fullShare} harg6.unread x5)
          ∗ (arg7.view.loc (c : Thread nD τ) ↦[arg7.view.set]{fullShare} harg7.unread x6)
          ∗ (arg8.view.loc (c : Thread nD τ) ↦[arg8.view.set]{fullShare} harg8.unread x7)
          ∗ (arg9.view.loc (c : Thread nD τ) ↦[arg9.view.set]{fullShare} harg9.unread x8)
          ∗ (arg10.view.loc (c : Thread nD τ) ↦[arg10.view.set]{fullShare} harg10.unread x9)
          ∗ (arg11.view.loc (c : Thread nD τ) ↦[arg11.view.set]{fullShare} harg11.unread x10)
          ∗ (arg12.view.loc (c : Thread nD τ) ↦[arg12.view.set]{fullShare} harg12.unread x11)
          ∗ (arg13.view.loc (c : Thread nD τ) ↦[arg13.view.set]{fullShare} harg13.unread (outAfter i (sdAfter i r0 r1 r2 r3 r4 r5 r7 hk (gzAfter i x6 x7 xs1) xs0) x6 x8 x9 x10 x11 xi12))
          ∗ (arg14.view.loc (c : Thread nD τ) ↦[arg14.view.set]{fullShare} harg14.unread (sdAfter i r0 r1 r2 r3 r4 r5 r7 hk (gzAfter i x6 x7 xs1) xs0))
          ∗ (arg15.view.loc (c : Thread nD τ) ↦[arg15.view.set]{fullShare} harg15.unread (gzAfter i x6 x7 xs1))
          ∗ (arg16.view.loc (c : Thread nD τ) ↦[arg16.view.set]{fullShare} harg16.unread (wgt9 r0 r1 r3 r4 r5 r7 hk (gzAfter i x6 x7 xs1)))) -∗ K ⟨⟩))
      ⊢ wp frame (wpE (defs₀ (F := F)) Variants.none c none) E (cc0__pool_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14, c15, c16, c17⟩ := id hk
  subst hr0 hr1 hr2 hr3 hr4 hr5 hr7
  simp only [cc0__pool_body_eq_skeleton]; unfold cc0__pool_body_skel
  simp only [k0_part1_eq_skeleton, k0_part2_eq_skeleton, k0_part3_eq_skeleton]
  iintro ⟨H0, H1, H2, H3, H4, H5, H6, H7, H8, H9, H10, H11, H12, HS0, HS1, HS2, Hk⟩
  unfold k0_part1_skel
  set_option sl_exec.stopBefore "v2" in sl_exec (disch := assumption)
  rw [wp_bind]
  iapply (init_region c arg14 harg14 arg15 harg15 arg7 harg7 arg8 harg8 _ xs0 xs1 x6 x7)
  isplitl [HS0]; · iexact HS0
  isplitl [HS1]; · iexact HS1
  isplitl [H6]; · iexact H6
  isplitl [H7]; · iexact H7
  iintro ⟨HS0, HS1, H6, H7⟩
  set_option sl_exec.stopBefore "k0_part2" in sl_exec (disch := assumption)

  set_option sl_exec.stopBefore "k0_cond2" in sl_exec (disch := assumption)
  have e16 : arg16.view.writes (Elt F) f16 [⟨Rect.unit (s := S4000x128) ![0, 0] S4000x128.size inb_S4000x128_S4000x128_0_0,
        k0_pay27 (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5))) (k0_pay26 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)))
          (View.readAt (Elt F) arg15.view (Rect.unit (s := S1152x128) (k0_off1 (baseW (View.readAt (Elt F) arg2.view (Rect.unit (s := S4000x1) ![0, 0] S4000x1.size inb_S4000x1_S4000x1_0_0).toLoadRect (harg2.unread x1)))) S128x128.size
            (k0_off1_inb _ hk.c1)).toLoadRect (harg15.unread (gzAfter i x6 x7 xs1)))
          (View.readAt (Elt F) arg8.view (Rect.unit (s := S128x128) ![0, 0] S128x128.size inb_S128x128_S128x128_0_0).toLoadRect (harg8.unread x7))⟩]
      = harg16.unread (wgt1 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)) := harg16.eq_unread (by
    rw [View.read_writes_full, View.readAt_unit arg15.view _ (k0_off1_inb _ hk.c1) rfl (k0_off1_inb _ hk.c1), harg15.read_unread]; rfl)
  try rw [wp_bind]
  iapply (gather_region c arg15 harg15 arg16 harg16 _ (k0_off2 (baseW (View.readAt (Elt F) arg2.view (Rect.unit (s := S4000x1) ![0, 0] S4000x1.size inb_S4000x1_S4000x1_0_0).toLoadRect (harg2.unread x1)))) (k0_off2_inb _ _ hk.c2)
    (k0_pay29 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt1 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · rw [← e16]; iexact HS2
  iintro ⟨HS1, HS2⟩
  set_option sl_exec.stopBefore "k0_cond3" in sl_exec (disch := assumption)
  try rw [wp_bind]
  iapply (gather_region c arg15 harg15 arg16 harg16 _ (k0_off3 (baseW (View.readAt (Elt F) arg2.view (Rect.unit (s := S4000x1) ![0, 0] S4000x1.size inb_S4000x1_S4000x1_0_0).toLoadRect (harg2.unread x1)))) (k0_off3_inb _ _ hk.c3)
    (k0_pay31 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt2 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond4" in sl_exec (disch := assumption)
  try rw [wp_bind]
  iapply (gather_region c arg15 harg15 arg16 harg16 _ (k0_off4 (baseW (View.readAt (Elt F) arg2.view (Rect.unit (s := S4000x1) ![0, 0] S4000x1.size inb_S4000x1_S4000x1_0_0).toLoadRect (harg2.unread x1)))) (k0_off4_inb _ _ hk.c4)
    (k0_pay33 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt3 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond5" in sl_exec (disch := assumption)
  try rw [wp_bind]
  iapply (gather_region c arg15 harg15 arg16 harg16 _ (k0_off5 (baseW (View.readAt (Elt F) arg2.view (Rect.unit (s := S4000x1) ![0, 0] S4000x1.size inb_S4000x1_S4000x1_0_0).toLoadRect (harg2.unread x1)))) (k0_off5_inb _ _ hk.c5)
    (k0_pay35 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt4 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond6" in sl_exec (disch := assumption)
  try rw [wp_bind]
  iapply (gather_region c arg15 harg15 arg16 harg16 _ (k0_off6 (baseW (View.readAt (Elt F) arg2.view (Rect.unit (s := S4000x1) ![0, 0] S4000x1.size inb_S4000x1_S4000x1_0_0).toLoadRect (harg2.unread x1)))) (k0_off6_inb _ _ hk.c6)
    (k0_pay37 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt5 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond7" in sl_exec (disch := assumption)
  try rw [wp_bind]
  iapply (gather_region c arg15 harg15 arg16 harg16 _ (k0_off7 (baseW (View.readAt (Elt F) arg2.view (Rect.unit (s := S4000x1) ![0, 0] S4000x1.size inb_S4000x1_S4000x1_0_0).toLoadRect (harg2.unread x1)))) (k0_off7_inb _ _ hk.c7)
    (k0_pay39 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt6 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond8" in sl_exec (disch := assumption)
  try rw [wp_bind]
  iapply (gather_region c arg15 harg15 arg16 harg16 _ (k0_off8 (baseW (View.readAt (Elt F) arg2.view (Rect.unit (s := S4000x1) ![0, 0] S4000x1.size inb_S4000x1_S4000x1_0_0).toLoadRect (harg2.unread x1)))) (k0_off8_inb _ _ hk.c8)
    (k0_pay41 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt7 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond9" in sl_exec (disch := assumption)
  try rw [wp_bind]
  iapply (gather_region c arg15 harg15 arg16 harg16 _ (k0_off9 (baseW (View.readAt (Elt F) arg2.view (Rect.unit (s := S4000x1) ![0, 0] S4000x1.size inb_S4000x1_S4000x1_0_0).toLoadRect (harg2.unread x1)))) (k0_off9_inb _ _ hk.c9)
    (k0_pay43 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt8 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond10" in sl_exec (disch := assumption)
  have e14 : arg14.view.writes (Elt F) (harg14.unread (cleared (C := IsFirst i) xs0)) [⟨Rect.unit (s := S1152x256) (k0_off10 (baseW (View.readAt (Elt F) arg2.view (Rect.unit (s := S4000x1) ![0, 0] S4000x1.size inb_S4000x1_S4000x1_0_0).toLoadRect (harg2.unread x1)))) S128x256.size (k0_off10_inb _ hk.c1),
        k0_pay45 (k0_pay18 (View.readAt (Elt F) arg1.view (Rect.unit (s := S4000x128) ![0, 0] S4000x128.size inb_S4000x128_S4000x128_0_0).toLoadRect (harg1.unread x0))) (k0_pay20 (View.readAt (Elt F) arg3.view (Rect.unit (s := S1x1x4000) ![0, 0, 0] S1x1x4000.size inb_S1x1x4000_S1x1x4000_0_0_0).toLoadRect (harg3.unread x2))) (baseId (View.readAt (Elt F) arg2.view (Rect.unit (s := S4000x1) ![0, 0] S4000x1.size inb_S4000x1_S4000x1_0_0).toLoadRect (harg2.unread x1))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))))
          (View.readAt (Elt F) arg14.view (Rect.unit (s := S1152x256) (k0_off10 (baseW (View.readAt (Elt F) arg2.view (Rect.unit (s := S4000x1) ![0, 0] S4000x1.size inb_S4000x1_S4000x1_0_0).toLoadRect (harg2.unread x1)))) S128x256.size
            (k0_off10_inb _ hk.c1)).toLoadRect (harg14.unread (cleared (C := IsFirst i) xs0)))⟩]
      = harg14.unread (acc9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) := harg14.eq_unread (by
    rw [View.read_writes_cons_put _ _ (k0_off10_inb _ hk.c1) _ _ rfl, View.readAt_unit arg14.view _ (k0_off10_inb _ hk.c1) rfl (k0_off10_inb _ hk.c1), View.writes_nil,
      harg14.read_unread]; rfl)
  have e79 : View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))) = (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)) := by
    rw [View.readAt_full arg16.view, harg16.read_unread]
  try rw [wp_bind]
  iapply (scatter_region c arg14 harg14 _ (k0_off11 (baseW (View.readAt (Elt F) arg2.view (Rect.unit (s := S4000x1) ![0, 0] S4000x1.size inb_S4000x1_S4000x1_0_0).toLoadRect (harg2.unread x1)))) (k0_off11_inb _ _ hk.c10)
    (k0_pay47 (k0_pay18 (View.readAt (Elt F) arg1.view (Rect.unit (s := S4000x128) ![0, 0] S4000x128.size inb_S4000x128_S4000x128_0_0).toLoadRect (harg1.unread x0))) (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))))) (acc9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · rw [← e14]; iexact HS0
  iintro HS0
  set_option sl_exec.stopBefore "k0_cond11" in sl_exec (disch := assumption)
  try rw [wp_bind]
  iapply (scatter_region c arg14 harg14 _ (k0_off12 (baseW (View.readAt (Elt F) arg2.view (Rect.unit (s := S4000x1) ![0, 0] S4000x1.size inb_S4000x1_S4000x1_0_0).toLoadRect (harg2.unread x1)))) (k0_off12_inb _ _ hk.c11)
    (k0_pay1 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc10 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond12" in sl_exec (disch := assumption)
  try rw [wp_bind]
  iapply (scatter_region c arg14 harg14 _ (k0_off13 (baseW (View.readAt (Elt F) arg2.view (Rect.unit (s := S4000x1) ![0, 0] S4000x1.size inb_S4000x1_S4000x1_0_0).toLoadRect (harg2.unread x1)))) (k0_off13_inb _ _ hk.c12)
    (k0_pay3 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc11 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond13" in sl_exec (disch := assumption)
  try rw [wp_bind]
  iapply (scatter_region c arg14 harg14 _ (k0_off14 (baseW (View.readAt (Elt F) arg2.view (Rect.unit (s := S4000x1) ![0, 0] S4000x1.size inb_S4000x1_S4000x1_0_0).toLoadRect (harg2.unread x1)))) (k0_off14_inb _ _ hk.c13)
    (k0_pay5 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc12 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond14" in sl_exec (disch := assumption)
  try rw [wp_bind]
  iapply (scatter_region c arg14 harg14 _ (k0_off15 (baseW (View.readAt (Elt F) arg2.view (Rect.unit (s := S4000x1) ![0, 0] S4000x1.size inb_S4000x1_S4000x1_0_0).toLoadRect (harg2.unread x1)))) (k0_off15_inb _ _ hk.c14)
    (k0_pay7 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc13 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond15" in sl_exec (disch := assumption)
  try rw [wp_bind]
  iapply (scatter_region c arg14 harg14 _ (k0_off16 (baseW (View.readAt (Elt F) arg2.view (Rect.unit (s := S4000x1) ![0, 0] S4000x1.size inb_S4000x1_S4000x1_0_0).toLoadRect (harg2.unread x1)))) (k0_off16_inb _ _ hk.c15)
    (k0_pay9 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc14 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond16" in sl_exec (disch := assumption)
  try rw [wp_bind]
  iapply (scatter_region c arg14 harg14 _ (k0_off17 (baseW (View.readAt (Elt F) arg2.view (Rect.unit (s := S4000x1) ![0, 0] S4000x1.size inb_S4000x1_S4000x1_0_0).toLoadRect (harg2.unread x1)))) (k0_off17_inb _ _ hk.c16)
    (k0_pay11 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc15 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond17" in sl_exec (disch := assumption)
  try rw [wp_bind]
  iapply (scatter_region c arg14 harg14 _ (k0_off18 (baseW (View.readAt (Elt F) arg2.view (Rect.unit (s := S4000x1) ![0, 0] S4000x1.size inb_S4000x1_S4000x1_0_0).toLoadRect (harg2.unread x1)))) (k0_off18_inb _ _ hk.c17)
    (k0_pay13 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc16 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond18" in sl_exec (disch := assumption)
  try rw [wp_bind]
  iapply (finish_region c arg14 harg14 arg7 harg7 arg9 harg9 arg11 harg11 arg10 harg10 arg12 harg12 arg13 harg13 _ (acc17 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) x6 x8 x10 x9 x11 xi12)
  isplitl [HS0]; · iexact HS0
  isplitl [H6]; · iexact H6
  isplitl [H8]; · iexact H8
  isplitl [H10]; · iexact H10
  isplitl [H9]; · iexact H9
  isplitl [H11]; · iexact H11
  isplitl [H12]; · iexact H12
  iintro ⟨HS0, H6, H8, H10, H9, H11, H12⟩
  sl_exec
  sl_step
  have esd : (acc17 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) = (sdAfter i (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1) xs0) := by rw [e79]; rfl
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · rw [← esd]; iexact H12
  isplitl [HS0]; · rw [← esd]; iexact HS0
  isplitl [HS1]; · iexact HS1
  iexact HS2

end Cert.KernelIdeal.Pool

end
-- ==== Proof.Own.lean ====
/- The pooling body's triple over buffers owned at stated contents. -/
module

public import proofs.«01_k».proof.Proof.Run

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at one grid point: what it leaves in each buffer it is called on. -/
theorem run_owns (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x1x4000 .f32) (harg3 : arg3.IsWhole) (arg4 : Memref sig .tc .vmem S4000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S128x128 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1000x128 .f32) (harg13 : arg13.IsWhole) (arg14 : Memref sig .tc .vmem S1152x256 .f32) (harg14 : arg14.IsWhole) (arg15 : Memref sig .tc .vmem S1152x128 .bf16) (harg15 : arg15.IsWhole) (arg16 : Memref sig .tc .vmem S4000x128 .bf16) (harg16 : arg16.IsWhole)
    (x0 : Vec F S4000x128 .f32) (x1 : Vec F S4000x1 .f32) (x2 : Vec F S1x1x4000 .f32) (x3 : Vec F S4000x1 .f32) (x4 : Vec F S1x128 .f32) (x5 : Vec F S1x128 .f32) (x6 : Vec F S1000x128 .f32) (x7 : Vec F S128x128 .bf16) (x8 : Vec F S128x128 .f32) (x9 : Vec F S128x128 .f32) (x10 : Vec F S1x128 .f32) (x11 : Vec F S1x128 .f32)
    (xi12 : Vec F S1000x128 .f32) (xs0 : Vec F S1152x256 .f32) (xs1 : Vec F S1152x128 .bf16) (hk : Checks x1)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare xi12
      ∗ owns (c : Thread nD τ) arg14 fullShare xs0
      ∗ owns (c : Thread nD τ) arg15 fullShare xs1
      ∗ (∃ d, owns (c : Thread nD τ) arg16 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare (outAfter i (sdAfter i x0 x1 x2 x3 x4 x5 x7 hk (gzAfter i x6 x7 xs1) xs0) x6 x8 x9 x10 x11 xi12)
          ∗ owns (c : Thread nD τ) arg14 fullShare (sdAfter i x0 x1 x2 x3 x4 x5 x7 hk (gzAfter i x6 x7 xs1) xs0)
          ∗ owns (c : Thread nD τ) arg15 fullShare (gzAfter i x6 x7 xs1)
          ∗ (∃ d, owns (c : Thread nD τ) arg16 fullShare d)) -∗ K ⟨⟩))
      ⊢ wp frame (wpE (defs₀ (F := F)) Variants.none c none) E (cc0__pool_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hfs0
  obtain rfl := harg15.eq_unread hfs1
  iapply (run_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xi12 xs0 xs1 fs2
    x0 (by rw [View.readAt_full, harg1.read_unread]) x1 (by rw [View.readAt_full, harg2.read_unread]) x2 (by rw [View.readAt_full, harg3.read_unread]) x3 (by rw [View.readAt_full, harg4.read_unread]) x4 (by rw [View.readAt_full, harg5.read_unread]) x5 (by rw [View.readAt_full, harg6.read_unread]) x7 (by rw [View.readAt_full, harg8.read_unread]) hk E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [HS0]
  · iexists _; isplitr; · ipureintro; exact harg14.read_unread _
    iexact HS0
  isplitl [HS1]
  · iexists _; isplitr; · ipureintro; exact harg15.read_unread _
    iexact HS1
  iexists (wgt9 x0 x1 x3 x4 x5 x7 hk (gzAfter i x6 x7 xs1)); iexists _; isplitr; · ipureintro; exact harg16.read_unread _
  iexact HS2

end Cert.KernelIdeal.Pool

end
-- ==== Proof.Launch.lean ====
/- The pooling kernel's frame: what its scratch buffers hold after each grid point, the body's obligation at every point,
   and the launch, over any memory whose segment-id blocks meet the window side conditions. -/
module

public import proofs.«01_k».proof.Proof.Own
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every block of segment ids meets the side conditions of the windows. -/
def AllChecks : Prop := ∀ (c : Dev nD) (t : Fin cfg0.N), Checks (F := F) (iblk m c 1 t)

/-- The opening region runs at the first point only. -/
theorem isFirst_iff : ∀ t : Fin cfg0.N, IsFirst (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have key : IsFirst (grid0.coords t) ↔ t.val % 25 = 0 := by
      simp only [IsFirst, e0]
      word_cmp
    rw [key]; omega
   : ∀ t : Fin grid0.N, IsFirst (grid0.coords t) ↔ t.val = 0)

/-- The closing region runs at the last point only. -/
theorem isLast_iff : ∀ t : Fin cfg0.N, IsLast (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    have key : IsLast (grid0.coords t) ↔ t.val % 25 = 24 := by
      simp only [IsLast, k0_cond18, e0]
      word_cmp
    rw [key]; omega
   : ∀ t : Fin grid0.N, IsLast (grid0.coords t) ↔ t.val = 24)

/-- Before the last point the result's window is idle, -/
theorem idle_out : ∀ t : Fin cfg0.N, ¬ IsLast (grid0.coords t) → cfg0.idle 12 (grid0.coords t) = true := by decide +kernel
/-- and is not written back; -/
theorem noFlush_out : ∀ t : Fin cfg0.N, ¬ IsLast (grid0.coords t) → (cfg0.win 12).flush t = false := by decide +kernel
/-- at the last point it is live. -/
theorem live_out : ∀ t : Fin cfg0.N, IsLast (grid0.coords t) → cfg0.idle 12 (grid0.coords t) = false := by decide +kernel

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl

variable (hC : AllChecks m)

/-- The accumulator and the projected table after point `n`. -/
def scr (c : Dev nD) : (n : ℕ) → n < cfg0.N → Vec F S1152x256 .f32 × Vec F S1152x128 .bf16
  | 0, h =>
    (sdAfter (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 7 ⟨0, h⟩) (hC c ⟨0, h⟩)
      (gzAfter (grid0.coords ⟨0, h⟩) (iblk m c 6 ⟨0, h⟩) (iblk m c 7 ⟨0, h⟩) k0_pay16) k0_pay15,
     gzAfter (grid0.coords ⟨0, h⟩) (iblk m c 6 ⟨0, h⟩) (iblk m c 7 ⟨0, h⟩) k0_pay16)
  | n + 1, h =>
    (sdAfter (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 7 ⟨n + 1, h⟩) (hC c ⟨n + 1, h⟩)
      (gzAfter (grid0.coords ⟨n + 1, h⟩) (iblk m c 6 ⟨n + 1, h⟩) (iblk m c 7 ⟨n + 1, h⟩) (scr c n (Nat.lt_of_succ_lt h)).2)
      (scr c n (Nat.lt_of_succ_lt h)).1,
     gzAfter (grid0.coords ⟨n + 1, h⟩) (iblk m c 6 ⟨n + 1, h⟩) (iblk m c 7 ⟨n + 1, h⟩) (scr c n (Nat.lt_of_succ_lt h)).2)

/-- At the first point what the scratch held before does not matter. -/
theorem scr_first (c : Dev nD) (t : Fin cfg0.N) (hz : t.val = 0) (sd : Vec F S1152x256 .f32) (gz : Vec F S1152x128 .bf16) :
    scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) gz) sd,
         gzAfter (grid0.coords t) (iblk m c 6 t) (iblk m c 7 t) gz) := by
  obtain ⟨n, hn⟩ := t
  obtain rfl : n = 0 := hz
  have hf : IsFirst (grid0.coords ⟨0, hn⟩) := (isFirst_iff ⟨0, hn⟩).mpr rfl
  unfold scr sdAfter gzAfter seeded cleared
  rw [if_pos hf, if_pos hf, if_pos hf, if_pos hf]

/-- At a later point the scratch is a step from what the point before left. -/
theorem scr_next (c : Dev nD) (t : Fin cfg0.N) (hz : t.val ≠ 0) (h : t.val - 1 < cfg0.N) :
    scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) (scr m hC c (t.val - 1) h).2) (scr m hC c (t.val - 1) h).1,
         gzAfter (grid0.coords t) (iblk m c 6 t) (iblk m c 7 t) (scr m hC c (t.val - 1) h).2) := by
  obtain ⟨n, hn⟩ := t
  cases n with
  | zero => exact absurd rfl hz
  | succ n => rfl

/-- The result block as the last point leaves it. -/
def outBlock (c : Dev nD) (t : Fin cfg0.N) : Vec F S1000x128 .f32 :=
  k0_pay14 (VecWindow.window (scr m hC c t.val t.isLt).1 ![0, 0] S1000x128.size inb_S1152x256_S1000x128_0_0)
    (VecWindow.window (scr m hC c t.val t.isLt).1 ![0, 128] S1000x128.size inb_S1152x256_S1000x128_0_128)
    (iblk m c 6 t) (iblk m c 8 t) (iblk m c 10 t) (iblk m c 9 t) (iblk m c 11 t)

abbrev scM0 : Memref sig .tc .vmem S1152x256 .f32 := Memref.whole cc0_scratch0
abbrev scM1 : Memref sig .tc .vmem S1152x128 .bf16 := Memref.whole cc0_scratch1
abbrev scM2 : Memref sig .tc .vmem S4000x128 .bf16 := Memref.whole cc0_scratch2

/-- The launch's invariant with the scratch buffers as owned memrefs. -/
theorem phiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant between points: before the first the scratch at anything, afterwards at `scr`. -/
def PhiS (c : Dev nD) : (n : ℕ) → n ≤ cfg0.N → sProp 𝕄
  | 0, _ => Pipeline.ΦA spec0 c
  | n + 1, hn => iprop(iprop(owns (c : Thread nD τ) scM0 fullShare ((scr m hC c n hn).1)
      ∗ owns (c : Thread nD τ) scM1 fullShare ((scr m hC c n hn).2) ∗ (∃ d, owns (c : Thread nD τ) scM2 fullShare d)) ∗ (∃ r, prngReg c r))

theorem PhiS_zero (c : Dev nD) (n : ℕ) (h : n ≤ cfg0.N) (hz : n = 0) : PhiS m hC c n h = Pipeline.ΦA spec0 c := by
  subst hz; rfl

theorem PhiS_succ (c : Dev nD) (n : ℕ) (hn : n < cfg0.N) :
    PhiS m hC c (n + 1) hn = iprop(iprop(owns (c : Thread nD τ) scM0 fullShare ((scr m hC c n hn).1)
      ∗ owns (c : Thread nD τ) scM1 fullShare ((scr m hC c n hn).2) ∗ (∃ d, owns (c : Thread nD τ) scM2 fullShare d)) ∗ (∃ r, prngReg c r)) := rfl

theorem PhiS_pos (c : Dev nD) (n : ℕ) (h : n ≤ cfg0.N) (hz : n ≠ 0) :
    PhiS m hC c n h = iprop(iprop(owns (c : Thread nD τ) scM0 fullShare ((scr m hC c (n - 1) (by omega)).1)
      ∗ owns (c : Thread nD τ) scM1 fullShare ((scr m hC c (n - 1) (by omega)).2)
      ∗ (∃ d, owns (c : Thread nD τ) scM2 fullShare d)) ∗ (∃ r, prngReg c r)) := by
  cases n with
  | zero => exact absurd rfl hz
  | succ n => rfl

/-- The pipeline's proof data: every input block stays, the result block is `outBlock`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock m hC c t
  Φ t := PhiS m hC c t.val (Nat.le_of_lt_succ t.isLt)
  q _ := fullShare
  owed _ := 0

theorem A_eq (c : Dev nD) (w : Fin cfg0.W) : (dats m hC 0 c).A w = V m c (Pipeline.arrRef spec0 w) := by
  dsimp only [dats]

theorem PhiS_castSucc (c : Dev nD) (t : Fin cfg0.N) :
    (dats m hC 0 c).Φ t.castSucc = PhiS m hC c t.val (Nat.le_of_lt t.isLt) := by
  dsimp only [dats]; exact Pipeline.Dat.Φ_castSucc (PhiS m hC c) t

theorem after_0 (c : Dev nD) (t : Fin cfg0.N) : (dats m hC 0 c).after 0 t = iblk m c 0 t := by dsimp only [dats]
theorem after_1 (c : Dev nD) (t : Fin cfg0.N) : (dats m hC 0 c).after 1 t = iblk m c 1 t := by dsimp only [dats]
theorem after_2 (c : Dev nD) (t : Fin cfg0.N) : (dats m hC 0 c).after 2 t = iblk m c 2 t := by dsimp only [dats]
theorem after_3 (c : Dev nD) (t : Fin cfg0.N) : (dats m hC 0 c).after 3 t = iblk m c 3 t := by dsimp only [dats]
theorem after_4 (c : Dev nD) (t : Fin cfg0.N) : (dats m hC 0 c).after 4 t = iblk m c 4 t := by dsimp only [dats]
theorem after_5 (c : Dev nD) (t : Fin cfg0.N) : (dats m hC 0 c).after 5 t = iblk m c 5 t := by dsimp only [dats]
theorem after_6 (c : Dev nD) (t : Fin cfg0.N) : (dats m hC 0 c).after 6 t = iblk m c 6 t := by dsimp only [dats]
theorem after_7 (c : Dev nD) (t : Fin cfg0.N) : (dats m hC 0 c).after 7 t = iblk m c 7 t := by dsimp only [dats]
theorem after_8 (c : Dev nD) (t : Fin cfg0.N) : (dats m hC 0 c).after 8 t = iblk m c 8 t := by dsimp only [dats]
theorem after_9 (c : Dev nD) (t : Fin cfg0.N) : (dats m hC 0 c).after 9 t = iblk m c 9 t := by dsimp only [dats]
theorem after_10 (c : Dev nD) (t : Fin cfg0.N) : (dats m hC 0 c).after 10 t = iblk m c 10 t := by dsimp only [dats]
theorem after_11 (c : Dev nD) (t : Fin cfg0.N) : (dats m hC 0 c).after 11 t = iblk m c 11 t := by dsimp only [dats]
theorem after_12 (c : Dev nD) (t : Fin cfg0.N) : (dats m hC 0 c).after 12 t = outBlock m hC c t := by dsimp only [dats]

theorem before_0 (c : Dev nD) (t : Fin cfg0.N) (d) : (dats m hC 0 c).before 0 t d = iblk m c 0 t :=
  before0_0_of m (dats m hC 0 c) (A_eq m hC c 0) (after_0 m hC c) t d
theorem before_1 (c : Dev nD) (t : Fin cfg0.N) (d) : (dats m hC 0 c).before 1 t d = iblk m c 1 t :=
  before0_1_of m (dats m hC 0 c) (A_eq m hC c 1) (after_1 m hC c) t d
theorem before_2 (c : Dev nD) (t : Fin cfg0.N) (d) : (dats m hC 0 c).before 2 t d = iblk m c 2 t :=
  before0_2_of m (dats m hC 0 c) (A_eq m hC c 2) (after_2 m hC c) t d
theorem before_3 (c : Dev nD) (t : Fin cfg0.N) (d) : (dats m hC 0 c).before 3 t d = iblk m c 3 t :=
  before0_3_of m (dats m hC 0 c) (A_eq m hC c 3) (after_3 m hC c) t d
theorem before_4 (c : Dev nD) (t : Fin cfg0.N) (d) : (dats m hC 0 c).before 4 t d = iblk m c 4 t :=
  before0_4_of m (dats m hC 0 c) (A_eq m hC c 4) (after_4 m hC c) t d
theorem before_5 (c : Dev nD) (t : Fin cfg0.N) (d) : (dats m hC 0 c).before 5 t d = iblk m c 5 t :=
  before0_5_of m (dats m hC 0 c) (A_eq m hC c 5) (after_5 m hC c) t d
theorem before_6 (c : Dev nD) (t : Fin cfg0.N) (d) : (dats m hC 0 c).before 6 t d = iblk m c 6 t :=
  before0_6_of m (dats m hC 0 c) (A_eq m hC c 6) (after_6 m hC c) t d
theorem before_7 (c : Dev nD) (t : Fin cfg0.N) (d) : (dats m hC 0 c).before 7 t d = iblk m c 7 t :=
  before0_7_of m (dats m hC 0 c) (A_eq m hC c 7) (after_7 m hC c) t d
theorem before_8 (c : Dev nD) (t : Fin cfg0.N) (d) : (dats m hC 0 c).before 8 t d = iblk m c 8 t :=
  before0_8_of m (dats m hC 0 c) (A_eq m hC c 8) (after_8 m hC c) t d
theorem before_9 (c : Dev nD) (t : Fin cfg0.N) (d) : (dats m hC 0 c).before 9 t d = iblk m c 9 t :=
  before0_9_of m (dats m hC 0 c) (A_eq m hC c 9) (after_9 m hC c) t d
theorem before_10 (c : Dev nD) (t : Fin cfg0.N) (d) : (dats m hC 0 c).before 10 t d = iblk m c 10 t :=
  before0_10_of m (dats m hC 0 c) (A_eq m hC c 10) (after_10 m hC c) t d
theorem before_11 (c : Dev nD) (t : Fin cfg0.N) (d) : (dats m hC 0 c).before 11 t d = iblk m c 11 t :=
  before0_11_of m (dats m hC 0 c) (A_eq m hC c 11) (after_11 m hC c) t d

theorem leaves_0 (c : Dev nD) (t : Fin cfg0.N) :
    (dats m hC 0 c).leavesExact 0 t = owns (c : Thread nD τ) (st0_0 t) fullShare (iblk m c 0 t) := by
  rw [← after_0 m hC c t]
theorem leaves_1 (c : Dev nD) (t : Fin cfg0.N) :
    (dats m hC 0 c).leavesExact 1 t = owns (c : Thread nD τ) (st0_1 t) fullShare (iblk m c 1 t) := by
  rw [← after_1 m hC c t]
theorem leaves_2 (c : Dev nD) (t : Fin cfg0.N) :
    (dats m hC 0 c).leavesExact 2 t = owns (c : Thread nD τ) (st0_2 t) fullShare (iblk m c 2 t) := by
  rw [← after_2 m hC c t]
theorem leaves_3 (c : Dev nD) (t : Fin cfg0.N) :
    (dats m hC 0 c).leavesExact 3 t = owns (c : Thread nD τ) (st0_3 t) fullShare (iblk m c 3 t) := by
  rw [← after_3 m hC c t]
theorem leaves_4 (c : Dev nD) (t : Fin cfg0.N) :
    (dats m hC 0 c).leavesExact 4 t = owns (c : Thread nD τ) (st0_4 t) fullShare (iblk m c 4 t) := by
  rw [← after_4 m hC c t]
theorem leaves_5 (c : Dev nD) (t : Fin cfg0.N) :
    (dats m hC 0 c).leavesExact 5 t = owns (c : Thread nD τ) (st0_5 t) fullShare (iblk m c 5 t) := by
  rw [← after_5 m hC c t]
theorem leaves_6 (c : Dev nD) (t : Fin cfg0.N) :
    (dats m hC 0 c).leavesExact 6 t = owns (c : Thread nD τ) (st0_6 t) fullShare (iblk m c 6 t) := by
  rw [← after_6 m hC c t]
theorem leaves_7 (c : Dev nD) (t : Fin cfg0.N) :
    (dats m hC 0 c).leavesExact 7 t = owns (c : Thread nD τ) (st0_7 t) fullShare (iblk m c 7 t) := by
  rw [← after_7 m hC c t]
theorem leaves_8 (c : Dev nD) (t : Fin cfg0.N) :
    (dats m hC 0 c).leavesExact 8 t = owns (c : Thread nD τ) (st0_8 t) fullShare (iblk m c 8 t) := by
  rw [← after_8 m hC c t]
theorem leaves_9 (c : Dev nD) (t : Fin cfg0.N) :
    (dats m hC 0 c).leavesExact 9 t = owns (c : Thread nD τ) (st0_9 t) fullShare (iblk m c 9 t) := by
  rw [← after_9 m hC c t]
theorem leaves_10 (c : Dev nD) (t : Fin cfg0.N) :
    (dats m hC 0 c).leavesExact 10 t = owns (c : Thread nD τ) (st0_10 t) fullShare (iblk m c 10 t) := by
  rw [← after_10 m hC c t]
theorem leaves_11 (c : Dev nD) (t : Fin cfg0.N) :
    (dats m hC 0 c).leavesExact 11 t = owns (c : Thread nD τ) (st0_11 t) fullShare (iblk m c 11 t) := by
  rw [← after_11 m hC c t]

/-- At the last point the result's window leaves `outBlock`. -/
theorem leaves_12 (c : Dev nD) (t : Fin cfg0.N) (h : IsLast (grid0.coords t)) :
    (dats m hC 0 c).leavesExact 12 t = owns (c : Thread nD τ) (st0_12 t) fullShare (outBlock m hC c t) := by
  rw [← after_12 m hC c t]; unfold Dat.leavesExact; rw [live_out t h]

/-- What the body is called with at a point, -/
def bodyPre (c : Dev nD) (t : Fin cfg0.N) : sProp 𝕄 :=
  iprop((dats m hC 0 c).Φ t.castSucc ∗ (dats m hC 0 c).owesAt () t.castSucc
    ∗ (∃ d, owns (c : Thread nD τ) (st0_0 t) fullShare ((dats m hC 0 c).before 0 t d))
    ∗ (∃ d, owns (c : Thread nD τ) (st0_1 t) fullShare ((dats m hC 0 c).before 1 t d))
    ∗ (∃ d, owns (c : Thread nD τ) (st0_2 t) fullShare ((dats m hC 0 c).before 2 t d))
    ∗ (∃ d, owns (c : Thread nD τ) (st0_3 t) fullShare ((dats m hC 0 c).before 3 t d))
    ∗ (∃ d, owns (c : Thread nD τ) (st0_4 t) fullShare ((dats m hC 0 c).before 4 t d))
    ∗ (∃ d, owns (c : Thread nD τ) (st0_5 t) fullShare ((dats m hC 0 c).before 5 t d))
    ∗ (∃ d, owns (c : Thread nD τ) (st0_6 t) fullShare ((dats m hC 0 c).before 6 t d))
    ∗ (∃ d, owns (c : Thread nD τ) (st0_7 t) fullShare ((dats m hC 0 c).before 7 t d))
    ∗ (∃ d, owns (c : Thread nD τ) (st0_8 t) fullShare ((dats m hC 0 c).before 8 t d))
    ∗ (∃ d, owns (c : Thread nD τ) (st0_9 t) fullShare ((dats m hC 0 c).before 9 t d))
    ∗ (∃ d, owns (c : Thread nD τ) (st0_10 t) fullShare ((dats m hC 0 c).before 10 t d))
    ∗ (∃ d, owns (c : Thread nD τ) (st0_11 t) fullShare ((dats m hC 0 c).before 11 t d))
    ∗ (∃ d, owns (c : Thread nD τ) (st0_12 t) fullShare ((dats m hC 0 c).before 12 t d)))

/-- and what it returns. -/
def bodyPost (c : Dev nD) (t : Fin cfg0.N) : sProp 𝕄 :=
  iprop((dats m hC 0 c).Φ t.succ ∗ (dats m hC 0 c).owesAt () t.succ
    ∗ (dats m hC 0 c).leavesExact 0 t
    ∗ (dats m hC 0 c).leavesExact 1 t
    ∗ (dats m hC 0 c).leavesExact 2 t
    ∗ (dats m hC 0 c).leavesExact 3 t
    ∗ (dats m hC 0 c).leavesExact 4 t
    ∗ (dats m hC 0 c).leavesExact 5 t
    ∗ (dats m hC 0 c).leavesExact 6 t
    ∗ (dats m hC 0 c).leavesExact 7 t
    ∗ (dats m hC 0 c).leavesExact 8 t
    ∗ (dats m hC 0 c).leavesExact 9 t
    ∗ (dats m hC 0 c).leavesExact 10 t
    ∗ (dats m hC 0 c).leavesExact 11 t
    ∗ (dats m hC 0 c).leavesExact 12 t)

/-- The result window's own part of what the body returns, from what the run leaves in it. -/
theorem leave_out (c : Dev nD) (t : Fin cfg0.N) (d12) :
    owns (c : Thread nD τ) (st0_12 t) fullShare
        (outAfter (grid0.coords t) (scr m hC c t.val t.isLt).1 (iblk m c 6 t) (iblk m c 8 t) (iblk m c 9 t) (iblk m c 10 t)
          (iblk m c 11 t) ((dats m hC 0 c).before 12 t d12))
      ⊢ ((dats m hC 0 c).leavesExact 12 t : sProp 𝕄) := by
  by_cases h : IsLast (grid0.coords t)
  · rw [leaves_12 m hC c t h]
    unfold outAfter finished outBlock
    rw [if_pos h]
    try exact Idealize.SL.BI.Entails.refl _
  · rw [Dat.leavesExact_idle (dats m hC 0 c) 12 t (idle_out t h) (noFlush_out t h)]
    unfold outAfter finished
    rw [if_neg h]
    iintro H
    iexists d12
    iexact H

set_option maxHeartbeats 4000000 in
/-- The body at any point, from the scratch contents `sd`, `gz` that lead to `scr` there. -/
theorem body_from (c : Dev nD) (t : Fin cfg0.N) (sd : Vec F S1152x256 .f32) (gz : Vec F S1152x128 .bf16)
    (hs : scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) gz) sd,
         gzAfter (grid0.coords t) (iblk m c 6 t) (iblk m c 7 t) gz)) :
    iprop(iprop(iprop(owns (c : Thread nD τ) scM0 fullShare sd ∗ owns (c : Thread nD τ) scM1 fullShare gz
          ∗ (∃ d, owns (c : Thread nD τ) scM2 fullShare d)) ∗ (∃ r, prngReg c r))
        ∗ (dats m hC 0 c).owesAt () t.castSucc
    ∗ (∃ d, owns (c : Thread nD τ) (st0_0 t) fullShare ((dats m hC 0 c).before 0 t d))
    ∗ (∃ d, owns (c : Thread nD τ) (st0_1 t) fullShare ((dats m hC 0 c).before 1 t d))
    ∗ (∃ d, owns (c : Thread nD τ) (st0_2 t) fullShare ((dats m hC 0 c).before 2 t d))
    ∗ (∃ d, owns (c : Thread nD τ) (st0_3 t) fullShare ((dats m hC 0 c).before 3 t d))
    ∗ (∃ d, owns (c : Thread nD τ) (st0_4 t) fullShare ((dats m hC 0 c).before 4 t d))
    ∗ (∃ d, owns (c : Thread nD τ) (st0_5 t) fullShare ((dats m hC 0 c).before 5 t d))
    ∗ (∃ d, owns (c : Thread nD τ) (st0_6 t) fullShare ((dats m hC 0 c).before 6 t d))
    ∗ (∃ d, owns (c : Thread nD τ) (st0_7 t) fullShare ((dats m hC 0 c).before 7 t d))
    ∗ (∃ d, owns (c : Thread nD τ) (st0_8 t) fullShare ((dats m hC 0 c).before 8 t d))
    ∗ (∃ d, owns (c : Thread nD τ) (st0_9 t) fullShare ((dats m hC 0 c).before 9 t d))
    ∗ (∃ d, owns (c : Thread nD τ) (st0_10 t) fullShare ((dats m hC 0 c).before 10 t d))
    ∗ (∃ d, owns (c : Thread nD τ) (st0_11 t) fullShare ((dats m hC 0 c).before 11 t d))
    ∗ (∃ d, owns (c : Thread nD τ) (st0_12 t) fullShare ((dats m hC 0 c).before 12 t d)))
      ⊢ wp Idealize.ShloMosaic.frame (wpE (defs₀ (F := F)) Variants.none c none) Set.univ (bodyAt0 t) (fun _ => bodyPost m hC c t) := by
  unfold bodyPost bodyAt0
  simp only [before_0, before_1, before_2, before_3, before_4, before_5, before_6, before_7, before_8, before_9, before_10, before_11] at *
  rw [show (dats m hC 0 c).owesAt () t.succ = (dats m hC 0 c).owesAt () t.castSucc from rfl]
  rw [show (dats m hC 0 c).Φ t.succ = PhiS m hC c (t.val + 1) t.isLt from rfl, PhiS_succ]
  rw [leaves_0, leaves_1, leaves_2, leaves_3, leaves_4, leaves_5, leaves_6, leaves_7, leaves_8, leaves_9, leaves_10, leaves_11]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_owns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m hC 0 c).before 12 t d12) sd gz (hC c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · rw [hs]; iexact HS0
      isplitl [HS1]; · rw [hs]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (leave_out m hC c t d12)
  rw [hs]
  iexact H12

set_option maxHeartbeats 4000000 in
/-- The body at any point. -/
theorem sound_body (c : Dev nD) (t : Fin cfg0.N) :
    bodyPre m hC c t ⊢ wp Idealize.ShloMosaic.frame (wpE (defs₀ (F := F)) Variants.none c none) Set.univ (bodyAt0 t) (fun _ => bodyPost m hC c t) := by
  unfold bodyPre
  have hN : t.val < 25 := lt_of_lt_of_eq t.isLt (show cfg0.N = 25 from N_0)
  by_cases hz : t.val = 0
  · rw [PhiS_castSucc m hC c t, PhiS_zero m hC c _ _ hz, phiA_eq]
    iintro ⟨⟨⟨⟨%sd, HS0⟩, ⟨%gz, HS1⟩, HS2⟩, Hg⟩, Hr⟩
    iapply (body_from m hC c t sd gz (scr_first m hC c t hz sd gz))
    isplitl [HS0 HS1 HS2 Hg]
    · isplitl [HS0 HS1 HS2]
      · isplitl [HS0]; · iexact HS0
        isplitl [HS1]; · iexact HS1
        iexact HS2
      iexact Hg
    iexact Hr
  · rw [PhiS_castSucc m hC c t, PhiS_pos m hC c _ _ hz]
    exact body_from m hC c t _ _ (scr_next m hC c t hz (by have : cfg0.N = 25 := N_0; omega))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hC 0 c) (defs₀ (F := F)) Variants.none () Set.univ := fun t => by
  rw [bigSep_W0, bigSep_W0, defs₀_row]
  exact triple_restated (sound_body m hC c t) rfl .rfl fun _ => .rfl

theorem hin (c : Dev nD) : Pipeline.ΦA spec0 c ⊢ (dats m hC 0 c).Φ 0 := by
  rw [show (dats m hC 0 c).Φ 0 = PhiS m hC c 0 (Nat.zero_le _) from rfl, PhiS_zero m hC c 0 _ rfl]
  try exact Idealize.SL.BI.Entails.refl _

theorem hout (c : Dev nD) : (dats m hC 0 c).Φ (Fin.last cfg0.N) ⊢ Pipeline.ΦA spec0 c := by
  have ht : (Fin.last cfg0.N).val ≠ 0 := by rw [Fin.val_last]; have : cfg0.N = 25 := N_0; omega
  rw [show (dats m hC 0 c).Φ (Fin.last cfg0.N) = PhiS m hC c (Fin.last cfg0.N).val (Nat.le_of_lt_succ (Fin.last cfg0.N).isLt) from rfl,
    PhiS_pos m hC c _ _ ht, phiA_eq]
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
/-- The launch: every execution ends with the arrays at what the pipeline's data say and every counter at zero. -/
theorem run_main : θ_run defs (onTc (τ := τ) (main (F := F))) (s₀ m ρ)
    (fun r => (Pipeline.FramePost cfgs (dats m hC) 0 (V m)) r ∧ r.2.sem = fun _ => 0) :=
  Pipeline.θ_run_frame_track (Q' := _) cfgs (dats m hC) (0 : Fin 1) launch0 defs₀ Variants.none m ρ main
    (hbody := fun c => (body_obligation m hC c).loose) (hshare := fun c => (dats m hC 0 c).share_full fun _ => rfl)
    (howed := fun _ _ => rfl) (V := V m) (hmain := hmain m Variants.none) (hA := A_eq m hC) (hin := hin m hC) (hout := hout m hC)

include hC in
/-- The frame: the argument arrays end unchanged and every counter is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m hC) (A_eq m hC) ((θ_run defs _ _).mono (fun _ h => h.1) (run_main m ρ hC)))
    ((θ_run defs _ _).mono (fun _ h => h.2) (run_main m ρ hC))

end Cert.KernelIdeal.Pool

end
-- ==== Proof.MaskTable.lean ====
/- The program's literal table is the mask of equal heads: entry (k, l) is the word of one where k and l lie in the same
   block of thirty-two, and zero elsewhere. -/
module

public import proofs.«01_k».proof.KernelIdeal

@[expose] public section

set_option maxRecDepth 16384

noncomputable section

namespace Cert.KernelIdeal.Pool

theorem mask_word : ∀ k l : Fin 128, lit0t (k.val * 128 + l.val) = if k.val / 32 = l.val / 32 then 0x3F800000#32 else 0#32 := by
  decide +kernel

end Cert.KernelIdeal.Pool

end
-- ==== Proof.Blocks.lean ====
/- What each window's block holds at a grid point, over the extended reals, as entries of @main's argument arrays. -/
module

public import proofs.«01_k».proof.Proof.Launch
public import proofs.«01_k».proof.Proof.MaskTable
public import Idealize.ShloMosaic.Lib.Claim
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.ValueKit.Geometry

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

variable (m : (ℓ : Loc nD τ sig) → Buf (Elt Ideal) ℓ)

/-! ## The argument arrays, at their shapes -/

/-- The node features, the graph features, the degrees, the segment ids, the attention vector, and the two layers. -/
def argN (c : Dev nD) : S100000x128.Idx → EReal := m ((c : Thread nD τ).loc main_arg0)
def argG (c : Dev nD) : S1000x128.Idx → EReal := m ((c : Thread nD τ).loc main_arg1)
def argD (c : Dev nD) : S100000x1.Idx → EReal := m ((c : Thread nD τ).loc main_arg2)
def argS (c : Dev nD) : S100000.Idx → BitVec 32 := m ((c : Thread nD τ).loc main_arg3)
def argA (c : Dev nD) : S1x4x32.Idx → EReal := m ((c : Thread nD τ).loc main_arg4)
def argW1 (c : Dev nD) : S128x128.Idx → EReal := m ((c : Thread nD τ).loc main_arg5)
def argB1 (c : Dev nD) : S128.Idx → EReal := m ((c : Thread nD τ).loc main_arg6)
def argW2 (c : Dev nD) : S128x128.Idx → EReal := m ((c : Thread nD τ).loc main_arg7)
def argB2 (c : Dev nD) : S128.Idx → EReal := m ((c : Thread nD τ).loc main_arg8)

/-- The node that row `r` of point `t`'s block is. -/
def node (t : Fin cfg0.N) (r : Fin 4000) : Fin 100000 :=
  ⟨t.val * 4000 + r.val, by have := t.isLt; have h : cfg0.N = 25 := N_0; have := r.isLt; omega⟩

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 ∧ win0_2.index t 2 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel

variable (c : Dev nD) (t : Fin cfg0.N)

/-! ## The blocks as pieces of the arrays the launch finds -/

theorem block_0 (r : Fin 4000) (l : Fin 128) :
    (iblk m c 0 t : Vec Ideal S4000x128 .f32) (ix2 r l) = argN m c (ix2 (node t r) l) := by
  unfold argN; blk_ext [iblk, V, node, index_0 t] <;> rfl

theorem block_3 (r : Fin 4000) :
    (iblk m c 3 t : Vec Ideal S4000x1 .f32) (ix2 r 0) = argD m c (ix2 (node t r) 0) := by
  unfold argD; blk_ext [iblk, V, node, index_3 t] <;> rfl

theorem block_6 (b : Fin 1000) (l : Fin 128) :
    (iblk m c 6 t : Vec Ideal S1000x128 .f32) (ix2 b l) = argG m c (ix2 b l) := by
  unfold argG; blk_ext [iblk, V, index_6 t]

theorem block_1_entry (r : Fin 4000) :
    (iblk m c 1 t : Vec Ideal S4000x1 .f32) (ix2 r 0) = (V m c main_v1 : S100000x1.Idx → EReal) (ix2 (node t r) 0) := by
  blk_ext [iblk, node, index_1 t] <;> rfl

theorem block_2_entry (r : Fin 4000) :
    (iblk m c 2 t : Vec Ideal S1x1x4000 .f32) (ix3 0 0 r)
      = (V m c main_v2 : S25x1x4000.Idx → EReal) (ix3 ⟨t.val, lt_of_lt_of_eq t.isLt (show cfg0.N = 25 from N_0)⟩ 0 r) := by
  blk_ext [iblk, index_2 t]

theorem block_4_entry (l : Fin 128) :
    (iblk m c 4 t : Vec Ideal S1x128 .f32) (ix2 0 l) = (V m c main_v4 : S1x128.Idx → EReal) (ix2 0 l) := by
  blk_ext [iblk, index_4 t]

theorem block_5_entry (l : Fin 128) :
    (iblk m c 5 t : Vec Ideal S1x128 .f32) (ix2 0 l) = (V m c main_v5 : S1x128.Idx → EReal) (ix2 0 l) := by
  blk_ext [iblk, index_5 t]

theorem block_7_entry (k l : Fin 128) :
    (iblk m c 7 t : Vec Ideal S128x128 .bf16) (ix2 k l) = (V m c main_v9 : S128x128.Idx → EReal) (ix2 k l) := by
  blk_ext [iblk, index_7 t]

theorem block_8_entry (k l : Fin 128) :
    (iblk m c 8 t : Vec Ideal S128x128 .f32) (ix2 k l) = (V m c main_v10 : S128x128.Idx → EReal) (ix2 k l) := by
  blk_ext [iblk, index_8 t]

theorem block_9_entry (k l : Fin 128) :
    (iblk m c 9 t : Vec Ideal S128x128 .f32) (ix2 k l) = (V m c main_v11 : S128x128.Idx → EReal) (ix2 k l) := by
  blk_ext [iblk, index_9 t]

theorem block_10_entry (l : Fin 128) :
    (iblk m c 10 t : Vec Ideal S1x128 .f32) (ix2 0 l) = (V m c main_v12 : S1x128.Idx → EReal) (ix2 0 l) := by
  blk_ext [iblk, index_10 t]

theorem block_11_entry (l : Fin 128) :
    (iblk m c 11 t : Vec Ideal S1x128 .f32) (ix2 0 l) = (V m c main_v13 : S1x128.Idx → EReal) (ix2 0 l) := by
  blk_ext [iblk, index_11 t]

/-! ## The arrays the host lines make -/

theorem ids_column (n : Fin 100000) :
    (V m c main_v1 : S100000x1.Idx → EReal) (ix2 n 0) = (((argS m c (ix1 n)).toInt : ℝ) : EReal) := by
  entry_read
  exact shapeCast_a_a1_apply _ _ _ _

theorem ids_row (k : Fin 25) (r : Fin 4000) :
    (V m c main_v2 : S25x1x4000.Idx → EReal) (ix3 k 0 r)
      = (((argS m c (ix1 ⟨k.val * 4000 + r.val, by have := k.isLt; have := r.isLt; omega⟩)).toInt : ℝ) : EReal) := by
  entry_read
  refine (shapeCast_apply _ _ _ (ix1 ⟨k.val * 4000 + r.val, by have := k.isLt; have := r.isLt; omega⟩) ?_).trans rfl
  refine (Shape.rowMajor_val_one _).trans (Eq.trans ?_ (Shape.rowMajor_val_three (d := ![25, 1, 4000]) _).symm)
  show k.val * 4000 + r.val = (k.val * 1 + 0) * 4000 + r.val
  omega

theorem columns (l : Fin 128) : (V m c main_v4 : S1x128.Idx → EReal) (ix2 0 l) = ((l.val : ℝ) : EReal) := by
  entry_read
  refine (shapeCast_a_1a_apply _ _ _ _).trans ?_
  show (((BitVec.ofNat 32 l.val).toInt : ℝ) : EReal) = _
  have h : (BitVec.ofNat 32 l.val).toInt = (l.val : ℤ) := by
    have := l.isLt
    rw [BitVec.toInt_eq_toNat_of_lt (by rw [BitVec.toNat_ofNat]; omega), BitVec.toNat_ofNat, Nat.mod_eq_of_lt (by omega)]
  rw [h]; norm_cast

theorem ones_row (l : Fin 128) : (V m c main_v5 : S1x128.Idx → EReal) (ix2 0 l) = (1 : EReal) := by
  entry_read
  rw [broadcastInDim_scalar_apply, constant_apply]
  exact Ideal.ofBits_one_f32

theorem layer1 (k l : Fin 128) : (V m c main_v10 : S128x128.Idx → EReal) (ix2 k l) = argW1 m c (ix2 l k) := by
  entry_read
  exact transpose_ix2_apply _ _ _ _

theorem layer2 (k l : Fin 128) : (V m c main_v11 : S128x128.Idx → EReal) (ix2 k l) = argW2 m c (ix2 l k) := by
  entry_read
  exact transpose_ix2_apply _ _ _ _

theorem bias1 (l : Fin 128) : (V m c main_v12 : S1x128.Idx → EReal) (ix2 0 l) = argB1 m c (ix1 l) := by
  entry_read
  exact shapeCast_a_1a_apply _ _ _ _

theorem bias2 (l : Fin 128) : (V m c main_v13 : S1x128.Idx → EReal) (ix2 0 l) = argB2 m c (ix1 l) := by
  entry_read
  exact shapeCast_a_1a_apply _ _ _ _

/-- The attention weight of feature `k`. -/
def attn (k : Fin 128) : EReal := argA m c (ix3 0 ⟨k.val / 32, by have := k.isLt; omega⟩ ⟨k.val % 32, Nat.mod_lt _ (by decide)⟩)

theorem attention (k l : Fin 128) :
    (V m c main_v9 : S128x128.Idx → EReal) (ix2 k l) = if k.val / 32 = l.val / 32 then attn m c k else 0 := by
  entry_read
  rw [truncf_apply, mulf_apply]
  have hA : (broadcastInDim S128x128 ![0, 1] bcast_S128x1_S128x128_0_1
      (fun i => shapeCast main_v6.ty.shape (m (c, Proc.tc.devRef main_arg4)) shapeCasts_S1x4x32_S128x1 i) : S128x128.Idx → EReal) (ix2 k l)
      = attn m c k := by
    refine (broadcastInDim_apply _ _ _ _ (ix2 k 0) (fun a => by fin_cases a <;> rfl)).trans ?_
    refine shapeCast_apply _ _ _ _ ?_
    refine (Shape.rowMajor_val_three (d := ![1, 4, 32]) _).trans (Eq.trans ?_ (Shape.rowMajor_val_two (d := ![128, 1]) _).symm)
    show (0 * 4 + k.val / 32) * 32 + k.val % 32 = k.val * 1 + 0
    omega
  have hM : (lit0 (S128x128.rowMajor (ix2 k l)) : BitVec 32) = if k.val / 32 = l.val / 32 then 0x3F800000#32 else 0#32 := by
    rw [← mask_word k l]
    show lit0t (S128x128.rowMajor (ix2 k l)).val = _
    rw [Shape.rowMajor_val_two]
    rfl
  refine (congrArg₂ (· * ·) hA (congrArg (Ideal.ofBits .f32) hM)).trans ?_
  by_cases h : k.val / 32 = l.val / 32
  · rw [if_pos h, if_pos h, Ideal.ofBits_one_f32, mul_one]
  · rw [if_neg h, if_neg h]
    exact (congrArg (attn m c k * ·) Ideal.ofBits_zero_f32).trans (mul_zero _)

/-! ## The blocks as entries of the arguments -/

/-- Node `n`'s segment id as an integer. -/
def sid (n : Fin 100000) : ℤ := (argS m c (ix1 n)).toInt

theorem block_1 (r : Fin 4000) : (iblk m c 1 t : Vec Ideal S4000x1 .f32) (ix2 r 0) = ((sid m c (node t r) : ℝ) : EReal) :=
  (block_1_entry m c t r).trans (ids_column m c _)

theorem block_2 (r : Fin 4000) : (iblk m c 2 t : Vec Ideal S1x1x4000 .f32) (ix3 0 0 r) = ((sid m c (node t r) : ℝ) : EReal) :=
  (block_2_entry m c t r).trans (ids_row m c _ r)

theorem block_4 (l : Fin 128) : (iblk m c 4 t : Vec Ideal S1x128 .f32) (ix2 0 l) = ((l.val : ℝ) : EReal) :=
  (block_4_entry m c t l).trans (columns m c l)

theorem block_5 (l : Fin 128) : (iblk m c 5 t : Vec Ideal S1x128 .f32) (ix2 0 l) = (1 : EReal) :=
  (block_5_entry m c t l).trans (ones_row m c l)

theorem block_7 (k l : Fin 128) :
    (iblk m c 7 t : Vec Ideal S128x128 .bf16) (ix2 k l) = (if k.val / 32 = l.val / 32 then attn m c k else 0 : EReal) :=
  (block_7_entry m c t k l).trans (attention m c k l)

theorem block_8 (k l : Fin 128) : (iblk m c 8 t : Vec Ideal S128x128 .f32) (ix2 k l) = argW1 m c (ix2 l k) :=
  (block_8_entry m c t k l).trans (layer1 m c k l)

theorem block_9 (k l : Fin 128) : (iblk m c 9 t : Vec Ideal S128x128 .f32) (ix2 k l) = argW2 m c (ix2 l k) :=
  (block_9_entry m c t k l).trans (layer2 m c k l)

theorem block_10 (l : Fin 128) : (iblk m c 10 t : Vec Ideal S1x128 .f32) (ix2 0 l) = argB1 m c (ix1 l) :=
  (block_10_entry m c t l).trans (bias1 m c l)

theorem block_11 (l : Fin 128) : (iblk m c 11 t : Vec Ideal S1x128 .f32) (ix2 0 l) = argB2 m c (ix1 l) :=
  (block_11_entry m c t l).trans (bias2 m c l)

end Cert.KernelIdeal.Pool

end
-- ==== Proof.Pre.lean ====
/-
  What the two preconditions say, read off their printed functions: every segment id is from 0 to 999;
  for the value claim also that the ids ascend and that the node features, graph features, degrees and
  attention weights are real numbers.
-/
module
public import proofs.«01_k».proof.Defs
public import proofs.«01_k».proof.Proof.Gen.Pre_in_range
public import proofs.«01_k».proof.Proof.Gen.Pre_sound
public import Idealize.ShloMosaic.Lib.ReduceAll
public import Idealize.ShloMosaic.Lib.Affine
public import Idealize.ShloMosaic.Lib.IdealHost
public import Idealize.ShloMosaic.Lib.ValueIdx

@[expose] public section

set_option maxRecDepth 16384

noncomputable section

namespace Cert.Pool

open Idealize.ShloMosaic Idealize.ShloMosaic.ValueIdx

instance : Subsingleton (⟨0, ![]⟩ : Shape).Idx := ⟨fun a b => funext fun k => k.elim0⟩

theorem word_inf : Ideal.ofBits .f32 0x7F800000#32 = ⊤ := by
  simp [Ideal.ofBits, Ideal.ieee]

/-- An extended real below infinity in absolute value is real. -/
theorem finite_of_abs_lt {x : EReal} (h : FloatOps.cmpf (F := Ideal) (φ := .f32) .olt (FloatOps.hostAbsf (F := Ideal) (φ := .f32) x) (Ideal.ofBits .f32 0x7F800000#32) = 1#1) : x ≠ ⊥ ∧ x ≠ ⊤ := by
  rw [word_inf] at h
  constructor
  · rintro rfl
    have h' : BitVec.ofBool (decide (max (⊥ : EReal) (-⊥) < ⊤)) = 1#1 := h
    revert h'
    simp
  · rintro rfl
    have h' : BitVec.ofBool (decide (max (⊤ : EReal) (-⊤) < ⊤)) = 1#1 := h
    revert h'
    simp

/-- A reduction by `and` over a whole array that is one had a one everywhere. -/
theorem all_one {s : Shape} {axes : List (Fin s.rank)} {u : Shape} {x : s.Idx → BitVec 1} {init : u.Idx → BitVec 1} {h : s.ReducesTo axes ⟨0, ![]⟩}
    {hu : 0 < u.numel} (e : Host.reduce IntOp.andi x init h hu = fun _ => 1#1) (i : s.Idx) : x i = 1#1 :=
  Host.reduce_andi_all x init h hu (fun k => k.elim0) (congrFun e _) i

/-- The segment ids are from 0 to 999. -/
def InRange (ids : IVec ⟨1, ![100000]⟩ 32) : Prop := ∀ n, 0 ≤ (ids n).toInt ∧ (ids n).toInt < 1000

/-- Every entry of an array is a real number. -/
def Finite {s : Shape} (x : FVec Ideal s .f32) : Prop := ∀ i, (x i : EReal) ≠ ⊥ ∧ (x i : EReal) ≠ ⊤

/-- The segment ids ascend. -/
def Ascending (ids : IVec ⟨1, ![100000]⟩ 32) : Prop :=
  ∀ n : Fin 99999, (ids (ix1 n.castSucc)).toInt ≤ (ids (ix1 n.succ)).toInt

section
variable {a0 : FVec Ideal ⟨2, ![100000, 128]⟩ .f32} {a1 : FVec Ideal ⟨2, ![1000, 128]⟩ .f32} {a2 : FVec Ideal ⟨2, ![100000, 1]⟩ .f32}
  {a3 : IVec ⟨1, ![100000]⟩ 32} {a4 : FVec Ideal ⟨3, ![1, 4, 32]⟩ .f32} {a5 : FVec Ideal ⟨2, ![128, 128]⟩ .f32} {a6 : FVec Ideal ⟨1, ![128]⟩ .f32}
  {a7 : FVec Ideal ⟨2, ![128, 128]⟩ .f32} {a8 : FVec Ideal ⟨1, ![128]⟩ .f32}

theorem in_range_of [Cert.Pre_in_range.Facts]
    (h : (Cert.Pre_in_range.fn (F := Ideal) a0 a1 a2 a3 a4 a5 a6 a7 a8).1 = (fun _ => 1#1)
      ∧ (Cert.Pre_in_range.fn (F := Ideal) a0 a1 a2 a3 a4 a5 a6 a7 a8).2 = (fun _ => 1#1)) : InRange a3 := by
  intro n
  dsimp only [Cert.Pre_in_range.fn] at h
  have e1 := all_one h.1 n
  have e2 := all_one h.2 n
  exact ⟨IntOp.cmpi_sge.1 e1, IntOp.cmpi_slt.1 e2⟩

/-- What the value claim's precondition says. -/
structure Sound (a0 : FVec Ideal ⟨2, ![100000, 128]⟩ .f32) (a1 : FVec Ideal ⟨2, ![1000, 128]⟩ .f32) (a2 : FVec Ideal ⟨2, ![100000, 1]⟩ .f32)
    (a3 : IVec ⟨1, ![100000]⟩ 32) (a4 : FVec Ideal ⟨3, ![1, 4, 32]⟩ .f32) : Prop where
  nodes : Finite a0
  graphs : Finite a1
  degree : Finite a2
  attn : Finite a4
  range : InRange a3
  ascending : Ascending a3

theorem sound_of [Cert.Pre_sound.Facts]
    (h : (Cert.Pre_sound.fn (F := Ideal) a0 a1 a2 a3 a4 a5 a6 a7 a8).1 = (fun _ => 1#1)
      ∧ (Cert.Pre_sound.fn (F := Ideal) a0 a1 a2 a3 a4 a5 a6 a7 a8).2.1 = (fun _ => 1#1)
      ∧ (Cert.Pre_sound.fn (F := Ideal) a0 a1 a2 a3 a4 a5 a6 a7 a8).2.2.1 = (fun _ => 1#1)
      ∧ (Cert.Pre_sound.fn (F := Ideal) a0 a1 a2 a3 a4 a5 a6 a7 a8).2.2.2.1 = (fun _ => 1#1)
      ∧ (Cert.Pre_sound.fn (F := Ideal) a0 a1 a2 a3 a4 a5 a6 a7 a8).2.2.2.2.1 = (fun _ => 1#1)
      ∧ (Cert.Pre_sound.fn (F := Ideal) a0 a1 a2 a3 a4 a5 a6 a7 a8).2.2.2.2.2.1 = (fun _ => 1#1)
      ∧ (Cert.Pre_sound.fn (F := Ideal) a0 a1 a2 a3 a4 a5 a6 a7 a8).2.2.2.2.2.2 = (fun _ => 1#1)) : Sound a0 a1 a2 a3 a4 := by
  dsimp only [Cert.Pre_sound.fn, Cert.Pre_sound.fn_part1] at h
  obtain ⟨h1, h2, h3, h4, h5, h6, h7⟩ := h
  refine ⟨fun i => ?_, fun i => ?_, fun i => ?_, fun i => ?_, fun i => ⟨?_, ?_⟩, fun i => ?_⟩
  · exact finite_of_abs_lt (all_one h1 i)
  · exact finite_of_abs_lt (all_one h2 i)
  · exact finite_of_abs_lt (all_one h3 i)
  · exact finite_of_abs_lt (all_one h4 i)
  · exact IntOp.cmpi_sge.1 (all_one h5 i)
  · exact IntOp.cmpi_slt.1 (all_one h6 i)
  · have e := IntOp.cmpi_sle.1 (all_one h7 (ix1 i))
    have hl : extractStridedSlice (⟨1, ![99999]⟩ : Shape) ![0] a3 Cert.Pre_sound.Facts.slices_S100000_S99999_0 (ix1 i) = a3 (ix1 i.castSucc) :=
      congrArg a3 (funext fun k => by fin_cases k; exact Fin.ext (Nat.zero_add _))
    have hr : extractStridedSlice (⟨1, ![99999]⟩ : Shape) ![1] a3 Cert.Pre_sound.Facts.slices_S100000_S99999_1 (ix1 i) = a3 (ix1 i.succ) :=
      congrArg a3 (funext fun k => by fin_cases k; exact Fin.ext (Nat.add_comm _ _))
    rw [← hl, ← hr]
    exact e

end

/-- Ascending ids: an earlier node's id is at most a later one's. -/
theorem Ascending.le {ids : IVec ⟨1, ![100000]⟩ 32} (h : Ascending ids) {a b : Fin 100000} (hab : a ≤ b) :
    (ids (ix1 a)).toInt ≤ (ids (ix1 b)).toInt :=
  (Fin.monotone_iff_le_succ (f := fun n : Fin (99999 + 1) => (ids (ix1 n)).toInt)).2 h hab

end Cert.Pool
-- ==== Proof.Checks.lean ====
/- Ids in range put every window the kernel touches inside its buffer. -/
module
public import proofs.«01_k».proof.Proof.Base
public import proofs.«01_k».proof.Proof.Blocks
public import proofs.«01_k».proof.Proof.Pre

@[expose] public section

noncomputable section

namespace Cert.KernelIdeal.Pool

open Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- Node `n`'s segment id as a natural number. -/
def sidN (n : Fin 100000) : ℕ := (sid m c n).toNat

theorem sid_cast (h : Cert.Pool.InRange (argS m c)) (n : Fin 100000) : sid m c n = (sidN m c n : ℤ) :=
  (Int.toNat_of_nonneg (h _).1).symm

theorem sidN_lt (h : Cert.Pool.InRange (argS m c)) (n : Fin 100000) : sidN m c n < 1000 := by
  have h1 := sid_cast m c h n
  have h2 : sid m c n < 1000 := (h _).2
  omega

/-- A block's ids are whole numbers below a thousand. -/
theorem ids (h : Cert.Pool.InRange (argS m c)) (t : Fin cfg0.N) :
    Ids (iblk m c 1 t) (fun r => sidN m c (node t r)) where
  col r := by
    rw [block_1, sid_cast m c h]
    norm_cast
  lt r := sidN_lt m c h _

theorem allChecks (h : ∀ c, Cert.Pool.InRange (argS m c)) : AllChecks m :=
  fun c t => checks (ids m c (h c) t)

end Cert.KernelIdeal.Pool
-- ==== Proof.Frames.lean ====
/- The two programs run, leave their arguments unchanged and leave every semaphore counter at zero. -/
module
public import proofs.«01_k».proof.Proof.Checks
public import proofs.«01_k».proof.Proof.Gen.ReferenceIdeal.Run
public import Idealize.ShloMosaic.Lib.Quiescent
public import Idealize.ShloMosaic.Lib.Claim

@[expose] public section

noncomputable section

namespace Cert.Pool

open Idealize.ShloMosaic Idealize.ShloMosaic.TcCoe Idealize.ShloMosaic.ValueIdx Idealize.SL.Sem

section
attribute [local instance] Cert.KernelIdeal.Gen.facts Cert.ReferenceIdeal.Gen.facts Cert.Pre_in_range.Gen.facts Cert.Pre_sound.Gen.facts

theorem kernel_in_range {m : (ℓ : Loc Cert.KernelIdeal.nD Cert.KernelIdeal.τ Cert.KernelIdeal.sig) → Buf (Elt Ideal) ℓ}
    (h : Cert.Pre_KernelIdeal m) (c : Dev Cert.KernelIdeal.nD) : InRange (Cert.KernelIdeal.Pool.argS m c) :=
  in_range_of (h c)

theorem kernel_sound {m : (ℓ : Loc Cert.KernelIdeal.nD Cert.KernelIdeal.τ Cert.KernelIdeal.sig) → Buf (Elt Ideal) ℓ}
    (h : Cert.Pre_KernelIdeal_sound m) (c : Dev Cert.KernelIdeal.nD) :
    Sound (Cert.KernelIdeal.Pool.argN m c) (Cert.KernelIdeal.Pool.argG m c) (Cert.KernelIdeal.Pool.argD m c)
      (Cert.KernelIdeal.Pool.argS m c) (Cert.KernelIdeal.Pool.argA m c) :=
  sound_of (h c)

theorem kernel_frame : Cert.quiescent_KernelIdeal := fun m g h =>
  Cert.KernelIdeal.Pool.frame_main m g (Cert.KernelIdeal.Pool.allChecks m (kernel_in_range h))

theorem kernel_frame_sound : Cert.quiescent_KernelIdeal_pre_sound := fun m g h =>
  Cert.KernelIdeal.Pool.frame_main m g (Cert.KernelIdeal.Pool.allChecks m fun c => (kernel_sound h c).range)

theorem reference_frame : Cert.quiescent_ReferenceIdeal := fun m g _ =>
  θ_run_mono (Cert.ReferenceIdeal.Value.run m g) fun r h => ⟨fun c => (h c).2, sem_eq_zero_of_no_sems rfl _⟩

theorem reference_frame_sound : Cert.quiescent_ReferenceIdeal_pre_sound := fun m g _ => reference_frame m g trivial

end

end Cert.Pool
-- ==== Proof.Ops.lean ====
/-
  The body's stored values read at an entry, over the extended reals: the block products as sums, the
  comparison matrices as zeros and ones, and each gather and scatter step in those terms.
-/
module
public import proofs.«01_k».proof.Proof.Base
public import Idealize.ShloMosaic.Lib.Pipeline.Value

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

/-- A comparison as a number: one where it holds, zero elsewhere. -/
abbrev hot (p : Prop) [Decidable p] : EReal := if p then 1 else 0

theorem hot_word (a b : EReal) :
    FloatOps.sitofp (F := Ideal) .f32 ((FloatOps.cmpf (F := Ideal) (φ := .f32) .oeq a b).setWidth 32) = hot (a = b) := by
  show ((((BitVec.ofBool (decide (a = b))).setWidth 32).toInt : ℝ) : EReal) = _
  by_cases h : a = b
  · rw [hot, if_pos h, decide_eq_true h]; simp
  · rw [hot, if_neg h, decide_eq_false h]; simp

theorem product_1000_128 {φ₁ φ₂ : FTy} (x : FVec Ideal S1000x128 φ₁) (y : FVec Ideal S128x128 φ₂) (i : Fin 1000) (j : Fin 128) :
    matmul dot_S1000x128_S128x128_S1000x128_1_0_0_1_n_n none x y (constant S1000x128 .f32 0x00000000#32) (ix2 i j)
      = ∑ k : Fin 128, (x (ix2 i k) : EReal) * y (ix2 k j) := by
  refine (Ideal.matmul_constant_zero_apply dot_S1000x128_S128x128_S1000x128_1_0_0_1_n_n none x y (ix2 i j)).trans ?_
  rw [← (contrEquiv1 dot_S1000x128_S128x128_S1000x128_1_0_0_1_n_n 128 rfl rfl).symm.sum_comp]
  refine Finset.sum_congr rfl fun k _ => ?_
  have hl : (dot_S1000x128_S128x128_S1000x128_1_0_0_1_n_n).lhsIdx (ix2 i j) ((contrEquiv1 dot_S1000x128_S128x128_S1000x128_1_0_0_1_n_n 128 rfl rfl).symm k) = ix2 i k := by
    funext a; fin_cases a <;> rfl
  have hr : (dot_S1000x128_S128x128_S1000x128_1_0_0_1_n_n).rhsIdx (ix2 i j) ((contrEquiv1 dot_S1000x128_S128x128_S1000x128_1_0_0_1_n_n 128 rfl rfl).symm k) = ix2 k j := by
    funext a; fin_cases a <;> rfl
  rw [hl, hr]

theorem product_4000_1 {φ₁ φ₂ : FTy} (x : FVec Ideal S4000x1 φ₁) (y : FVec Ideal S1x128 φ₂) (i : Fin 4000) (j : Fin 128) :
    matmul dot_S4000x1_S1x128_S4000x128_1_0_0_1_n_n none x y (constant S4000x128 .f32 0x00000000#32) (ix2 i j)
      = ∑ k : Fin 1, (x (ix2 i k) : EReal) * y (ix2 k j) := by
  refine (Ideal.matmul_constant_zero_apply dot_S4000x1_S1x128_S4000x128_1_0_0_1_n_n none x y (ix2 i j)).trans ?_
  rw [← (contrEquiv1 dot_S4000x1_S1x128_S4000x128_1_0_0_1_n_n 1 rfl rfl).symm.sum_comp]
  refine Finset.sum_congr rfl fun k _ => ?_
  have hl : (dot_S4000x1_S1x128_S4000x128_1_0_0_1_n_n).lhsIdx (ix2 i j) ((contrEquiv1 dot_S4000x1_S1x128_S4000x128_1_0_0_1_n_n 1 rfl rfl).symm k) = ix2 i k := by
    funext a; fin_cases a <;> rfl
  have hr : (dot_S4000x1_S1x128_S4000x128_1_0_0_1_n_n).rhsIdx (ix2 i j) ((contrEquiv1 dot_S4000x1_S1x128_S4000x128_1_0_0_1_n_n 1 rfl rfl).symm k) = ix2 k j := by
    funext a; fin_cases a <;> rfl
  rw [hl, hr]

theorem product_4000_256 {φ₁ φ₂ : FTy} (x : FVec Ideal S4000x256 φ₁) (y : FVec Ideal S256x128 φ₂) (i : Fin 4000) (j : Fin 128) :
    matmul dot_S4000x256_S256x128_S4000x128_1_0_0_1_n_n none x y (constant S4000x128 .f32 0x00000000#32) (ix2 i j)
      = ∑ k : Fin 256, (x (ix2 i k) : EReal) * y (ix2 k j) := by
  refine (Ideal.matmul_constant_zero_apply dot_S4000x256_S256x128_S4000x128_1_0_0_1_n_n none x y (ix2 i j)).trans ?_
  rw [← (contrEquiv1 dot_S4000x256_S256x128_S4000x128_1_0_0_1_n_n 256 rfl rfl).symm.sum_comp]
  refine Finset.sum_congr rfl fun k _ => ?_
  have hl : (dot_S4000x256_S256x128_S4000x128_1_0_0_1_n_n).lhsIdx (ix2 i j) ((contrEquiv1 dot_S4000x256_S256x128_S4000x128_1_0_0_1_n_n 256 rfl rfl).symm k) = ix2 i k := by
    funext a; fin_cases a <;> rfl
  have hr : (dot_S4000x256_S256x128_S4000x128_1_0_0_1_n_n).rhsIdx (ix2 i j) ((contrEquiv1 dot_S4000x256_S256x128_S4000x128_1_0_0_1_n_n 256 rfl rfl).symm k) = ix2 k j := by
    funext a; fin_cases a <;> rfl
  rw [hl, hr]

theorem product_4000_128 {φ₁ φ₂ : FTy} (x : FVec Ideal S4000x128 φ₁) (y : FVec Ideal S128x128 φ₂) (i : Fin 4000) (j : Fin 128) :
    matmul dot_S4000x128_S128x128_S4000x128_1_0_0_1_n_n none x y (constant S4000x128 .f32 0x00000000#32) (ix2 i j)
      = ∑ k : Fin 128, (x (ix2 i k) : EReal) * y (ix2 k j) := by
  refine (Ideal.matmul_constant_zero_apply dot_S4000x128_S128x128_S4000x128_1_0_0_1_n_n none x y (ix2 i j)).trans ?_
  rw [← (contrEquiv1 dot_S4000x128_S128x128_S4000x128_1_0_0_1_n_n 128 rfl rfl).symm.sum_comp]
  refine Finset.sum_congr rfl fun k _ => ?_
  have hl : (dot_S4000x128_S128x128_S4000x128_1_0_0_1_n_n).lhsIdx (ix2 i j) ((contrEquiv1 dot_S4000x128_S128x128_S4000x128_1_0_0_1_n_n 128 rfl rfl).symm k) = ix2 i k := by
    funext a; fin_cases a <;> rfl
  have hr : (dot_S4000x128_S128x128_S4000x128_1_0_0_1_n_n).rhsIdx (ix2 i j) ((contrEquiv1 dot_S4000x128_S128x128_S4000x128_1_0_0_1_n_n 128 rfl rfl).symm k) = ix2 k j := by
    funext a; fin_cases a <;> rfl
  rw [hl, hr]

theorem product_128_4000 {φ₁ φ₂ : FTy} (x : FVec Ideal S128x4000 φ₁) (y : FVec Ideal S4000x256 φ₂) (i : Fin 128) (j : Fin 256) :
    matmul dot_S128x4000_S4000x256_S128x256_1_0_0_1_n_n none x y (constant S128x256 .f32 0x00000000#32) (ix2 i j)
      = ∑ k : Fin 4000, (x (ix2 i k) : EReal) * y (ix2 k j) := by
  refine (Ideal.matmul_constant_zero_apply dot_S128x4000_S4000x256_S128x256_1_0_0_1_n_n none x y (ix2 i j)).trans ?_
  rw [← (contrEquiv1 dot_S128x4000_S4000x256_S128x256_1_0_0_1_n_n 4000 rfl rfl).symm.sum_comp]
  refine Finset.sum_congr rfl fun k _ => ?_
  have hl : (dot_S128x4000_S4000x256_S128x256_1_0_0_1_n_n).lhsIdx (ix2 i j) ((contrEquiv1 dot_S128x4000_S4000x256_S128x256_1_0_0_1_n_n 4000 rfl rfl).symm k) = ix2 i k := by
    funext a; fin_cases a <;> rfl
  have hr : (dot_S128x4000_S4000x256_S128x256_1_0_0_1_n_n).rhsIdx (ix2 i j) ((contrEquiv1 dot_S128x4000_S4000x256_S128x256_1_0_0_1_n_n 4000 rfl rfl).symm k) = ix2 k j := by
    funext a; fin_cases a <;> rfl
  rw [hl, hr]

theorem product_rows {φ₁ φ₂ : FTy} (x : FVec Ideal S4000x128 φ₁) (y : FVec Ideal S4000x256 φ₂) (i : Fin 128) (j : Fin 256) :
    matmul dot_S4000x128_S4000x256_S128x256_0_0_1_1_n_n none x y (constant S128x256 .f32 0x00000000#32) (ix2 i j)
      = ∑ k : Fin 4000, (x (ix2 k i) : EReal) * y (ix2 k j) := by
  refine (Ideal.matmul_constant_zero_apply dot_S4000x128_S4000x256_S128x256_0_0_1_1_n_n none x y (ix2 i j)).trans ?_
  rw [← (contrEquiv1 dot_S4000x128_S4000x256_S128x256_0_0_1_1_n_n 4000 rfl rfl).symm.sum_comp]
  refine Finset.sum_congr rfl fun k _ => ?_
  have hl : (dot_S4000x128_S4000x256_S128x256_0_0_1_1_n_n).lhsIdx (ix2 i j) ((contrEquiv1 dot_S4000x128_S4000x256_S128x256_0_0_1_1_n_n 4000 rfl rfl).symm k) = ix2 k i := by
    funext a; fin_cases a <;> rfl
  have hr : (dot_S4000x128_S4000x256_S128x256_0_0_1_1_n_n).rhsIdx (ix2 i j) ((contrEquiv1 dot_S4000x128_S4000x256_S128x256_0_0_1_1_n_n 4000 rfl rfl).symm k) = ix2 k j := by
    funext a; fin_cases a <;> rfl
  rw [hl, hr]

theorem column_entry (a : FVec Ideal S4000x1 .f32) (r : Fin 4000) (k : Fin 128) :
    broadcastTo S4000x128 a broadcasts_S4000x1_S4000x128 (ix2 r k) = a (ix2 r 0) :=
  broadcastTo_apply _ _ _ _ (fun a => by fin_cases a <;> rfl)

theorem row_entry (b : FVec Ideal S1x128 .f32) (r : Fin 4000) (k : Fin 128) :
    broadcastTo S4000x128 b broadcasts_S1x128_S4000x128 (ix2 r k) = b (ix2 0 k) :=
  broadcastTo_apply _ _ _ _ (fun a => by fin_cases a <;> rfl)

theorem ids_entry (a : FVec Ideal S1x4000 .f32) (j : Fin 128) (r : Fin 4000) :
    broadcastTo S128x4000 a broadcasts_S1x4000_S128x4000 (ix2 j r) = a (ix2 0 r) :=
  broadcastTo_apply _ _ _ _ (fun a => by fin_cases a <;> rfl)

theorem hot_entry (a : FVec Ideal S4000x1 .f32) (b : FVec Ideal S1x128 .f32) (r : Fin 4000) (k : Fin 128) :
    (truncf .bf16 (sitofp .f32 (extui 32 (cmpf .oeq (broadcastTo S4000x128 a broadcasts_S4000x1_S4000x128)
      (broadcastTo S4000x128 b broadcasts_S1x128_S4000x128)) natLt_1_32)) bitsLt_bf16_f32 : FVec Ideal S4000x128 .bf16) (ix2 r k)
      = hot ((a (ix2 r 0) : EReal) = b (ix2 0 k)) := by
  rw [← column_entry a r k, ← row_entry b r k]
  exact hot_word _ _

/-- One gather step at an entry: the weight times the exponential of the window's row picked out by the comparison. -/
theorem gather_read (a : FVec Ideal S4000x1 .f32) (b : FVec Ideal S1x128 .f32) (win : FVec Ideal S128x128 .bf16)
    (w : FVec Ideal S4000x128 .bf16) (d : FVec Ideal S4000x128 .f32) (r : Fin 4000) (l : Fin 128) :
    (shapeCast S4000x128 (mulf w (truncf .bf16 (exp (mulf (matmul dot_S4000x128_S128x128_S4000x128_1_0_0_1_n_n none
      (truncf .bf16 (sitofp .f32 (extui 32 (cmpf .oeq (broadcastTo S4000x128 a broadcasts_S4000x1_S4000x128)
        (broadcastTo S4000x128 b broadcasts_S1x128_S4000x128)) natLt_1_32)) bitsLt_bf16_f32) win
      (constant S4000x128 .f32 0x00000000#32)) d)) bitsLt_bf16_f32)) shapeCasts_S4000x128_S4000x128 : FVec Ideal S4000x128 .bf16) (ix2 r l)
      = (w (ix2 r l) : EReal) * Ideal.exp ((∑ k : Fin 128, hot ((a (ix2 r 0) : EReal) = b (ix2 0 k)) * win (ix2 k l)) * d (ix2 r l)) := by
  refine (shapeCast_apply _ _ _ (ix2 r l) rfl).trans ?_
  refine congrArg (fun z : EReal => (w (ix2 r l) : EReal) * Ideal.exp (z * d (ix2 r l))) ?_
  refine (product_4000_128 _ _ r l).trans (Finset.sum_congr rfl fun k _ => ?_)
  exact congrArg (· * (win (ix2 k l) : EReal)) (hot_entry a b r k)

/-- One scatter step at an entry: what the window held plus the rows picked out by the comparison. -/
theorem scatter_read (a : FVec Ideal S4000x1 .f32) (b : FVec Ideal S1x128 .f32) (u : FVec Ideal S4000x256 .bf16)
    (win : FVec Ideal S128x256 .f32) (j : Fin 128) (q : Fin 256) :
    (shapeCast S128x256 (addf win (matmul dot_S4000x128_S4000x256_S128x256_0_0_1_1_n_n none
      (truncf .bf16 (sitofp .f32 (extui 32 (cmpf .oeq (broadcastTo S4000x128 a broadcasts_S4000x1_S4000x128)
        (broadcastTo S4000x128 b broadcasts_S1x128_S4000x128)) natLt_1_32)) bitsLt_bf16_f32) u
      (constant S128x256 .f32 0x00000000#32))) shapeCasts_S128x256_S128x256 : FVec Ideal S128x256 .f32) (ix2 j q)
      = (win (ix2 j q) : EReal) + ∑ r : Fin 4000, hot ((a (ix2 r 0) : EReal) = b (ix2 0 j)) * u (ix2 r q) := by
  refine (shapeCast_apply _ _ _ (ix2 j q) rfl).trans ?_
  refine congrArg (fun z : EReal => (win (ix2 j q) : EReal) + z) ?_
  refine (product_rows _ _ j q).trans (Finset.sum_congr rfl fun r _ => ?_)
  exact congrArg (· * (u (ix2 r q) : EReal)) (hot_entry a b r j)

theorem degree_read (x3 : Vec Ideal S4000x1 .f32) (x5 : Vec Ideal S1x128 .f32) (r : Fin 4000) (l : Fin 128) :
    (k0_pay25 x3 x5 (ix2 r l) : EReal) = (x3 (ix2 r 0) : EReal) * x5 (ix2 0 l) := by
  refine (product_4000_1 x3 (k0_pay22 x5) r l).trans ?_
  rw [Fin.sum_univ_one]
  exact congrArg ((x3 (ix2 r 0) : EReal) * ·) (shapeCast_apply _ _ _ (ix2 0 l) rfl)

theorem column_ids (x1 : Vec Ideal S4000x1 .f32) (r : Fin 4000) : (k0_pay19 x1 (ix2 r 0) : EReal) = x1 (ix2 r 0) :=
  shapeCast_apply _ _ _ _ rfl

theorem column_numbers (x4 : Vec Ideal S1x128 .f32) (k : Fin 128) : (k0_pay21 x4 (ix2 0 k) : EReal) = x4 (ix2 0 k) :=
  shapeCast_apply _ _ _ _ rfl

theorem row_ids (x2 : Vec Ideal S1x1x4000 .f32) (r : Fin 4000) : (k0_pay20 x2 (ix2 0 r) : EReal) = x2 (ix3 0 0 r) :=
  shapeCast_apply _ _ _ _ (by
    refine (Shape.rowMajor_val_three (d := ![1, 1, 4000]) _).trans (Eq.trans ?_ (Shape.rowMajor_val_two (d := ![1, 4000]) _).symm)
    rfl)

/-- The first 128 columns scattered: feature times weight. -/
theorem pair_left (n : FVec Ideal S4000x128 .bf16) (w : Vec Ideal S4000x128 .bf16) (r : Fin 4000) (q : Fin 256) (l : Fin 128) (h : q.val = l.val) :
    (k0_pay44 n w (ix2 r q) : EReal) = (n (ix2 r l) : EReal) * w (ix2 r l) :=
  concatenate_pair_apply_left (s₁ := S4000x128) (s₂ := S4000x128) (t := S4000x256) 1 (mulf n w) w
    concatenates_S4000x128_S4000x128_S4000x256_d1 (ix2 r q) rfl (ix2 r l) (fun b => by
    fin_cases b
    · rfl
    · exact h.symm)

/-- The last 128 columns scattered: the weight. -/
theorem pair_right (n : FVec Ideal S4000x128 .bf16) (w : Vec Ideal S4000x128 .bf16) (r : Fin 4000) (q : Fin 256) (l : Fin 128) (h : q.val = l.val + 128) :
    (k0_pay44 n w (ix2 r q) : EReal) = w (ix2 r l) :=
  concatenate_pair_apply_right (s₁ := S4000x128) (s₂ := S4000x128) (t := S4000x256) 1 (mulf n w) w
    concatenates_S4000x128_S4000x128_S4000x256_d1 (ix2 r q) rfl rfl (ix2 r l) (fun b hb => by
    fin_cases b
    · rfl
    · exact absurd rfl hb) h.symm

/-- A sum over 256 lanes as the sums over its two halves. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-- The first window's operand: comparisons on the left, features on the right. -/
theorem operand_left (x0 : Vec Ideal S4000x128 .f32) (x1 : Vec Ideal S4000x1 .f32) (x4 x5 : Vec Ideal S1x128 .f32) (r : Fin 4000) (k : Fin 128) :
    (k0_pay26 x0 x1 x4 x5 (ix2 r (Fin.castAdd 128 k)) : EReal)
      = hot (((x1 (ix2 r 0) : EReal) - baseId x1) * x5 (ix2 0 k) = x4 (ix2 0 k)) := by
  refine (concatenate_pair_apply_left (s₁ := S4000x128) (s₂ := S4000x128) (t := S4000x256) 1 _ (k0_pay18 x0)
    concatenates_S4000x128_S4000x128_S4000x256_d1 (ix2 r (Fin.castAdd 128 k)) rfl (ix2 r k) (fun b => by
    fin_cases b <;> rfl)).trans ?_
  have e1 : (matmul dot_S4000x1_S1x128_S4000x128_1_0_0_1_n_n none
      (truncf .bf16 (subf (k0_pay19 x1) (broadcast S4000x1 (k0_pay24 x1))) bitsLt_bf16_f32 : FVec Ideal S4000x1 .bf16)
      (truncf .bf16 (k0_pay22 x5) bitsLt_bf16_f32 : FVec Ideal S1x128 .bf16) (constant S4000x128 .f32 0x00000000#32)) (ix2 r k)
      = ((x1 (ix2 r 0) : EReal) - baseId x1) * x5 (ix2 0 k) := by
    refine (product_4000_1 _ _ r k).trans ?_
    rw [Fin.sum_univ_one]
    refine congrArg₂ (fun a b : EReal => (a - baseId x1) * b) (column_ids x1 r) (shapeCast_apply _ _ _ (ix2 0 k) rfl)
  have e2 : broadcastTo S4000x128 (k0_pay21 x4) broadcasts_S1x128_S4000x128 (ix2 r k) = x4 (ix2 0 k) :=
    (row_entry _ r k).trans (column_numbers x4 k)
  rw [← e1, ← e2]
  exact hot_word _ _

theorem operand_right (x0 : Vec Ideal S4000x128 .f32) (x1 : Vec Ideal S4000x1 .f32) (x4 x5 : Vec Ideal S1x128 .f32) (r : Fin 4000) (k : Fin 128) :
    (k0_pay26 x0 x1 x4 x5 (ix2 r (Fin.natAdd 128 k)) : EReal) = x0 (ix2 r k) :=
  (concatenate_pair_apply_right (s₁ := S4000x128) (s₂ := S4000x128) (t := S4000x256) 1 _ (k0_pay18 x0)
    concatenates_S4000x128_S4000x128_S4000x256_d1 (ix2 r (Fin.natAdd 128 k)) rfl rfl (ix2 r k) (fun b hb => by
    fin_cases b
    · rfl
    · exact absurd rfl hb) (Nat.add_comm _ _)).trans rfl

/-- The first window's step at an entry. -/
theorem first_read (d : FVec Ideal S4000x128 .f32) (x : FVec Ideal S4000x256 .bf16) (win : Vec Ideal S128x128 .bf16) (x7 : Vec Ideal S128x128 .bf16)
    (r : Fin 4000) (l : Fin 128) :
    (k0_pay27 d x win x7 (ix2 r l) : EReal)
      = Ideal.exp (((∑ k : Fin 128, (x (ix2 r (Fin.castAdd 128 k)) : EReal) * win (ix2 k l))
          + ∑ k : Fin 128, (x (ix2 r (Fin.natAdd 128 k)) : EReal) * x7 (ix2 k l)) * d (ix2 r l)) := by
  unfold k0_pay27
  refine (shapeCast_apply _ _ _ (ix2 r l) rfl).trans ?_
  refine congrArg (fun z : EReal => Ideal.exp (z * d (ix2 r l))) ?_
  refine (product_4000_256 _ _ r l).trans ((sum_halves _).trans ?_)
  refine congrArg₂ (· + ·) (Finset.sum_congr rfl fun k _ => congrArg ((x (ix2 r (Fin.castAdd 128 k)) : EReal) * ·) ?_)
    (Finset.sum_congr rfl fun k _ => congrArg ((x (ix2 r (Fin.natAdd 128 k)) : EReal) * ·) ?_)
  · exact concatenate_pair_apply_left (s₁ := S128x128) (s₂ := S128x128) (t := S256x128) 0 win _
      concatenates_S128x128_S128x128_S256x128_d0 (ix2 (Fin.castAdd 128 k) l) rfl (ix2 k l) (fun b => by fin_cases b <;> rfl)
  · refine (concatenate_pair_apply_right (s₁ := S128x128) (s₂ := S128x128) (t := S256x128) 0 win _
      concatenates_S128x128_S128x128_S256x128_d0 (ix2 (Fin.natAdd 128 k) l) rfl rfl (ix2 k l) (fun b hb => by
      fin_cases b
      · exact absurd rfl hb
      · rfl) (Nat.add_comm _ _)).trans ?_
    exact shapeCast_apply _ _ _ (ix2 k l) rfl

/-- The first window's scatter at an entry. -/
theorem scatter_first_read (n : FVec Ideal S4000x128 .bf16) (x2 : Vec Ideal S1x1x4000 .f32) (b : EReal) (w : Vec Ideal S4000x128 .bf16)
    (win : Vec Ideal S128x256 .f32) (j : Fin 128) (q : Fin 256) :
    (k0_pay45 (F := Ideal) n (k0_pay20 x2) b w win (ix2 j q) : EReal)
      = (win (ix2 j q) : EReal) + ∑ r : Fin 4000, hot (nr j.val = (x2 (ix3 0 0 r) : EReal) - b) * k0_pay44 n w (ix2 r q) := by
  unfold k0_pay45
  refine (shapeCast_apply _ _ _ (ix2 j q) rfl).trans ?_
  refine congrArg (fun z : EReal => (win (ix2 j q) : EReal) + z) ?_
  refine (product_128_4000 _ _ j q).trans (Finset.sum_congr rfl fun r _ => ?_)
  refine congrArg (· * (k0_pay44 n w (ix2 r q) : EReal)) ?_
  have e1 : (sitofp .f32 (iota .tc S128x4000 32 [0] iota_S128x4000_d0_w32) : FVec Ideal S128x4000 .f32) (ix2 j r) = nr j.val := by
    show (((iota .tc S128x4000 32 [0] iota_S128x4000_d0_w32 (ix2 j r)).toInt : ℝ) : EReal) = _
    rw [iota_single_apply]
    show (((BitVec.ofNat 32 j.val).toInt : ℝ) : EReal) = _
    have h : (BitVec.ofNat 32 j.val).toInt = (j.val : ℤ) := by
      have := j.isLt
      rw [BitVec.toInt_eq_toNat_of_lt (by rw [BitVec.toNat_ofNat]; omega), BitVec.toNat_ofNat, Nat.mod_eq_of_lt (by omega)]
    rw [h, Int.cast_natCast]
  have e2 : broadcastTo S128x4000 (subf (k0_pay20 x2) (broadcast S1x4000 b) : FVec Ideal S1x4000 .f32) broadcasts_S1x4000_S128x4000 (ix2 j r)
      = (x2 (ix3 0 0 r) : EReal) - b :=
    (ids_entry _ j r).trans (congrArg (· - b) (row_ids x2 r))
  rw [← e1, ← e2]
  exact hot_word _ _

end Cert.KernelIdeal.Pool
-- ==== Proof.Gather.lean ====
/-
  One block's weights, over the extended reals.

  With the block's ids between its first and last, a node's id lies in exactly one of the nine windows.
  The gather steps multiply in the exponential of the node's projected graph row times its degree at that
  window and one at every other, so after the nine windows the weight is the exponential of the whole score.
-/
module
public import proofs.«01_k».proof.Proof.Ops

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

/-- A finite sum of reals is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- The blocks of one grid point as real numbers. -/
structure Blk (x0 : Vec Ideal S4000x128 .f32) (x1 : Vec Ideal S4000x1 .f32) (x2 : Vec Ideal S1x1x4000 .f32) (x3 : Vec Ideal S4000x1 .f32)
    (x4 : Vec Ideal S1x128 .f32) (x5 : Vec Ideal S1x128 .f32) (x7 : Vec Ideal S128x128 .bf16)
    (S : Fin 4000 → ℕ) (nf : Fin 4000 → Fin 128 → ℝ) (dg : Fin 4000 → ℝ) (aw : Fin 128 → Fin 128 → ℝ) : Prop where
  ids : Ids x1 S
  ge : ∀ r, S 0 ≤ S r
  le : ∀ r, S r ≤ S 3999
  row : ∀ r, (x2 (ix3 0 0 r) : EReal) = nr (S r)
  node : ∀ r l, (x0 (ix2 r l) : EReal) = (nf r l : ℝ)
  deg : ∀ r, (x3 (ix2 r 0) : EReal) = (dg r : ℝ)
  num : ∀ l : Fin 128, (x4 (ix2 0 l) : EReal) = nr l.val
  one : ∀ l, (x5 (ix2 0 l) : EReal) = 1
  att : ∀ k l, (x7 (ix2 k l) : EReal) = (aw k l : ℝ)

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw) {gz : ℕ → Fin 128 → ℝ} {gzv : Vec Ideal S1152x128 .bf16}
  (hgz : ∀ (b : Fin 1152) (l : Fin 128), (gzv (ix2 b l) : EReal) = (gz b.val l : ℝ))

/-- The difference of two ids is the number `k` exactly when the first is `k` above the second. -/
theorem sub_eq_iff (a b k : ℕ) : nr a - nr b = nr k ↔ a = b + k := by
  unfold nr
  rw [← EReal.coe_sub, EReal.coe_eq_coe_iff, sub_eq_iff_eq_add, ← Nat.cast_add, Nat.cast_inj, Nat.add_comm]

theorem hot_congr {p q : Prop} [Decidable p] [Decidable q] (h : p ↔ q) : hot p = hot q := by
  unfold hot
  by_cases hp : p
  · rw [if_pos hp, if_pos (h.1 hp)]
  · rw [if_neg hp, if_neg (mt h.2 hp)]

/-- The row of the table that a comparison picks out of the window at `o`: the node's own where its id lies in it. -/
theorem pick (s o : ℕ) (f : Fin 128 → EReal) (g : ℕ → EReal) (hf : ∀ k : Fin 128, f k = g (o + k.val)) :
    ∑ k : Fin 128, hot (s = o + k.val) * f k = if o ≤ s ∧ s < o + 128 then g s else 0 := by
  by_cases h : o ≤ s ∧ s < o + 128
  · rw [if_pos h, Fintype.sum_eq_single (⟨s - o, by omega⟩ : Fin 128)]
    · rw [hot, if_pos (by show s = o + (s - o); omega), one_mul, hf]
      congr 1; show o + (s - o) = s; omega
    · intro k hk
      rw [hot, if_neg (fun e => hk (Fin.ext (by show k.val = s - o; omega))), zero_mul]
  · rw [if_neg h]
    refine Finset.sum_eq_zero fun k _ => ?_
    rw [hot, if_neg (fun e => h ⟨by omega, by have := k.isLt; omega⟩), zero_mul]

/-- What the table adds to a node's score after the windows 0 to `w`: its own graph's row once that window is past. -/
def part (S : Fin 4000 → ℕ) (gz : ℕ → Fin 128 → ℝ) (w : ℕ) (r : Fin 4000) (l : Fin 128) : ℝ :=
  if S r < base S + 128 * (w + 1) then gz (S r) l else 0

/-- The node's own part of its score. -/
def own (nf : Fin 4000 → Fin 128 → ℝ) (aw : Fin 128 → Fin 128 → ℝ) (r : Fin 4000) (l : Fin 128) : ℝ := ∑ k : Fin 128, nf r k * aw k l

/-- The window of the table at rows `o` on. -/
theorem table_window (off : Fin 2 → ℕ) (o : ℕ) (ho : off = ![o, 0]) (inb : ∀ a, off a + S128x128.size a ≤ S1152x128.size a) (k l : Fin 128)
    (g : ℕ → Fin 128 → EReal) (hg : ∀ (b : Fin 1152) (l : Fin 128), (gzv (ix2 b l) : EReal) = g b.val l) :
    (VecWindow.window gzv off S128x128.size inb (ix2 k l) : EReal) = g (o + k.val) l := by
  subst ho
  have hb : o + k.val < 1152 := by
    have h0 : o + 128 ≤ 1152 := inb 0
    have := k.isLt; omega
  rw [← hg ⟨o + k.val, hb⟩ l]
  refine congrArg gzv (funext fun a => ?_)
  fin_cases a
  · exact Fin.ext (by show o + 1 * k.val = o + k.val; omega)
  · exact Fin.ext (by show 0 + 1 * l.val = l.val; omega)

include B in
theorem degree_eq (r : Fin 4000) (l : Fin 128) : (k0_pay25 x3 x5 (ix2 r l) : EReal) = (dg r : ℝ) := by
  rw [degree_read, B.deg, B.one, mul_one]

include B hgz in
/-- The weights after the first window. -/
theorem weight_first (hk : Checks x1) (r : Fin 4000) (l : Fin 128) :
    (wgt1 x0 x1 x3 x4 x5 x7 hk gzv (ix2 r l) : EReal) = ((Real.exp ((part S gz 0 r l + own nf aw r l) * dg r) : ℝ) : EReal) := by
  unfold wgt1
  rw [first_read, degree_eq B]
  have e1 : ∑ k : Fin 128, (k0_pay26 x0 x1 x4 x5 (ix2 r (Fin.castAdd 128 k)) : EReal)
      * VecWindow.window gzv (k0_off1 (baseW x1)) S128x128.size (k0_off1_inb (baseW x1) hk.c1) (ix2 k l) = (part S gz 0 r l : ℝ) := by
    have := pick (S r) (base S) (fun k => VecWindow.window gzv (k0_off1 (baseW x1)) S128x128.size (k0_off1_inb (baseW x1) hk.c1) (ix2 k l))
      (fun b => ((gz b l : ℝ) : EReal)) (fun k => table_window _ _ (off1_eq B.ids) _ k l (fun b l => ((gz b l : ℝ) : EReal)) hgz)
    refine Eq.trans (Finset.sum_congr rfl fun k _ => ?_) (this.trans ?_)
    · refine congrArg (· * (VecWindow.window gzv (k0_off1 (baseW x1)) S128x128.size (k0_off1_inb (baseW x1) hk.c1) (ix2 k l) : EReal)) ?_
      rw [operand_left, B.one, mul_one, B.num, B.ids.col, baseId_eq B.ids]
      exact hot_congr (sub_eq_iff _ _ _)
    · have hb := base_le_id r (B.ge r)
      unfold part
      by_cases h : S r < base S + 128
      · rw [if_pos ⟨hb, h⟩, if_pos (by omega)]
      · rw [if_neg (fun h' => h h'.2), if_neg (by omega)]; rfl
  have e2 : ∑ k : Fin 128, (k0_pay26 x0 x1 x4 x5 (ix2 r (Fin.natAdd 128 k)) : EReal) * x7 (ix2 k l) = (own nf aw r l : ℝ) := by
    unfold own
    rw [← sum_coe]
    refine Finset.sum_congr rfl fun k _ => ?_
    rw [operand_right, B.node, B.att, EReal.coe_mul]
  rw [e1, e2, ← EReal.coe_add, ← EReal.coe_mul]
  rfl

/-- A gather step, over any stored value that reads as one. -/
theorem weight_step (hS : ∀ r, S 0 ≤ S r) (hL : ∀ r, S r ≤ S 3999) {C : Prop} [Decidable C] (w : ℕ)
    (hC : C ↔ base S + 128 * (w + 1) ≤ S 3999) (off : Fin 2 → ℕ) (hoff : off = ![base S + 128 * (w + 1), 0])
    (inb : C → ∀ a, off a + S128x128.size a ≤ S1152x128.size a)
    (pay : Vec Ideal S128x128 .bf16 → Vec Ideal S4000x128 .bf16 → Vec Ideal S4000x128 .bf16)
    (hpay : ∀ win v r l, (pay win v (ix2 r l) : EReal)
      = (v (ix2 r l) : EReal) * Ideal.exp ((∑ k : Fin 128, hot (S r = base S + 128 * (w + 1) + k.val) * win (ix2 k l)) * ((dg r : ℝ) : EReal)))
    (hgz : ∀ (b : Fin 1152) (l : Fin 128), (gzv (ix2 b l) : EReal) = (gz b.val l : ℝ))
    (v : Vec Ideal S4000x128 .bf16)
    (hv : ∀ r l, (v (ix2 r l) : EReal) = ((Real.exp ((part S gz w r l + own nf aw r l) * dg r) : ℝ) : EReal)) (r : Fin 4000) (l : Fin 128) :
    (gathered (C := C) off inb pay gzv v (ix2 r l) : EReal)
      = ((Real.exp ((part S gz (w + 1) r l + own nf aw r l) * dg r) : ℝ) : EReal) := by
  have hb := base_le_id r (hS r)
  have hl := hL r
  unfold gathered
  by_cases h : C
  · rw [dif_pos h, hpay, hv]
    have e := pick (S r) (base S + 128 * (w + 1)) (fun k => VecWindow.window gzv off S128x128.size (inb h) (ix2 k l))
      (fun b => ((gz b l : ℝ) : EReal)) (fun k => table_window _ _ hoff _ k l (fun b l => ((gz b l : ℝ) : EReal)) hgz)
    rw [e]
    by_cases hw : base S + 128 * (w + 1) ≤ S r ∧ S r < base S + 128 * (w + 1) + 128
    · rw [if_pos hw, ← EReal.coe_mul]
      refine (EReal.coe_mul _ _).symm.trans ?_
      rw [← Real.exp_add]
      congr 2
      unfold part
      rw [if_neg (by omega), if_pos (by omega)]
      ring
    · rw [if_neg hw, zero_mul]
      have e1 : Ideal.exp (0 : EReal) = 1 := by
        show ((Real.exp 0 : ℝ) : EReal) = 1
        rw [Real.exp_zero]; rfl
      rw [e1, mul_one]
      congr 4
      unfold part
      by_cases h1 : S r < base S + 128 * (w + 1)
      · rw [if_pos h1, if_pos (by omega)]
      · rw [if_neg h1, if_neg (by omega)]
  · rw [dif_neg h, hv]
    rw [hC] at h
    congr 4
    unfold part
    rw [if_pos (by omega), if_pos (by omega)]

end Cert.KernelIdeal.Pool
-- ==== Proof.Weights.lean ====
/- The nine gather steps of a block one after the other: each printed step reads as one, so the weights end at the exponential of the score. -/
module
public import proofs.«01_k».proof.Proof.Gather

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw)

  {gz : ℕ → Fin 128 → ℝ} {gzv : Vec Ideal S1152x128 .bf16}
  (hgz : ∀ (b : Fin 1152) (l : Fin 128), (gzv (ix2 b l) : EReal) = (gz b.val l : ℝ))

include B in
/-- The comparison of a window whose base is `n` ids above the block's. -/
theorem hot_window (n : ℕ) (cst : EReal) (hc : cst = nr n) (r : Fin 4000) (k : Fin 128) :
    hot ((subf (k0_pay19 x1) (broadcast S4000x1 (baseId x1 + cst)) (ix2 r 0) : EReal) = k0_pay21 x4 (ix2 0 k)) = hot (S r = base S + n + k.val) := by
  subst hc
  rw [column_numbers, B.num]
  have e : (subf (k0_pay19 x1) (broadcast S4000x1 (baseId x1 + nr n)) (ix2 r 0) : EReal) = nr (S r) - nr (base S + n) := by
    rw [← nr_add, ← baseId_eq B.ids, ← B.ids.col r]
    exact congrArg (· - (baseId x1 + nr n)) (column_ids x1 r)
  rw [e]
  exact hot_congr (sub_eq_iff _ _ _)

include B in
theorem gather_pay29 (win : Vec Ideal S128x128 .bf16) (v : Vec Ideal S4000x128 .bf16) (r : Fin 4000) (l : Fin 128) :
    (k0_pay29 (k0_pay19 x1) (k0_pay21 x4) (baseId x1) (k0_pay25 x3 x5) win v (ix2 r l) : EReal)
      = (v (ix2 r l) : EReal) * Ideal.exp ((∑ k : Fin 128, hot (S r = base S + 128 * (0 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_128 r k)

include B hgz in
theorem weight_1 (hk : Checks x1) (r : Fin 4000) (l : Fin 128) :
    (wgt2 x0 x1 x3 x4 x5 x7 hk gzv (ix2 r l) : EReal) = ((Real.exp ((part S gz 1 r l + own nf aw r l) * dg r) : ℝ) : EReal) :=
  weight_step B.ge B.le 0 (on2 B.ids) _ (off2_eq B.ids) _ _ (gather_pay29 B) hgz _
    (weight_first B hgz hk) r l

include B in
theorem gather_pay31 (win : Vec Ideal S128x128 .bf16) (v : Vec Ideal S4000x128 .bf16) (r : Fin 4000) (l : Fin 128) :
    (k0_pay31 (k0_pay19 x1) (k0_pay21 x4) (baseId x1) (k0_pay25 x3 x5) win v (ix2 r l) : EReal)
      = (v (ix2 r l) : EReal) * Ideal.exp ((∑ k : Fin 128, hot (S r = base S + 128 * (1 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_256 r k)

include B hgz in
theorem weight_2 (hk : Checks x1) (r : Fin 4000) (l : Fin 128) :
    (wgt3 x0 x1 x3 x4 x5 x7 hk gzv (ix2 r l) : EReal) = ((Real.exp ((part S gz 2 r l + own nf aw r l) * dg r) : ℝ) : EReal) :=
  weight_step B.ge B.le 1 (on3 B.ids) _ (off3_eq B.ids) _ _ (gather_pay31 B) hgz _
    (weight_1 B hgz hk) r l

include B in
theorem gather_pay33 (win : Vec Ideal S128x128 .bf16) (v : Vec Ideal S4000x128 .bf16) (r : Fin 4000) (l : Fin 128) :
    (k0_pay33 (k0_pay19 x1) (k0_pay21 x4) (baseId x1) (k0_pay25 x3 x5) win v (ix2 r l) : EReal)
      = (v (ix2 r l) : EReal) * Ideal.exp ((∑ k : Fin 128, hot (S r = base S + 128 * (2 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_384 r k)

include B hgz in
theorem weight_3 (hk : Checks x1) (r : Fin 4000) (l : Fin 128) :
    (wgt4 x0 x1 x3 x4 x5 x7 hk gzv (ix2 r l) : EReal) = ((Real.exp ((part S gz 3 r l + own nf aw r l) * dg r) : ℝ) : EReal) :=
  weight_step B.ge B.le 2 (on4 B.ids) _ (off4_eq B.ids) _ _ (gather_pay33 B) hgz _
    (weight_2 B hgz hk) r l

include B in
theorem gather_pay35 (win : Vec Ideal S128x128 .bf16) (v : Vec Ideal S4000x128 .bf16) (r : Fin 4000) (l : Fin 128) :
    (k0_pay35 (k0_pay19 x1) (k0_pay21 x4) (baseId x1) (k0_pay25 x3 x5) win v (ix2 r l) : EReal)
      = (v (ix2 r l) : EReal) * Ideal.exp ((∑ k : Fin 128, hot (S r = base S + 128 * (3 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_512 r k)

include B hgz in
theorem weight_4 (hk : Checks x1) (r : Fin 4000) (l : Fin 128) :
    (wgt5 x0 x1 x3 x4 x5 x7 hk gzv (ix2 r l) : EReal) = ((Real.exp ((part S gz 4 r l + own nf aw r l) * dg r) : ℝ) : EReal) :=
  weight_step B.ge B.le 3 (on5 B.ids) _ (off5_eq B.ids) _ _ (gather_pay35 B) hgz _
    (weight_3 B hgz hk) r l

include B in
theorem gather_pay37 (win : Vec Ideal S128x128 .bf16) (v : Vec Ideal S4000x128 .bf16) (r : Fin 4000) (l : Fin 128) :
    (k0_pay37 (k0_pay19 x1) (k0_pay21 x4) (baseId x1) (k0_pay25 x3 x5) win v (ix2 r l) : EReal)
      = (v (ix2 r l) : EReal) * Ideal.exp ((∑ k : Fin 128, hot (S r = base S + 128 * (4 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_640 r k)

include B hgz in
theorem weight_5 (hk : Checks x1) (r : Fin 4000) (l : Fin 128) :
    (wgt6 x0 x1 x3 x4 x5 x7 hk gzv (ix2 r l) : EReal) = ((Real.exp ((part S gz 5 r l + own nf aw r l) * dg r) : ℝ) : EReal) :=
  weight_step B.ge B.le 4 (on6 B.ids) _ (off6_eq B.ids) _ _ (gather_pay37 B) hgz _
    (weight_4 B hgz hk) r l

include B in
theorem gather_pay39 (win : Vec Ideal S128x128 .bf16) (v : Vec Ideal S4000x128 .bf16) (r : Fin 4000) (l : Fin 128) :
    (k0_pay39 (k0_pay19 x1) (k0_pay21 x4) (baseId x1) (k0_pay25 x3 x5) win v (ix2 r l) : EReal)
      = (v (ix2 r l) : EReal) * Ideal.exp ((∑ k : Fin 128, hot (S r = base S + 128 * (5 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_768 r k)

include B hgz in
theorem weight_6 (hk : Checks x1) (r : Fin 4000) (l : Fin 128) :
    (wgt7 x0 x1 x3 x4 x5 x7 hk gzv (ix2 r l) : EReal) = ((Real.exp ((part S gz 6 r l + own nf aw r l) * dg r) : ℝ) : EReal) :=
  weight_step B.ge B.le 5 (on7 B.ids) _ (off7_eq B.ids) _ _ (gather_pay39 B) hgz _
    (weight_5 B hgz hk) r l

include B in
theorem gather_pay41 (win : Vec Ideal S128x128 .bf16) (v : Vec Ideal S4000x128 .bf16) (r : Fin 4000) (l : Fin 128) :
    (k0_pay41 (k0_pay19 x1) (k0_pay21 x4) (baseId x1) (k0_pay25 x3 x5) win v (ix2 r l) : EReal)
      = (v (ix2 r l) : EReal) * Ideal.exp ((∑ k : Fin 128, hot (S r = base S + 128 * (6 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_896 r k)

include B hgz in
theorem weight_7 (hk : Checks x1) (r : Fin 4000) (l : Fin 128) :
    (wgt8 x0 x1 x3 x4 x5 x7 hk gzv (ix2 r l) : EReal) = ((Real.exp ((part S gz 7 r l + own nf aw r l) * dg r) : ℝ) : EReal) :=
  weight_step B.ge B.le 6 (on8 B.ids) _ (off8_eq B.ids) _ _ (gather_pay41 B) hgz _
    (weight_6 B hgz hk) r l

include B in
theorem gather_pay43 (win : Vec Ideal S128x128 .bf16) (v : Vec Ideal S4000x128 .bf16) (r : Fin 4000) (l : Fin 128) :
    (k0_pay43 (k0_pay19 x1) (k0_pay21 x4) (baseId x1) (k0_pay25 x3 x5) win v (ix2 r l) : EReal)
      = (v (ix2 r l) : EReal) * Ideal.exp ((∑ k : Fin 128, hot (S r = base S + 128 * (7 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_1024 r k)

include B hgz in
theorem weight_8 (hk : Checks x1) (r : Fin 4000) (l : Fin 128) :
    (wgt9 x0 x1 x3 x4 x5 x7 hk gzv (ix2 r l) : EReal) = ((Real.exp ((part S gz 8 r l + own nf aw r l) * dg r) : ℝ) : EReal) :=
  weight_step B.ge B.le 7 (on9 B.ids) _ (off9_eq B.ids) _ _ (gather_pay43 B) hgz _
    (weight_7 B hgz hk) r l

include B hgz in
/-- The weights after the nine windows: the exponential of the score. -/
theorem weights (hk : Checks x1) (r : Fin 4000) (l : Fin 128) :
    (wgt9 x0 x1 x3 x4 x5 x7 hk gzv (ix2 r l) : EReal) = ((Real.exp ((gz (S r) l + own nf aw r l) * dg r) : ℝ) : EReal) := by
  rw [weight_8 B hgz hk]
  have := B.ids.lt r
  unfold part
  rw [if_pos (by omega)]

end Cert.KernelIdeal.Pool
-- ==== Proof.Scatter.lean ====
/-
  One block's contribution to the accumulator, over the extended reals: every row gains the sum, over the
  block's nodes of that id, of the node's scattered row.
-/
module
public import proofs.«01_k».proof.Proof.Weights

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw)

/-- What a block adds to row `i`: the rows of its nodes with id `i`. -/
def gain (S : Fin 4000 → ℕ) (U : Fin 4000 → Fin 256 → EReal) (i : ℕ) (q : Fin 256) : EReal := ∑ r : Fin 4000, hot (S r = i) * U r q

theorem gain_none (U : Fin 4000 → Fin 256 → EReal) (i : ℕ) (q : Fin 256) (h : ∀ r, S r ≠ i) : gain S U i q = 0 :=
  Finset.sum_eq_zero fun r _ => by rw [hot, if_neg (h r), zero_mul]

/-- The accumulator with a window put back, at an entry. -/
theorem put_entry (sd : Vec Ideal S1152x256 .f32) (off : Fin 2 → ℕ) (o : ℕ) (ho : off = ![o, 0]) (v : Vec Ideal S128x256 .f32) (i : Fin 1152) (q : Fin 256) :
    (VecWindow.put sd off S128x256.size v (ix2 i q) : EReal)
      = if h : o ≤ i.val ∧ i.val < o + 128 then v (ix2 (⟨i.val - o, by omega⟩ : Fin 128) q) else sd (ix2 i q) := by
  subst ho
  unfold VecWindow.put
  by_cases h : o ≤ i.val ∧ i.val < o + 128
  · rw [dif_pos h, dif_pos (by
      intro a; fin_cases a
      · exact h
      · exact ⟨Nat.zero_le _, by show q.val < 0 + 256; have := q.isLt; omega⟩)]
    refine congrArg v (funext fun a => ?_)
    fin_cases a
    · rfl
    · rfl
  · rw [dif_neg h, dif_neg (fun h' => h (h' 0))]

/-- The accumulator's window at an entry. -/
theorem window_entry (sd : Vec Ideal S1152x256 .f32) (off : Fin 2 → ℕ) (o : ℕ) (ho : off = ![o, 0]) (inb : ∀ a, off a + S128x256.size a ≤ S1152x256.size a)
    (i : Fin 1152) (q : Fin 256) (h : o ≤ i.val ∧ i.val < o + 128) :
    (VecWindow.window sd off S128x256.size inb (ix2 (⟨i.val - o, by omega⟩ : Fin 128) q) : EReal) = sd (ix2 i q) := by
  subst ho
  refine congrArg sd (funext fun a => ?_)
  fin_cases a
  · exact Fin.ext (by show o + 1 * (i.val - o) = i.val; omega)
  · exact Fin.ext (by show 0 + 1 * q.val = q.val; omega)

/-- One scatter, over any stored value that reads as one: at a window at `o` every row of it gains its nodes' rows. -/
theorem put_gain (sd : Vec Ideal S1152x256 .f32) (U : Fin 4000 → Fin 256 → EReal) (off : Fin 2 → ℕ) (o : ℕ) (ho : off = ![o, 0])
    (inb : ∀ a, off a + S128x256.size a ≤ S1152x256.size a) (pay : Vec Ideal S128x256 .f32 → Vec Ideal S128x256 .f32)
    (hpay : ∀ win j q, (pay win (ix2 j q) : EReal) = (win (ix2 j q) : EReal) + ∑ r : Fin 4000, hot (S r = o + j.val) * U r q)
    (i : Fin 1152) (q : Fin 256) :
    (VecWindow.put sd off S128x256.size (pay (VecWindow.window sd off S128x256.size inb)) (ix2 i q) : EReal)
      = (sd (ix2 i q) : EReal) + if o ≤ i.val ∧ i.val < o + 128 then gain S U i.val q else 0 := by
  rw [put_entry sd off o ho]
  by_cases h : o ≤ i.val ∧ i.val < o + 128
  · rw [dif_pos h, if_pos h, hpay, window_entry sd off o ho inb i q h]
    congr 1
    unfold gain
    refine Finset.sum_congr rfl fun r _ => ?_
    have e : o + (i.val - o) = i.val := by omega
    rw [show o + (⟨i.val - o, by omega⟩ : Fin 128).val = i.val from e]
  · rw [dif_neg h, if_neg h, add_zero]

/-- A scatter step: rows below the windows gone through so far have all their gain. -/
theorem gain_step (hS : ∀ r, S 0 ≤ S r) (hL : ∀ r, S r ≤ S 3999) (U : Fin 4000 → Fin 256 → EReal) {C : Prop} [Decidable C] (w : ℕ)
    (hC : C ↔ base S + 128 * (w + 1) ≤ S 3999) (off : Fin 2 → ℕ) (hoff : off = ![base S + 128 * (w + 1), 0])
    (inb : C → ∀ a, off a + S128x256.size a ≤ S1152x256.size a) (pay : Vec Ideal S128x256 .f32 → Vec Ideal S128x256 .f32)
    (hpay : ∀ win j q, (pay win (ix2 j q) : EReal) = (win (ix2 j q) : EReal) + ∑ r : Fin 4000, hot (S r = base S + 128 * (w + 1) + j.val) * U r q)
    (sd acc : Vec Ideal S1152x256 .f32)
    (hacc : ∀ i q, (acc (ix2 i q) : EReal) = (sd (ix2 i q) : EReal) + if i.val < base S + 128 * (w + 1) then gain S U i.val q else 0)
    (i : Fin 1152) (q : Fin 256) :
    (scattered (C := C) off inb pay acc (ix2 i q) : EReal)
      = (sd (ix2 i q) : EReal) + if i.val < base S + 128 * (w + 1 + 1) then gain S U i.val q else 0 := by
  unfold scattered
  by_cases h : C
  · rw [dif_pos h, put_gain acc U off _ hoff (inb h) pay hpay, hacc, add_assoc]
    congr 1
    by_cases h1 : i.val < base S + 128 * (w + 1)
    · rw [if_pos h1, if_neg (by omega), if_pos (by omega), add_zero]
    · rw [if_neg h1, zero_add]
      by_cases h2 : i.val < base S + 128 * (w + 1 + 1)
      · rw [if_pos ⟨by omega, by omega⟩, if_pos h2]
      · rw [if_neg (by omega), if_neg h2]
  · rw [dif_neg h, hacc]
    rw [hC] at h
    congr 1
    by_cases h1 : i.val < base S + 128 * (w + 1)
    · rw [if_pos h1, if_pos (by omega)]
    · rw [if_neg h1, gain_none U i.val q (fun r e => by have := hL r; omega), ite_self]

include B in
theorem gain_first (hk : Checks x1) (w : Vec Ideal S4000x128 .bf16) (sd : Vec Ideal S1152x256 .f32) (i : Fin 1152) (q : Fin 256) :
    (acc9 x0 x1 x2 hk w sd (ix2 i q) : EReal)
      = (sd (ix2 i q) : EReal) + if i.val < base S + 128 * (0 + 1) then gain S (fun r q => k0_pay44 (k0_pay18 x0) w (ix2 r q)) i.val q else 0 := by
  unfold acc9
  rw [put_gain sd (fun r q => k0_pay44 (k0_pay18 x0) w (ix2 r q)) _ _ (off10_eq B.ids) (k0_off10_inb (baseW x1) hk.c1)
    (k0_pay45 (k0_pay18 x0) (k0_pay20 x2) (baseId x1) w) (fun win j q => ?_)]
  · congr 1
    by_cases h : i.val < base S
    · rw [if_neg (by omega), gain_none _ i.val q (fun r e => by have := base_le_id r (B.ge r); omega), ite_self]
    · by_cases h1 : i.val < base S + 128
      · rw [if_pos ⟨by omega, h1⟩, if_pos (by omega)]
      · rw [if_neg (by omega), if_neg (by omega)]
  · refine (scatter_first_read _ x2 _ w win j q).trans ?_
    refine congrArg (fun z : EReal => (win (ix2 j q) : EReal) + z) (Finset.sum_congr rfl fun r _ => ?_)
    refine congrArg (· * (k0_pay44 (k0_pay18 x0) w (ix2 r q) : EReal)) ?_
    rw [B.row, baseId_eq B.ids]
    exact hot_congr (eq_comm.trans (sub_eq_iff _ _ _))

include B in
theorem scatter_pay47 (w : Vec Ideal S4000x128 .bf16) (win : Vec Ideal S128x256 .f32) (j : Fin 128) (q : Fin 256) :
    (k0_pay47 (F := Ideal) (k0_pay18 x0) (k0_pay19 x1) (k0_pay21 x4) (baseId x1) w win (ix2 j q) : EReal)
      = (win (ix2 j q) : EReal) + ∑ r : Fin 4000, hot (S r = base S + 128 * (0 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_128 r j)

include B in
theorem gain_1 (hk : Checks x1) (w : Vec Ideal S4000x128 .bf16) (sd : Vec Ideal S1152x256 .f32) (i : Fin 1152) (q : Fin 256) :
    (acc10 x0 x1 x2 x4 hk w sd (ix2 i q) : EReal)
      = (sd (ix2 i q) : EReal) + if i.val < base S + 128 * (0 + 1 + 1) then gain S (fun r q => k0_pay44 (k0_pay18 x0) w (ix2 r q)) i.val q else 0 :=
  gain_step B.ge B.le (fun r q => k0_pay44 (k0_pay18 x0) w (ix2 r q)) 0 (on10 B.ids) _ (off11_eq B.ids) _ _ (scatter_pay47 B w) sd _
    (gain_first B hk w sd) i q

include B in
theorem scatter_pay1 (w : Vec Ideal S4000x128 .bf16) (win : Vec Ideal S128x256 .f32) (j : Fin 128) (q : Fin 256) :
    (k0_pay1 (F := Ideal) (k0_pay19 x1) (k0_pay21 x4) (baseId x1) (k0_pay44 (k0_pay18 x0) w) win (ix2 j q) : EReal)
      = (win (ix2 j q) : EReal) + ∑ r : Fin 4000, hot (S r = base S + 128 * (1 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_256 r j)

include B in
theorem gain_2 (hk : Checks x1) (w : Vec Ideal S4000x128 .bf16) (sd : Vec Ideal S1152x256 .f32) (i : Fin 1152) (q : Fin 256) :
    (acc11 x0 x1 x2 x4 hk w sd (ix2 i q) : EReal)
      = (sd (ix2 i q) : EReal) + if i.val < base S + 128 * (1 + 1 + 1) then gain S (fun r q => k0_pay44 (k0_pay18 x0) w (ix2 r q)) i.val q else 0 :=
  gain_step B.ge B.le (fun r q => k0_pay44 (k0_pay18 x0) w (ix2 r q)) 1 (on11 B.ids) _ (off12_eq B.ids) _ _ (scatter_pay1 B w) sd _
    (gain_1 B hk w sd) i q

include B in
theorem scatter_pay3 (w : Vec Ideal S4000x128 .bf16) (win : Vec Ideal S128x256 .f32) (j : Fin 128) (q : Fin 256) :
    (k0_pay3 (F := Ideal) (k0_pay19 x1) (k0_pay21 x4) (baseId x1) (k0_pay44 (k0_pay18 x0) w) win (ix2 j q) : EReal)
      = (win (ix2 j q) : EReal) + ∑ r : Fin 4000, hot (S r = base S + 128 * (2 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_384 r j)

include B in
theorem gain_3 (hk : Checks x1) (w : Vec Ideal S4000x128 .bf16) (sd : Vec Ideal S1152x256 .f32) (i : Fin 1152) (q : Fin 256) :
    (acc12 x0 x1 x2 x4 hk w sd (ix2 i q) : EReal)
      = (sd (ix2 i q) : EReal) + if i.val < base S + 128 * (2 + 1 + 1) then gain S (fun r q => k0_pay44 (k0_pay18 x0) w (ix2 r q)) i.val q else 0 :=
  gain_step B.ge B.le (fun r q => k0_pay44 (k0_pay18 x0) w (ix2 r q)) 2 (on12 B.ids) _ (off13_eq B.ids) _ _ (scatter_pay3 B w) sd _
    (gain_2 B hk w sd) i q

include B in
theorem scatter_pay5 (w : Vec Ideal S4000x128 .bf16) (win : Vec Ideal S128x256 .f32) (j : Fin 128) (q : Fin 256) :
    (k0_pay5 (F := Ideal) (k0_pay19 x1) (k0_pay21 x4) (baseId x1) (k0_pay44 (k0_pay18 x0) w) win (ix2 j q) : EReal)
      = (win (ix2 j q) : EReal) + ∑ r : Fin 4000, hot (S r = base S + 128 * (3 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_512 r j)

include B in
theorem gain_4 (hk : Checks x1) (w : Vec Ideal S4000x128 .bf16) (sd : Vec Ideal S1152x256 .f32) (i : Fin 1152) (q : Fin 256) :
    (acc13 x0 x1 x2 x4 hk w sd (ix2 i q) : EReal)
      = (sd (ix2 i q) : EReal) + if i.val < base S + 128 * (3 + 1 + 1) then gain S (fun r q => k0_pay44 (k0_pay18 x0) w (ix2 r q)) i.val q else 0 :=
  gain_step B.ge B.le (fun r q => k0_pay44 (k0_pay18 x0) w (ix2 r q)) 3 (on13 B.ids) _ (off14_eq B.ids) _ _ (scatter_pay5 B w) sd _
    (gain_3 B hk w sd) i q

include B in
theorem scatter_pay7 (w : Vec Ideal S4000x128 .bf16) (win : Vec Ideal S128x256 .f32) (j : Fin 128) (q : Fin 256) :
    (k0_pay7 (F := Ideal) (k0_pay19 x1) (k0_pay21 x4) (baseId x1) (k0_pay44 (k0_pay18 x0) w) win (ix2 j q) : EReal)
      = (win (ix2 j q) : EReal) + ∑ r : Fin 4000, hot (S r = base S + 128 * (4 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_640 r j)

include B in
theorem gain_5 (hk : Checks x1) (w : Vec Ideal S4000x128 .bf16) (sd : Vec Ideal S1152x256 .f32) (i : Fin 1152) (q : Fin 256) :
    (acc14 x0 x1 x2 x4 hk w sd (ix2 i q) : EReal)
      = (sd (ix2 i q) : EReal) + if i.val < base S + 128 * (4 + 1 + 1) then gain S (fun r q => k0_pay44 (k0_pay18 x0) w (ix2 r q)) i.val q else 0 :=
  gain_step B.ge B.le (fun r q => k0_pay44 (k0_pay18 x0) w (ix2 r q)) 4 (on14 B.ids) _ (off15_eq B.ids) _ _ (scatter_pay7 B w) sd _
    (gain_4 B hk w sd) i q

include B in
theorem scatter_pay9 (w : Vec Ideal S4000x128 .bf16) (win : Vec Ideal S128x256 .f32) (j : Fin 128) (q : Fin 256) :
    (k0_pay9 (F := Ideal) (k0_pay19 x1) (k0_pay21 x4) (baseId x1) (k0_pay44 (k0_pay18 x0) w) win (ix2 j q) : EReal)
      = (win (ix2 j q) : EReal) + ∑ r : Fin 4000, hot (S r = base S + 128 * (5 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_768 r j)

include B in
theorem gain_6 (hk : Checks x1) (w : Vec Ideal S4000x128 .bf16) (sd : Vec Ideal S1152x256 .f32) (i : Fin 1152) (q : Fin 256) :
    (acc15 x0 x1 x2 x4 hk w sd (ix2 i q) : EReal)
      = (sd (ix2 i q) : EReal) + if i.val < base S + 128 * (5 + 1 + 1) then gain S (fun r q => k0_pay44 (k0_pay18 x0) w (ix2 r q)) i.val q else 0 :=
  gain_step B.ge B.le (fun r q => k0_pay44 (k0_pay18 x0) w (ix2 r q)) 5 (on15 B.ids) _ (off16_eq B.ids) _ _ (scatter_pay9 B w) sd _
    (gain_5 B hk w sd) i q

include B in
theorem scatter_pay11 (w : Vec Ideal S4000x128 .bf16) (win : Vec Ideal S128x256 .f32) (j : Fin 128) (q : Fin 256) :
    (k0_pay11 (F := Ideal) (k0_pay19 x1) (k0_pay21 x4) (baseId x1) (k0_pay44 (k0_pay18 x0) w) win (ix2 j q) : EReal)
      = (win (ix2 j q) : EReal) + ∑ r : Fin 4000, hot (S r = base S + 128 * (6 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_896 r j)

include B in
theorem gain_7 (hk : Checks x1) (w : Vec Ideal S4000x128 .bf16) (sd : Vec Ideal S1152x256 .f32) (i : Fin 1152) (q : Fin 256) :
    (acc16 x0 x1 x2 x4 hk w sd (ix2 i q) : EReal)
      = (sd (ix2 i q) : EReal) + if i.val < base S + 128 * (6 + 1 + 1) then gain S (fun r q => k0_pay44 (k0_pay18 x0) w (ix2 r q)) i.val q else 0 :=
  gain_step B.ge B.le (fun r q => k0_pay44 (k0_pay18 x0) w (ix2 r q)) 6 (on16 B.ids) _ (off17_eq B.ids) _ _ (scatter_pay11 B w) sd _
    (gain_6 B hk w sd) i q

include B in
theorem scatter_pay13 (w : Vec Ideal S4000x128 .bf16) (win : Vec Ideal S128x256 .f32) (j : Fin 128) (q : Fin 256) :
    (k0_pay13 (F := Ideal) (k0_pay19 x1) (k0_pay21 x4) (baseId x1) (k0_pay44 (k0_pay18 x0) w) win (ix2 j q) : EReal)
      = (win (ix2 j q) : EReal) + ∑ r : Fin 4000, hot (S r = base S + 128 * (7 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_1024 r j)

include B in
theorem gain_8 (hk : Checks x1) (w : Vec Ideal S4000x128 .bf16) (sd : Vec Ideal S1152x256 .f32) (i : Fin 1152) (q : Fin 256) :
    (acc17 x0 x1 x2 x4 hk w sd (ix2 i q) : EReal)
      = (sd (ix2 i q) : EReal) + if i.val < base S + 128 * (7 + 1 + 1) then gain S (fun r q => k0_pay44 (k0_pay18 x0) w (ix2 r q)) i.val q else 0 :=
  gain_step B.ge B.le (fun r q => k0_pay44 (k0_pay18 x0) w (ix2 r q)) 7 (on17 B.ids) _ (off18_eq B.ids) _ _ (scatter_pay13 B w) sd _
    (gain_7 B hk w sd) i q

include B in
/-- The accumulator after a block: every row gains the rows of the block's nodes with its id. -/
theorem gains (hk : Checks x1) (w : Vec Ideal S4000x128 .bf16) (sd : Vec Ideal S1152x256 .f32) (i : Fin 1152) (q : Fin 256) :
    (acc17 x0 x1 x2 x4 hk w sd (ix2 i q) : EReal)
      = (sd (ix2 i q) : EReal) + gain S (fun r q => k0_pay44 (k0_pay18 x0) w (ix2 r q)) i.val q := by
  rw [gain_8 B hk w sd, if_pos (by have := i.isLt; omega)]

end Cert.KernelIdeal.Pool
-- ==== Proof.Spec.lean ====
/-
  The pooling in real numbers, from the argument arrays: scores, exponentials, the two sums of a segment,
  and the two linear layers after them.
-/
module
public import proofs.«01_k».proof.Proof.Pre

@[expose] public section

noncomputable section

namespace Cert.Pool

open Idealize.ShloMosaic Idealize.ShloMosaic.ValueIdx

variable (a0 : FVec Ideal ⟨2, ![100000, 128]⟩ .f32) (a1 : FVec Ideal ⟨2, ![1000, 128]⟩ .f32) (a2 : FVec Ideal ⟨2, ![100000, 1]⟩ .f32)
  (a3 : IVec ⟨1, ![100000]⟩ 32) (a4 : FVec Ideal ⟨3, ![1, 4, 32]⟩ .f32)

/-- Feature `l` of node `n`. -/
def nodeR (n : Fin 100000) (l : Fin 128) : ℝ := EReal.toReal (a0 (ix2 n l))

/-- Feature `l` of graph `b`. -/
def graphR (b : Fin 1000) (l : Fin 128) : ℝ := EReal.toReal (a1 (ix2 b l))

/-- The degree of node `n`. -/
def degR (n : Fin 100000) : ℝ := EReal.toReal (a2 (ix2 n 0))

/-- The segment of node `n`. -/
def seg (n : Fin 100000) : ℕ := (a3 (ix1 n)).toInt.toNat

/-- The attention weight of feature `k`. -/
def attR (k : Fin 128) : ℝ :=
  EReal.toReal (a4 (ix3 0 ⟨k.val / 32, by have := k.isLt; omega⟩ ⟨k.val % 32, Nat.mod_lt _ (by decide)⟩))

/-- The attention weights as the block diagonal the kernel multiplies by: feature `k` counts at the lanes of its own head. -/
def awR (k l : Fin 128) : ℝ := if k.val / 32 = l.val / 32 then attR a4 k else 0

/-- The projected graph features, zero past the last graph. -/
def gzR (b : ℕ) (l : Fin 128) : ℝ := if h : b < 1000 then ∑ d : Fin 128, graphR a1 ⟨b, h⟩ d * awR a4 d l else 0

/-- The score of node `n` at lane `l`. -/
def score (n : Fin 100000) (l : Fin 128) : ℝ :=
  (gzR a1 a4 (seg a3 n) l + ∑ k : Fin 128, nodeR a0 n k * awR a4 k l) * degR a2 n

/-- Its exponential. -/
def weight (n : Fin 100000) (l : Fin 128) : ℝ := Real.exp (score a0 a1 a2 a3 a4 n l)

/-- The sum of a segment's exponentials. -/
def total (b : ℕ) (l : Fin 128) : ℝ := ∑ n : Fin 100000, if seg a3 n = b then weight a0 a1 a2 a3 a4 n l else 0

/-- The sum of a segment's features weighted by the exponentials. -/
def mixed (b : ℕ) (l : Fin 128) : ℝ := ∑ n : Fin 100000, if seg a3 n = b then nodeR a0 n l * weight a0 a1 a2 a3 a4 n l else 0

/-- The pooled features of graph `b`: zero where it has no node. -/
def pooled (b : Fin 1000) (l : Fin 128) : ℝ :=
  if 0 < total a0 a1 a2 a3 a4 b.val l then mixed a0 a1 a2 a3 a4 b.val l / total a0 a1 a2 a3 a4 b.val l + graphR a1 b l else 0

/-- The two linear layers over pooled features, and the residual. -/
def layers (a1 : FVec Ideal ⟨2, ![1000, 128]⟩ .f32) (a5 : FVec Ideal ⟨2, ![128, 128]⟩ .f32) (a6 : FVec Ideal ⟨1, ![128]⟩ .f32)
    (a7 : FVec Ideal ⟨2, ![128, 128]⟩ .f32) (a8 : FVec Ideal ⟨1, ![128]⟩ .f32) (he : Fin 1000 → Fin 128 → EReal) (b : Fin 1000) (l : Fin 128) : EReal :=
  (∑ k : Fin 128, max ((∑ j : Fin 128, he b j * a5 (ix2 k j)) + a6 (ix1 k)) 0 * a7 (ix2 l k)) + a8 (ix1 l) + a1 (ix2 b l)

variable {a0 a1 a2 a3 a4} (h : Sound a0 a1 a2 a3 a4)
include h

theorem node_eq (n : Fin 100000) (l : Fin 128) : (a0 (ix2 n l) : EReal) = (nodeR a0 n l : ℝ) :=
  (EReal.coe_toReal (h.nodes _).2 (h.nodes _).1).symm

theorem graph_eq (b : Fin 1000) (l : Fin 128) : (a1 (ix2 b l) : EReal) = (graphR a1 b l : ℝ) :=
  (EReal.coe_toReal (h.graphs _).2 (h.graphs _).1).symm

theorem deg_eq (n : Fin 100000) : (a2 (ix2 n 0) : EReal) = (degR a2 n : ℝ) :=
  (EReal.coe_toReal (h.degree _).2 (h.degree _).1).symm

theorem att_eq (k : Fin 128) :
    (a4 (ix3 0 ⟨k.val / 32, by have := k.isLt; omega⟩ ⟨k.val % 32, Nat.mod_lt _ (by decide)⟩) : EReal) = (attR a4 k : ℝ) :=
  (EReal.coe_toReal (h.attn _).2 (h.attn _).1).symm

theorem seg_lt (n : Fin 100000) : seg a3 n < 1000 := by
  have h1 := h.range (ix1 n)
  unfold seg; omega

theorem seg_cast (n : Fin 100000) : (a3 (ix1 n)).toInt = (seg a3 n : ℤ) := (Int.toNat_of_nonneg (h.range (ix1 n)).1).symm

theorem seg_le {n k : Fin 100000} (hn : n ≤ k) : seg a3 n ≤ seg a3 k := Int.toNat_le_toNat (h.ascending.le hn)

end Cert.Pool
-- ==== Proof.Total.lean ====
/-
  The kernel's scratch and result over the whole grid, over the extended reals: after the last block the
  accumulator's rows hold the two sums of each segment, and the result block is the two layers over the
  pooled features.
-/
module
public import proofs.«01_k».proof.Proof.Scatter
public import proofs.«01_k».proof.Proof.Checks
public import proofs.«01_k».proof.Proof.Spec

@[expose] public section

set_option maxRecDepth 16384

noncomputable section

namespace Cert.KernelIdeal.Pool

open Cert.KernelIdeal.Gen Cert.Pool
open Idealize.ShloMosaic Idealize.ShloMosaic.TcCoe Idealize.ShloMosaic.Tactic Idealize.ShloMosaic.ValueIdx

variable (m : (ℓ : Loc nD τ sig) → Buf (Elt Ideal) ℓ) (c : Dev nD)

/-- What the precondition says of one device's arrays. -/
abbrev SoundAt : Prop := Sound (argN m c) (argG m c) (argD m c) (argS m c) (argA m c)

/-- The weight of node `n` at lane `l`. -/
abbrev wR (n : Fin 100000) (l : Fin 128) : ℝ := weight (argN m c) (argG m c) (argD m c) (argS m c) (argA m c) n l

/-- What node `n` scatters: its weighted features, then its weights. -/
def rowR (n : Fin 100000) (q : Fin 256) : ℝ :=
  if h : q.val < 128 then nodeR (argN m c) n ⟨q.val, h⟩ * wR m c n ⟨q.val, h⟩ else wR m c n ⟨q.val - 128, by have := q.isLt; omega⟩

variable {m c} (h : SoundAt m c)

include h in
theorem att_entry (k l : Fin 128) : (if k.val / 32 = l.val / 32 then attn m c k else 0 : EReal) = (awR (argA m c) k l : ℝ) := by
  unfold awR
  by_cases hk : k.val / 32 = l.val / 32
  · rw [if_pos hk, if_pos hk]; exact att_eq h k
  · rw [if_neg hk, if_neg hk]; rfl

include h in
/-- The blocks of a grid point as real numbers. -/
theorem blk (t : Fin cfg0.N) :
    Blk (iblk m c 0 t) (iblk m c 1 t) (iblk m c 2 t) (iblk m c 3 t) (iblk m c 4 t) (iblk m c 5 t) (iblk m c 7 t)
      (fun r => seg (argS m c) (node t r)) (fun r l => nodeR (argN m c) (node t r) l) (fun r => degR (argD m c) (node t r))
      (awR (argA m c)) where
  ids := ids m c h.range t
  ge r := seg_le h (Fin.mk_le_mk.2 (Nat.add_le_add_left (Nat.zero_le _) _))
  le r := seg_le h (Fin.mk_le_mk.2 (Nat.add_le_add_left (Nat.le_of_lt_succ r.isLt) _))
  row r := by
    rw [block_2, show sid m c (node t r) = _ from seg_cast h (node t r)]
    norm_cast
  node r l := (block_0 m c t r l).trans (node_eq h _ l)
  deg r := (block_3 m c t r).trans (deg_eq h _)
  num l := block_4 m c t l
  one l := block_5 m c t l
  att k l := (block_7 m c t k l).trans (att_entry h k l)

include h in
/-- The projected table the first point seeds. -/
theorem table_seed (t : Fin cfg0.N) (b : Fin 1152) (l : Fin 128) :
    (VecWindow.put (k0_pay16 (F := Ideal)) ![0, 0] S1000x128.size (k0_pay17 (iblk m c 6 t) (iblk m c 7 t)) (ix2 b l) : EReal)
      = (gzR (argG m c) (argA m c) b.val l : ℝ) := by
  unfold VecWindow.put gzR
  by_cases hb : b.val < 1000
  · rw [dif_pos hb, dif_pos (by
      intro a; fin_cases a
      · exact ⟨Nat.zero_le _, by show b.val < 0 + 1000; omega⟩
      · exact ⟨Nat.zero_le _, by show l.val < 0 + 128; have := l.isLt; omega⟩)]
    have e : (k0_pay17 (iblk m c 6 t) (iblk m c 7 t) (ix2 (⟨b.val, hb⟩ : Fin 1000) l) : EReal)
        = ((∑ d : Fin 128, graphR (argG m c) ⟨b.val, hb⟩ d * awR (argA m c) d l : ℝ) : EReal) := by
      unfold k0_pay17
      refine (shapeCast_apply _ _ _ (ix2 (⟨b.val, hb⟩ : Fin 1000) l) rfl).trans ?_
      refine (product_1000_128 _ _ (⟨b.val, hb⟩ : Fin 1000) l).trans ?_
      rw [← sum_coe]
      refine Finset.sum_congr rfl fun d _ => ?_
      rw [EReal.coe_mul, ← graph_eq h, ← att_entry h, ← block_6 m c t, ← block_7 m c t]
      exact congrArg (HMul.hMul (α := EReal) (β := EReal) (γ := EReal) (iblk m c 6 t (ix2 (⟨b.val, hb⟩ : Fin 1000) d))) (shapeCast_apply _ _ _ (ix2 d l) rfl)
    rw [← e]
    refine congrArg (k0_pay17 (iblk m c 6 t) (iblk m c 7 t)) (funext fun a => ?_)
    fin_cases a <;> rfl
  · rw [dif_neg hb, dif_neg (fun h' => hb (by have := (h' 0).2; exact this.trans_eq (Nat.zero_add _)))]
    unfold k0_pay16
    refine (shapeCast_apply _ _ _ (ix2 b l) rfl).trans ?_
    exact Ideal.ofBits_zero_bf16

/-- Node `k`'s contribution to an entry of the accumulator. -/
def contrib (m : (ℓ : Loc nD τ sig) → Buf (Elt Ideal) ℓ) (c : Dev nD) (i : ℕ) (q : Fin 256) (k : ℕ) : EReal :=
  if hk : k < 100000 then hot (seg (argS m c) ⟨k, hk⟩ = i) * ((rowR m c ⟨k, hk⟩ q : ℝ) : EReal) else 0

include h in
/-- One point over a table already seeded: every entry gains its nodes' contributions. -/
theorem point_gain (t : Fin cfg0.N) (hk : Checks (iblk m c 1 t)) (gzv : Vec Ideal S1152x128 .bf16)
    (hgz : ∀ (b : Fin 1152) (l : Fin 128), (gzv (ix2 b l) : EReal) = (gzR (argG m c) (argA m c) b.val l : ℝ))
    (sd : Vec Ideal S1152x256 .f32) (i : Fin 1152) (q : Fin 256) :
    (acc17 (iblk m c 0 t) (iblk m c 1 t) (iblk m c 2 t) (iblk m c 4 t) hk
      (wgt9 (iblk m c 0 t) (iblk m c 1 t) (iblk m c 3 t) (iblk m c 4 t) (iblk m c 5 t) (iblk m c 7 t) hk gzv) sd (ix2 i q) : EReal)
      = (sd (ix2 i q) : EReal) + ∑ r ∈ Finset.range 4000, contrib m c i.val q (t.val * 4000 + r) := by
  rw [gains (blk h t) hk]
  congr 1
  rw [Finset.sum_range]
  refine Finset.sum_congr rfl fun r _ => ?_
  have hn : t.val * 4000 + r.val < 100000 := (node t r).isLt
  unfold contrib
  rw [dif_pos hn]
  refine congrArg (hot (seg (argS m c) (node t r) = i.val) * ·) ?_
  show (k0_pay44 (k0_pay18 (iblk m c 0 t)) _ (ix2 r q) : EReal) = ((rowR m c (node t r) q : ℝ) : EReal)
  have hw : ∀ l : Fin 128, (wgt9 (iblk m c 0 t) (iblk m c 1 t) (iblk m c 3 t) (iblk m c 4 t) (iblk m c 5 t) (iblk m c 7 t) hk gzv (ix2 r l) : EReal)
      = (wR m c (node t r) l : ℝ) := fun l => weights (blk h t) hgz hk r l
  unfold rowR
  by_cases hq : q.val < 128
  · rw [dif_pos hq, EReal.coe_mul, ← hw]
    refine (pair_left _ _ r q ⟨q.val, hq⟩ rfl).trans ?_
    exact congrArg (· * (wgt9 (iblk m c 0 t) (iblk m c 1 t) (iblk m c 3 t) (iblk m c 4 t) (iblk m c 5 t) (iblk m c 7 t) hk gzv (ix2 r ⟨q.val, hq⟩) : EReal))
      ((blk h t).node r ⟨q.val, hq⟩)
  · rw [dif_neg hq, ← hw]
    exact pair_right _ _ r q _ (by show q.val = q.val - 128 + 128; omega)

include h in
/-- The scratch after point `n`: the projected table, and the contributions of all nodes so far. -/
theorem scratch (hC : AllChecks m) : ∀ (n : ℕ) (hn : n < cfg0.N),
    (∀ (b : Fin 1152) (l : Fin 128), ((scr m hC c n hn).2 (ix2 b l) : EReal) = (gzR (argG m c) (argA m c) b.val l : ℝ))
    ∧ ∀ (i : Fin 1152) (q : Fin 256), ((scr m hC c n hn).1 (ix2 i q) : EReal) = ∑ k ∈ Finset.range ((n + 1) * 4000), contrib m c i.val q k := by
  intro n
  induction n with
  | zero =>
    intro hn
    have hf : IsFirst (grid0.coords ⟨0, hn⟩) := (isFirst_iff ⟨0, hn⟩).mpr rfl
    have e := scr_first m hC c ⟨0, hn⟩ rfl (fun _ => (0 : EReal)) (fun _ => (0 : EReal))
    have hg : ∀ (b : Fin 1152) (l : Fin 128), (gzAfter (grid0.coords ⟨0, hn⟩) (iblk m c 6 ⟨0, hn⟩) (iblk m c 7 ⟨0, hn⟩) (fun _ => (0 : EReal)) (ix2 b l) : EReal)
        = (gzR (argG m c) (argA m c) b.val l : ℝ) := by
      intro b l
      unfold gzAfter seeded
      rw [if_pos hf]
      exact table_seed h _ b l
    refine ⟨fun b l => ?_, fun i q => ?_⟩
    · rw [show (scr m hC c 0 hn).2 = _ from congrArg Prod.snd e]
      exact hg b l
    · rw [show (scr m hC c 0 hn).1 = _ from congrArg Prod.fst e]
      unfold sdAfter
      refine (point_gain h ⟨0, hn⟩ _ _ hg _ i q).trans ?_
      unfold cleared
      rw [if_pos hf]
      have e0 : (k0_pay15 (F := Ideal) (ix2 i q) : EReal) = 0 := by
        unfold k0_pay15
        refine (shapeCast_apply _ _ _ (ix2 i q) rfl).trans ?_
        exact Ideal.ofBits_zero_f32
      rw [e0, zero_add]
      refine Finset.sum_congr (by norm_num) fun r _ => ?_
      exact congrArg (contrib m c i.val q) (by show 0 * 4000 + r = r; omega)
  | succ n ih =>
    intro hn
    obtain ⟨ih1, ih2⟩ := ih (Nat.lt_of_succ_lt hn)
    have hf : ¬ IsFirst (grid0.coords ⟨n + 1, hn⟩) := fun hf => Nat.succ_ne_zero n ((isFirst_iff ⟨n + 1, hn⟩).mp hf)
    have e := scr_next m hC c ⟨n + 1, hn⟩ (Nat.succ_ne_zero n) (Nat.lt_of_succ_lt hn)
    have hg : ∀ (b : Fin 1152) (l : Fin 128), (gzAfter (grid0.coords ⟨n + 1, hn⟩) (iblk m c 6 ⟨n + 1, hn⟩) (iblk m c 7 ⟨n + 1, hn⟩)
        (scr m hC c n (Nat.lt_of_succ_lt hn)).2 (ix2 b l) : EReal) = (gzR (argG m c) (argA m c) b.val l : ℝ) := by
      intro b l
      unfold gzAfter seeded
      rw [if_neg hf]
      exact ih1 b l
    refine ⟨fun b l => ?_, fun i q => ?_⟩
    · rw [show (scr m hC c (n + 1) hn).2 = _ from congrArg Prod.snd e]
      exact hg b l
    · rw [show (scr m hC c (n + 1) hn).1 = _ from congrArg Prod.fst e]
      unfold sdAfter
      refine (point_gain h ⟨n + 1, hn⟩ _ _ hg _ i q).trans ?_
      unfold cleared
      rw [if_neg hf]
      rw [show (n + 1 + 1) * 4000 = (n + 1) * 4000 + 4000 by omega, Finset.sum_range_add]
      refine congrArg₂ (· + ·) (ih2 i q) rfl

/-- Every node's contribution, as the real sum over the segment. -/
theorem contrib_sum (i : ℕ) (q : Fin 256) :
    ∑ k ∈ Finset.range 100000, contrib m c i q k = ((∑ n : Fin 100000, if seg (argS m c) n = i then rowR m c n q else 0 : ℝ) : EReal) := by
  rw [Finset.sum_range, ← sum_coe]
  refine Finset.sum_congr rfl fun n _ => ?_
  unfold contrib
  rw [dif_pos n.isLt]
  by_cases hn : seg (argS m c) n = i
  · rw [hot, if_pos hn, if_pos hn, one_mul]
  · rw [hot, if_neg hn, if_neg hn, zero_mul]; rfl

include h in
/-- After the last point, lanes 0 to 127 hold the weighted sums and lanes 128 to 255 the sums of the weights. -/
theorem accumulated (hC : AllChecks m) (t : Fin cfg0.N) (ht : t.val = 24) (i : Fin 1152) (l : Fin 128) :
    ((scr m hC c t.val t.isLt).1 (ix2 i (Fin.castAdd 128 l)) : EReal) = (mixed (argN m c) (argG m c) (argD m c) (argS m c) (argA m c) i.val l : ℝ)
    ∧ ((scr m hC c t.val t.isLt).1 (ix2 i (Fin.natAdd 128 l)) : EReal) = (total (argN m c) (argG m c) (argD m c) (argS m c) (argA m c) i.val l : ℝ) := by
  constructor
  · rw [show (scr m hC c t.val t.isLt).1 (ix2 i (Fin.castAdd 128 l)) = _ from (scratch h hC t.val t.isLt).2 i _, ht]
    refine (contrib_sum i.val _).trans (congrArg _ ?_)
    unfold mixed
    refine Finset.sum_congr rfl fun n _ => ?_
    unfold rowR
    rw [dif_pos (show (Fin.castAdd 128 l).val < 128 from l.isLt)]
    rfl
  · rw [show (scr m hC c t.val t.isLt).1 (ix2 i (Fin.natAdd 128 l)) = _ from (scratch h hC t.val t.isLt).2 i _, ht]
    refine (contrib_sum i.val _).trans (congrArg _ ?_)
    unfold total
    refine Finset.sum_congr rfl fun n _ => ?_
    unfold rowR
    rw [dif_neg (show ¬ (Fin.natAdd 128 l).val < 128 by show ¬ 128 + l.val < 128; omega)]
    congr 2
    exact Fin.ext (by show 128 + l.val - 128 = l.val; omega)

end Cert.KernelIdeal.Pool
-- ==== Proof.Finish.lean ====
/- What the last point writes to the result: the two linear layers over the pooled features, and the residual. -/
module
public import proofs.«01_k».proof.Proof.Total

@[expose] public section

set_option maxRecDepth 16384

noncomputable section

namespace Cert.KernelIdeal.Pool

open Cert.KernelIdeal.Gen Cert.Pool
open Idealize.ShloMosaic Idealize.ShloMosaic.TcCoe Idealize.ShloMosaic.Tactic Idealize.ShloMosaic.ValueIdx

/-- The kernel's pooled block: the quotient plus the graph's features where the weights' sum is positive, else zero. -/
def pool (s d g : Vec Ideal S1000x128 .f32) : FVec Ideal S1000x128 .f32 :=
  select (cmpf .ogt (d : FVec Ideal S1000x128 .f32) (broadcast S1000x128 (Scalar.ofBits (F := Ideal) .f32 0x00000000#32)))
    (addf (divf s d) g) (broadcast S1000x128 (Scalar.ofBits (F := Ideal) .f32 0x00000000#32))

theorem pool_entry (s d g : Vec Ideal S1000x128 .f32) (b : Fin 1000) (j : Fin 128) (x y z : ℝ)
    (hs : (s (ix2 b j) : EReal) = (x : ℝ)) (hd : (d (ix2 b j) : EReal) = (y : ℝ)) (hg : (g (ix2 b j) : EReal) = (z : ℝ)) :
    (pool s d g (ix2 b j) : EReal) = ((if 0 < y then x / y + z else 0 : ℝ) : EReal) := by
  have hc : (cmpf .ogt (d : FVec Ideal S1000x128 .f32) (broadcast S1000x128 (Scalar.ofBits (F := Ideal) .f32 0x00000000#32)) (ix2 b j))
      = BitVec.ofBool (decide ((0 : EReal) < (d (ix2 b j) : EReal))) := by
    show BitVec.ofBool (decide (Ideal.ofBits .f32 0x00000000#32 < (d (ix2 b j) : EReal))) = _
    rw [Ideal.ofBits_zero_f32]
  show (Scalar.select _ (Ideal.div (s (ix2 b j)) (d (ix2 b j)) + (g (ix2 b j) : EReal)) (Ideal.ofBits .f32 0x00000000#32)) = _
  refine (congrArg (fun w => Scalar.select w (Ideal.div (s (ix2 b j)) (d (ix2 b j)) + (g (ix2 b j) : EReal)) (Ideal.ofBits .f32 0x00000000#32)) hc).trans ?_
  rw [hs, hd, hg, Ideal.ofBits_zero_f32]
  by_cases hy : 0 < y
  · rw [if_pos hy, decide_eq_true (EReal.coe_pos.2 hy), Ideal.div_coe hy.ne', ← EReal.coe_mul, mul_one_div, EReal.coe_add]
    rfl
  · rw [if_neg hy, decide_eq_false (fun h => hy (EReal.coe_pos.1 h))]
    rfl

/-- The two layers, entry by entry. -/
theorem finish_entry (s d g : Vec Ideal S1000x128 .f32) (w₁ w₂ : Vec Ideal S128x128 .f32) (b₁ b₂ : Vec Ideal S1x128 .f32) (b : Fin 1000) (l : Fin 128) :
    (k0_pay14 s d g w₁ b₁ w₂ b₂ (ix2 b l) : EReal)
      = (∑ k : Fin 128, max ((∑ j : Fin 128, (pool s d g (ix2 b j) : EReal) * w₁ (ix2 j k)) + b₁ (ix2 0 k)) 0 * (w₂ (ix2 k l) : EReal)) + b₂ (ix2 0 l)
        + g (ix2 b l) := by
  unfold k0_pay14
  have hb : ∀ (v : Vec Ideal S1x128 .f32) (k : Fin 128),
      (broadcastTo S1000x128 (shapeCast S1x128 v shapeCasts_S1x128_S1x128) broadcasts_S1x128_S1000x128 (ix2 b k) : EReal) = v (ix2 0 k) := fun v k =>
    (broadcastTo_apply _ _ _ (ix2 (0 : Fin 1) k) (fun a => by fin_cases a <;> rfl)).trans (shapeCast_apply _ _ _ (ix2 (0 : Fin 1) k) rfl)
  refine congrArg₂ (· + ·) (congrArg₂ (· + ·) ((product_1000_128 _ _ b l).trans ?_) (hb b₂ l)) rfl
  refine Finset.sum_congr rfl fun k _ => ?_
  refine congrArg₂ (fun x y : EReal => x * y) ?_ (shapeCast_apply _ _ _ (ix2 k l) rfl)
  refine congrArg₂ (fun x y : EReal => max x y) ?_ Ideal.ofBits_zero_f32
  refine congrArg₂ (fun x y : EReal => x + y) ((product_1000_128 _ _ b k).trans ?_) (hb b₁ k)
  refine Finset.sum_congr rfl fun j _ => ?_
  exact congrArg₂ (fun x y : EReal => x * y) rfl (shapeCast_apply _ _ _ (ix2 j k) rfl)

variable (m : (ℓ : Loc nD τ sig) → Buf (Elt Ideal) ℓ) (c : Dev nD)

/-- The result array: the two layers over the pooled features. -/
def answer : FVec Ideal ⟨2, ![1000, 128]⟩ .f32 := fun i =>
  layers (argG m c) (argW1 m c) (argB1 m c) (argW2 m c) (argB2 m c)
    (fun b j => ((pooled (argN m c) (argG m c) (argD m c) (argS m c) (argA m c) b j : ℝ) : EReal)) (i 0) (i 1)

variable {m c} (h : SoundAt m c)

include h in
theorem outBlock_entry (hC : AllChecks m) (t : Fin cfg0.N) (ht : t.val = 24) (b : Fin 1000) (l : Fin 128) :
    (outBlock m hC c t (ix2 b l) : EReal) = answer m c (ix2 b l) := by
  unfold outBlock
  refine (finish_entry _ _ _ _ _ _ _ b l).trans ?_
  unfold answer layers
  have hp : ∀ j : Fin 128, (pool (VecWindow.window (scr m hC c t.val t.isLt).1 ![0, 0] S1000x128.size inb_S1152x256_S1000x128_0_0)
      (VecWindow.window (scr m hC c t.val t.isLt).1 ![0, 128] S1000x128.size inb_S1152x256_S1000x128_0_128) (iblk m c 6 t) (ix2 b j) : EReal)
      = ((pooled (argN m c) (argG m c) (argD m c) (argS m c) (argA m c) b j : ℝ) : EReal) := by
    intro j
    have ha := accumulated h hC t ht ⟨b.val, by have := b.isLt; omega⟩ j
    refine pool_entry _ _ _ b j _ _ _ (Eq.trans ?_ ha.1) (Eq.trans ?_ ha.2) ((block_6 m c t b j).trans (graph_eq h b j))
    · refine congrArg (scr m hC c t.val t.isLt).1 (funext fun a => ?_)
      fin_cases a
      · exact Fin.ext (by show 0 + 1 * b.val = b.val; omega)
      · exact Fin.ext (by show 0 + 1 * j.val = j.val; omega)
    · refine congrArg (scr m hC c t.val t.isLt).1 (funext fun a => ?_)
      fin_cases a
      · exact Fin.ext (by show 0 + 1 * b.val = b.val; omega)
      · exact Fin.ext (by show 128 + 1 * j.val = 128 + j.val; omega)
  refine congrArg₂ (fun x y : EReal => x + y) (congrArg₂ (fun x y : EReal => x + y) ?_ (block_11 m c t l)) (block_6 m c t b l)
  refine Finset.sum_congr rfl fun k _ => ?_
  refine congrArg₂ (fun x y : EReal => x * y) (congrArg₂ (fun x y : EReal => max x y) ?_ rfl) (block_9 m c t k l)
  refine congrArg₂ (fun x y : EReal => x + y) ?_ (block_10 m c t k)
  refine Finset.sum_congr rfl fun j _ => ?_
  exact congrArg₂ (fun x y : EReal => x * y) (hp j) (block_8 m c t j k)

include h in
theorem outBlock_all (hC : AllChecks m) (t : Fin cfg0.N) (ht : t.val = 24) (i : S1000x128.Idx) :
    (outBlock m hC c t i : EReal) = answer m c i := by
  have e : i = ix2 (i 0) (i 1) := by funext a; fin_cases a <;> rfl
  rw [e]
  exact outBlock_entry h hC t ht (i 0) (i 1)

/-- The last grid point. -/
def lastPoint : Fin cfg0.N := ⟨24, by decide +kernel⟩

include h in
/-- The result array after the run. -/
theorem result_array (hC : AllChecks m) : (dats m hC 0 c).arrAt 12 cfg0.N = answer m c := by
  refine (dats m hC 0 c).arrAt_eq_of_after_last 12 lastPoint (by decide +kernel) _ fun j => ?_
  rw [after_12]
  exact outBlock_all h hC lastPoint rfl _

end Cert.KernelIdeal.Pool
-- ==== Proof.RefParts.lean ====
/- The reference's result, cut into named steps: the gathers, the scores, the maxima, the exponentials, the two segment sums, the two layers. -/
module
public import proofs.«01_k».proof.Proof.Gen.ReferenceIdeal.Run
public import Idealize.ShloMosaic.Lib.ValueIdx

@[expose] public section

set_option maxRecDepth 16384

noncomputable section

namespace Cert.ReferenceIdeal.Pool

open Cert.ReferenceIdeal Cert.ReferenceIdeal.Gen Idealize.ShloMosaic Idealize.ShloMosaic.TcCoe

/-- The segment numbers as a column. -/
def column (ids : IVec S100000 32) : IVec S100000x1 32 := broadcastInDim S100000x1 ![0] bcast_S100000_S100000x1_0 ids

/-- The gathers' start indices: a negative one counts from the end. -/
def starts (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 1000#32))) ids)

/-- Which start indices lie in the table. -/
def inside (ids : IVec S100000 32) : IVec S100000 1 :=
  Host.reduce IntOp.andi
    (andi (cmpi .sge (starts ids) (broadcastInDim S100000x1 ![] bcast_S_S100000x1 (constantI S_ 32 0#32)))
      (cmpi .sle (starts ids) (broadcastInDim S100000x1 ![0, 1] bcast_S1x1_S100000x1_0_1 (broadcastInDim S1x1 ![1] bcast_S1_S1x1_1 (constantI S1 32 999#32)))))
    (constantI S_ 1 1#1) reducesTo_S100000x1_S100000_d1 h_S_

/-- A row of a table of features for every node. -/
def takeRows (x : FVec Ideal S1000x128 .f32) (ids : IVec S100000 32) : FVec Ideal S100000x128 .f32 :=
  select (broadcastInDim S100000x128 ![0] bcast_S100000_S100000x128_0 (inside ids))
    (Host.gather gather_S1000x128_S100000x1_S100000x128_1_0_n_n_0_1_1128 x (starts ids))
    (broadcastInDim S100000x128 ![] bcast_S_S100000x128 (constant S_ .f32 0x7FC00000#32))

/-- A row of a table over the heads for every node. -/
def takeHeads (x : FVec Ideal S1000x4 .f32) (ids : IVec S100000 32) : FVec Ideal S100000x4 .f32 :=
  select (broadcastInDim S100000x4 ![0] bcast_S100000_S100000x4_0 (inside ids))
    (Host.gather gather_S1000x4_S100000x1_S100000x4_1_0_n_n_0_1_14 x (starts ids))
    (broadcastInDim S100000x4 ![] bcast_S_S100000x4 (constant S_ .f32 0x7FC00000#32))

/-- A node's features plus its graph's, by head. -/
def feats (a0 : FVec Ideal S100000x128 .f32) (a1 : FVec Ideal S1000x128 .f32) (ids : IVec S100000 32) : FVec Ideal S100000x4x32 .f32 :=
  shapeCast S100000x4x32 (addf (takeRows a1 ids) a0) shapeCasts_S100000x128_S100000x4x32

/-- The scores of a node, one per head. -/
def scores (hv : FVec Ideal S100000x4x32 .f32) (a2 : FVec Ideal S100000x1 .f32) (a4 : FVec Ideal S1x4x32 .f32) : FVec Ideal S100000x4 .f32 :=
  shapeCast S100000x4
    (mulf
      (broadcastInDim S100000x4x1 ![0, 1] bcast_S100000x4_S100000x4x1_0_1
        (Host.reduceAdd (mulf hv (broadcastInDim S100000x4x32 ![0, 1, 2] bcast_S1x4x32_S100000x4x32_0_1_2 a4)) (constant S_ .f32 0x00000000#32)
          reducesTo_S100000x4x32_S100000x4_d2 h_S_))
      (broadcastInDim S100000x4x1 ![0, 1, 2] bcast_S100000x1x1_S100000x4x1_0_1_2 (broadcastInDim S100000x1x1 ![0, 2] bcast_S100000x1_S100000x1x1_0_2 a2)))
    shapeCasts_S100000x4x1_S100000x4

/-- Which node is in which segment. -/
def member (ids : IVec S100000 32) : IVec S100000x1000 1 :=
  cmpi .eq (broadcastInDim S100000x1000 ![0, 1] bcast_S100000x1_S100000x1000_0_1 (column ids))
    (broadcastInDim S100000x1000 ![0, 1] bcast_S1x1000_S100000x1000_0_1 (broadcastInDim S1x1000 ![1] bcast_S1000_S1x1000_1 (iotaInDim S1000 32 0)))

/-- The scores of a segment's nodes, minus infinity at the others. -/
def masked (z : FVec Ideal S100000x4 .f32) (ids : IVec S100000 32) : FVec Ideal S100000x1000x4 .f32 :=
  select (broadcastInDim S100000x1000x4 ![0, 1, 2] bcast_S100000x1000x1_S100000x1000x4_0_1_2
      (broadcastInDim S100000x1000x1 ![0, 1] bcast_S100000x1000_S100000x1000x1_0_1 (member ids)))
    (broadcastInDim S100000x1000x4 ![0, 1, 2] bcast_S100000x1x4_S100000x1000x4_0_1_2 (broadcastInDim S100000x1x4 ![0, 2] bcast_S100000x4_S100000x1x4_0_2 z))
    (broadcastInDim S100000x1000x4 ![] bcast_S_S100000x1000x4 (id (constant S_ .f32 0xFF800000#32)))

/-- The largest score of every segment. -/
def maxima (z : FVec Ideal S100000x4 .f32) (ids : IVec S100000 32) : FVec Ideal S1000x4 .f32 :=
  Host.reduce FloatOps.maximumf (masked z ids) (constant S_ .f32 0xFF800000#32) reducesTo_S100000x1000x4_S1000x4_d0 h_S_

/-- The exponentials of the scores less their segment's largest. -/
def exps (z : FVec Ideal S100000x4 .f32) (ids : IVec S100000 32) : FVec Ideal S100000x4 .f32 :=
  Host.exp (subf z (takeHeads (maxima z ids) ids))

/-- Their sums over every segment. -/
def denoms (e : FVec Ideal S100000x4 .f32) (ids : IVec S100000 32) : FVec Ideal S1000x4 .f32 :=
  Host.scatterAdd scatter_S1000x4_S100000x1_S100000x4_1_0_0_1 (broadcastInDim S1000x4 ![] bcast_S_S1000x4 (constant S_ .f32 0x00000000#32)) (column ids) e

/-- A node's features weighted by its share of its segment. -/
def shares (hv : FVec Ideal S100000x4x32 .f32) (e : FVec Ideal S100000x4 .f32) (ids : IVec S100000 32) : FVec Ideal S100000x4x32 .f32 :=
  mulf hv (broadcastInDim S100000x4x32 ![0, 1, 2] bcast_S100000x4x1_S100000x4x32_0_1_2
    (broadcastInDim S100000x4x1 ![0, 1] bcast_S100000x4_S100000x4x1_0_1 (Host.divf e (takeHeads (denoms e ids) ids))))

/-- The pooled features by head. -/
def sums (u : FVec Ideal S100000x4x32 .f32) (ids : IVec S100000 32) : FVec Ideal S1000x4x32 .f32 :=
  Host.scatterAdd scatter_S1000x4x32_S100000x1_S100000x4x32_12_0_0_1
    (broadcastInDim S1000x4x32 ![] bcast_S_S1000x4x32 (constant S_ .f32 0x00000000#32)) (column ids) u

/-- A linear layer. -/
def layer (x : FVec Ideal S1000x128 .f32) (w : FVec Ideal S128x128 .f32) (b : FVec Ideal S128 .f32) : FVec Ideal S1000x128 .f32 :=
  addf (Host.dotGeneral dot_S1000x128_S128x128_S1000x128_1_0_0_1_n_n none x (transpose S128x128 [1, 0] w transposes_S128x128_S128x128_1_0))
    (broadcastInDim S1000x128 ![0, 1] bcast_S1x128_S1000x128_0_1 (broadcastInDim S1x128 ![1] bcast_S128_S1x128_1 b))

/-- Both layers over the pooled features, and the residual. -/
def finish (he : FVec Ideal S1000x4x32 .f32) (a1 : FVec Ideal S1000x128 .f32) (w₁ : FVec Ideal S128x128 .f32) (b₁ : FVec Ideal S128 .f32)
    (w₂ : FVec Ideal S128x128 .f32) (b₂ : FVec Ideal S128 .f32) : FVec Ideal S1000x128 .f32 :=
  addf (layer (maximumf (layer (shapeCast S1000x128 he shapeCasts_S1000x4x32_S1000x128) w₁ b₁)
    (broadcastInDim S1000x128 ![] bcast_S_S1000x128 (constant S_ .f32 0x00000000#32))) w₂ b₂) a1

/-- The whole reference. -/
def whole (a0 : FVec Ideal S100000x128 .f32) (a1 : FVec Ideal S1000x128 .f32) (a2 : FVec Ideal S100000x1 .f32) (a3 : IVec S100000 32)
    (a4 : FVec Ideal S1x4x32 .f32) (a5 : FVec Ideal S128x128 .f32) (a6 : FVec Ideal S128 .f32) (a7 : FVec Ideal S128x128 .f32) (a8 : FVec Ideal S128 .f32) :
    FVec Ideal S1000x128 .f32 :=
  let hv := feats a0 a1 a3
  let z := scores hv a2 a4
  finish (sums (shares hv (exps z a3) a3) a3) a1 a5 a6 a7 a8

theorem result_eq (m : (ℓ : Loc nD τ sig) → Buf (Elt Ideal) ℓ) (c : Dev nD) :
    Value.res_main_v47 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v47
  rfl

end Cert.ReferenceIdeal.Pool
-- ==== Proof.RefReads.lean ====
/- The reference's gathers, scatters and sums read at an index, for segment numbers in range. -/
module
public import proofs.«01_k».proof.Proof.RefParts
public import proofs.«01_k».proof.Proof.Spec
public import Idealize.ShloMosaic.Lib.ReduceAll
public import Idealize.ShloMosaic.Lib.Pointwise.Reduce
public import Idealize.ShloMosaic.Lib.Routing.Ops
public import Idealize.ShloMosaic.Lib.Routing.OpsPair
public import Idealize.ShloMosaic.Lib.ValueLayout
public import Idealize.ShloMosaic.Lib.WordCmp

@[expose] public section

set_option maxRecDepth 16384

noncomputable section

namespace Cert.ReferenceIdeal.Pool

open Cert.ReferenceIdeal Cert.ReferenceIdeal.Gen Cert.Pool Idealize.ShloMosaic.TcCoe Idealize.ShloMosaic.ValueIdx
open Idealize.ShloMosaic hiding ix1 ix2 ix3

variable {ids : IVec S100000 32} (hr : InRange ids)

/-- The segment of a node, as an index of the graphs. -/
def at_ (hr : InRange ids) (n : Fin 100000) : Fin 1000 :=
  ⟨seg ids n, by have h1 := hr (ix1 n); unfold seg; omega⟩

theorem column_entry (n : Fin 100000) : column ids (ix2 n 0) = ids (ix1 n) :=
  broadcastInDim_apply _ _ _ _ (ix1 n) (fun a => by fin_cases a; rfl)

include hr in
theorem starts_entry (n : Fin 100000) : starts ids (ix2 n 0) = ids (ix1 n) := by
  refine (broadcastInDim_apply _ _ _ _ (ix1 n) (fun a => by fin_cases a; rfl)).trans ?_
  show Scalar.select (IntOp.cmpi .slt (ids (ix1 n)) (0#32)) _ (ids (ix1 n)) = _
  rw [WordCmp.cmpi_slt_eq, decide_eq_false (by have := (hr (ix1 n)).1; rw [BitVec.toInt_zero]; omega)]
  rfl

include hr in
theorem inside_entry (n : Fin 100000) : inside ids (ix1 n) = 1#1 := by
  unfold inside
  refine Host.reduce_andi_one _ _ _ _ _ rfl fun i => ?_
  obtain ⟨k, rfl⟩ : ∃ k : Fin 100000, i = ix2 k (0 : Fin 1) := ⟨i 0, by
    funext a; fin_cases a
    · rfl
    · exact Subsingleton.elim (α := Fin 1) _ _⟩
  show IntOp.andi (IntOp.cmpi .sge (starts ids (ix2 k 0)) (0#32)) (IntOp.cmpi .sle (starts ids (ix2 k 0)) (999#32)) = 1#1
  have h1 := hr (ix1 k)
  rw [starts_entry hr, WordCmp.cmpi_sge_eq, WordCmp.cmpi_sle_eq, decide_eq_true (by rw [BitVec.toInt_zero]; exact h1.1),
    decide_eq_true (by rw [show (999#32 : BitVec 32).toInt = 999 from rfl]; omega)]
  rfl

include hr in
theorem id_word (n : Fin 100000) : ids (ix1 n) = BitVec.ofNat 32 (at_ hr n).val := by
  have h1 := hr (ix1 n)
  refine BitVec.eq_of_toInt_eq ?_
  have h2 : (at_ hr n).val = (ids (ix1 n)).toInt.toNat := rfl
  have h3 := (at_ hr n).isLt
  rw [BitVec.toInt_ofNat']
  rw [Int.bmod_eq_of_le (by omega) (by omega)]
  omega

theorem takeRows_entry (x : FVec Ideal S1000x128 .f32) (n : Fin 100000) (l : Fin 128) :
    takeRows x ids (ix2 n l) = x (ix2 (at_ hr n) l) := by
  have hc : broadcastInDim S100000x128 ![0] bcast_S100000_S100000x128_0 (inside ids) (ix2 n l) = 1#1 :=
    (broadcastInDim_apply _ _ _ _ (ix1 n) (fun a => by fin_cases a; rfl)).trans (inside_entry hr n)
  have hg : Host.gather gather_S1000x128_S100000x1_S100000x128_1_0_n_n_0_1_1128 x (starts ids) (ix2 n l) = x (ix2 (at_ hr n) l) :=
    Routing.gather_row _ rfl rfl rfl rfl rfl x (starts ids) n l (at_ hr n) ((starts_entry hr n).trans (id_word hr n)) (by norm_num)
  unfold takeRows
  show Scalar.select (broadcastInDim S100000x128 ![0] bcast_S100000_S100000x128_0 (inside ids) (ix2 n l))
    (Host.gather gather_S1000x128_S100000x1_S100000x128_1_0_n_n_0_1_1128 x (starts ids) (ix2 n l)) (broadcastInDim S100000x128 ![] bcast_S_S100000x128 (constant (F := Ideal) S_ .f32 0x7FC00000#32) (ix2 n l)) = _
  rw [hc, hg]
  rfl

theorem takeHeads_entry (x : FVec Ideal S1000x4 .f32) (n : Fin 100000) (p : Fin 4) :
    takeHeads x ids (ix2 n p) = x (ix2 (at_ hr n) p) := by
  have hc : broadcastInDim S100000x4 ![0] bcast_S100000_S100000x4_0 (inside ids) (ix2 n p) = 1#1 :=
    (broadcastInDim_apply _ _ _ _ (ix1 n) (fun a => by fin_cases a; rfl)).trans (inside_entry hr n)
  have hg : Host.gather gather_S1000x4_S100000x1_S100000x4_1_0_n_n_0_1_14 x (starts ids) (ix2 n p) = x (ix2 (at_ hr n) p) :=
    Routing.gather_row _ rfl rfl rfl rfl rfl x (starts ids) n p (at_ hr n) ((starts_entry hr n).trans (id_word hr n)) (by norm_num)
  unfold takeHeads
  show Scalar.select (broadcastInDim S100000x4 ![0] bcast_S100000_S100000x4_0 (inside ids) (ix2 n p))
    (Host.gather gather_S1000x4_S100000x1_S100000x4_1_0_n_n_0_1_14 x (starts ids) (ix2 n p)) (broadcastInDim S100000x4 ![] bcast_S_S100000x4 (constant (F := Ideal) S_ .f32 0x7FC00000#32) (ix2 n p)) = _
  rw [hc, hg]
  rfl

/-- The lane of feature `j` of head `p`. -/
def lane (p : Fin 4) (j : Fin 32) : Fin 128 := ⟨p.val * 32 + j.val, by have := p.isLt; have := j.isLt; omega⟩

theorem feats_entry (a0 : FVec Ideal S100000x128 .f32) (a1 : FVec Ideal S1000x128 .f32) (n : Fin 100000) (p : Fin 4) (j : Fin 32) :
    (feats a0 a1 ids (ix3 n p j) : EReal) = (a1 (ix2 (at_ hr n) (lane p j)) : EReal) + a0 (ix2 n (lane p j)) := by
  unfold feats
  refine (shapeCast_apply _ _ _ (ix2 n (lane p j)) ?_).trans ?_
  · refine (Shape.rowMajor_val_two (d := ![100000, 128]) _).trans (Eq.trans ?_ (Shape.rowMajor_val_three (d := ![100000, 4, 32]) _).symm)
    show n.val * 128 + (p.val * 32 + j.val) = (n.val * 4 + p.val) * 32 + j.val
    omega
  · exact congrArg (fun x : EReal => x + a0 (ix2 n (lane p j))) (takeRows_entry hr a1 n (lane p j))

theorem scores_entry (hv : FVec Ideal S100000x4x32 .f32) (a2 : FVec Ideal S100000x1 .f32) (a4 : FVec Ideal S1x4x32 .f32) (n : Fin 100000) (p : Fin 4) :
    (scores hv a2 a4 (ix2 n p) : EReal) = (∑ j : Fin 32, (hv (ix3 n p j) : EReal) * a4 (ix3 0 p j)) * a2 (ix2 n 0) := by
  unfold scores
  refine (shapeCast_apply _ _ _ (ix3 n p (0 : Fin 1)) ?_).trans ?_
  · refine (Shape.rowMajor_val_three (d := ![100000, 4, 1]) _).trans (Eq.trans ?_ (Shape.rowMajor_val_two (d := ![100000, 4]) _).symm)
    show (n.val * 4 + p.val) * 1 + 0 = n.val * 4 + p.val
    omega
  refine congrArg₂ (fun x y : EReal => x * y) ?_ ?_
  · refine (broadcastInDim_apply _ _ _ _ (ix2 n p) (fun a => by fin_cases a <;> rfl)).trans ?_
    show Ideal.hostReduceAdd _ _ (Ideal.ofBits .f32 0x00000000#32) (ix2 n p) = _
    rw [Ideal.ofBits_zero_f32, Ideal.hostReduceAdd_r3_a2, zero_add]
    refine Finset.sum_congr rfl fun j _ => ?_
    exact congrArg (fun y : EReal => (hv (ix3 n p j) : EReal) * y) (broadcastInDim_apply _ _ _ _ (ix3 (0 : Fin 1) p j) (fun a => by fin_cases a <;> rfl))
  · refine (broadcastInDim_apply _ _ _ _ (ix3 n (0 : Fin 1) (0 : Fin 1)) (fun a => by fin_cases a <;> rfl)).trans ?_
    exact broadcastInDim_apply _ _ _ _ (ix2 n (0 : Fin 1)) (fun a => by fin_cases a <;> rfl)

include hr in
theorem lands_heads (n : Fin 100000) (p q : Fin 4) (b : Fin 1000) :
    (scatter_S1000x4_S100000x1_S100000x4_1_0_0_1).resultIdx? (ix2 n p) (column ids) = some (ix2 b q) ↔ seg ids n = b.val ∧ p = q := by
  rw [Routing.resultIdx?_eq_some]
  have h0 : (scatter_S1000x4_S100000x1_S100000x4_1_0_0_1).start (ix2 n p) (column ids) 0 = (seg ids n : ℤ) := by
    have e : (scatter_S1000x4_S100000x1_S100000x4_1_0_0_1).start (ix2 n p) (column ids) 0 = (column ids (ix2 n 0)).toInt := by
      refine (dif_pos (show (0 : Fin 2) ∈ (scatter_S1000x4_S100000x1_S100000x4_1_0_0_1).scatterDimsToOperandDims from List.mem_singleton.mpr rfl)).trans ?_
      refine congrArg (fun i => (column ids i).toInt) (funext fun a => Fin.ext ?_)
      fin_cases a <;> rfl
    rw [e, column_entry]
    exact (Int.toNat_of_nonneg (hr (ix1 n)).1).symm
  have h1 : (scatter_S1000x4_S100000x1_S100000x4_1_0_0_1).start (ix2 n p) (column ids) 1 = 0 := rfl
  have w0 : (scatter_S1000x4_S100000x1_S100000x4_1_0_0_1).window (ix2 n p) 0 = 0 := rfl
  have w1 : (scatter_S1000x4_S100000x1_S100000x4_1_0_0_1).window (ix2 n p) 1 = p.val := rfl
  constructor
  · intro h
    have e0 := h 0
    have e1 := h 1
    rw [h0, w0] at e0
    rw [h1, w1] at e1
    have e0' : (seg ids n : ℤ) + 0 = (b.val : ℤ) := e0
    have e1' : (0 : ℤ) + p.val = (q.val : ℤ) := e1
    exact ⟨by omega, Fin.ext (by omega)⟩
  · rintro ⟨e, rfl⟩ a
    fin_cases a
    · show (scatter_S1000x4_S100000x1_S100000x4_1_0_0_1).start (ix2 n p) (column ids) 0 + ((scatter_S1000x4_S100000x1_S100000x4_1_0_0_1).window (ix2 n p) 0 : ℤ) = (b.val : ℤ)
      rw [h0, w0]; omega
    · show (scatter_S1000x4_S100000x1_S100000x4_1_0_0_1).start (ix2 n p) (column ids) 1 + ((scatter_S1000x4_S100000x1_S100000x4_1_0_0_1).window (ix2 n p) 1 : ℤ) = (p.val : ℤ)
      rw [h1, w1]; omega

include hr in
theorem denoms_entry (e : FVec Ideal S100000x4 .f32) (b : Fin 1000) (p : Fin 4) :
    (denoms e ids (ix2 b p) : EReal) = ∑ n : Fin 100000, if seg ids n = b.val then (e (ix2 n p) : EReal) else 0 := by
  show Ideal.ofBits .f32 0x00000000#32 + ∑ j ∈ Finset.univ.filter (fun j => (scatter_S1000x4_S100000x1_S100000x4_1_0_0_1).resultIdx? j (column ids) = some (ix2 b p)), (e j : EReal) = _
  rw [Ideal.ofBits_zero_f32, zero_add, ← Finset.sum_filter]
  have ej : ∀ j : S100000x4.Idx, ∃ (n : Fin 100000) (q : Fin 4), j = ix2 n q := fun j => ⟨j 0, j 1, by funext a; fin_cases a <;> rfl⟩
  refine Finset.sum_nbij' (fun j => j 0) (fun n => ix2 n p) ?_ ?_ ?_ ?_ ?_
  · intro j hj
    obtain ⟨n, q, rfl⟩ := ej j
    have h1 := (lands_heads hr n q p b).1 (Finset.mem_filter.1 hj).2
    exact Finset.mem_filter.2 ⟨Finset.mem_univ _, h1.1⟩
  · intro n hn
    exact Finset.mem_filter.2 ⟨Finset.mem_univ _, (lands_heads hr n p p b).2 ⟨(Finset.mem_filter.1 hn).2, rfl⟩⟩
  · intro j hj
    obtain ⟨n, q, rfl⟩ := ej j
    have h1 := (lands_heads hr n q p b).1 (Finset.mem_filter.1 hj).2
    obtain ⟨-, rfl⟩ := h1; rfl
  · intro n hn; rfl
  · intro j hj
    obtain ⟨n, q, rfl⟩ := ej j
    have h1 := (lands_heads hr n q p b).1 (Finset.mem_filter.1 hj).2
    obtain ⟨-, rfl⟩ := h1; rfl

include hr in
theorem lands_feats (n : Fin 100000) (p q : Fin 4) (j k : Fin 32) (b : Fin 1000) :
    (scatter_S1000x4x32_S100000x1_S100000x4x32_12_0_0_1).resultIdx? (ix3 n p j) (column ids) = some (ix3 b q k) ↔ seg ids n = b.val ∧ p = q ∧ j = k := by
  rw [Routing.resultIdx?_eq_some]
  have h0 : (scatter_S1000x4x32_S100000x1_S100000x4x32_12_0_0_1).start (ix3 n p j) (column ids) 0 = (seg ids n : ℤ) := by
    have e : (scatter_S1000x4x32_S100000x1_S100000x4x32_12_0_0_1).start (ix3 n p j) (column ids) 0 = (column ids (ix2 n 0)).toInt := by
      refine (dif_pos (show (0 : Fin 3) ∈ (scatter_S1000x4x32_S100000x1_S100000x4x32_12_0_0_1).scatterDimsToOperandDims from List.mem_singleton.mpr rfl)).trans ?_
      refine congrArg (fun i => (column ids i).toInt) (funext fun a => Fin.ext ?_)
      fin_cases a <;> rfl
    rw [e, column_entry]
    exact (Int.toNat_of_nonneg (hr (ix1 n)).1).symm
  have h1 : (scatter_S1000x4x32_S100000x1_S100000x4x32_12_0_0_1).start (ix3 n p j) (column ids) 1 = 0 := rfl
  have h2 : (scatter_S1000x4x32_S100000x1_S100000x4x32_12_0_0_1).start (ix3 n p j) (column ids) 2 = 0 := rfl
  have w0 : (scatter_S1000x4x32_S100000x1_S100000x4x32_12_0_0_1).window (ix3 n p j) 0 = 0 := rfl
  have w1 : (scatter_S1000x4x32_S100000x1_S100000x4x32_12_0_0_1).window (ix3 n p j) 1 = p.val := rfl
  have w2 : (scatter_S1000x4x32_S100000x1_S100000x4x32_12_0_0_1).window (ix3 n p j) 2 = j.val := rfl
  constructor
  · intro h
    have e0 := h 0
    have e1 := h 1
    have e2 := h 2
    rw [h0, w0] at e0
    rw [h1, w1] at e1
    rw [h2, w2] at e2
    have e0' : (seg ids n : ℤ) + 0 = (b.val : ℤ) := e0
    have e1' : (0 : ℤ) + p.val = (q.val : ℤ) := e1
    have e2' : (0 : ℤ) + j.val = (k.val : ℤ) := e2
    exact ⟨by omega, Fin.ext (by omega), Fin.ext (by omega)⟩
  · rintro ⟨e, rfl, rfl⟩ a
    fin_cases a
    · show (scatter_S1000x4x32_S100000x1_S100000x4x32_12_0_0_1).start (ix3 n p j) (column ids) 0 + ((scatter_S1000x4x32_S100000x1_S100000x4x32_12_0_0_1).window (ix3 n p j) 0 : ℤ) = (b.val : ℤ)
      rw [h0, w0]; omega
    · show (scatter_S1000x4x32_S100000x1_S100000x4x32_12_0_0_1).start (ix3 n p j) (column ids) 1 + ((scatter_S1000x4x32_S100000x1_S100000x4x32_12_0_0_1).window (ix3 n p j) 1 : ℤ) = (p.val : ℤ)
      rw [h1, w1]; omega
    · show (scatter_S1000x4x32_S100000x1_S100000x4x32_12_0_0_1).start (ix3 n p j) (column ids) 2 + ((scatter_S1000x4x32_S100000x1_S100000x4x32_12_0_0_1).window (ix3 n p j) 2 : ℤ) = (j.val : ℤ)
      rw [h2, w2]; omega

include hr in
theorem sums_entry (u : FVec Ideal S100000x4x32 .f32) (b : Fin 1000) (p : Fin 4) (k : Fin 32) :
    (sums u ids (ix3 b p k) : EReal) = ∑ n : Fin 100000, if seg ids n = b.val then (u (ix3 n p k) : EReal) else 0 := by
  show Ideal.ofBits .f32 0x00000000#32 + ∑ j ∈ Finset.univ.filter (fun j => (scatter_S1000x4x32_S100000x1_S100000x4x32_12_0_0_1).resultIdx? j (column ids) = some (ix3 b p k)), (u j : EReal) = _
  rw [Ideal.ofBits_zero_f32, zero_add, ← Finset.sum_filter]
  have ej : ∀ j : S100000x4x32.Idx, ∃ (n : Fin 100000) (q : Fin 4) (i : Fin 32), j = ix3 n q i := fun j => ⟨j 0, j 1, j 2, by funext a; fin_cases a <;> rfl⟩
  refine Finset.sum_nbij' (fun j => j 0) (fun n => ix3 n p k) ?_ ?_ ?_ ?_ ?_
  · intro j hj
    obtain ⟨n, q, i, rfl⟩ := ej j
    have h1 := (lands_feats hr n q p i k b).1 (Finset.mem_filter.1 hj).2
    exact Finset.mem_filter.2 ⟨Finset.mem_univ _, h1.1⟩
  · intro n hn
    exact Finset.mem_filter.2 ⟨Finset.mem_univ _, (lands_feats hr n p p k k b).2 ⟨(Finset.mem_filter.1 hn).2, rfl, rfl⟩⟩
  · intro j hj
    obtain ⟨n, q, i, rfl⟩ := ej j
    have h1 := (lands_feats hr n q p i k b).1 (Finset.mem_filter.1 hj).2
    obtain ⟨-, rfl, rfl⟩ := h1; rfl
  · intro n hn; rfl
  · intro j hj
    obtain ⟨n, q, i, rfl⟩ := ej j
    have h1 := (lands_feats hr n q p i k b).1 (Finset.mem_filter.1 hj).2
    obtain ⟨-, rfl, rfl⟩ := h1; rfl

theorem spread_entry (y : FVec Ideal S100000x4 .f32) (n : Fin 100000) (p : Fin 4) (j : Fin 32) :
    broadcastInDim S100000x4x32 ![0, 1, 2] bcast_S100000x4x1_S100000x4x32_0_1_2
      (broadcastInDim S100000x4x1 ![0, 1] bcast_S100000x4_S100000x4x1_0_1 y) (ix3 n p j) = y (ix2 n p) := by
  refine (broadcastInDim_apply _ _ _ _ (ix3 n p (0 : Fin 1)) (fun a => by fin_cases a <;> rfl)).trans ?_
  exact broadcastInDim_apply _ _ _ _ (ix2 n p) (fun a => by fin_cases a <;> rfl)

/-- The quotient of two arrays, one entry. -/
theorem quotient_entry (x y : FVec Ideal S100000x4 .f32) (i : S100000x4.Idx) :
    (Host.divf x y i : EReal) = Ideal.div (x i) (y i) := hostDivf_apply x y i

/-- The product of two arrays, one entry. -/
theorem product_entry (u v : FVec Ideal S100000x4x32 .f32) (i : S100000x4x32.Idx) :
    (mulf u v i : EReal) = (u i : EReal) * (v i : EReal) := rfl

theorem shares_entry (hv : FVec Ideal S100000x4x32 .f32) (e : FVec Ideal S100000x4 .f32) (n : Fin 100000) (p : Fin 4) (j : Fin 32) :
    (shares hv e ids (ix3 n p j) : EReal) = (hv (ix3 n p j) : EReal) * Ideal.div (e (ix2 n p)) (denoms e ids (ix2 (at_ hr n) p)) := by
  unfold shares
  refine (product_entry _ _ _).trans ?_
  rw [spread_entry, quotient_entry, takeHeads_entry hr]

theorem exps_entry (z : FVec Ideal S100000x4 .f32) (n : Fin 100000) (p : Fin 4) :
    (exps z ids (ix2 n p) : EReal) = Ideal.exp ((z (ix2 n p) : EReal) - maxima z ids (ix2 (at_ hr n) p)) :=
  congrArg (fun y : EReal => Ideal.exp ((z (ix2 n p) : EReal) - y)) (takeHeads_entry hr _ n p)

theorem layer_entry (x : FVec Ideal S1000x128 .f32) (w : FVec Ideal S128x128 .f32) (b : FVec Ideal S128 .f32) (i : Fin 1000) (k : Fin 128) :
    (layer x w b (ix2 i k) : EReal) = (∑ j : Fin 128, (x (ix2 i j) : EReal) * w (ix2 k j)) + b (ix1 k) := by
  refine congrArg₂ (fun x y : EReal => x + y) ?_ ?_
  · refine (Ideal.dotGeneral_apply dot_S1000x128_S128x128_S1000x128_1_0_0_1_n_n none _ x _ (ix2 i k)).trans ?_
    rw [← (contrEquiv1 dot_S1000x128_S128x128_S1000x128_1_0_0_1_n_n 128 rfl rfl).symm.sum_comp]
    refine Finset.sum_congr rfl fun j _ => ?_
    have hl : (dot_S1000x128_S128x128_S1000x128_1_0_0_1_n_n).lhsIdx (ix2 i k) ((contrEquiv1 dot_S1000x128_S128x128_S1000x128_1_0_0_1_n_n 128 rfl rfl).symm j) = ix2 i j := by
      funext a; fin_cases a <;> rfl
    have hrr : (dot_S1000x128_S128x128_S1000x128_1_0_0_1_n_n).rhsIdx (ix2 i k) ((contrEquiv1 dot_S1000x128_S128x128_S1000x128_1_0_0_1_n_n 128 rfl rfl).symm j) = ix2 j k := by
      funext a; fin_cases a <;> rfl
    rw [hl, hrr]
    exact congrArg (fun y : EReal => (x (ix2 i j) : EReal) * y) (transpose_ix2_apply w _ j k)
  · refine (broadcastInDim_apply _ _ _ _ (ix2 (0 : Fin 1) k) (fun a => by fin_cases a <;> rfl)).trans ?_
    exact broadcastInDim_apply _ _ _ _ (ix1 k) (fun a => by fin_cases a; rfl)

/-- The two layers, entry by entry. -/
theorem finish_entry (he : FVec Ideal S1000x4x32 .f32) (a1 : FVec Ideal S1000x128 .f32) (w₁ : FVec Ideal S128x128 .f32) (b₁ : FVec Ideal S128 .f32)
    (w₂ : FVec Ideal S128x128 .f32) (b₂ : FVec Ideal S128 .f32) (b : Fin 1000) (l : Fin 128) :
    (finish he a1 w₁ b₁ w₂ b₂ (ix2 b l) : EReal)
      = layers a1 w₁ b₁ w₂ b₂ (fun b j => he (ix3 b ⟨j.val / 32, by have := j.isLt; omega⟩ ⟨j.val % 32, Nat.mod_lt _ (by decide)⟩)) b l := by
  unfold layers
  refine congrArg (fun x : EReal => x + a1 (ix2 b l)) ((layer_entry _ _ _ b l).trans ?_)
  refine congrArg (fun x : EReal => x + b₂ (ix1 l)) (Finset.sum_congr rfl fun k _ => ?_)
  refine congrArg (fun x : EReal => x * w₂ (ix2 l k)) ?_
  refine congrArg₂ (fun x y : EReal => max x y) ((layer_entry _ _ _ b k).trans ?_) Ideal.ofBits_zero_f32
  refine congrArg (fun x : EReal => x + b₁ (ix1 k)) (Finset.sum_congr rfl fun j _ => ?_)
  refine congrArg (fun x : EReal => x * w₁ (ix2 k j)) (shapeCast_apply _ _ _ _ ?_)
  refine (Shape.rowMajor_val_three (d := ![1000, 4, 32]) _).trans (Eq.trans ?_ (Shape.rowMajor_val_two (d := ![1000, 128]) _).symm)
  show (b.val * 4 + j.val / 32) * 32 + j.val % 32 = b.val * 128 + j.val
  omega

end Cert.ReferenceIdeal.Pool
-- ==== Proof.RefMax.lean ====
/- The largest score of a segment that has a node is a real number. -/
module
public import proofs.«01_k».proof.Proof.RefReads

@[expose] public section

set_option maxRecDepth 16384

noncomputable section

namespace Cert.ReferenceIdeal.Pool

open Cert.ReferenceIdeal Cert.ReferenceIdeal.Gen Cert.Pool Idealize.ShloMosaic.TcCoe Idealize.ShloMosaic.ValueIdx
open Idealize.ShloMosaic hiding ix1 ix2 ix3

variable {ids : IVec S100000 32} (hr : InRange ids)

theorem word_bot : Ideal.ofBits .f32 0xFF800000#32 = ⊥ := by
  simp [Ideal.ofBits, Ideal.ieee]

include hr in
theorem member_entry (n : Fin 100000) (b : Fin 1000) : member ids (ix2 n b) = BitVec.ofBool (decide (seg ids n = b.val)) := by
  have h1 : broadcastInDim S100000x1000 ![0, 1] bcast_S100000x1_S100000x1000_0_1 (column ids) (ix2 n b) = ids (ix1 n) :=
    (broadcastInDim_apply _ _ _ _ (ix2 n (0 : Fin 1)) (fun a => by fin_cases a <;> rfl)).trans (column_entry n)
  have h2 : broadcastInDim S100000x1000 ![0, 1] bcast_S1x1000_S100000x1000_0_1 (broadcastInDim S1x1000 ![1] bcast_S1000_S1x1000_1 (iotaInDim S1000 32 0)) (ix2 n b)
      = BitVec.ofNat 32 b.val := by
    refine (broadcastInDim_apply _ _ _ _ (ix2 (0 : Fin 1) b) (fun a => by fin_cases a <;> rfl)).trans ?_
    exact (broadcastInDim_apply _ _ _ _ (ix1 b) (fun a => by fin_cases a; rfl)).trans rfl
  have h3 : member ids (ix2 n b) = IntOp.cmpi .eq (ids (ix1 n)) (BitVec.ofNat 32 b.val) := congrArg₂ (fun x y => IntOp.cmpi .eq x y) h1 h2
  rw [h3, WordCmp.cmpi_eq_eq, id_word hr n]
  refine congrArg BitVec.ofBool (decide_eq_decide.2 ⟨fun e => ?_, fun e => ?_⟩)
  · have e1 := congrArg BitVec.toNat e
    rw [BitVec.toNat_ofNat, BitVec.toNat_ofNat, Nat.mod_eq_of_lt (by have := (at_ hr n).isLt; omega), Nat.mod_eq_of_lt (by have := b.isLt; omega)] at e1
    exact e1
  · exact congrArg (BitVec.ofNat 32) (show (at_ hr n).val = b.val from e)

include hr in
theorem masked_entry (z : FVec Ideal S100000x4 .f32) (n : Fin 100000) (b : Fin 1000) (p : Fin 4) :
    (masked z ids (ix3 n b p) : EReal) = if seg ids n = b.val then (z (ix2 n p) : EReal) else ⊥ := by
  have hc : broadcastInDim S100000x1000x4 ![0, 1, 2] bcast_S100000x1000x1_S100000x1000x4_0_1_2
      (broadcastInDim S100000x1000x1 ![0, 1] bcast_S100000x1000_S100000x1000x1_0_1 (member ids)) (ix3 n b p) = BitVec.ofBool (decide (seg ids n = b.val)) := by
    refine (broadcastInDim_apply _ _ _ _ (ix3 n b (0 : Fin 1)) (fun a => by fin_cases a <;> rfl)).trans ?_
    exact (broadcastInDim_apply _ _ _ _ (ix2 n b) (fun a => by fin_cases a <;> rfl)).trans (member_entry hr n b)
  have hz : broadcastInDim S100000x1000x4 ![0, 1, 2] bcast_S100000x1x4_S100000x1000x4_0_1_2 (broadcastInDim S100000x1x4 ![0, 2] bcast_S100000x4_S100000x1x4_0_2 z) (ix3 n b p)
      = z (ix2 n p) := by
    refine (broadcastInDim_apply _ _ _ _ (ix3 n (0 : Fin 1) p) (fun a => by fin_cases a <;> rfl)).trans ?_
    exact broadcastInDim_apply _ _ _ _ (ix2 n p) (fun a => by fin_cases a <;> rfl)
  unfold masked
  show Scalar.select (broadcastInDim S100000x1000x4 ![0, 1, 2] bcast_S100000x1000x1_S100000x1000x4_0_1_2
      (broadcastInDim S100000x1000x1 ![0, 1] bcast_S100000x1000_S100000x1000x1_0_1 (member ids)) (ix3 n b p))
    (broadcastInDim S100000x1000x4 ![0, 1, 2] bcast_S100000x1x4_S100000x1000x4_0_1_2 (broadcastInDim S100000x1x4 ![0, 2] bcast_S100000x4_S100000x1x4_0_2 z) (ix3 n b p))
    (Ideal.ofBits .f32 0xFF800000#32) = _
  rw [hc, hz, word_bot]
  by_cases h : seg ids n = b.val
  · rw [if_pos h, decide_eq_true h]; rfl
  · rw [if_neg h, decide_eq_false h]; rfl

theorem maxima_fold (z : FVec Ideal S100000x4 .f32) (b : Fin 1000) (p : Fin 4) :
    (maxima z ids (ix2 b p) : EReal) = (Finset.univ : Finset (Fin 100000)).fold max (⊥ : EReal) (fun n => (masked z ids (ix3 n b p) : EReal)) := by
  rw [← word_bot]
  refine (Host.reduce_eq_fold (α := EReal) max (masked z ids) (constant (F := Ideal) S_ .f32 0xFF800000#32) reducesTo_S100000x1000x4_S1000x4_d0 h_S_ (ix2 b p)).trans ?_
  exact Shape.ReducesTo.fold_fiber_r3_a0 reducesTo_S100000x1000x4_S1000x4_d0 (ix2 b p) (α := EReal) max _ (masked z ids)

theorem maxima_real (z : FVec Ideal S100000x4 .f32) (hz : ∀ n p, (z (ix2 n p) : EReal) ≠ ⊥ ∧ (z (ix2 n p) : EReal) ≠ ⊤) (n : Fin 100000) (p : Fin 4) :
    (maxima z ids (ix2 (at_ hr n) p) : EReal) ≠ ⊥ ∧ (maxima z ids (ix2 (at_ hr n) p) : EReal) ≠ ⊤ := by
  rw [maxima_fold]
  constructor
  · have h1 : (z (ix2 n p) : EReal) ≤ (Finset.univ : Finset (Fin 100000)).fold max (⊥ : EReal) (fun n' => (masked z ids (ix3 n' (at_ hr n) p) : EReal)) :=
      Finset.le_fold_max _ |>.2 (Or.inr ⟨n, Finset.mem_univ _, by rw [masked_entry hr, if_pos (show seg ids n = (at_ hr n).val from rfl)]⟩)
    intro e
    rw [e] at h1
    exact (hz n p).1 (le_bot_iff.1 h1)
  · refine ne_of_lt ((Finset.fold_max_lt _).2 ⟨bot_lt_top, fun n' _ => ?_⟩)
    rw [masked_entry hr]
    split
    · exact lt_top_iff_ne_top.2 (hz n' p).2
    · exact bot_lt_top

end Cert.ReferenceIdeal.Pool
-- ==== Proof.RefReal.lean ====
/- The softmax over a segment in real numbers: the largest score cancels, and the graph's features come out of the sum. -/
module
public import proofs.«01_k».proof.Proof.Spec

@[expose] public section

noncomputable section

namespace Cert.Pool

/-- The shares of one segment: subtracting the same number from every score changes no share, and the shares sum to one. -/
theorem softmax_sum {ι : Type*} [Fintype ι] (P : ι → Prop) [DecidablePred P] (s x : ι → ℝ) (g M : ℝ) :
    (∑ n, if P n then (g + x n) * (Real.exp (s n - M) / ∑ k, if P k then Real.exp (s k - M) else 0) else 0)
      = if 0 < ∑ n, (if P n then Real.exp (s n) else 0) then
          (∑ n, if P n then x n * Real.exp (s n) else 0) / (∑ n, if P n then Real.exp (s n) else 0) + g else 0 := by
  have hD : (∑ k, if P k then Real.exp (s k - M) else 0) = (∑ n, if P n then Real.exp (s n) else 0) * Real.exp (-M) := by
    rw [Finset.sum_mul]
    refine Finset.sum_congr rfl fun k _ => ?_
    split
    · rw [sub_eq_add_neg, Real.exp_add]
    · rw [zero_mul]
  have hT : 0 ≤ ∑ n, (if P n then Real.exp (s n) else 0) := Finset.sum_nonneg fun n _ => by
    split
    · exact (Real.exp_pos _).le
    · exact le_rfl
  rw [hD]
  generalize hTe : (∑ n, if P n then Real.exp (s n) else 0) = T at hT ⊢
  have hs : (∑ n, if P n then (g + x n) * (Real.exp (s n - M) / (T * Real.exp (-M))) else 0)
      = (g * T + ∑ n, if P n then x n * Real.exp (s n) else 0) / T := by
    rw [← hTe, Finset.mul_sum, ← Finset.sum_add_distrib, Finset.sum_div]
    refine Finset.sum_congr rfl fun n _ => ?_
    split
    · rw [sub_eq_add_neg, Real.exp_add, mul_div_mul_right _ _ (Real.exp_pos _).ne', ← add_mul, mul_div_assoc]
    · rw [mul_zero, zero_add, zero_div]
  rw [hs]
  by_cases h : 0 < T
  · rw [if_pos h, add_div, mul_div_assoc, div_self h.ne', mul_one, add_comm]
  · rw [if_neg h, le_antisymm (not_lt.1 h) hT, div_zero]

end Cert.Pool
-- ==== Proof.RefValue.lean ====
/- The reference's result for sound arguments: the two layers over the pooled features. -/
module
public import proofs.«01_k».proof.Proof.RefMax
public import proofs.«01_k».proof.Proof.RefReal

@[expose] public section

set_option maxRecDepth 16384

noncomputable section

namespace Cert.ReferenceIdeal.Pool

open Cert.ReferenceIdeal Cert.ReferenceIdeal.Gen Cert.Pool Idealize.ShloMosaic.TcCoe Idealize.ShloMosaic.ValueIdx
open Idealize.ShloMosaic hiding ix1 ix2 ix3

/-- A sum of real numbers is real. -/
theorem real_sum {ι : Type*} (s : Finset ι) (f : ι → ℝ) : ∑ i ∈ s, ((f i : ℝ) : EReal) = ((∑ i ∈ s, f i : ℝ) : EReal) :=
  (map_sum (⟨⟨fun x : ℝ => (x : EReal), EReal.coe_zero⟩, EReal.coe_add⟩ : ℝ →+ EReal) f s).symm

/-- A sum of real numbers over the indices of a condition. -/
theorem real_sum_if {ι : Type*} [Fintype ι] (P : ι → Prop) [DecidablePred P] (f : ι → EReal) (g : ι → ℝ) (h : ∀ i, P i → f i = (g i : ℝ)) :
    ∑ i, (if P i then f i else 0) = ((∑ i, if P i then g i else 0 : ℝ) : EReal) := by
  rw [← real_sum]
  refine Finset.sum_congr rfl fun i _ => ?_
  by_cases hp : P i
  · rw [if_pos hp, if_pos hp, h i hp]
  · rw [if_neg hp, if_neg hp, EReal.coe_zero]

/-- A sum against the block diagonal is a sum over the head's lanes. -/
theorem lanes_sum (a4 : FVec Ideal S1x4x32 .f32) (f : Fin 128 → ℝ) (p : Fin 4) (j : Fin 32) :
    ∑ d : Fin 128, f d * awR a4 d (lane p j) = ∑ i : Fin 32, f (lane p i) * attR a4 (lane p i) := by
  have hl : (lane p j).val / 32 = p.val := by show (p.val * 32 + j.val) / 32 = p.val; omega
  have e : ∀ d : Fin 128, f d * awR a4 d (lane p j) = if d.val / 32 = p.val then f d * attR a4 d else 0 := fun d => by
    unfold awR
    rw [hl, mul_ite, mul_zero]
  rw [Finset.sum_congr rfl fun d _ => e d, ← Finset.sum_filter]
  refine Finset.sum_nbij' (fun d => (⟨d.val % 32, Nat.mod_lt _ (by decide)⟩ : Fin 32)) (fun i => lane p i) ?_ ?_ ?_ ?_ ?_
  · intro d _; exact Finset.mem_univ _
  · intro i _
    refine Finset.mem_filter.2 ⟨Finset.mem_univ _, ?_⟩
    show (p.val * 32 + i.val) / 32 = p.val
    omega
  · intro d hd
    have h1 := (Finset.mem_filter.1 hd).2
    refine Fin.ext ?_
    show p.val * 32 + d.val % 32 = d.val
    omega
  · intro i _
    refine Fin.ext ?_
    show (p.val * 32 + i.val) % 32 = i.val
    omega
  · intro d hd
    have h1 := (Finset.mem_filter.1 hd).2
    have h2 : lane p (⟨d.val % 32, Nat.mod_lt _ (by decide)⟩ : Fin 32) = d := Fin.ext (by
      show p.val * 32 + d.val % 32 = d.val
      omega)
    rw [h2]

variable {a0 : FVec Ideal S100000x128 .f32} {a1 : FVec Ideal S1000x128 .f32} {a2 : FVec Ideal S100000x1 .f32}
  {ids : IVec S100000 32} {a4 : FVec Ideal S1x4x32 .f32} (h : Sound a0 a1 a2 ids a4)

include h in
theorem att_lane (p : Fin 4) (j : Fin 32) : (a4 (ix3 0 p j) : EReal) = (attR a4 (lane p j) : ℝ) := by
  have e := att_eq h (lane p j)
  have hp : (⟨(lane p j).val / 32, by have := (lane p j).isLt; omega⟩ : Fin 4) = p := Fin.ext (by
    show (p.val * 32 + j.val) / 32 = p.val; omega)
  have hj : (⟨(lane p j).val % 32, Nat.mod_lt _ (by decide)⟩ : Fin 32) = j := Fin.ext (by
    show (p.val * 32 + j.val) % 32 = j.val; omega)
  rw [hp, hj] at e
  exact e

include h in
theorem feats_real (n : Fin 100000) (p : Fin 4) (j : Fin 32) :
    (feats a0 a1 ids (ix3 n p j) : EReal) = (graphR a1 (at_ h.range n) (lane p j) + nodeR a0 n (lane p j) : ℝ) := by
  rw [feats_entry h.range, graph_eq h, node_eq h, EReal.coe_add]

theorem score_lane (n : Fin 100000) (p : Fin 4) (j : Fin 32) :
    score a0 a1 a2 ids a4 n (lane p j)
      = (∑ i : Fin 32, (graphR a1 (at_ h.range n) (lane p i) + nodeR a0 n (lane p i)) * attR a4 (lane p i)) * degR a2 n := by
  unfold score gzR
  rw [dif_pos (seg_lt h n), lanes_sum, lanes_sum, ← Finset.sum_add_distrib]
  refine congrArg (fun x : ℝ => x * degR a2 n) (Finset.sum_congr rfl fun i _ => ?_)
  exact (add_mul _ _ _).symm

include h in
theorem scores_real (n : Fin 100000) (p : Fin 4) (j : Fin 32) :
    (scores (feats a0 a1 ids) a2 a4 (ix2 n p) : EReal) = (score a0 a1 a2 ids a4 n (lane p j) : ℝ) := by
  rw [scores_entry, deg_eq h, score_lane h, EReal.coe_mul, ← real_sum]
  refine congrArg (fun x : EReal => x * (degR a2 n : ℝ)) (Finset.sum_congr rfl fun i _ => ?_)
  rw [feats_real h, att_lane h, EReal.coe_mul]

/-- The largest score of graph `b` at head `p`, as a real number. -/
def top (a0 : FVec Ideal S100000x128 .f32) (a1 : FVec Ideal S1000x128 .f32) (a2 : FVec Ideal S100000x1 .f32)
    (ids : IVec S100000 32) (a4 : FVec Ideal S1x4x32 .f32) (b : Fin 1000) (p : Fin 4) : ℝ :=
  EReal.toReal (maxima (scores (feats a0 a1 ids) a2 a4) ids (ix2 b p))

theorem top_eq (n : Fin 100000) (p : Fin 4) :
    (maxima (scores (feats a0 a1 ids) a2 a4) ids (ix2 (at_ h.range n) p) : EReal) = (top a0 a1 a2 ids a4 (at_ h.range n) p : ℝ) := by
  have h1 := maxima_real h.range (scores (feats a0 a1 ids) a2 a4) (fun n p => by
    rw [scores_real h n p 0]
    exact ⟨EReal.coe_ne_bot _, EReal.coe_ne_top _⟩) n p
  exact (EReal.coe_toReal h1.2 h1.1).symm

theorem exps_real (n : Fin 100000) (p : Fin 4) (j : Fin 32) :
    (exps (scores (feats a0 a1 ids) a2 a4) ids (ix2 n p) : EReal)
      = (Real.exp (score a0 a1 a2 ids a4 n (lane p j) - top a0 a1 a2 ids a4 (at_ h.range n) p) : ℝ) := by
  rw [exps_entry h.range, top_eq h, scores_real h n p j, ← EReal.coe_sub]
  rfl

theorem at_eq {n : Fin 100000} {b : Fin 1000} (e : seg ids n = b.val) : at_ h.range n = b := Fin.ext e

include h in
theorem denoms_real (b : Fin 1000) (p : Fin 4) (j : Fin 32) :
    (denoms (exps (scores (feats a0 a1 ids) a2 a4) ids) ids (ix2 b p) : EReal)
      = ((∑ n : Fin 100000, if seg ids n = b.val then Real.exp (score a0 a1 a2 ids a4 n (lane p j) - top a0 a1 a2 ids a4 b p) else 0 : ℝ) : EReal) := by
  rw [denoms_entry h.range]
  refine real_sum_if (fun n : Fin 100000 => seg ids n = b.val) _ _ fun n e => ?_
  rw [exps_real h n p j, at_eq h e]

include h in
theorem shares_real (n : Fin 100000) (b : Fin 1000) (e : seg ids n = b.val) (p : Fin 4) (j : Fin 32) :
    (shares (feats a0 a1 ids) (exps (scores (feats a0 a1 ids) a2 a4) ids) ids (ix3 n p j) : EReal)
      = ((graphR a1 b (lane p j) + nodeR a0 n (lane p j)) * (Real.exp (score a0 a1 a2 ids a4 n (lane p j) - top a0 a1 a2 ids a4 b p)
        / ∑ k : Fin 100000, if seg ids k = b.val then Real.exp (score a0 a1 a2 ids a4 k (lane p j) - top a0 a1 a2 ids a4 b p) else 0) : ℝ) := by
  have hpos : 0 < ∑ k : Fin 100000, if seg ids k = b.val then Real.exp (score a0 a1 a2 ids a4 k (lane p j) - top a0 a1 a2 ids a4 b p) else 0 := by
    refine Finset.sum_pos' (fun k _ => ?_) ⟨n, Finset.mem_univ _, ?_⟩
    · split
      · exact (Real.exp_pos _).le
      · exact le_rfl
    · rw [if_pos e]; exact Real.exp_pos _
  rw [shares_entry h.range, feats_real h, exps_real h n p j, at_eq h e, denoms_real h b p j, Ideal.div_coe hpos.ne', ← EReal.coe_mul, mul_one_div,
    ← EReal.coe_mul]

include h in
theorem sums_real (b : Fin 1000) (p : Fin 4) (j : Fin 32) :
    (sums (shares (feats a0 a1 ids) (exps (scores (feats a0 a1 ids) a2 a4) ids) ids) ids (ix3 b p j) : EReal)
      = (pooled a0 a1 a2 ids a4 b (lane p j) : ℝ) := by
  rw [sums_entry h.range]
  refine (real_sum_if (fun n : Fin 100000 => seg ids n = b.val) _ _ fun n e => shares_real h n b e p j).trans ?_
  exact congrArg (fun x : ℝ => (x : EReal)) (softmax_sum (fun n : Fin 100000 => seg ids n = b.val) (fun n => score a0 a1 a2 ids a4 n (lane p j))
    (fun n => nodeR a0 n (lane p j)) (graphR a1 b (lane p j)) (top a0 a1 a2 ids a4 b p))

include h in
/-- The reference's result. -/
theorem whole_eq (a5 : FVec Ideal S128x128 .f32) (a6 : FVec Ideal S128 .f32) (a7 : FVec Ideal S128x128 .f32) (a8 : FVec Ideal S128 .f32) :
    whole a0 a1 a2 ids a4 a5 a6 a7 a8
      = fun i => layers a1 a5 a6 a7 a8 (fun b j => ((pooled a0 a1 a2 ids a4 b j : ℝ) : EReal)) (i 0) (i 1) := by
  funext i
  obtain ⟨b, l, rfl⟩ : ∃ (b : Fin 1000) (l : Fin 128), i = ix2 b l := ⟨i 0, i 1, by funext a; fin_cases a <;> rfl⟩
  unfold whole
  refine (finish_entry _ a1 a5 a6 a7 a8 b l).trans ?_
  refine congrArg (fun he => layers a1 a5 a6 a7 a8 he b l) (funext fun b => funext fun j => ?_)
  refine (sums_real h b _ _).trans ?_
  refine congrArg (fun x => ((pooled a0 a1 a2 ids a4 b x : ℝ) : EReal)) (Fin.ext ?_)
  show j.val / 32 * 32 + j.val % 32 = j.val
  omega

end Cert.ReferenceIdeal.Pool
-- ==== Proof.Agree.lean ====
/- The value claim: kernel and reference end with the same result array. -/
module
public import proofs.«01_k».proof.Proof.Frames
public import proofs.«01_k».proof.Proof.Finish
public import proofs.«01_k».proof.Proof.RefValue

@[expose] public section

noncomputable section

namespace Cert.KernelIdeal.Pool

open Cert.KernelIdeal.Gen Cert.Pool
open Idealize.ShloMosaic Idealize.ShloMosaic.TcCoe Idealize.ShloMosaic.Tactic Idealize.SL.Sem

variable (m : (ℓ : Loc nD τ sig) → Buf (Elt Ideal) ℓ) (ρ : Dev nD → PrngReg) (h : ∀ c, SoundAt m c)

include h in
/-- The kernel runs and leaves `answer` in its result array. -/
theorem result_main : θ_run defs (onTc (τ := τ) (main (F := Ideal))) ⟨m, fun _ => 0, ρ⟩
    (fun r => ∀ c : Dev nD, r.2.mem ((c.tc : Thread nD τ).loc main_v14) = answer m c) :=
  θ_run_mono (run_main m ρ (allChecks m fun c => (h c).range)) fun r hr c =>
    (hr.1.out_eq c 12).trans (result_array (h c) (allChecks m fun c => (h c).range))

end Cert.KernelIdeal.Pool

namespace Cert.Pool

open Idealize.ShloMosaic Idealize.ShloMosaic.TcCoe Idealize.SL.Sem

section
attribute [local instance] Cert.KernelIdeal.Gen.facts Cert.ReferenceIdeal.Gen.facts Cert.Pre_in_range.Gen.facts Cert.Pre_sound.Gen.facts

theorem results_agree : Cert.algebraic_KernelIdeal_ReferenceIdeal_pre_sound := fun m g m' g' hs hm => by
  refine ⟨fun c => Cert.KernelIdeal.Pool.answer m c, ?_, ?_⟩
  · refine θ_run_mono (θ_run_and (Cert.KernelIdeal.Pool.result_main m g (kernel_sound hs)) (kernel_frame_sound m g hs)) fun r hr c => ?_
    exact ⟨hr.1 c, hr.2.1 c⟩
  · refine θ_run_mono (Cert.ReferenceIdeal.Value.run m' g') fun r hr c => ⟨?_, (hr c).2⟩
    refine (hr c).1.trans ((Cert.ReferenceIdeal.Pool.result_eq m' c).trans ?_)
    obtain ⟨e0, e1, e2, e3, e4, e5, e6, e7, e8⟩ := hm c
    rw [e0, e1, e2, e3, e4, e5, e6, e7, e8]
    exact Cert.ReferenceIdeal.Pool.whole_eq (kernel_sound hs c) _ _ _ _

end

end Cert.Pool
-- ==== Proof.WRegion.lean ====
/- One window of the pooling body as a rule of the logic: a conditional region that reads a window of one scratch
   buffer and updates another (or the same one), both ways of its condition at once, with what it leaves in closed form. (The second program.) -/
module

public import proofs.«01_k».proof.Proof.Gen.WordsIdeal.Frame
public import proofs.«01_k».proof.Proof.Gen.WordsIdeal.Skeleton
public import Idealize.ShloMosaic.Lib.VecWindow

@[expose] public section

set_option maxRecDepth 16384

noncomputable section

namespace Cert.WordsIdeal.Pool

open Cert.WordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a gather region leaves in the weight buffer `w`: under its condition `C` the update of `w` by the window of `gz`
at `off`, else `w` itself. -/
def gathered {C : Prop} [dec : Decidable C] (off : Fin 2 → ℕ) (inb : C → ∀ a, off a + S128x128.size a ≤ S1152x128.size a)
    (pay : Vec F S128x128 .bf16 → Vec F S4000x128 .bf16 → Vec F S4000x128 .bf16) (gz : Vec F S1152x128 .bf16)
    (w : Vec F S4000x128 .bf16) : Vec F S4000x128 .bf16 :=
  @dite _ C dec (fun h => pay (VecWindow.window gz off S128x128.size (inb h)) w) (fun _ => w)

/-- What a scatter region leaves in the accumulator `sd`: under its condition `C` the window at `off` updated, else `sd`. -/
def scattered {C : Prop} [dec : Decidable C] (off : Fin 2 → ℕ) (inb : C → ∀ a, off a + S128x256.size a ≤ S1152x256.size a)
    (pay : Vec F S128x256 .f32 → Vec F S128x256 .f32) (sd : Vec F S1152x256 .f32) : Vec F S1152x256 .f32 :=
  @dite _ C dec (fun h => VecWindow.put sd off S128x256.size (pay (VecWindow.window sd off S128x256.size (inb h)))) (fun _ => sd)

/-- A gather region: with the projected table at `gz` and the weights at `w`, it goes on to `J` with the weights at
`gathered`, whichever way its condition goes. -/
theorem gather_region (c : Dev nD) (gzb : Memref sig .tc .vmem S1152x128 .bf16) (hgz : gzb.IsWhole)
    (wb : Memref sig .tc .vmem S4000x128 .bf16) (hw : wb.IsWhole) {C : Prop} (dec : Decidable C) (off : Fin 2 → ℕ)
    (inb : C → ∀ a, off a + S128x128.size a ≤ S1152x128.size a)
    (pay : Vec F S128x128 .bf16 → Vec F S4000x128 .bf16 → Vec F S4000x128 .bf16)
    (gz : Vec F S1152x128 .bf16) (w : Vec F S4000x128 .bf16)
    (hl1 : ∀ h, gzb.view.LoadsAt (Rect.unit (s := S1152x128) off S128x128.size (inb h)).toLoadRect)
    (hl2 : wb.view.LoadsAt (Rect.unit (s := S4000x128) ![0, 0] S4000x128.size inb_S4000x128_S4000x128_0_0).toLoadRect)
    (hx : (wb.access (Rect.unit (s := S4000x128) ![0, 0] S4000x128.size inb_S4000x128_S4000x128_0_0)).Stores Finset.univ)
    (hm : (Finset.univ : Finset (Rect.unit (s := S4000x128) ![0, 0] S4000x128.size inb_S4000x128_S4000x128_0_0).shape.Idx) = Finset.univ
      ∨ ∀ a, (Rect.unit (s := S4000x128) ![0, 0] S4000x128.size inb_S4000x128_S4000x128_0_0).stride a = 1)
    {α : Type} (J : Prog (TpuEff nD τ sig (Elt F) Λ₀ .tc) α) (E : Set ℕ) (Q : α → sProp 𝕄) :
    iprop((gzb.view.loc (c : Thread nD τ) ↦[gzb.view.set]{fullShare} hgz.unread gz)
        ∗ (wb.view.loc (c : Thread nD τ) ↦[wb.view.set]{fullShare} hw.unread w)
        ∗ (iprop((gzb.view.loc (c : Thread nD τ) ↦[gzb.view.set]{fullShare} hgz.unread gz)
            ∗ (wb.view.loc (c : Thread nD τ) ↦[wb.view.set]{fullShare} hw.unread (gathered (C := C) off inb pay gz w)))
          -∗ wp frame (wpE (defs₀ (F := F)) Variants.none c none) E J Q))
      ⊢ wp frame (wpE (defs₀ (F := F)) Variants.none c none) E
        (@dite _ C dec
          (fun h => do
            let v145 ← Prog.lift (.load gzb (Rect.unit (s := S1152x128) off S128x128.size (inb h)).toLoadRect (hl1 h))
            let v147 ← Prog.lift (.load wb (Rect.unit (s := S4000x128) ![0, 0] S4000x128.size inb_S4000x128_S4000x128_0_0).toLoadRect hl2)
            let _ ← Prog.lift (.load wb (Rect.unit (s := S4000x128) ![0, 0] S4000x128.size inb_S4000x128_S4000x128_0_0).toLoadRect hl2)
            Prog.lift (.store wb (Rect.unit (s := S4000x128) ![0, 0] S4000x128.size inb_S4000x128_S4000x128_0_0) (pay v145 v147) Finset.univ hx hm)
            J)
          (fun _ => J)) Q := by
  by_cases h : C
  · rw [dif_pos h]
    iintro ⟨HG, HW, Hk⟩
    sl_exec
    have e : wb.view.writes (Elt F) (hw.unread w) [⟨Rect.unit ![0, 0] S4000x128.size inb_S4000x128_S4000x128_0_0,
        pay (View.readAt (Elt F) gzb.view (Rect.unit (s := S1152x128) off S128x128.size (inb h)).toLoadRect (hgz.unread gz))
          (View.readAt (Elt F) wb.view (Rect.unit (s := S4000x128) ![0, 0] S4000x128.size inb_S4000x128_S4000x128_0_0).toLoadRect (hw.unread w))⟩]
        = hw.unread (gathered (C := C) off inb pay gz w) := hw.eq_unread (by
      rw [View.read_writes_full, View.readAt_full, hw.read_unread, View.readAt_unit _ _ _ rfl (inb h), hgz.read_unread]
      unfold gathered; rw [dif_pos h])
    iapply Hk
    isplitl [HG]; · iexact HG
    rw [← e]
    iexact HW
  · rw [dif_neg h]
    iintro ⟨HG, HW, Hk⟩
    iapply Hk
    isplitl [HG]; · iexact HG
    rw [show gathered (C := C) off inb pay gz w = w from dif_neg h]
    iexact HW

/-- A scatter region: with the accumulator at `sd`, it goes on to `J` with the accumulator at `scattered`, whichever way
its condition goes. -/
theorem scatter_region (c : Dev nD) (sdb : Memref sig .tc .vmem S1152x256 .f32) (hsd : sdb.IsWhole)
    {C : Prop} (dec : Decidable C) (off : Fin 2 → ℕ)
    (inb : C → ∀ a, off a + S128x256.size a ≤ S1152x256.size a)
    (pay : Vec F S128x256 .f32 → Vec F S128x256 .f32) (sd : Vec F S1152x256 .f32)
    (hl1 : ∀ h, sdb.view.LoadsAt (Rect.unit (s := S1152x256) off S128x256.size (inb h)).toLoadRect)
    (hx : ∀ h, (sdb.access (Rect.unit (s := S1152x256) off S128x256.size (inb h))).Stores Finset.univ)
    (hm : ∀ h, (Finset.univ : Finset (Rect.unit (s := S1152x256) off S128x256.size (inb h)).shape.Idx) = Finset.univ
      ∨ ∀ a, (Rect.unit (s := S1152x256) off S128x256.size (inb h)).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (iprop(sdb.view.loc (c : Thread nD τ) ↦[sdb.view.set]{fullShare} hsd.unread (scattered (C := C) off inb pay sd))
          -∗ wp frame (wpE (defs₀ (F := F)) Variants.none c none) E J Q))
      ⊢ wp frame (wpE (defs₀ (F := F)) Variants.none c none) E
        (@dite _ C dec
          (fun h => do
            let v145 ← Prog.lift (.load sdb (Rect.unit (s := S1152x256) off S128x256.size (inb h)).toLoadRect (hl1 h))
            let _ ← Prog.lift (.load sdb (Rect.unit (s := S1152x256) off S128x256.size (inb h)).toLoadRect (hl1 h))
            Prog.lift (.store sdb (Rect.unit (s := S1152x256) off S128x256.size (inb h)) (pay v145) Finset.univ (hx h) (hm h))
            J)
          (fun _ => J)) Q := by
  by_cases h : C
  · rw [dif_pos h]
    iintro ⟨HG, Hk⟩
    sl_exec
    have e : sdb.view.writes (Elt F) (hsd.unread sd) [⟨Rect.unit off S128x256.size (inb h),
        pay (View.readAt (Elt F) sdb.view (Rect.unit (s := S1152x256) off S128x256.size (inb h)).toLoadRect (hsd.unread sd))⟩]
        = hsd.unread (scattered (C := C) off inb pay sd) := hsd.eq_unread (by
      rw [View.read_writes_cons_put _ _ (inb h) _ _ rfl, View.readAt_unit _ _ _ rfl (inb h), View.writes_nil, hsd.read_unread]
      unfold scattered; rw [dif_pos h])
    iapply Hk
    rw [← e]
    iexact HG
  · rw [dif_neg h]
    iintro ⟨HG, Hk⟩
    iapply Hk
    rw [show scattered (C := C) off inb pay sd = sd from dif_neg h]
    iexact HG

/-- What the opening region leaves in the projected table: under its condition zero rows with the first thousand replaced by
the projected graph features, else what it held. -/
def seeded {C : Prop} [dec : Decidable C] (g : Vec F S1000x128 .f32) (a : Vec F S128x128 .bf16) (gz : Vec F S1152x128 .bf16) :
    Vec F S1152x128 .bf16 :=
  @ite _ C dec (VecWindow.put (k0_pay16 (F := F)) ![0, 0] S1000x128.size (k0_pay17 g a)) gz

/-- What the opening region leaves in the accumulator: under its condition zeros, else what it held. -/
def cleared {C : Prop} [dec : Decidable C] (sd : Vec F S1152x256 .f32) : Vec F S1152x256 .f32 :=
  @ite _ C dec (k0_pay15 (F := F)) sd

/-- The opening region, both ways of its condition. -/
theorem init_region (c : Dev nD) (sdb : Memref sig .tc .vmem S1152x256 .f32) (hsd : sdb.IsWhole)
    (gzb : Memref sig .tc .vmem S1152x128 .bf16) (hgz : gzb.IsWhole) (gb : Memref sig .tc .vmem S1000x128 .f32) (hg : gb.IsWhole)
    (ab : Memref sig .tc .vmem S128x128 .bf16) (ha : ab.IsWhole)
    {C : Prop} (dec : Decidable C) (sd : Vec F S1152x256 .f32) (gz : Vec F S1152x128 .bf16) (g : Vec F S1000x128 .f32)
    (a : Vec F S128x128 .bf16)
    (hl1 : sdb.view.LoadsAt (Rect.unit (s := S1152x256) ![0, 0] S1152x256.size inb_S1152x256_S1152x256_0_0).toLoadRect)
    (hl2 : gzb.view.LoadsAt (Rect.unit (s := S1152x128) ![0, 0] S1152x128.size inb_S1152x128_S1152x128_0_0).toLoadRect)
    (hl3 : gb.view.LoadsAt (Rect.unit (s := S1000x128) ![0, 0] S1000x128.size inb_S1000x128_S1000x128_0_0).toLoadRect)
    (hl4 : ab.view.LoadsAt (Rect.unit (s := S128x128) ![0, 0] S128x128.size inb_S128x128_S128x128_0_0).toLoadRect)
    (hl5 : gzb.view.LoadsAt (Rect.unit (s := S1152x128) ![0, 0] S1000x128.size inb_S1152x128_S1000x128_0_0).toLoadRect)
    (hx1 : (sdb.access (Rect.unit (s := S1152x256) ![0, 0] S1152x256.size inb_S1152x256_S1152x256_0_0)).Stores Finset.univ)
    (hm1 : (Finset.univ : Finset (Rect.unit (s := S1152x256) ![0, 0] S1152x256.size inb_S1152x256_S1152x256_0_0).shape.Idx) = Finset.univ ∨ ∀ a, (Rect.unit (s := S1152x256) ![0, 0] S1152x256.size inb_S1152x256_S1152x256_0_0).stride a = 1)
    (hx2 : (gzb.access (Rect.unit (s := S1152x128) ![0, 0] S1152x128.size inb_S1152x128_S1152x128_0_0)).Stores Finset.univ)
    (hm2 : (Finset.univ : Finset (Rect.unit (s := S1152x128) ![0, 0] S1152x128.size inb_S1152x128_S1152x128_0_0).shape.Idx) = Finset.univ ∨ ∀ a, (Rect.unit (s := S1152x128) ![0, 0] S1152x128.size inb_S1152x128_S1152x128_0_0).stride a = 1)
    (hx3 : (gzb.access (Rect.unit (s := S1152x128) ![0, 0] S1000x128.size inb_S1152x128_S1000x128_0_0)).Stores Finset.univ)
    (hm3 : (Finset.univ : Finset (Rect.unit (s := S1152x128) ![0, 0] S1000x128.size inb_S1152x128_S1000x128_0_0).shape.Idx) = Finset.univ ∨ ∀ a, (Rect.unit (s := S1152x128) ![0, 0] S1000x128.size inb_S1152x128_S1000x128_0_0).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (gzb.view.loc (c : Thread nD τ) ↦[gzb.view.set]{fullShare} hgz.unread gz)
        ∗ (gb.view.loc (c : Thread nD τ) ↦[gb.view.set]{fullShare} hg.unread g)
        ∗ (ab.view.loc (c : Thread nD τ) ↦[ab.view.set]{fullShare} ha.unread a)
        ∗ (iprop((sdb.view.loc (c : Thread nD τ) ↦[sdb.view.set]{fullShare} hsd.unread (cleared (C := C) sd))
            ∗ (gzb.view.loc (c : Thread nD τ) ↦[gzb.view.set]{fullShare} hgz.unread (seeded (C := C) g a gz))
            ∗ (gb.view.loc (c : Thread nD τ) ↦[gb.view.set]{fullShare} hg.unread g)
            ∗ (ab.view.loc (c : Thread nD τ) ↦[ab.view.set]{fullShare} ha.unread a)) -∗ wp frame (wpE (defs₀ (F := F)) Variants.none c none) E J Q))
      ⊢ wp frame (wpE (defs₀ (F := F)) Variants.none c none) E
        (@dite _ C dec
          (fun _ => do
            let _ ← Prog.lift (.load sdb (Rect.unit (s := S1152x256) ![0, 0] S1152x256.size inb_S1152x256_S1152x256_0_0).toLoadRect hl1)
            Prog.lift (.store sdb (Rect.unit (s := S1152x256) ![0, 0] S1152x256.size inb_S1152x256_S1152x256_0_0) (k0_pay15 (F := F)) Finset.univ hx1 hm1)
            let _ ← Prog.lift (.load gzb (Rect.unit (s := S1152x128) ![0, 0] S1152x128.size inb_S1152x128_S1152x128_0_0).toLoadRect hl2)
            Prog.lift (.store gzb (Rect.unit (s := S1152x128) ![0, 0] S1152x128.size inb_S1152x128_S1152x128_0_0) (k0_pay16 (F := F)) Finset.univ hx2 hm2)
            let v142 ← Prog.lift (.load gb (Rect.unit (s := S1000x128) ![0, 0] S1000x128.size inb_S1000x128_S1000x128_0_0).toLoadRect hl3)
            let v144 ← Prog.lift (.load ab (Rect.unit (s := S128x128) ![0, 0] S128x128.size inb_S128x128_S128x128_0_0).toLoadRect hl4)
            let _ ← Prog.lift (.load gzb (Rect.unit (s := S1152x128) ![0, 0] S1000x128.size inb_S1152x128_S1000x128_0_0).toLoadRect hl5)
            Prog.lift (.store gzb (Rect.unit (s := S1152x128) ![0, 0] S1000x128.size inb_S1152x128_S1000x128_0_0) (k0_pay17 v142 v144) Finset.univ hx3 hm3)
            J)
          (fun _ => J)) Q := by
  by_cases h : C
  · rw [dif_pos h]
    iintro ⟨HS, HG, H1, H2, Hk⟩
    sl_exec
    have e1 : sdb.view.writes (Elt F) (hsd.unread sd) [⟨Rect.unit (s := S1152x256) ![0, 0] S1152x256.size inb_S1152x256_S1152x256_0_0, k0_pay15 (F := F)⟩]
        = hsd.unread (cleared (C := C) sd) := hsd.eq_unread (by
      rw [View.read_writes_full]; unfold cleared; rw [if_pos h])
    have e2 : gzb.view.writes (Elt F) (hgz.unread gz) [⟨Rect.unit (s := S1152x128) ![0, 0] S1000x128.size inb_S1152x128_S1000x128_0_0,
          k0_pay17 (View.readAt (Elt F) gb.view (Rect.unit (s := S1000x128) ![0, 0] S1000x128.size inb_S1000x128_S1000x128_0_0).toLoadRect (hg.unread g)) (View.readAt (Elt F) ab.view (Rect.unit (s := S128x128) ![0, 0] S128x128.size inb_S128x128_S128x128_0_0).toLoadRect (ha.unread a))⟩,
          ⟨Rect.unit (s := S1152x128) ![0, 0] S1152x128.size inb_S1152x128_S1152x128_0_0, k0_pay16 (F := F)⟩]
        = hgz.unread (seeded (C := C) g a gz) := hgz.eq_unread (by
      rw [View.read_writes_cons_put _ _ _ _ _ rfl, View.read_writes_full, View.readAt_full, View.readAt_full, hg.read_unread, ha.read_unread]
      unfold seeded; rw [if_pos h])
    iapply Hk
    isplitl [HS]; · rw [← e1]; iexact HS
    isplitl [HG]; · rw [← e2]; iexact HG
    isplitl [H1]; · iexact H1
    iexact H2
  · rw [dif_neg h]
    iintro ⟨HS, HG, H1, H2, Hk⟩
    iapply Hk
    rw [show cleared (C := C) sd = sd from if_neg h, show seeded (C := C) g a gz = gz from if_neg h]
    isplitl [HS]; · iexact HS
    isplitl [HG]; · iexact HG
    isplitl [H1]; · iexact H1
    iexact H2

/-- What the closing region leaves in the result: under its condition the two layers over the quotients, else what it held. -/
def finished {C : Prop} [dec : Decidable C] (sd : Vec F S1152x256 .f32) (g : Vec F S1000x128 .f32) (w1 : Vec F S128x128 .f32)
    (b1 : Vec F S1x128 .f32) (w2 : Vec F S128x128 .f32) (b2 : Vec F S1x128 .f32) (out : Vec F S1000x128 .f32) : Vec F S1000x128 .f32 :=
  @ite _ C dec (k0_pay14 (VecWindow.window sd ![0, 0] S1000x128.size inb_S1152x256_S1000x128_0_0)
    (VecWindow.window sd ![0, 128] S1000x128.size inb_S1152x256_S1000x128_0_128) g w1 b1 w2 b2) out

/-- The closing region, both ways of its condition. -/
theorem finish_region (c : Dev nD) (sdb : Memref sig .tc .vmem S1152x256 .f32) (hsd : sdb.IsWhole) (gb : Memref sig .tc .vmem S1000x128 .f32) (hg : gb.IsWhole) (w1b : Memref sig .tc .vmem S128x128 .f32) (hw1 : w1b.IsWhole) (b1b : Memref sig .tc .vmem S1x128 .f32) (hb1 : b1b.IsWhole) (w2b : Memref sig .tc .vmem S128x128 .f32) (hw2 : w2b.IsWhole) (b2b : Memref sig .tc .vmem S1x128 .f32) (hb2 : b2b.IsWhole) (ob : Memref sig .tc .vmem S1000x128 .f32) (ho : ob.IsWhole)
    {C : Prop} (dec : Decidable C) (sd : Vec F S1152x256 .f32) (g : Vec F S1000x128 .f32) (w1 : Vec F S128x128 .f32) (b1 : Vec F S1x128 .f32) (w2 : Vec F S128x128 .f32) (b2 : Vec F S1x128 .f32) (out : Vec F S1000x128 .f32)
    (hl1 : sdb.view.LoadsAt (Rect.unit (s := S1152x256) ![0, 0] S1000x128.size inb_S1152x256_S1000x128_0_0).toLoadRect)
    (hl2 : sdb.view.LoadsAt (Rect.unit (s := S1152x256) ![0, 128] S1000x128.size inb_S1152x256_S1000x128_0_128).toLoadRect)
    (hl3 : gb.view.LoadsAt (Rect.unit (s := S1000x128) ![0, 0] S1000x128.size inb_S1000x128_S1000x128_0_0).toLoadRect)
    (hl4 : w1b.view.LoadsAt (Rect.unit (s := S128x128) ![0, 0] S128x128.size inb_S128x128_S128x128_0_0).toLoadRect)
    (hl5 : b1b.view.LoadsAt (Rect.unit (s := S1x128) ![0, 0] S1x128.size inb_S1x128_S1x128_0_0).toLoadRect)
    (hl6 : w2b.view.LoadsAt (Rect.unit (s := S128x128) ![0, 0] S128x128.size inb_S128x128_S128x128_0_0).toLoadRect)
    (hl7 : b2b.view.LoadsAt (Rect.unit (s := S1x128) ![0, 0] S1x128.size inb_S1x128_S1x128_0_0).toLoadRect)
    (hl8 : ob.view.LoadsAt (Rect.unit (s := S1000x128) ![0, 0] S1000x128.size inb_S1000x128_S1000x128_0_0).toLoadRect)
    (hx1 : (ob.access (Rect.unit (s := S1000x128) ![0, 0] S1000x128.size inb_S1000x128_S1000x128_0_0)).Stores Finset.univ)
    (hm1 : (Finset.univ : Finset (Rect.unit (s := S1000x128) ![0, 0] S1000x128.size inb_S1000x128_S1000x128_0_0).shape.Idx) = Finset.univ ∨ ∀ a, (Rect.unit (s := S1000x128) ![0, 0] S1000x128.size inb_S1000x128_S1000x128_0_0).stride a = 1)
    {α : Type} (J : Prog (TpuEff nD τ sig (Elt F) Λ₀ .tc) α) (E : Set ℕ) (Q : α → sProp 𝕄) :
    iprop((sdb.view.loc (c : Thread nD τ) ↦[sdb.view.set]{fullShare} hsd.unread sd)
        ∗ (gb.view.loc (c : Thread nD τ) ↦[gb.view.set]{fullShare} hg.unread g)
        ∗ (w1b.view.loc (c : Thread nD τ) ↦[w1b.view.set]{fullShare} hw1.unread w1)
        ∗ (b1b.view.loc (c : Thread nD τ) ↦[b1b.view.set]{fullShare} hb1.unread b1)
        ∗ (w2b.view.loc (c : Thread nD τ) ↦[w2b.view.set]{fullShare} hw2.unread w2)
        ∗ (b2b.view.loc (c : Thread nD τ) ↦[b2b.view.set]{fullShare} hb2.unread b2)
        ∗ (ob.view.loc (c : Thread nD τ) ↦[ob.view.set]{fullShare} ho.unread out)
        ∗ (iprop((sdb.view.loc (c : Thread nD τ) ↦[sdb.view.set]{fullShare} hsd.unread sd)
            ∗ (gb.view.loc (c : Thread nD τ) ↦[gb.view.set]{fullShare} hg.unread g)
            ∗ (w1b.view.loc (c : Thread nD τ) ↦[w1b.view.set]{fullShare} hw1.unread w1)
            ∗ (b1b.view.loc (c : Thread nD τ) ↦[b1b.view.set]{fullShare} hb1.unread b1)
            ∗ (w2b.view.loc (c : Thread nD τ) ↦[w2b.view.set]{fullShare} hw2.unread w2)
            ∗ (b2b.view.loc (c : Thread nD τ) ↦[b2b.view.set]{fullShare} hb2.unread b2)
            ∗ (ob.view.loc (c : Thread nD τ) ↦[ob.view.set]{fullShare} ho.unread (finished (C := C) sd g w1 b1 w2 b2 out))) -∗ wp frame (wpE (defs₀ (F := F)) Variants.none c none) E J Q))
      ⊢ wp frame (wpE (defs₀ (F := F)) Variants.none c none) E
        (@dite _ C dec
          (fun _ => do
            let v134 ← Prog.lift (.load sdb (Rect.unit (s := S1152x256) ![0, 0] S1000x128.size inb_S1152x256_S1000x128_0_0).toLoadRect hl1)
            let v135 ← Prog.lift (.load sdb (Rect.unit (s := S1152x256) ![0, 128] S1000x128.size inb_S1152x256_S1000x128_0_128).toLoadRect hl2)
            let v136 ← Prog.lift (.load gb (Rect.unit (s := S1000x128) ![0, 0] S1000x128.size inb_S1000x128_S1000x128_0_0).toLoadRect hl3)
            let v143 ← Prog.lift (.load w1b (Rect.unit (s := S128x128) ![0, 0] S128x128.size inb_S128x128_S128x128_0_0).toLoadRect hl4)
            let v146 ← Prog.lift (.load b1b (Rect.unit (s := S1x128) ![0, 0] S1x128.size inb_S1x128_S1x128_0_0).toLoadRect hl5)
            let v152 ← Prog.lift (.load w2b (Rect.unit (s := S128x128) ![0, 0] S128x128.size inb_S128x128_S128x128_0_0).toLoadRect hl6)
            let v155 ← Prog.lift (.load b2b (Rect.unit (s := S1x128) ![0, 0] S1x128.size inb_S1x128_S1x128_0_0).toLoadRect hl7)
            let _ ← Prog.lift (.load ob (Rect.unit (s := S1000x128) ![0, 0] S1000x128.size inb_S1000x128_S1000x128_0_0).toLoadRect hl8)
            Prog.lift (.store ob (Rect.unit (s := S1000x128) ![0, 0] S1000x128.size inb_S1000x128_S1000x128_0_0) (k0_pay14 v134 v135 v136 v143 v146 v152 v155) Finset.univ hx1 hm1)
            J)
          (fun _ => J)) Q := by
  by_cases h : C
  · rw [dif_pos h]
    iintro ⟨HS, H1, H2, H3, H4, H5, HO, Hk⟩
    sl_exec
    have e1 : ob.view.writes (Elt F) (ho.unread out) [⟨Rect.unit (s := S1000x128) ![0, 0] S1000x128.size inb_S1000x128_S1000x128_0_0,
          k0_pay14 (View.readAt (Elt F) sdb.view (Rect.unit (s := S1152x256) ![0, 0] S1000x128.size inb_S1152x256_S1000x128_0_0).toLoadRect (hsd.unread sd)) (View.readAt (Elt F) sdb.view (Rect.unit (s := S1152x256) ![0, 128] S1000x128.size inb_S1152x256_S1000x128_0_128).toLoadRect (hsd.unread sd))
            (View.readAt (Elt F) gb.view (Rect.unit (s := S1000x128) ![0, 0] S1000x128.size inb_S1000x128_S1000x128_0_0).toLoadRect (hg.unread g)) (View.readAt (Elt F) w1b.view (Rect.unit (s := S128x128) ![0, 0] S128x128.size inb_S128x128_S128x128_0_0).toLoadRect (hw1.unread w1))
            (View.readAt (Elt F) b1b.view (Rect.unit (s := S1x128) ![0, 0] S1x128.size inb_S1x128_S1x128_0_0).toLoadRect (hb1.unread b1)) (View.readAt (Elt F) w2b.view (Rect.unit (s := S128x128) ![0, 0] S128x128.size inb_S128x128_S128x128_0_0).toLoadRect (hw2.unread w2))
            (View.readAt (Elt F) b2b.view (Rect.unit (s := S1x128) ![0, 0] S1x128.size inb_S1x128_S1x128_0_0).toLoadRect (hb2.unread b2))⟩]
        = ho.unread (finished (C := C) sd g w1 b1 w2 b2 out) := ho.eq_unread (by
      rw [View.read_writes_full, View.readAt_unit _ _ _ rfl inb_S1152x256_S1000x128_0_0, View.readAt_unit _ _ _ rfl inb_S1152x256_S1000x128_0_128]
      rw [View.readAt_full, View.readAt_full, View.readAt_full, View.readAt_full, View.readAt_full, hsd.read_unread, hg.read_unread, hw1.read_unread, hb1.read_unread, hw2.read_unread, hb2.read_unread]
      unfold finished; rw [if_pos h])
    iapply Hk
    isplitl [HS]; · iexact HS
    isplitl [H1]; · iexact H1
    isplitl [H2]; · iexact H2
    isplitl [H3]; · iexact H3
    isplitl [H4]; · iexact H4
    isplitl [H5]; · iexact H5
    rw [← e1]; iexact HO
  · rw [dif_neg h]
    iintro ⟨HS, H1, H2, H3, H4, H5, HO, Hk⟩
    iapply Hk
    rw [show finished (C := C) sd g w1 b1 w2 b2 out = out from if_neg h]
    isplitl [HS]; · iexact HS
    isplitl [H1]; · iexact H1
    isplitl [H2]; · iexact H2
    isplitl [H3]; · iexact H3
    isplitl [H4]; · iexact H4
    isplitl [H5]; · iexact H5
    iexact HO

end Cert.WordsIdeal.Pool

end
-- ==== Proof.WStep.lean ====
/- What one grid point of the pooling body leaves in each buffer, as functions of the blocks it reads. (The second program.) -/
module

public import proofs.«01_k».proof.Proof.WRegion

@[expose] public section

set_option maxRecDepth 16384

noncomputable section

namespace Cert.WordsIdeal.Pool

open Cert.WordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The node ids' last entry as the body reads it. -/
abbrev lastId (x1 : Vec F S4000x1 .f32) : F .f32 := k0_pay23 x1

/-- The base of the block's windows: its first id rounded down to a multiple of sixteen. -/
abbrev baseId (x1 : Vec F S4000x1 .f32) : F .f32 := k0_pay24 x1

/-- The base as a word. -/
abbrev baseW (x1 : Vec F S4000x1 .f32) : BitVec 32 := Scalar.fptosi 32 (k0_pay24 x1)

/-- The word deciding region 2. -/
abbrev bit2 (x1 : Vec F S4000x1 .f32) : BitVec 1 := Scalar.cmpf .ole (k0_pay28 (baseId x1)) (lastId x1)

/-- The word deciding region 3. -/
abbrev bit3 (x1 : Vec F S4000x1 .f32) : BitVec 1 := Scalar.cmpf .ole (k0_pay30 (baseId x1)) (lastId x1)

/-- The word deciding region 4. -/
abbrev bit4 (x1 : Vec F S4000x1 .f32) : BitVec 1 := Scalar.cmpf .ole (k0_pay32 (baseId x1)) (lastId x1)

/-- The word deciding region 5. -/
abbrev bit5 (x1 : Vec F S4000x1 .f32) : BitVec 1 := Scalar.cmpf .ole (k0_pay34 (baseId x1)) (lastId x1)

/-- The word deciding region 6. -/
abbrev bit6 (x1 : Vec F S4000x1 .f32) : BitVec 1 := Scalar.cmpf .ole (k0_pay36 (baseId x1)) (lastId x1)

/-- The word deciding region 7. -/
abbrev bit7 (x1 : Vec F S4000x1 .f32) : BitVec 1 := Scalar.cmpf .ole (k0_pay38 (baseId x1)) (lastId x1)

/-- The word deciding region 8. -/
abbrev bit8 (x1 : Vec F S4000x1 .f32) : BitVec 1 := Scalar.cmpf .ole (k0_pay40 (baseId x1)) (lastId x1)

/-- The word deciding region 9. -/
abbrev bit9 (x1 : Vec F S4000x1 .f32) : BitVec 1 := Scalar.cmpf .ole (k0_pay42 (baseId x1)) (lastId x1)

/-- The word deciding region 10. -/
abbrev bit10 (x1 : Vec F S4000x1 .f32) : BitVec 1 := Scalar.cmpf .ole (k0_pay46 (baseId x1)) (lastId x1)

/-- The word deciding region 11. -/
abbrev bit11 (x1 : Vec F S4000x1 .f32) : BitVec 1 := Scalar.cmpf .ole (k0_pay48 (baseId x1)) (lastId x1)

/-- The word deciding region 12. -/
abbrev bit12 (x1 : Vec F S4000x1 .f32) : BitVec 1 := Scalar.cmpf .ole (k0_pay2 (baseId x1)) (lastId x1)

/-- The word deciding region 13. -/
abbrev bit13 (x1 : Vec F S4000x1 .f32) : BitVec 1 := Scalar.cmpf .ole (k0_pay4 (baseId x1)) (lastId x1)

/-- The word deciding region 14. -/
abbrev bit14 (x1 : Vec F S4000x1 .f32) : BitVec 1 := Scalar.cmpf .ole (k0_pay6 (baseId x1)) (lastId x1)

/-- The word deciding region 15. -/
abbrev bit15 (x1 : Vec F S4000x1 .f32) : BitVec 1 := Scalar.cmpf .ole (k0_pay8 (baseId x1)) (lastId x1)

/-- The word deciding region 16. -/
abbrev bit16 (x1 : Vec F S4000x1 .f32) : BitVec 1 := Scalar.cmpf .ole (k0_pay10 (baseId x1)) (lastId x1)

/-- The word deciding region 17. -/
abbrev bit17 (x1 : Vec F S4000x1 .f32) : BitVec 1 := Scalar.cmpf .ole (k0_pay12 (baseId x1)) (lastId x1)

/-- The side conditions of one grid point: every window the body touches lies inside its buffer. -/
structure Checks (x1 : Vec F S4000x1 .f32) : Prop where
  c1 : k0_chk1 (baseW x1)
  c2 : k0_chk2 (baseW x1) (bit2 x1)
  c3 : k0_chk3 (baseW x1) (bit3 x1)
  c4 : k0_chk4 (baseW x1) (bit4 x1)
  c5 : k0_chk5 (baseW x1) (bit5 x1)
  c6 : k0_chk6 (baseW x1) (bit6 x1)
  c7 : k0_chk7 (baseW x1) (bit7 x1)
  c8 : k0_chk8 (baseW x1) (bit8 x1)
  c9 : k0_chk9 (baseW x1) (bit9 x1)
  c10 : k0_chk10 (baseW x1) (bit10 x1)
  c11 : k0_chk11 (baseW x1) (bit11 x1)
  c12 : k0_chk12 (baseW x1) (bit12 x1)
  c13 : k0_chk13 (baseW x1) (bit13 x1)
  c14 : k0_chk14 (baseW x1) (bit14 x1)
  c15 : k0_chk15 (baseW x1) (bit15 x1)
  c16 : k0_chk16 (baseW x1) (bit16 x1)
  c17 : k0_chk17 (baseW x1) (bit17 x1)

section
variable (x0 : Vec F S4000x128 .f32) (x1 : Vec F S4000x1 .f32) (x2 : Vec F S1x1x4000 .f32) (x3 : Vec F S4000x1 .f32)
  (x4 : Vec F S1x128 .f32) (x5 : Vec F S1x128 .f32) (x7 : Vec F S128x128 .bf16) (hk : Checks x1)

/-- The weights after the first window. -/
def wgt1 (gz : Vec F S1152x128 .bf16) : Vec F S4000x128 .bf16 :=
  k0_pay27 (k0_pay25 x3 x5) (k0_pay26 x0 x1 x4 x5)
    (VecWindow.window gz (k0_off1 (baseW x1)) S128x128.size (k0_off1_inb (baseW x1) hk.c1)) x7

/-- The weights after the gather region 2. -/
def wgt2 (gz : Vec F S1152x128 .bf16) : Vec F S4000x128 .bf16 :=
  gathered (C := k0_cond2 (bit2 x1) = 1#1) (k0_off2 (baseW x1)) (k0_off2_inb (baseW x1) (bit2 x1) hk.c2)
    (k0_pay29 (k0_pay19 x1) (k0_pay21 x4) (baseId x1) (k0_pay25 x3 x5)) gz (wgt1 x0 x1 x3 x4 x5 x7 hk gz)

/-- The weights after the gather region 3. -/
def wgt3 (gz : Vec F S1152x128 .bf16) : Vec F S4000x128 .bf16 :=
  gathered (C := k0_cond3 (bit3 x1) = 1#1) (k0_off3 (baseW x1)) (k0_off3_inb (baseW x1) (bit3 x1) hk.c3)
    (k0_pay31 (k0_pay19 x1) (k0_pay21 x4) (baseId x1) (k0_pay25 x3 x5)) gz (wgt2 x0 x1 x3 x4 x5 x7 hk gz)

/-- The weights after the gather region 4. -/
def wgt4 (gz : Vec F S1152x128 .bf16) : Vec F S4000x128 .bf16 :=
  gathered (C := k0_cond4 (bit4 x1) = 1#1) (k0_off4 (baseW x1)) (k0_off4_inb (baseW x1) (bit4 x1) hk.c4)
    (k0_pay33 (k0_pay19 x1) (k0_pay21 x4) (baseId x1) (k0_pay25 x3 x5)) gz (wgt3 x0 x1 x3 x4 x5 x7 hk gz)

/-- The weights after the gather region 5. -/
def wgt5 (gz : Vec F S1152x128 .bf16) : Vec F S4000x128 .bf16 :=
  gathered (C := k0_cond5 (bit5 x1) = 1#1) (k0_off5 (baseW x1)) (k0_off5_inb (baseW x1) (bit5 x1) hk.c5)
    (k0_pay35 (k0_pay19 x1) (k0_pay21 x4) (baseId x1) (k0_pay25 x3 x5)) gz (wgt4 x0 x1 x3 x4 x5 x7 hk gz)

/-- The weights after the gather region 6. -/
def wgt6 (gz : Vec F S1152x128 .bf16) : Vec F S4000x128 .bf16 :=
  gathered (C := k0_cond6 (bit6 x1) = 1#1) (k0_off6 (baseW x1)) (k0_off6_inb (baseW x1) (bit6 x1) hk.c6)
    (k0_pay37 (k0_pay19 x1) (k0_pay21 x4) (baseId x1) (k0_pay25 x3 x5)) gz (wgt5 x0 x1 x3 x4 x5 x7 hk gz)

/-- The weights after the gather region 7. -/
def wgt7 (gz : Vec F S1152x128 .bf16) : Vec F S4000x128 .bf16 :=
  gathered (C := k0_cond7 (bit7 x1) = 1#1) (k0_off7 (baseW x1)) (k0_off7_inb (baseW x1) (bit7 x1) hk.c7)
    (k0_pay39 (k0_pay19 x1) (k0_pay21 x4) (baseId x1) (k0_pay25 x3 x5)) gz (wgt6 x0 x1 x3 x4 x5 x7 hk gz)

/-- The weights after the gather region 8. -/
def wgt8 (gz : Vec F S1152x128 .bf16) : Vec F S4000x128 .bf16 :=
  gathered (C := k0_cond8 (bit8 x1) = 1#1) (k0_off8 (baseW x1)) (k0_off8_inb (baseW x1) (bit8 x1) hk.c8)
    (k0_pay41 (k0_pay19 x1) (k0_pay21 x4) (baseId x1) (k0_pay25 x3 x5)) gz (wgt7 x0 x1 x3 x4 x5 x7 hk gz)

/-- The weights after the gather region 9. -/
def wgt9 (gz : Vec F S1152x128 .bf16) : Vec F S4000x128 .bf16 :=
  gathered (C := k0_cond9 (bit9 x1) = 1#1) (k0_off9 (baseW x1)) (k0_off9_inb (baseW x1) (bit9 x1) hk.c9)
    (k0_pay43 (k0_pay19 x1) (k0_pay21 x4) (baseId x1) (k0_pay25 x3 x5)) gz (wgt8 x0 x1 x3 x4 x5 x7 hk gz)

/-- The accumulator after the first window. -/
def acc9 (w : Vec F S4000x128 .bf16) (sd : Vec F S1152x256 .f32) : Vec F S1152x256 .f32 :=
  VecWindow.put sd (k0_off10 (baseW x1)) S128x256.size (k0_pay45 (k0_pay18 x0) (k0_pay20 x2) (baseId x1) w
    (VecWindow.window sd (k0_off10 (baseW x1)) S128x256.size (k0_off10_inb (baseW x1) hk.c1)))

/-- The accumulator after the scatter region 10. -/
def acc10 (w : Vec F S4000x128 .bf16) (sd : Vec F S1152x256 .f32) : Vec F S1152x256 .f32 :=
  scattered (C := k0_cond10 (bit10 x1) = 1#1) (k0_off11 (baseW x1)) (k0_off11_inb (baseW x1) (bit10 x1) hk.c10)
    (k0_pay47 (k0_pay18 x0) (k0_pay19 x1) (k0_pay21 x4) (baseId x1) w) (acc9 x0 x1 x2 hk w sd)

/-- The accumulator after the scatter region 11. -/
def acc11 (w : Vec F S4000x128 .bf16) (sd : Vec F S1152x256 .f32) : Vec F S1152x256 .f32 :=
  scattered (C := k0_cond11 (bit11 x1) = 1#1) (k0_off12 (baseW x1)) (k0_off12_inb (baseW x1) (bit11 x1) hk.c11)
    (k0_pay1 (k0_pay19 x1) (k0_pay21 x4) (baseId x1) (k0_pay44 (k0_pay18 x0) w)) (acc10 x0 x1 x2 x4 hk w sd)

/-- The accumulator after the scatter region 12. -/
def acc12 (w : Vec F S4000x128 .bf16) (sd : Vec F S1152x256 .f32) : Vec F S1152x256 .f32 :=
  scattered (C := k0_cond12 (bit12 x1) = 1#1) (k0_off13 (baseW x1)) (k0_off13_inb (baseW x1) (bit12 x1) hk.c12)
    (k0_pay3 (k0_pay19 x1) (k0_pay21 x4) (baseId x1) (k0_pay44 (k0_pay18 x0) w)) (acc11 x0 x1 x2 x4 hk w sd)

/-- The accumulator after the scatter region 13. -/
def acc13 (w : Vec F S4000x128 .bf16) (sd : Vec F S1152x256 .f32) : Vec F S1152x256 .f32 :=
  scattered (C := k0_cond13 (bit13 x1) = 1#1) (k0_off14 (baseW x1)) (k0_off14_inb (baseW x1) (bit13 x1) hk.c13)
    (k0_pay5 (k0_pay19 x1) (k0_pay21 x4) (baseId x1) (k0_pay44 (k0_pay18 x0) w)) (acc12 x0 x1 x2 x4 hk w sd)

/-- The accumulator after the scatter region 14. -/
def acc14 (w : Vec F S4000x128 .bf16) (sd : Vec F S1152x256 .f32) : Vec F S1152x256 .f32 :=
  scattered (C := k0_cond14 (bit14 x1) = 1#1) (k0_off15 (baseW x1)) (k0_off15_inb (baseW x1) (bit14 x1) hk.c14)
    (k0_pay7 (k0_pay19 x1) (k0_pay21 x4) (baseId x1) (k0_pay44 (k0_pay18 x0) w)) (acc13 x0 x1 x2 x4 hk w sd)

/-- The accumulator after the scatter region 15. -/
def acc15 (w : Vec F S4000x128 .bf16) (sd : Vec F S1152x256 .f32) : Vec F S1152x256 .f32 :=
  scattered (C := k0_cond15 (bit15 x1) = 1#1) (k0_off16 (baseW x1)) (k0_off16_inb (baseW x1) (bit15 x1) hk.c15)
    (k0_pay9 (k0_pay19 x1) (k0_pay21 x4) (baseId x1) (k0_pay44 (k0_pay18 x0) w)) (acc14 x0 x1 x2 x4 hk w sd)

/-- The accumulator after the scatter region 16. -/
def acc16 (w : Vec F S4000x128 .bf16) (sd : Vec F S1152x256 .f32) : Vec F S1152x256 .f32 :=
  scattered (C := k0_cond16 (bit16 x1) = 1#1) (k0_off17 (baseW x1)) (k0_off17_inb (baseW x1) (bit16 x1) hk.c16)
    (k0_pay11 (k0_pay19 x1) (k0_pay21 x4) (baseId x1) (k0_pay44 (k0_pay18 x0) w)) (acc15 x0 x1 x2 x4 hk w sd)

/-- The accumulator after the scatter region 17. -/
def acc17 (w : Vec F S4000x128 .bf16) (sd : Vec F S1152x256 .f32) : Vec F S1152x256 .f32 :=
  scattered (C := k0_cond17 (bit17 x1) = 1#1) (k0_off18 (baseW x1)) (k0_off18_inb (baseW x1) (bit17 x1) hk.c17)
    (k0_pay13 (k0_pay19 x1) (k0_pay21 x4) (baseId x1) (k0_pay44 (k0_pay18 x0) w)) (acc16 x0 x1 x2 x4 hk w sd)

end

/-- The opening region's condition: the first grid point. -/
abbrev IsFirst (i : grid0.Coords) : Prop :=
  Scalar.cmpi .ne (Scalar.extui (Scalar.cmpi .eq (BitVec.ofNat 32 (i 0).val) 0#32)) 0#32 = 1#1

/-- The closing region's condition: the last grid point. -/
abbrev IsLast (i : grid0.Coords) : Prop := k0_cond18 i = 1#1

/-- The projected table after a grid point. -/
def gzAfter (i : grid0.Coords) (x6 : Vec F S1000x128 .f32) (x7 : Vec F S128x128 .bf16) (gz : Vec F S1152x128 .bf16) :
    Vec F S1152x128 .bf16 :=
  seeded (C := IsFirst i) x6 x7 gz

/-- The accumulator after a grid point, over the table it used. -/
def sdAfter (i : grid0.Coords) (x0 : Vec F S4000x128 .f32) (x1 : Vec F S4000x1 .f32) (x2 : Vec F S1x1x4000 .f32)
    (x3 : Vec F S4000x1 .f32) (x4 : Vec F S1x128 .f32) (x5 : Vec F S1x128 .f32) (x7 : Vec F S128x128 .bf16) (hk : Checks x1)
    (gz : Vec F S1152x128 .bf16) (sd : Vec F S1152x256 .f32) : Vec F S1152x256 .f32 :=
  acc17 x0 x1 x2 x4 hk (wgt9 x0 x1 x3 x4 x5 x7 hk gz) (cleared (C := IsFirst i) sd)

/-- The result block after a grid point, over the accumulator it used. -/
def outAfter (i : grid0.Coords) (sd : Vec F S1152x256 .f32) (x6 : Vec F S1000x128 .f32) (x8 : Vec F S128x128 .f32)
    (x9 : Vec F S128x128 .f32) (x10 : Vec F S1x128 .f32) (x11 : Vec F S1x128 .f32) (out : Vec F S1000x128 .f32) :
    Vec F S1000x128 .f32 :=
  finished (C := IsLast i) sd x6 x8 x10 x9 x11 out

end Cert.WordsIdeal.Pool

end
-- ==== Proof.WBase.lean ====
/-
  The block's window base and window conditions over the extended reals.

  A block's ids are whole numbers `S r` below a thousand, ascending. Its base is `16 * (S 0 / 16)`, as
  a real, as a word and as an offset; window `w` is on exactly when `base + 128 w` is at most the
  block's last id; and every window that is on lies inside the table and the accumulator. (The second program.) -/
module
public import proofs.«01_k».proof.Proof.WStep
public import Idealize.ShloMosaic.PureOps.Ideal
public import Idealize.ShloMosaic.PureOps.Ideal.Laws
public import Idealize.ShloMosaic.Lib.IdealHost
public import Idealize.ShloMosaic.Lib.ValueIdx
public import Idealize.ShloMosaic.Lib.ValueLayout
public import Idealize.ShloMosaic.Lib.ValueLayoutCasts
@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

/-- A whole number as an extended real. -/
abbrev nr (n : ℕ) : EReal := (((n : ℕ) : ℝ) : EReal)

theorem nr_add (a b : ℕ) : nr a + nr b = nr (a + b) := by
  unfold nr; rw [← EReal.coe_add]; push_cast; rfl

theorem nr_le {a b : ℕ} : nr a ≤ nr b ↔ a ≤ b := by
  unfold nr; rw [EReal.coe_le_coe_iff, Nat.cast_le]

theorem ofBool_le (a b : ℕ) : BitVec.ofBool (decide (nr a ≤ nr b)) = 1#1 ↔ a ≤ b := by
  by_cases hh : nr a ≤ nr b
  · simp [hh, nr_le.1 hh]
  · simp [hh, mt nr_le.2 hh]

theorem nr_inj {a b : ℕ} : nr a = nr b ↔ a = b := by
  unfold nr; rw [EReal.coe_eq_coe_iff, Nat.cast_inj]

/-- The word of 16. -/
theorem word_16 : Ideal.ofBits .f32 0x41800000#32 = nr 16 := by
  unfold nr
  simp [Ideal.ofBits, Ideal.ieee, -EReal.coe_mul]; norm_num

/-- The word of 128. -/
theorem word_128 : Ideal.ofBits .f32 0x43000000#32 = nr 128 := by
  unfold nr
  simp [Ideal.ofBits, Ideal.ieee, -EReal.coe_mul]; norm_num

/-- The word of 256. -/
theorem word_256 : Ideal.ofBits .f32 0x43800000#32 = nr 256 := by
  unfold nr
  simp [Ideal.ofBits, Ideal.ieee, -EReal.coe_mul]; norm_num

/-- The word of 384. -/
theorem word_384 : Ideal.ofBits .f32 0x43C00000#32 = nr 384 := by
  unfold nr
  simp [Ideal.ofBits, Ideal.ieee, -EReal.coe_mul]; norm_num

/-- The word of 512. -/
theorem word_512 : Ideal.ofBits .f32 0x44000000#32 = nr 512 := by
  unfold nr
  simp [Ideal.ofBits, Ideal.ieee, -EReal.coe_mul]; norm_num

/-- The word of 640. -/
theorem word_640 : Ideal.ofBits .f32 0x44200000#32 = nr 640 := by
  unfold nr
  simp [Ideal.ofBits, Ideal.ieee, -EReal.coe_mul]; norm_num

/-- The word of 768. -/
theorem word_768 : Ideal.ofBits .f32 0x44400000#32 = nr 768 := by
  unfold nr
  simp [Ideal.ofBits, Ideal.ieee, -EReal.coe_mul]; norm_num

/-- The word of 896. -/
theorem word_896 : Ideal.ofBits .f32 0x44600000#32 = nr 896 := by
  unfold nr
  simp [Ideal.ofBits, Ideal.ieee, -EReal.coe_mul]; norm_num

/-- The word of 1024. -/
theorem word_1024 : Ideal.ofBits .f32 0x44800000#32 = nr 1024 := by
  unfold nr
  simp [Ideal.ofBits, Ideal.ieee, -EReal.coe_mul]; norm_num

/-- One block's ids: the column the body reads holds the whole numbers `S`, below a thousand. -/
structure Ids (x1 : Vec Ideal S4000x1 .f32) (S : Fin 4000 → ℕ) : Prop where
  col : ∀ r, x1 (ix2 r 0) = nr (S r)
  lt : ∀ r, S r < 1000

/-- The base of the windows. -/
abbrev base (S : Fin 4000 → ℕ) : ℕ := 16 * (S 0 / 16)

variable {x1 : Vec Ideal S4000x1 .f32} {S : Fin 4000 → ℕ} (h : Ids x1 S)
include h

theorem lastId_eq : lastId x1 = nr (S 3999) := by
  rw [← h.col]
  show (shapeCast S4000x1 x1 _) _ = _
  exact shapeCast_apply _ _ _ _ rfl

theorem firstId_eq : extractAt ![0, 0] (extractStridedSlice S1x1 ![0, 0] (k0_pay19 x1) slices_S4000x1_o0_0_S1x1) inpos_S1x1_p0_0 = nr (S 0) := by
  rw [← h.col]
  show (shapeCast S4000x1 x1 _) _ = _
  exact shapeCast_apply _ _ _ _ rfl

theorem firstW_eq : Ideal.fptosi 32 (extractAt ![0, 0] (extractStridedSlice S1x1 ![0, 0] (k0_pay19 x1) slices_S4000x1_o0_0_S1x1) inpos_S1x1_p0_0) = BitVec.ofNat 32 (S 0) := by
  rw [firstId_eq h]
  have h0 := h.lt 0
  show BitVec.ofInt 32 (Ideal.toIntClamped _ _ (nr (S 0))) = _
  unfold nr
  rw [Ideal.toIntClamped_coe, if_pos (by positivity), Int.floor_natCast,
    min_eq_right (by norm_num <;> omega), max_eq_right (by norm_num <;> omega)]
  rfl

omit h in
/-- Clearing the low four bits of a word below a thousand rounds it down to a multiple of sixteen. -/
theorem low_cleared : ∀ n < 1000, BitVec.ofNat 32 n - (BitVec.ofNat 32 n &&& 15#32) = BitVec.ofNat 32 (16 * (n / 16)) := by
  decide +kernel

omit h in
theorem low_toInt : ∀ n < 1000, (BitVec.ofNat 32 (16 * (n / 16))).toInt = ((16 * (n / 16) : ℕ) : ℤ) := by
  decide +kernel

theorem baseId_eq : baseId x1 = nr (base S) := by
  have h0 := h.lt 0
  show (((Ideal.fptosi 32 (extractAt ![0, 0] (extractStridedSlice S1x1 ![0, 0] (k0_pay19 x1) slices_S4000x1_o0_0_S1x1) inpos_S1x1_p0_0)
    - (Ideal.fptosi 32 (extractAt ![0, 0] (extractStridedSlice S1x1 ![0, 0] (k0_pay19 x1) slices_S4000x1_o0_0_S1x1) inpos_S1x1_p0_0) &&& 15#32)).toInt : ℝ) : EReal) = _
  rw [firstW_eq h, low_cleared _ h0]
  have hi : (BitVec.ofNat 32 (16 * (S 0 / 16))).toInt = ((base S : ℕ) : ℤ) := low_toInt _ h0
  rw [hi, Int.cast_natCast]

theorem baseW_eq : baseW x1 = BitVec.ofNat 32 (base S) := by
  show Ideal.fptosi 32 (baseId x1) = _
  rw [baseId_eq h]
  have h0 := h.lt 0
  show BitVec.ofInt 32 (Ideal.toIntClamped _ _ (nr (base S))) = _
  unfold nr
  rw [Ideal.toIntClamped_coe, if_pos (by positivity), Int.floor_natCast,
    min_eq_right (by norm_num; omega), max_eq_right (by norm_num; omega)]
  rfl

theorem base_le : base S ≤ 992 := by
  have h0 := h.lt 0
  unfold base; omega

omit h in
theorem base_le_id (r : Fin 4000) (h0 : S 0 ≤ S r) : base S ≤ S r := by
  unfold base; omega

theorem bit2_iff : bit2 x1 = 1#1 ↔ base S + 128 ≤ S 3999 := by
  show BitVec.ofBool (decide (baseId x1 + Ideal.ofBits .f32 0x43000000#32 ≤ lastId x1)) = 1#1 ↔ _
  rw [baseId_eq h, word_128, lastId_eq h, nr_add]
  exact ofBool_le _ _

theorem bit10_iff : bit10 x1 = 1#1 ↔ base S + 128 ≤ S 3999 := by
  show BitVec.ofBool (decide (baseId x1 + Ideal.ofBits .f32 0x43000000#32 ≤ lastId x1)) = 1#1 ↔ _
  rw [baseId_eq h, word_128, lastId_eq h, nr_add]
  exact ofBool_le _ _

theorem bit3_iff : bit3 x1 = 1#1 ↔ base S + 256 ≤ S 3999 := by
  show BitVec.ofBool (decide (baseId x1 + Ideal.ofBits .f32 0x43800000#32 ≤ lastId x1)) = 1#1 ↔ _
  rw [baseId_eq h, word_256, lastId_eq h, nr_add]
  exact ofBool_le _ _

theorem bit11_iff : bit11 x1 = 1#1 ↔ base S + 256 ≤ S 3999 := by
  show BitVec.ofBool (decide (baseId x1 + Ideal.ofBits .f32 0x43800000#32 ≤ lastId x1)) = 1#1 ↔ _
  rw [baseId_eq h, word_256, lastId_eq h, nr_add]
  exact ofBool_le _ _

theorem bit4_iff : bit4 x1 = 1#1 ↔ base S + 384 ≤ S 3999 := by
  show BitVec.ofBool (decide (baseId x1 + Ideal.ofBits .f32 0x43C00000#32 ≤ lastId x1)) = 1#1 ↔ _
  rw [baseId_eq h, word_384, lastId_eq h, nr_add]
  exact ofBool_le _ _

theorem bit12_iff : bit12 x1 = 1#1 ↔ base S + 384 ≤ S 3999 := by
  show BitVec.ofBool (decide (baseId x1 + Ideal.ofBits .f32 0x43C00000#32 ≤ lastId x1)) = 1#1 ↔ _
  rw [baseId_eq h, word_384, lastId_eq h, nr_add]
  exact ofBool_le _ _

theorem bit5_iff : bit5 x1 = 1#1 ↔ base S + 512 ≤ S 3999 := by
  show BitVec.ofBool (decide (baseId x1 + Ideal.ofBits .f32 0x44000000#32 ≤ lastId x1)) = 1#1 ↔ _
  rw [baseId_eq h, word_512, lastId_eq h, nr_add]
  exact ofBool_le _ _

theorem bit13_iff : bit13 x1 = 1#1 ↔ base S + 512 ≤ S 3999 := by
  show BitVec.ofBool (decide (baseId x1 + Ideal.ofBits .f32 0x44000000#32 ≤ lastId x1)) = 1#1 ↔ _
  rw [baseId_eq h, word_512, lastId_eq h, nr_add]
  exact ofBool_le _ _

theorem bit6_iff : bit6 x1 = 1#1 ↔ base S + 640 ≤ S 3999 := by
  show BitVec.ofBool (decide (baseId x1 + Ideal.ofBits .f32 0x44200000#32 ≤ lastId x1)) = 1#1 ↔ _
  rw [baseId_eq h, word_640, lastId_eq h, nr_add]
  exact ofBool_le _ _

theorem bit14_iff : bit14 x1 = 1#1 ↔ base S + 640 ≤ S 3999 := by
  show BitVec.ofBool (decide (baseId x1 + Ideal.ofBits .f32 0x44200000#32 ≤ lastId x1)) = 1#1 ↔ _
  rw [baseId_eq h, word_640, lastId_eq h, nr_add]
  exact ofBool_le _ _

theorem bit7_iff : bit7 x1 = 1#1 ↔ base S + 768 ≤ S 3999 := by
  show BitVec.ofBool (decide (baseId x1 + Ideal.ofBits .f32 0x44400000#32 ≤ lastId x1)) = 1#1 ↔ _
  rw [baseId_eq h, word_768, lastId_eq h, nr_add]
  exact ofBool_le _ _

theorem bit15_iff : bit15 x1 = 1#1 ↔ base S + 768 ≤ S 3999 := by
  show BitVec.ofBool (decide (baseId x1 + Ideal.ofBits .f32 0x44400000#32 ≤ lastId x1)) = 1#1 ↔ _
  rw [baseId_eq h, word_768, lastId_eq h, nr_add]
  exact ofBool_le _ _

theorem bit8_iff : bit8 x1 = 1#1 ↔ base S + 896 ≤ S 3999 := by
  show BitVec.ofBool (decide (baseId x1 + Ideal.ofBits .f32 0x44600000#32 ≤ lastId x1)) = 1#1 ↔ _
  rw [baseId_eq h, word_896, lastId_eq h, nr_add]
  exact ofBool_le _ _

theorem bit16_iff : bit16 x1 = 1#1 ↔ base S + 896 ≤ S 3999 := by
  show BitVec.ofBool (decide (baseId x1 + Ideal.ofBits .f32 0x44600000#32 ≤ lastId x1)) = 1#1 ↔ _
  rw [baseId_eq h, word_896, lastId_eq h, nr_add]
  exact ofBool_le _ _

theorem bit9_iff : bit9 x1 = 1#1 ↔ base S + 1024 ≤ S 3999 := by
  show BitVec.ofBool (decide (baseId x1 + Ideal.ofBits .f32 0x44800000#32 ≤ lastId x1)) = 1#1 ↔ _
  rw [baseId_eq h, word_1024, lastId_eq h, nr_add]
  exact ofBool_le _ _

theorem bit17_iff : bit17 x1 = 1#1 ↔ base S + 1024 ≤ S 3999 := by
  show BitVec.ofBool (decide (baseId x1 + Ideal.ofBits .f32 0x44800000#32 ≤ lastId x1)) = 1#1 ↔ _
  rw [baseId_eq h, word_1024, lastId_eq h, nr_add]
  exact ofBool_le _ _

omit h in
theorem on_iff (b : BitVec 1) : Scalar.cmpi .ne (Scalar.extui b : BitVec 32) 0#32 = 1#1 ↔ b = 1#1 := by
  revert b; decide

theorem on2 : k0_cond2 (bit2 x1) = 1#1 ↔ base S + 128 ≤ S 3999 := (on_iff _).trans (bit2_iff h)

theorem on10 : k0_cond10 (bit10 x1) = 1#1 ↔ base S + 128 ≤ S 3999 := (on_iff _).trans (bit10_iff h)

theorem on3 : k0_cond3 (bit3 x1) = 1#1 ↔ base S + 256 ≤ S 3999 := (on_iff _).trans (bit3_iff h)

theorem on11 : k0_cond11 (bit11 x1) = 1#1 ↔ base S + 256 ≤ S 3999 := (on_iff _).trans (bit11_iff h)

theorem on4 : k0_cond4 (bit4 x1) = 1#1 ↔ base S + 384 ≤ S 3999 := (on_iff _).trans (bit4_iff h)

theorem on12 : k0_cond12 (bit12 x1) = 1#1 ↔ base S + 384 ≤ S 3999 := (on_iff _).trans (bit12_iff h)

theorem on5 : k0_cond5 (bit5 x1) = 1#1 ↔ base S + 512 ≤ S 3999 := (on_iff _).trans (bit5_iff h)

theorem on13 : k0_cond13 (bit13 x1) = 1#1 ↔ base S + 512 ≤ S 3999 := (on_iff _).trans (bit13_iff h)

theorem on6 : k0_cond6 (bit6 x1) = 1#1 ↔ base S + 640 ≤ S 3999 := (on_iff _).trans (bit6_iff h)

theorem on14 : k0_cond14 (bit14 x1) = 1#1 ↔ base S + 640 ≤ S 3999 := (on_iff _).trans (bit14_iff h)

theorem on7 : k0_cond7 (bit7 x1) = 1#1 ↔ base S + 768 ≤ S 3999 := (on_iff _).trans (bit7_iff h)

theorem on15 : k0_cond15 (bit15 x1) = 1#1 ↔ base S + 768 ≤ S 3999 := (on_iff _).trans (bit15_iff h)

theorem on8 : k0_cond8 (bit8 x1) = 1#1 ↔ base S + 896 ≤ S 3999 := (on_iff _).trans (bit8_iff h)

theorem on16 : k0_cond16 (bit16 x1) = 1#1 ↔ base S + 896 ≤ S 3999 := (on_iff _).trans (bit16_iff h)

theorem on9 : k0_cond9 (bit9 x1) = 1#1 ↔ base S + 1024 ≤ S 3999 := (on_iff _).trans (bit9_iff h)

theorem on17 : k0_cond17 (bit17 x1) = 1#1 ↔ base S + 1024 ≤ S 3999 := (on_iff _).trans (bit17_iff h)

theorem off1_eq : k0_off1 (baseW x1) = ![base S, 0] := by
  have hb := base_le h
  show ![(baseW x1).toNat, 0] = _
  rw [baseW_eq h, BitVec.toNat_ofNat, Nat.mod_eq_of_lt (by omega)]

theorem off10_eq : k0_off10 (baseW x1) = ![base S, 0] := by
  have hb := base_le h
  show ![(baseW x1).toNat, 0] = _
  rw [baseW_eq h, BitVec.toNat_ofNat, Nat.mod_eq_of_lt (by omega)]

theorem off2_eq : k0_off2 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off11_eq : k0_off11 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off3_eq : k0_off3 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off12_eq : k0_off12 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off4_eq : k0_off4 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off13_eq : k0_off13 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off5_eq : k0_off5 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off14_eq : k0_off14 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off6_eq : k0_off6 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off15_eq : k0_off15 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off7_eq : k0_off7 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off16_eq : k0_off16 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off8_eq : k0_off8 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off17_eq : k0_off17 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off9_eq : k0_off9 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

theorem off18_eq : k0_off18 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

/-- Every window the body touches lies inside its buffer. -/
theorem checks : Checks x1 := by
  have hb := base_le h
  have hl := h.lt 3999
  refine ⟨⟨?_, ?_, ?_⟩, ?_, ?_, ?_, ?_, ?_, ?_, ?_, ?_, ?_, ?_, ?_, ?_, ?_, ?_, ?_, ?_⟩
  · show 16 ∣ (baseW x1).toNat
    rw [baseW_eq h, BitVec.toNat_ofNat, Nat.mod_eq_of_lt (by omega)]
    exact ⟨_, rfl⟩
  · intro a; rw [off1_eq h]
    fin_cases a
    · show base S + 128 ≤ 1152; omega
    · show 0 + 128 ≤ 128; omega
  · intro a; rw [off10_eq h]
    fin_cases a
    · show base S + 128 ≤ 1152; omega
    · show 0 + 256 ≤ 256; omega

  · intro hc a
    have hon := (on2 h).1 hc
    rw [off2_eq h]
    fin_cases a
    · show base S + 128 + 128 ≤ 1152; omega
    · show 0 + 128 ≤ 128; omega

  · intro hc a
    have hon := (on3 h).1 hc
    rw [off3_eq h]
    fin_cases a
    · show base S + 256 + 128 ≤ 1152; omega
    · show 0 + 128 ≤ 128; omega

  · intro hc a
    have hon := (on4 h).1 hc
    rw [off4_eq h]
    fin_cases a
    · show base S + 384 + 128 ≤ 1152; omega
    · show 0 + 128 ≤ 128; omega

  · intro hc a
    have hon := (on5 h).1 hc
    rw [off5_eq h]
    fin_cases a
    · show base S + 512 + 128 ≤ 1152; omega
    · show 0 + 128 ≤ 128; omega

  · intro hc a
    have hon := (on6 h).1 hc
    rw [off6_eq h]
    fin_cases a
    · show base S + 640 + 128 ≤ 1152; omega
    · show 0 + 128 ≤ 128; omega

  · intro hc a
    have hon := (on7 h).1 hc
    rw [off7_eq h]
    fin_cases a
    · show base S + 768 + 128 ≤ 1152; omega
    · show 0 + 128 ≤ 128; omega

  · intro hc a
    have hon := (on8 h).1 hc
    rw [off8_eq h]
    fin_cases a
    · show base S + 896 + 128 ≤ 1152; omega
    · show 0 + 128 ≤ 128; omega

  · intro hc a
    have hon := (on9 h).1 hc
    rw [off9_eq h]
    fin_cases a
    · show base S + 1024 + 128 ≤ 1152; omega
    · show 0 + 128 ≤ 128; omega

  · intro hc a
    have hon := (on10 h).1 hc
    rw [off11_eq h]
    fin_cases a
    · show base S + 128 + 128 ≤ 1152; omega
    · show 0 + 256 ≤ 256; omega

  · intro hc a
    have hon := (on11 h).1 hc
    rw [off12_eq h]
    fin_cases a
    · show base S + 256 + 128 ≤ 1152; omega
    · show 0 + 256 ≤ 256; omega

  · intro hc a
    have hon := (on12 h).1 hc
    rw [off13_eq h]
    fin_cases a
    · show base S + 384 + 128 ≤ 1152; omega
    · show 0 + 256 ≤ 256; omega

  · intro hc a
    have hon := (on13 h).1 hc
    rw [off14_eq h]
    fin_cases a
    · show base S + 512 + 128 ≤ 1152; omega
    · show 0 + 256 ≤ 256; omega

  · intro hc a
    have hon := (on14 h).1 hc
    rw [off15_eq h]
    fin_cases a
    · show base S + 640 + 128 ≤ 1152; omega
    · show 0 + 256 ≤ 256; omega

  · intro hc a
    have hon := (on15 h).1 hc
    rw [off16_eq h]
    fin_cases a
    · show base S + 768 + 128 ≤ 1152; omega
    · show 0 + 256 ≤ 256; omega

  · intro hc a
    have hon := (on16 h).1 hc
    rw [off17_eq h]
    fin_cases a
    · show base S + 896 + 128 ≤ 1152; omega
    · show 0 + 256 ≤ 256; omega

  · intro hc a
    have hon := (on17 h).1 hc
    rw [off18_eq h]
    fin_cases a
    · show base S + 1024 + 128 ≤ 1152; omega
    · show 0 + 256 ≤ 256; omega

end Cert.WordsIdeal.Pool
-- ==== Proof.WRun.lean ====
/- The pooling body run at any grid point: from the blocks it reads and the scratch contents it finds to what it leaves. (The second program.) -/
module

public import proofs.«01_k».proof.Proof.WStep

@[expose] public section

set_option maxRecDepth 16384

noncomputable section

namespace Cert.WordsIdeal.Pool

open Cert.WordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body at one grid point over its buffers' contents; `r0 …` are the blocks as its loads read them. -/
theorem run_raw (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x1x4000 .f32) (harg3 : arg3.IsWhole) (arg4 : Memref sig .tc .vmem S4000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S128x128 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1000x128 .f32) (harg13 : arg13.IsWhole) (arg14 : Memref sig .tc .vmem S1152x256 .f32) (harg14 : arg14.IsWhole) (arg15 : Memref sig .tc .vmem S1152x128 .bf16) (harg15 : arg15.IsWhole) (arg16 : Memref sig .tc .vmem S4000x128 .bf16) (harg16 : arg16.IsWhole)
    (x0 : Vec F S4000x128 .f32) (x1 : Vec F S4000x1 .f32) (x2 : Vec F S1x1x4000 .f32) (x3 : Vec F S4000x1 .f32) (x4 : Vec F S1x128 .f32) (x5 : Vec F S1x128 .f32) (x6 : Vec F S1000x128 .f32) (x7 : Vec F S128x128 .bf16) (x8 : Vec F S128x128 .f32) (x9 : Vec F S128x128 .f32) (x10 : Vec F S1x128 .f32) (x11 : Vec F S1x128 .f32)
    (xi12 : Vec F S1000x128 .f32) (xs0 : Vec F S1152x256 .f32) (xs1 : Vec F S1152x128 .bf16) (f16 : arg16.view.ty.Contents (Elt F))
    (r0 : Vec F S4000x128 .f32) (hr0 : r0 = View.readAt (Elt F) arg1.view (Rect.unit (s := S4000x128) ![0, 0] S4000x128.size inb_S4000x128_S4000x128_0_0).toLoadRect (harg1.unread x0)) (r1 : Vec F S4000x1 .f32) (hr1 : r1 = View.readAt (Elt F) arg2.view (Rect.unit (s := S4000x1) ![0, 0] S4000x1.size inb_S4000x1_S4000x1_0_0).toLoadRect (harg2.unread x1)) (r2 : Vec F S1x1x4000 .f32) (hr2 : r2 = View.readAt (Elt F) arg3.view (Rect.unit (s := S1x1x4000) ![0, 0, 0] S1x1x4000.size inb_S1x1x4000_S1x1x4000_0_0_0).toLoadRect (harg3.unread x2)) (r3 : Vec F S4000x1 .f32) (hr3 : r3 = View.readAt (Elt F) arg4.view (Rect.unit (s := S4000x1) ![0, 0] S4000x1.size inb_S4000x1_S4000x1_0_0).toLoadRect (harg4.unread x3)) (r4 : Vec F S1x128 .f32) (hr4 : r4 = View.readAt (Elt F) arg5.view (Rect.unit (s := S1x128) ![0, 0] S1x128.size inb_S1x128_S1x128_0_0).toLoadRect (harg5.unread x4)) (r5 : Vec F S1x128 .f32) (hr5 : r5 = View.readAt (Elt F) arg6.view (Rect.unit (s := S1x128) ![0, 0] S1x128.size inb_S1x128_S1x128_0_0).toLoadRect (harg6.unread x5)) (r7 : Vec F S128x128 .bf16) (hr7 : r7 = View.readAt (Elt F) arg8.view (Rect.unit (s := S128x128) ![0, 0] S128x128.size inb_S128x128_S128x128_0_0).toLoadRect (harg8.unread x7))
    (hk : Checks r1) (E : Set ℕ) (K : PUnit → sProp 𝕄) :
    iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg5.view.loc (c : Thread nD τ) ↦[arg5.view.set]{fullShare} harg5.unread x4)
      ∗ (arg6.view.loc (c : Thread nD τ) ↦[arg6.view.set]{fullShare} harg6.unread x5)
      ∗ (arg7.view.loc (c : Thread nD τ) ↦[arg7.view.set]{fullShare} harg7.unread x6)
      ∗ (arg8.view.loc (c : Thread nD τ) ↦[arg8.view.set]{fullShare} harg8.unread x7)
      ∗ (arg9.view.loc (c : Thread nD τ) ↦[arg9.view.set]{fullShare} harg9.unread x8)
      ∗ (arg10.view.loc (c : Thread nD τ) ↦[arg10.view.set]{fullShare} harg10.unread x9)
      ∗ (arg11.view.loc (c : Thread nD τ) ↦[arg11.view.set]{fullShare} harg11.unread x10)
      ∗ (arg12.view.loc (c : Thread nD τ) ↦[arg12.view.set]{fullShare} harg12.unread x11)
      ∗ (arg13.view.loc (c : Thread nD τ) ↦[arg13.view.set]{fullShare} harg13.unread xi12)
      ∗ (arg14.view.loc (c : Thread nD τ) ↦[arg14.view.set]{fullShare} harg14.unread xs0)
      ∗ (arg15.view.loc (c : Thread nD τ) ↦[arg15.view.set]{fullShare} harg15.unread xs1)
      ∗ (arg16.view.loc (c : Thread nD τ) ↦[arg16.view.set]{fullShare} f16)
      ∗ (iprop((arg1.view.loc (c : Thread nD τ) ↦[arg1.view.set]{fullShare} harg1.unread x0)
          ∗ (arg2.view.loc (c : Thread nD τ) ↦[arg2.view.set]{fullShare} harg2.unread x1)
          ∗ (arg3.view.loc (c : Thread nD τ) ↦[arg3.view.set]{fullShare} harg3.unread x2)
          ∗ (arg4.view.loc (c : Thread nD τ) ↦[arg4.view.set]{fullShare} harg4.unread x3)
          ∗ (arg5.view.loc (c : Thread nD τ) ↦[arg5.view.set]{fullShare} harg5.unread x4)
          ∗ (arg6.view.loc (c : Thread nD τ) ↦[arg6.view.set]{fullShare} harg6.unread x5)
          ∗ (arg7.view.loc (c : Thread nD τ) ↦[arg7.view.set]{fullShare} harg7.unread x6)
          ∗ (arg8.view.loc (c : Thread nD τ) ↦[arg8.view.set]{fullShare} harg8.unread x7)
          ∗ (arg9.view.loc (c : Thread nD τ) ↦[arg9.view.set]{fullShare} harg9.unread x8)
          ∗ (arg10.view.loc (c : Thread nD τ) ↦[arg10.view.set]{fullShare} harg10.unread x9)
          ∗ (arg11.view.loc (c : Thread nD τ) ↦[arg11.view.set]{fullShare} harg11.unread x10)
          ∗ (arg12.view.loc (c : Thread nD τ) ↦[arg12.view.set]{fullShare} harg12.unread x11)
          ∗ (arg13.view.loc (c : Thread nD τ) ↦[arg13.view.set]{fullShare} harg13.unread (outAfter i (sdAfter i r0 r1 r2 r3 r4 r5 r7 hk (gzAfter i x6 x7 xs1) xs0) x6 x8 x9 x10 x11 xi12))
          ∗ (arg14.view.loc (c : Thread nD τ) ↦[arg14.view.set]{fullShare} harg14.unread (sdAfter i r0 r1 r2 r3 r4 r5 r7 hk (gzAfter i x6 x7 xs1) xs0))
          ∗ (arg15.view.loc (c : Thread nD τ) ↦[arg15.view.set]{fullShare} harg15.unread (gzAfter i x6 x7 xs1))
          ∗ (arg16.view.loc (c : Thread nD τ) ↦[arg16.view.set]{fullShare} harg16.unread (wgt9 r0 r1 r3 r4 r5 r7 hk (gzAfter i x6 x7 xs1)))) -∗ K ⟨⟩))
      ⊢ wp frame (wpE (defs₀ (F := F)) Variants.none c none) E (cc0__pool_body_words i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14, c15, c16, c17⟩ := id hk
  subst hr0 hr1 hr2 hr3 hr4 hr5 hr7
  simp only [cc0__pool_body_words_eq_skeleton]; unfold cc0__pool_body_words_skel
  simp only [k0_part1_eq_skeleton, k0_part2_eq_skeleton, k0_part3_eq_skeleton]
  iintro ⟨H0, H1, H2, H3, H4, H5, H6, H7, H8, H9, H10, H11, H12, HS0, HS1, HS2, Hk⟩
  unfold k0_part1_skel
  set_option sl_exec.stopBefore "v2" in sl_exec (disch := assumption)
  rw [wp_bind]
  iapply (init_region c arg14 harg14 arg15 harg15 arg7 harg7 arg8 harg8 _ xs0 xs1 x6 x7)
  isplitl [HS0]; · iexact HS0
  isplitl [HS1]; · iexact HS1
  isplitl [H6]; · iexact H6
  isplitl [H7]; · iexact H7
  iintro ⟨HS0, HS1, H6, H7⟩
  set_option sl_exec.stopBefore "k0_part2" in sl_exec (disch := assumption)

  set_option sl_exec.stopBefore "k0_cond2" in sl_exec (disch := assumption)
  have e16 : arg16.view.writes (Elt F) f16 [⟨Rect.unit (s := S4000x128) ![0, 0] S4000x128.size inb_S4000x128_S4000x128_0_0,
        k0_pay27 (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5))) (k0_pay26 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)))
          (View.readAt (Elt F) arg15.view (Rect.unit (s := S1152x128) (k0_off1 (baseW (View.readAt (Elt F) arg2.view (Rect.unit (s := S4000x1) ![0, 0] S4000x1.size inb_S4000x1_S4000x1_0_0).toLoadRect (harg2.unread x1)))) S128x128.size
            (k0_off1_inb _ hk.c1)).toLoadRect (harg15.unread (gzAfter i x6 x7 xs1)))
          (View.readAt (Elt F) arg8.view (Rect.unit (s := S128x128) ![0, 0] S128x128.size inb_S128x128_S128x128_0_0).toLoadRect (harg8.unread x7))⟩]
      = harg16.unread (wgt1 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)) := harg16.eq_unread (by
    rw [View.read_writes_full, View.readAt_unit arg15.view _ (k0_off1_inb _ hk.c1) rfl (k0_off1_inb _ hk.c1), harg15.read_unread]; rfl)
  try rw [wp_bind]
  iapply (gather_region c arg15 harg15 arg16 harg16 _ (k0_off2 (baseW (View.readAt (Elt F) arg2.view (Rect.unit (s := S4000x1) ![0, 0] S4000x1.size inb_S4000x1_S4000x1_0_0).toLoadRect (harg2.unread x1)))) (k0_off2_inb _ _ hk.c2)
    (k0_pay29 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt1 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · rw [← e16]; iexact HS2
  iintro ⟨HS1, HS2⟩
  set_option sl_exec.stopBefore "k0_cond3" in sl_exec (disch := assumption)
  try rw [wp_bind]
  iapply (gather_region c arg15 harg15 arg16 harg16 _ (k0_off3 (baseW (View.readAt (Elt F) arg2.view (Rect.unit (s := S4000x1) ![0, 0] S4000x1.size inb_S4000x1_S4000x1_0_0).toLoadRect (harg2.unread x1)))) (k0_off3_inb _ _ hk.c3)
    (k0_pay31 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt2 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond4" in sl_exec (disch := assumption)
  try rw [wp_bind]
  iapply (gather_region c arg15 harg15 arg16 harg16 _ (k0_off4 (baseW (View.readAt (Elt F) arg2.view (Rect.unit (s := S4000x1) ![0, 0] S4000x1.size inb_S4000x1_S4000x1_0_0).toLoadRect (harg2.unread x1)))) (k0_off4_inb _ _ hk.c4)
    (k0_pay33 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt3 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond5" in sl_exec (disch := assumption)
  try rw [wp_bind]
  iapply (gather_region c arg15 harg15 arg16 harg16 _ (k0_off5 (baseW (View.readAt (Elt F) arg2.view (Rect.unit (s := S4000x1) ![0, 0] S4000x1.size inb_S4000x1_S4000x1_0_0).toLoadRect (harg2.unread x1)))) (k0_off5_inb _ _ hk.c5)
    (k0_pay35 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt4 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond6" in sl_exec (disch := assumption)
  try rw [wp_bind]
  iapply (gather_region c arg15 harg15 arg16 harg16 _ (k0_off6 (baseW (View.readAt (Elt F) arg2.view (Rect.unit (s := S4000x1) ![0, 0] S4000x1.size inb_S4000x1_S4000x1_0_0).toLoadRect (harg2.unread x1)))) (k0_off6_inb _ _ hk.c6)
    (k0_pay37 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt5 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond7" in sl_exec (disch := assumption)
  try rw [wp_bind]
  iapply (gather_region c arg15 harg15 arg16 harg16 _ (k0_off7 (baseW (View.readAt (Elt F) arg2.view (Rect.unit (s := S4000x1) ![0, 0] S4000x1.size inb_S4000x1_S4000x1_0_0).toLoadRect (harg2.unread x1)))) (k0_off7_inb _ _ hk.c7)
    (k0_pay39 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt6 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond8" in sl_exec (disch := assumption)
  try rw [wp_bind]
  iapply (gather_region c arg15 harg15 arg16 harg16 _ (k0_off8 (baseW (View.readAt (Elt F) arg2.view (Rect.unit (s := S4000x1) ![0, 0] S4000x1.size inb_S4000x1_S4000x1_0_0).toLoadRect (harg2.unread x1)))) (k0_off8_inb _ _ hk.c8)
    (k0_pay41 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt7 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond9" in sl_exec (disch := assumption)
  try rw [wp_bind]
  iapply (gather_region c arg15 harg15 arg16 harg16 _ (k0_off9 (baseW (View.readAt (Elt F) arg2.view (Rect.unit (s := S4000x1) ![0, 0] S4000x1.size inb_S4000x1_S4000x1_0_0).toLoadRect (harg2.unread x1)))) (k0_off9_inb _ _ hk.c9)
    (k0_pay43 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay25 (View.readAt (Elt F) arg4.view (Rect.unit (s := S4000x1) ![0, 0] S4000x1.size inb_S4000x1_S4000x1_0_0).toLoadRect (harg4.unread x3)) (View.readAt (Elt F) arg6.view (Rect.unit (s := S1x128) ![0, 0] S1x128.size inb_S1x128_S1x128_0_0).toLoadRect (harg6.unread x5)))) (gzAfter i x6 x7 xs1) (wgt8 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))
  isplitl [HS1]; · iexact HS1
  isplitl [HS2]; · iexact HS2
  iintro ⟨HS1, HS2⟩
  set_option sl_exec.stopBefore "k0_cond10" in sl_exec (disch := assumption)
  have e14 : arg14.view.writes (Elt F) (harg14.unread (cleared (C := IsFirst i) xs0)) [⟨Rect.unit (s := S1152x256) (k0_off10 (baseW (View.readAt (Elt F) arg2.view (Rect.unit (s := S4000x1) ![0, 0] S4000x1.size inb_S4000x1_S4000x1_0_0).toLoadRect (harg2.unread x1)))) S128x256.size (k0_off10_inb _ hk.c1),
        k0_pay45 (k0_pay18 (View.readAt (Elt F) arg1.view (Rect.unit (s := S4000x128) ![0, 0] S4000x128.size inb_S4000x128_S4000x128_0_0).toLoadRect (harg1.unread x0))) (k0_pay20 (View.readAt (Elt F) arg3.view (Rect.unit (s := S1x1x4000) ![0, 0, 0] S1x1x4000.size inb_S1x1x4000_S1x1x4000_0_0_0).toLoadRect (harg3.unread x2))) (baseId (View.readAt (Elt F) arg2.view (Rect.unit (s := S4000x1) ![0, 0] S4000x1.size inb_S4000x1_S4000x1_0_0).toLoadRect (harg2.unread x1))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))))
          (View.readAt (Elt F) arg14.view (Rect.unit (s := S1152x256) (k0_off10 (baseW (View.readAt (Elt F) arg2.view (Rect.unit (s := S4000x1) ![0, 0] S4000x1.size inb_S4000x1_S4000x1_0_0).toLoadRect (harg2.unread x1)))) S128x256.size
            (k0_off10_inb _ hk.c1)).toLoadRect (harg14.unread (cleared (C := IsFirst i) xs0)))⟩]
      = harg14.unread (acc9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) := harg14.eq_unread (by
    rw [View.read_writes_cons_put _ _ (k0_off10_inb _ hk.c1) _ _ rfl, View.readAt_unit arg14.view _ (k0_off10_inb _ hk.c1) rfl (k0_off10_inb _ hk.c1), View.writes_nil,
      harg14.read_unread]; rfl)
  have e79 : View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))) = (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)) := by
    rw [View.readAt_full arg16.view, harg16.read_unread]
  try rw [wp_bind]
  iapply (scatter_region c arg14 harg14 _ (k0_off11 (baseW (View.readAt (Elt F) arg2.view (Rect.unit (s := S4000x1) ![0, 0] S4000x1.size inb_S4000x1_S4000x1_0_0).toLoadRect (harg2.unread x1)))) (k0_off11_inb _ _ hk.c10)
    (k0_pay47 (k0_pay18 (View.readAt (Elt F) arg1.view (Rect.unit (s := S4000x128) ![0, 0] S4000x128.size inb_S4000x128_S4000x128_0_0).toLoadRect (harg1.unread x0))) (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1))))) (acc9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · rw [← e14]; iexact HS0
  iintro HS0
  set_option sl_exec.stopBefore "k0_cond11" in sl_exec (disch := assumption)
  try rw [wp_bind]
  iapply (scatter_region c arg14 harg14 _ (k0_off12 (baseW (View.readAt (Elt F) arg2.view (Rect.unit (s := S4000x1) ![0, 0] S4000x1.size inb_S4000x1_S4000x1_0_0).toLoadRect (harg2.unread x1)))) (k0_off12_inb _ _ hk.c11)
    (k0_pay1 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc10 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond12" in sl_exec (disch := assumption)
  try rw [wp_bind]
  iapply (scatter_region c arg14 harg14 _ (k0_off13 (baseW (View.readAt (Elt F) arg2.view (Rect.unit (s := S4000x1) ![0, 0] S4000x1.size inb_S4000x1_S4000x1_0_0).toLoadRect (harg2.unread x1)))) (k0_off13_inb _ _ hk.c12)
    (k0_pay3 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc11 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond13" in sl_exec (disch := assumption)
  try rw [wp_bind]
  iapply (scatter_region c arg14 harg14 _ (k0_off14 (baseW (View.readAt (Elt F) arg2.view (Rect.unit (s := S4000x1) ![0, 0] S4000x1.size inb_S4000x1_S4000x1_0_0).toLoadRect (harg2.unread x1)))) (k0_off14_inb _ _ hk.c13)
    (k0_pay5 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc12 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond14" in sl_exec (disch := assumption)
  try rw [wp_bind]
  iapply (scatter_region c arg14 harg14 _ (k0_off15 (baseW (View.readAt (Elt F) arg2.view (Rect.unit (s := S4000x1) ![0, 0] S4000x1.size inb_S4000x1_S4000x1_0_0).toLoadRect (harg2.unread x1)))) (k0_off15_inb _ _ hk.c14)
    (k0_pay7 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc13 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond15" in sl_exec (disch := assumption)
  try rw [wp_bind]
  iapply (scatter_region c arg14 harg14 _ (k0_off16 (baseW (View.readAt (Elt F) arg2.view (Rect.unit (s := S4000x1) ![0, 0] S4000x1.size inb_S4000x1_S4000x1_0_0).toLoadRect (harg2.unread x1)))) (k0_off16_inb _ _ hk.c15)
    (k0_pay9 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc14 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond16" in sl_exec (disch := assumption)
  try rw [wp_bind]
  iapply (scatter_region c arg14 harg14 _ (k0_off17 (baseW (View.readAt (Elt F) arg2.view (Rect.unit (s := S4000x1) ![0, 0] S4000x1.size inb_S4000x1_S4000x1_0_0).toLoadRect (harg2.unread x1)))) (k0_off17_inb _ _ hk.c16)
    (k0_pay11 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc15 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond17" in sl_exec (disch := assumption)
  try rw [wp_bind]
  iapply (scatter_region c arg14 harg14 _ (k0_off18 (baseW (View.readAt (Elt F) arg2.view (Rect.unit (s := S4000x1) ![0, 0] S4000x1.size inb_S4000x1_S4000x1_0_0).toLoadRect (harg2.unread x1)))) (k0_off18_inb _ _ hk.c17)
    (k0_pay13 (k0_pay19 (View.readAt (Elt F) arg2.view (Rect.unit (s := S4000x1) ![0, 0] S4000x1.size inb_S4000x1_S4000x1_0_0).toLoadRect (harg2.unread x1))) (k0_pay21 (View.readAt (Elt F) arg5.view (Rect.unit (s := S1x128) ![0, 0] S1x128.size inb_S1x128_S1x128_0_0).toLoadRect (harg5.unread x4))) (baseId (View.readAt (Elt F) arg2.view (Rect.unit (s := S4000x1) ![0, 0] S4000x1.size inb_S4000x1_S4000x1_0_0).toLoadRect (harg2.unread x1))) (k0_pay44 (k0_pay18 (View.readAt (Elt F) arg1.view (Rect.unit (s := S4000x128) ![0, 0] S4000x128.size inb_S4000x128_S4000x128_0_0).toLoadRect (harg1.unread x0))) (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))))) (acc16 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)))
  isplitl [HS0]; · iexact HS0
  iintro HS0
  set_option sl_exec.stopBefore "k0_cond18" in sl_exec (disch := assumption)
  try rw [wp_bind]
  iapply (finish_region c arg14 harg14 arg7 harg7 arg9 harg9 arg11 harg11 arg10 harg10 arg12 harg12 arg13 harg13 _ (acc17 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) x6 x8 x10 x9 x11 xi12)
  isplitl [HS0]; · iexact HS0
  isplitl [H6]; · iexact H6
  isplitl [H8]; · iexact H8
  isplitl [H10]; · iexact H10
  isplitl [H9]; · iexact H9
  isplitl [H11]; · iexact H11
  isplitl [H12]; · iexact H12
  iintro ⟨HS0, H6, H8, H10, H9, H11, H12⟩
  sl_exec
  sl_step
  have esd : (acc17 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg5.view (Rect.unit (s := S1x128) ![0, 0] S1x128.size inb_S1x128_S1x128_0_0).toLoadRect (harg5.unread x4)) hk (View.readAt (Elt F) arg16.view (Rect.unit (s := S4000x128) ![0, 0] S4000x128.size inb_S4000x128_S4000x128_0_0).toLoadRect (harg16.unread (wgt9 (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1)))) (cleared (C := IsFirst i) xs0)) = (sdAfter i (View.readAt (Elt F) arg1.view (Rect.unit (s := S4000x128) ![0, 0] S4000x128.size inb_S4000x128_S4000x128_0_0).toLoadRect (harg1.unread x0)) (View.readAt (Elt F) arg2.view (Rect.unit (s := S4000x1) ![0, 0] S4000x1.size inb_S4000x1_S4000x1_0_0).toLoadRect (harg2.unread x1)) (View.readAt (Elt F) arg3.view (Rect.unit (s := S1x1x4000) ![0, 0, 0] S1x1x4000.size inb_S1x1x4000_S1x1x4000_0_0_0).toLoadRect (harg3.unread x2)) (View.readAt (Elt F) arg4.view (Rect.unit (s := S4000x1) ![0, 0] S4000x1.size inb_S4000x1_S4000x1_0_0).toLoadRect (harg4.unread x3)) (View.readAt (Elt F) arg5.view (Rect.unit (s := S1x128) ![0, 0] S1x128.size inb_S1x128_S1x128_0_0).toLoadRect (harg5.unread x4)) (View.readAt (Elt F) arg6.view (Rect.unit (s := S1x128) ![0, 0] S1x128.size inb_S1x128_S1x128_0_0).toLoadRect (harg6.unread x5)) (View.readAt (Elt F) arg8.view (Rect.unit (s := S128x128) ![0, 0] S128x128.size inb_S128x128_S128x128_0_0).toLoadRect (harg8.unread x7)) hk (gzAfter i x6 x7 xs1) xs0) := by rw [e79]; rfl
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · rw [← esd]; iexact H12
  isplitl [HS0]; · rw [← esd]; iexact HS0
  isplitl [HS1]; · iexact HS1
  iexact HS2

end Cert.WordsIdeal.Pool

end
-- ==== Proof.WOwn.lean ====
/- The pooling body's triple over buffers owned at stated contents. (The second program.) -/
module

public import proofs.«01_k».proof.Proof.WRun

@[expose] public section

set_option maxRecDepth 16384

noncomputable section

namespace Cert.WordsIdeal.Pool

open Cert.WordsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at one grid point: what it leaves in each buffer it is called on. -/
theorem run_owns (c : Dev nD) (i : grid0.Coords) (arg1 : Memref sig .tc .vmem S4000x128 .f32) (harg1 : arg1.IsWhole) (arg2 : Memref sig .tc .vmem S4000x1 .f32) (harg2 : arg2.IsWhole) (arg3 : Memref sig .tc .vmem S1x1x4000 .f32) (harg3 : arg3.IsWhole) (arg4 : Memref sig .tc .vmem S4000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S128x128 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1000x128 .f32) (harg13 : arg13.IsWhole) (arg14 : Memref sig .tc .vmem S1152x256 .f32) (harg14 : arg14.IsWhole) (arg15 : Memref sig .tc .vmem S1152x128 .bf16) (harg15 : arg15.IsWhole) (arg16 : Memref sig .tc .vmem S4000x128 .bf16) (harg16 : arg16.IsWhole)
    (x0 : Vec F S4000x128 .f32) (x1 : Vec F S4000x1 .f32) (x2 : Vec F S1x1x4000 .f32) (x3 : Vec F S4000x1 .f32) (x4 : Vec F S1x128 .f32) (x5 : Vec F S1x128 .f32) (x6 : Vec F S1000x128 .f32) (x7 : Vec F S128x128 .bf16) (x8 : Vec F S128x128 .f32) (x9 : Vec F S128x128 .f32) (x10 : Vec F S1x128 .f32) (x11 : Vec F S1x128 .f32)
    (xi12 : Vec F S1000x128 .f32) (xs0 : Vec F S1152x256 .f32) (xs1 : Vec F S1152x128 .bf16) (hk : Checks x1)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare xi12
      ∗ owns (c : Thread nD τ) arg14 fullShare xs0
      ∗ owns (c : Thread nD τ) arg15 fullShare xs1
      ∗ (∃ d, owns (c : Thread nD τ) arg16 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare (outAfter i (sdAfter i x0 x1 x2 x3 x4 x5 x7 hk (gzAfter i x6 x7 xs1) xs0) x6 x8 x9 x10 x11 xi12)
          ∗ owns (c : Thread nD τ) arg14 fullShare (sdAfter i x0 x1 x2 x3 x4 x5 x7 hk (gzAfter i x6 x7 xs1) xs0)
          ∗ owns (c : Thread nD τ) arg15 fullShare (gzAfter i x6 x7 xs1)
          ∗ (∃ d, owns (c : Thread nD τ) arg16 fullShare d)) -∗ K ⟨⟩))
      ⊢ wp frame (wpE (defs₀ (F := F)) Variants.none c none) E (cc0__pool_body_words i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hfs0
  obtain rfl := harg15.eq_unread hfs1
  iapply (run_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xi12 xs0 xs1 fs2
    x0 (by rw [View.readAt_full, harg1.read_unread]) x1 (by rw [View.readAt_full, harg2.read_unread]) x2 (by rw [View.readAt_full, harg3.read_unread]) x3 (by rw [View.readAt_full, harg4.read_unread]) x4 (by rw [View.readAt_full, harg5.read_unread]) x5 (by rw [View.readAt_full, harg6.read_unread]) x7 (by rw [View.readAt_full, harg8.read_unread]) hk E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [HS0]
  · iexists _; isplitr; · ipureintro; exact harg14.read_unread _
    iexact HS0
  isplitl [HS1]
  · iexists _; isplitr; · ipureintro; exact harg15.read_unread _
    iexact HS1
  iexists (wgt9 x0 x1 x3 x4 x5 x7 hk (gzAfter i x6 x7 xs1)); iexists _; isplitr; · ipureintro; exact harg16.read_unread _
  iexact HS2

end Cert.WordsIdeal.Pool

end
-- ==== Proof.WLaunch.lean ====
/- The pooling kernel's frame: what its scratch buffers hold after each grid point, the body's obligation at every point,
   and the launch, over any memory whose segment-id blocks meet the window side conditions. (The second program.) -/
module

public import proofs.«01_k».proof.Proof.WOwn
public import Idealize.ShloMosaic.Lib.Pipeline.FrameBody
public import Idealize.ShloMosaic.Lib.WordCmp
public import Idealize.ShloMosaic.Lib.Claim

@[expose] public section

set_option maxRecDepth 16384

noncomputable section

namespace Cert.WordsIdeal.Pool

open Cert.WordsIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every block of segment ids meets the side conditions of the windows. -/
def AllChecks : Prop := ∀ (c : Dev nD) (t : Fin cfg0.N), Checks (F := F) (iblk m c 1 t)

/-- The opening region runs at the first point only. -/
theorem isFirst_iff : ∀ t : Fin cfg0.N, IsFirst (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have key : IsFirst (grid0.coords t) ↔ t.val % 25 = 0 := by
      simp only [IsFirst, e0]
      word_cmp
    rw [key]; omega
   : ∀ t : Fin grid0.N, IsFirst (grid0.coords t) ↔ t.val = 0)

/-- The closing region runs at the last point only. -/
theorem isLast_iff : ∀ t : Fin cfg0.N, IsLast (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    have key : IsLast (grid0.coords t) ↔ t.val % 25 = 24 := by
      simp only [IsLast, k0_cond18, e0]
      word_cmp
    rw [key]; omega
   : ∀ t : Fin grid0.N, IsLast (grid0.coords t) ↔ t.val = 24)

/-- Before the last point the result's window is idle, -/
theorem idle_out : ∀ t : Fin cfg0.N, ¬ IsLast (grid0.coords t) → cfg0.idle 12 (grid0.coords t) = true := by decide +kernel
/-- and is not written back; -/
theorem noFlush_out : ∀ t : Fin cfg0.N, ¬ IsLast (grid0.coords t) → (cfg0.win 12).flush t = false := by decide +kernel
/-- at the last point it is live. -/
theorem live_out : ∀ t : Fin cfg0.N, IsLast (grid0.coords t) → cfg0.idle 12 (grid0.coords t) = false := by decide +kernel

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl

variable (hC : AllChecks m)

/-- The accumulator and the projected table after point `n`. -/
def scr (c : Dev nD) : (n : ℕ) → n < cfg0.N → Vec F S1152x256 .f32 × Vec F S1152x128 .bf16
  | 0, h =>
    (sdAfter (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 7 ⟨0, h⟩) (hC c ⟨0, h⟩)
      (gzAfter (grid0.coords ⟨0, h⟩) (iblk m c 6 ⟨0, h⟩) (iblk m c 7 ⟨0, h⟩) k0_pay16) k0_pay15,
     gzAfter (grid0.coords ⟨0, h⟩) (iblk m c 6 ⟨0, h⟩) (iblk m c 7 ⟨0, h⟩) k0_pay16)
  | n + 1, h =>
    (sdAfter (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 7 ⟨n + 1, h⟩) (hC c ⟨n + 1, h⟩)
      (gzAfter (grid0.coords ⟨n + 1, h⟩) (iblk m c 6 ⟨n + 1, h⟩) (iblk m c 7 ⟨n + 1, h⟩) (scr c n (Nat.lt_of_succ_lt h)).2)
      (scr c n (Nat.lt_of_succ_lt h)).1,
     gzAfter (grid0.coords ⟨n + 1, h⟩) (iblk m c 6 ⟨n + 1, h⟩) (iblk m c 7 ⟨n + 1, h⟩) (scr c n (Nat.lt_of_succ_lt h)).2)

/-- At the first point what the scratch held before does not matter. -/
theorem scr_first (c : Dev nD) (t : Fin cfg0.N) (hz : t.val = 0) (sd : Vec F S1152x256 .f32) (gz : Vec F S1152x128 .bf16) :
    scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) gz) sd,
         gzAfter (grid0.coords t) (iblk m c 6 t) (iblk m c 7 t) gz) := by
  obtain ⟨n, hn⟩ := t
  obtain rfl : n = 0 := hz
  have hf : IsFirst (grid0.coords ⟨0, hn⟩) := (isFirst_iff ⟨0, hn⟩).mpr rfl
  unfold scr sdAfter gzAfter seeded cleared
  rw [if_pos hf, if_pos hf, if_pos hf, if_pos hf]

/-- At a later point the scratch is a step from what the point before left. -/
theorem scr_next (c : Dev nD) (t : Fin cfg0.N) (hz : t.val ≠ 0) (h : t.val - 1 < cfg0.N) :
    scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) (scr m hC c (t.val - 1) h).2) (scr m hC c (t.val - 1) h).1,
         gzAfter (grid0.coords t) (iblk m c 6 t) (iblk m c 7 t) (scr m hC c (t.val - 1) h).2) := by
  obtain ⟨n, hn⟩ := t
  cases n with
  | zero => exact absurd rfl hz
  | succ n => rfl

/-- The result block as the last point leaves it. -/
def outBlock (c : Dev nD) (t : Fin cfg0.N) : Vec F S1000x128 .f32 :=
  k0_pay14 (VecWindow.window (scr m hC c t.val t.isLt).1 ![0, 0] S1000x128.size inb_S1152x256_S1000x128_0_0)
    (VecWindow.window (scr m hC c t.val t.isLt).1 ![0, 128] S1000x128.size inb_S1152x256_S1000x128_0_128)
    (iblk m c 6 t) (iblk m c 8 t) (iblk m c 10 t) (iblk m c 9 t) (iblk m c 11 t)

abbrev scM0 : Memref sig .tc .vmem S1152x256 .f32 := Memref.whole cc0_scratch0
abbrev scM1 : Memref sig .tc .vmem S1152x128 .bf16 := Memref.whole cc0_scratch1
abbrev scM2 : Memref sig .tc .vmem S4000x128 .bf16 := Memref.whole cc0_scratch2

/-- The launch's invariant with the scratch buffers as owned memrefs. -/
theorem phiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The invariant between points: before the first the scratch at anything, afterwards at `scr`. -/
def PhiS (c : Dev nD) : (n : ℕ) → n ≤ cfg0.N → sProp 𝕄
  | 0, _ => Pipeline.ΦA spec0 c
  | n + 1, hn => iprop(iprop(owns (c : Thread nD τ) scM0 fullShare ((scr m hC c n hn).1)
      ∗ owns (c : Thread nD τ) scM1 fullShare ((scr m hC c n hn).2) ∗ (∃ d, owns (c : Thread nD τ) scM2 fullShare d)) ∗ (∃ r, prngReg c r))

theorem PhiS_zero (c : Dev nD) (n : ℕ) (h : n ≤ cfg0.N) (hz : n = 0) : PhiS m hC c n h = Pipeline.ΦA spec0 c := by
  subst hz; rfl

theorem PhiS_succ (c : Dev nD) (n : ℕ) (hn : n < cfg0.N) :
    PhiS m hC c (n + 1) hn = iprop(iprop(owns (c : Thread nD τ) scM0 fullShare ((scr m hC c n hn).1)
      ∗ owns (c : Thread nD τ) scM1 fullShare ((scr m hC c n hn).2) ∗ (∃ d, owns (c : Thread nD τ) scM2 fullShare d)) ∗ (∃ r, prngReg c r)) := rfl

theorem PhiS_pos (c : Dev nD) (n : ℕ) (h : n ≤ cfg0.N) (hz : n ≠ 0) :
    PhiS m hC c n h = iprop(iprop(owns (c : Thread nD τ) scM0 fullShare ((scr m hC c (n - 1) (by omega)).1)
      ∗ owns (c : Thread nD τ) scM1 fullShare ((scr m hC c (n - 1) (by omega)).2)
      ∗ (∃ d, owns (c : Thread nD τ) scM2 fullShare d)) ∗ (∃ r, prngReg c r)) := by
  cases n with
  | zero => exact absurd rfl hz
  | succ n => rfl

/-- The pipeline's proof data: every input block stays, the result block is `outBlock`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock m hC c t
  Φ t := PhiS m hC c t.val (Nat.le_of_lt_succ t.isLt)
  q _ := fullShare
  owed _ := 0

theorem A_eq (c : Dev nD) (w : Fin cfg0.W) : (dats m hC 0 c).A w = V m c (Pipeline.arrRef spec0 w) := by
  dsimp only [dats]

theorem PhiS_castSucc (c : Dev nD) (t : Fin cfg0.N) :
    (dats m hC 0 c).Φ t.castSucc = PhiS m hC c t.val (Nat.le_of_lt t.isLt) := by
  dsimp only [dats]; exact Pipeline.Dat.Φ_castSucc (PhiS m hC c) t

theorem after_0 (c : Dev nD) (t : Fin cfg0.N) : (dats m hC 0 c).after 0 t = iblk m c 0 t := by dsimp only [dats]
theorem after_1 (c : Dev nD) (t : Fin cfg0.N) : (dats m hC 0 c).after 1 t = iblk m c 1 t := by dsimp only [dats]
theorem after_2 (c : Dev nD) (t : Fin cfg0.N) : (dats m hC 0 c).after 2 t = iblk m c 2 t := by dsimp only [dats]
theorem after_3 (c : Dev nD) (t : Fin cfg0.N) : (dats m hC 0 c).after 3 t = iblk m c 3 t := by dsimp only [dats]
theorem after_4 (c : Dev nD) (t : Fin cfg0.N) : (dats m hC 0 c).after 4 t = iblk m c 4 t := by dsimp only [dats]
theorem after_5 (c : Dev nD) (t : Fin cfg0.N) : (dats m hC 0 c).after 5 t = iblk m c 5 t := by dsimp only [dats]
theorem after_6 (c : Dev nD) (t : Fin cfg0.N) : (dats m hC 0 c).after 6 t = iblk m c 6 t := by dsimp only [dats]
theorem after_7 (c : Dev nD) (t : Fin cfg0.N) : (dats m hC 0 c).after 7 t = iblk m c 7 t := by dsimp only [dats]
theorem after_8 (c : Dev nD) (t : Fin cfg0.N) : (dats m hC 0 c).after 8 t = iblk m c 8 t := by dsimp only [dats]
theorem after_9 (c : Dev nD) (t : Fin cfg0.N) : (dats m hC 0 c).after 9 t = iblk m c 9 t := by dsimp only [dats]
theorem after_10 (c : Dev nD) (t : Fin cfg0.N) : (dats m hC 0 c).after 10 t = iblk m c 10 t := by dsimp only [dats]
theorem after_11 (c : Dev nD) (t : Fin cfg0.N) : (dats m hC 0 c).after 11 t = iblk m c 11 t := by dsimp only [dats]
theorem after_12 (c : Dev nD) (t : Fin cfg0.N) : (dats m hC 0 c).after 12 t = outBlock m hC c t := by dsimp only [dats]

theorem before_0 (c : Dev nD) (t : Fin cfg0.N) (d) : (dats m hC 0 c).before 0 t d = iblk m c 0 t :=
  before0_0_of m (dats m hC 0 c) (A_eq m hC c 0) (after_0 m hC c) t d
theorem before_1 (c : Dev nD) (t : Fin cfg0.N) (d) : (dats m hC 0 c).before 1 t d = iblk m c 1 t :=
  before0_1_of m (dats m hC 0 c) (A_eq m hC c 1) (after_1 m hC c) t d
theorem before_2 (c : Dev nD) (t : Fin cfg0.N) (d) : (dats m hC 0 c).before 2 t d = iblk m c 2 t :=
  before0_2_of m (dats m hC 0 c) (A_eq m hC c 2) (after_2 m hC c) t d
theorem before_3 (c : Dev nD) (t : Fin cfg0.N) (d) : (dats m hC 0 c).before 3 t d = iblk m c 3 t :=
  before0_3_of m (dats m hC 0 c) (A_eq m hC c 3) (after_3 m hC c) t d
theorem before_4 (c : Dev nD) (t : Fin cfg0.N) (d) : (dats m hC 0 c).before 4 t d = iblk m c 4 t :=
  before0_4_of m (dats m hC 0 c) (A_eq m hC c 4) (after_4 m hC c) t d
theorem before_5 (c : Dev nD) (t : Fin cfg0.N) (d) : (dats m hC 0 c).before 5 t d = iblk m c 5 t :=
  before0_5_of m (dats m hC 0 c) (A_eq m hC c 5) (after_5 m hC c) t d
theorem before_6 (c : Dev nD) (t : Fin cfg0.N) (d) : (dats m hC 0 c).before 6 t d = iblk m c 6 t :=
  before0_6_of m (dats m hC 0 c) (A_eq m hC c 6) (after_6 m hC c) t d
theorem before_7 (c : Dev nD) (t : Fin cfg0.N) (d) : (dats m hC 0 c).before 7 t d = iblk m c 7 t :=
  before0_7_of m (dats m hC 0 c) (A_eq m hC c 7) (after_7 m hC c) t d
theorem before_8 (c : Dev nD) (t : Fin cfg0.N) (d) : (dats m hC 0 c).before 8 t d = iblk m c 8 t :=
  before0_8_of m (dats m hC 0 c) (A_eq m hC c 8) (after_8 m hC c) t d
theorem before_9 (c : Dev nD) (t : Fin cfg0.N) (d) : (dats m hC 0 c).before 9 t d = iblk m c 9 t :=
  before0_9_of m (dats m hC 0 c) (A_eq m hC c 9) (after_9 m hC c) t d
theorem before_10 (c : Dev nD) (t : Fin cfg0.N) (d) : (dats m hC 0 c).before 10 t d = iblk m c 10 t :=
  before0_10_of m (dats m hC 0 c) (A_eq m hC c 10) (after_10 m hC c) t d
theorem before_11 (c : Dev nD) (t : Fin cfg0.N) (d) : (dats m hC 0 c).before 11 t d = iblk m c 11 t :=
  before0_11_of m (dats m hC 0 c) (A_eq m hC c 11) (after_11 m hC c) t d

theorem leaves_0 (c : Dev nD) (t : Fin cfg0.N) :
    (dats m hC 0 c).leavesExact 0 t = owns (c : Thread nD τ) (st0_0 t) fullShare (iblk m c 0 t) := by
  rw [← after_0 m hC c t]
theorem leaves_1 (c : Dev nD) (t : Fin cfg0.N) :
    (dats m hC 0 c).leavesExact 1 t = owns (c : Thread nD τ) (st0_1 t) fullShare (iblk m c 1 t) := by
  rw [← after_1 m hC c t]
theorem leaves_2 (c : Dev nD) (t : Fin cfg0.N) :
    (dats m hC 0 c).leavesExact 2 t = owns (c : Thread nD τ) (st0_2 t) fullShare (iblk m c 2 t) := by
  rw [← after_2 m hC c t]
theorem leaves_3 (c : Dev nD) (t : Fin cfg0.N) :
    (dats m hC 0 c).leavesExact 3 t = owns (c : Thread nD τ) (st0_3 t) fullShare (iblk m c 3 t) := by
  rw [← after_3 m hC c t]
theorem leaves_4 (c : Dev nD) (t : Fin cfg0.N) :
    (dats m hC 0 c).leavesExact 4 t = owns (c : Thread nD τ) (st0_4 t) fullShare (iblk m c 4 t) := by
  rw [← after_4 m hC c t]
theorem leaves_5 (c : Dev nD) (t : Fin cfg0.N) :
    (dats m hC 0 c).leavesExact 5 t = owns (c : Thread nD τ) (st0_5 t) fullShare (iblk m c 5 t) := by
  rw [← after_5 m hC c t]
theorem leaves_6 (c : Dev nD) (t : Fin cfg0.N) :
    (dats m hC 0 c).leavesExact 6 t = owns (c : Thread nD τ) (st0_6 t) fullShare (iblk m c 6 t) := by
  rw [← after_6 m hC c t]
theorem leaves_7 (c : Dev nD) (t : Fin cfg0.N) :
    (dats m hC 0 c).leavesExact 7 t = owns (c : Thread nD τ) (st0_7 t) fullShare (iblk m c 7 t) := by
  rw [← after_7 m hC c t]
theorem leaves_8 (c : Dev nD) (t : Fin cfg0.N) :
    (dats m hC 0 c).leavesExact 8 t = owns (c : Thread nD τ) (st0_8 t) fullShare (iblk m c 8 t) := by
  rw [← after_8 m hC c t]
theorem leaves_9 (c : Dev nD) (t : Fin cfg0.N) :
    (dats m hC 0 c).leavesExact 9 t = owns (c : Thread nD τ) (st0_9 t) fullShare (iblk m c 9 t) := by
  rw [← after_9 m hC c t]
theorem leaves_10 (c : Dev nD) (t : Fin cfg0.N) :
    (dats m hC 0 c).leavesExact 10 t = owns (c : Thread nD τ) (st0_10 t) fullShare (iblk m c 10 t) := by
  rw [← after_10 m hC c t]
theorem leaves_11 (c : Dev nD) (t : Fin cfg0.N) :
    (dats m hC 0 c).leavesExact 11 t = owns (c : Thread nD τ) (st0_11 t) fullShare (iblk m c 11 t) := by
  rw [← after_11 m hC c t]

/-- At the last point the result's window leaves `outBlock`. -/
theorem leaves_12 (c : Dev nD) (t : Fin cfg0.N) (h : IsLast (grid0.coords t)) :
    (dats m hC 0 c).leavesExact 12 t = owns (c : Thread nD τ) (st0_12 t) fullShare (outBlock m hC c t) := by
  rw [← after_12 m hC c t]; unfold Dat.leavesExact; rw [live_out t h]

/-- What the body is called with at a point, -/
def bodyPre (c : Dev nD) (t : Fin cfg0.N) : sProp 𝕄 :=
  iprop((dats m hC 0 c).Φ t.castSucc ∗ (dats m hC 0 c).owesAt () t.castSucc
    ∗ (∃ d, owns (c : Thread nD τ) (st0_0 t) fullShare ((dats m hC 0 c).before 0 t d))
    ∗ (∃ d, owns (c : Thread nD τ) (st0_1 t) fullShare ((dats m hC 0 c).before 1 t d))
    ∗ (∃ d, owns (c : Thread nD τ) (st0_2 t) fullShare ((dats m hC 0 c).before 2 t d))
    ∗ (∃ d, owns (c : Thread nD τ) (st0_3 t) fullShare ((dats m hC 0 c).before 3 t d))
    ∗ (∃ d, owns (c : Thread nD τ) (st0_4 t) fullShare ((dats m hC 0 c).before 4 t d))
    ∗ (∃ d, owns (c : Thread nD τ) (st0_5 t) fullShare ((dats m hC 0 c).before 5 t d))
    ∗ (∃ d, owns (c : Thread nD τ) (st0_6 t) fullShare ((dats m hC 0 c).before 6 t d))
    ∗ (∃ d, owns (c : Thread nD τ) (st0_7 t) fullShare ((dats m hC 0 c).before 7 t d))
    ∗ (∃ d, owns (c : Thread nD τ) (st0_8 t) fullShare ((dats m hC 0 c).before 8 t d))
    ∗ (∃ d, owns (c : Thread nD τ) (st0_9 t) fullShare ((dats m hC 0 c).before 9 t d))
    ∗ (∃ d, owns (c : Thread nD τ) (st0_10 t) fullShare ((dats m hC 0 c).before 10 t d))
    ∗ (∃ d, owns (c : Thread nD τ) (st0_11 t) fullShare ((dats m hC 0 c).before 11 t d))
    ∗ (∃ d, owns (c : Thread nD τ) (st0_12 t) fullShare ((dats m hC 0 c).before 12 t d)))

/-- and what it returns. -/
def bodyPost (c : Dev nD) (t : Fin cfg0.N) : sProp 𝕄 :=
  iprop((dats m hC 0 c).Φ t.succ ∗ (dats m hC 0 c).owesAt () t.succ
    ∗ (dats m hC 0 c).leavesExact 0 t
    ∗ (dats m hC 0 c).leavesExact 1 t
    ∗ (dats m hC 0 c).leavesExact 2 t
    ∗ (dats m hC 0 c).leavesExact 3 t
    ∗ (dats m hC 0 c).leavesExact 4 t
    ∗ (dats m hC 0 c).leavesExact 5 t
    ∗ (dats m hC 0 c).leavesExact 6 t
    ∗ (dats m hC 0 c).leavesExact 7 t
    ∗ (dats m hC 0 c).leavesExact 8 t
    ∗ (dats m hC 0 c).leavesExact 9 t
    ∗ (dats m hC 0 c).leavesExact 10 t
    ∗ (dats m hC 0 c).leavesExact 11 t
    ∗ (dats m hC 0 c).leavesExact 12 t)

/-- The result window's own part of what the body returns, from what the run leaves in it. -/
theorem leave_out (c : Dev nD) (t : Fin cfg0.N) (d12) :
    owns (c : Thread nD τ) (st0_12 t) fullShare
        (outAfter (grid0.coords t) (scr m hC c t.val t.isLt).1 (iblk m c 6 t) (iblk m c 8 t) (iblk m c 9 t) (iblk m c 10 t)
          (iblk m c 11 t) ((dats m hC 0 c).before 12 t d12))
      ⊢ ((dats m hC 0 c).leavesExact 12 t : sProp 𝕄) := by
  by_cases h : IsLast (grid0.coords t)
  · rw [leaves_12 m hC c t h]
    unfold outAfter finished outBlock
    rw [if_pos h]
    try exact Idealize.SL.BI.Entails.refl _
  · rw [Dat.leavesExact_idle (dats m hC 0 c) 12 t (idle_out t h) (noFlush_out t h)]
    unfold outAfter finished
    rw [if_neg h]
    iintro H
    iexists d12
    iexact H

set_option maxHeartbeats 4000000 in
/-- The body at any point, from the scratch contents `sd`, `gz` that lead to `scr` there. -/
theorem body_from (c : Dev nD) (t : Fin cfg0.N) (sd : Vec F S1152x256 .f32) (gz : Vec F S1152x128 .bf16)
    (hs : scr m hC c t.val t.isLt
      = (sdAfter (grid0.coords t) (iblk m c 0 t) (iblk m c 1 t) (iblk m c 2 t) (iblk m c 3 t) (iblk m c 4 t) (iblk m c 5 t) (iblk m c 7 t) (hC c t)
          (gzAfter (grid0.coords t) (iblk m c 6 t) (iblk m c 7 t) gz) sd,
         gzAfter (grid0.coords t) (iblk m c 6 t) (iblk m c 7 t) gz)) :
    iprop(iprop(iprop(owns (c : Thread nD τ) scM0 fullShare sd ∗ owns (c : Thread nD τ) scM1 fullShare gz
          ∗ (∃ d, owns (c : Thread nD τ) scM2 fullShare d)) ∗ (∃ r, prngReg c r))
        ∗ (dats m hC 0 c).owesAt () t.castSucc
    ∗ (∃ d, owns (c : Thread nD τ) (st0_0 t) fullShare ((dats m hC 0 c).before 0 t d))
    ∗ (∃ d, owns (c : Thread nD τ) (st0_1 t) fullShare ((dats m hC 0 c).before 1 t d))
    ∗ (∃ d, owns (c : Thread nD τ) (st0_2 t) fullShare ((dats m hC 0 c).before 2 t d))
    ∗ (∃ d, owns (c : Thread nD τ) (st0_3 t) fullShare ((dats m hC 0 c).before 3 t d))
    ∗ (∃ d, owns (c : Thread nD τ) (st0_4 t) fullShare ((dats m hC 0 c).before 4 t d))
    ∗ (∃ d, owns (c : Thread nD τ) (st0_5 t) fullShare ((dats m hC 0 c).before 5 t d))
    ∗ (∃ d, owns (c : Thread nD τ) (st0_6 t) fullShare ((dats m hC 0 c).before 6 t d))
    ∗ (∃ d, owns (c : Thread nD τ) (st0_7 t) fullShare ((dats m hC 0 c).before 7 t d))
    ∗ (∃ d, owns (c : Thread nD τ) (st0_8 t) fullShare ((dats m hC 0 c).before 8 t d))
    ∗ (∃ d, owns (c : Thread nD τ) (st0_9 t) fullShare ((dats m hC 0 c).before 9 t d))
    ∗ (∃ d, owns (c : Thread nD τ) (st0_10 t) fullShare ((dats m hC 0 c).before 10 t d))
    ∗ (∃ d, owns (c : Thread nD τ) (st0_11 t) fullShare ((dats m hC 0 c).before 11 t d))
    ∗ (∃ d, owns (c : Thread nD τ) (st0_12 t) fullShare ((dats m hC 0 c).before 12 t d)))
      ⊢ wp Idealize.ShloMosaic.frame (wpE (defs₀ (F := F)) Variants.none c none) Set.univ (bodyAt0 t) (fun _ => bodyPost m hC c t) := by
  unfold bodyPost bodyAt0
  simp only [before_0, before_1, before_2, before_3, before_4, before_5, before_6, before_7, before_8, before_9, before_10, before_11] at *
  rw [show (dats m hC 0 c).owesAt () t.succ = (dats m hC 0 c).owesAt () t.castSucc from rfl]
  rw [show (dats m hC 0 c).Φ t.succ = PhiS m hC c (t.val + 1) t.isLt from rfl, PhiS_succ]
  rw [leaves_0, leaves_1, leaves_2, leaves_3, leaves_4, leaves_5, leaves_6, leaves_7, leaves_8, leaves_9, leaves_10, leaves_11]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_owns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m hC 0 c).before 12 t d12) sd gz (hC c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · rw [hs]; iexact HS0
      isplitl [HS1]; · rw [hs]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (leave_out m hC c t d12)
  rw [hs]
  iexact H12

set_option maxHeartbeats 4000000 in
/-- The body at any point. -/
theorem sound_body (c : Dev nD) (t : Fin cfg0.N) :
    bodyPre m hC c t ⊢ wp Idealize.ShloMosaic.frame (wpE (defs₀ (F := F)) Variants.none c none) Set.univ (bodyAt0 t) (fun _ => bodyPost m hC c t) := by
  unfold bodyPre
  have hN : t.val < 25 := lt_of_lt_of_eq t.isLt (show cfg0.N = 25 from N_0)
  by_cases hz : t.val = 0
  · rw [PhiS_castSucc m hC c t, PhiS_zero m hC c _ _ hz, phiA_eq]
    iintro ⟨⟨⟨⟨%sd, HS0⟩, ⟨%gz, HS1⟩, HS2⟩, Hg⟩, Hr⟩
    iapply (body_from m hC c t sd gz (scr_first m hC c t hz sd gz))
    isplitl [HS0 HS1 HS2 Hg]
    · isplitl [HS0 HS1 HS2]
      · isplitl [HS0]; · iexact HS0
        isplitl [HS1]; · iexact HS1
        iexact HS2
      iexact Hg
    iexact Hr
  · rw [PhiS_castSucc m hC c t, PhiS_pos m hC c _ _ hz]
    exact body_from m hC c t _ _ (scr_next m hC c t hz (by have : cfg0.N = 25 := N_0; omega))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hC 0 c) (defs₀ (F := F)) Variants.none () Set.univ := fun t => by
  rw [bigSep_W0, bigSep_W0, defs₀_row]
  exact triple_restated (sound_body m hC c t) rfl .rfl fun _ => .rfl

theorem hin (c : Dev nD) : Pipeline.ΦA spec0 c ⊢ (dats m hC 0 c).Φ 0 := by
  rw [show (dats m hC 0 c).Φ 0 = PhiS m hC c 0 (Nat.zero_le _) from rfl, PhiS_zero m hC c 0 _ rfl]
  try exact Idealize.SL.BI.Entails.refl _

theorem hout (c : Dev nD) : (dats m hC 0 c).Φ (Fin.last cfg0.N) ⊢ Pipeline.ΦA spec0 c := by
  have ht : (Fin.last cfg0.N).val ≠ 0 := by rw [Fin.val_last]; have : cfg0.N = 25 := N_0; omega
  rw [show (dats m hC 0 c).Φ (Fin.last cfg0.N) = PhiS m hC c (Fin.last cfg0.N).val (Nat.le_of_lt_succ (Fin.last cfg0.N).isLt) from rfl,
    PhiS_pos m hC c _ _ ht, phiA_eq]
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
/-- The launch: every execution ends with the arrays at what the pipeline's data say and every counter at zero. -/
theorem run_main : θ_run defs (onTc (τ := τ) (main (F := F))) (s₀ m ρ)
    (fun r => (Pipeline.FramePost cfgs (dats m hC) 0 (V m)) r ∧ r.2.sem = fun _ => 0) :=
  Pipeline.θ_run_frame_track (Q' := _) cfgs (dats m hC) (0 : Fin 1) launch0 defs₀ Variants.none m ρ main
    (hbody := fun c => (body_obligation m hC c).loose) (hshare := fun c => (dats m hC 0 c).share_full fun _ => rfl)
    (howed := fun _ _ => rfl) (V := V m) (hmain := hmain m Variants.none) (hA := A_eq m hC) (hin := hin m hC) (hout := hout m hC)

include hC in
/-- The frame: the argument arrays end unchanged and every counter is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m hC) (A_eq m hC) ((θ_run defs _ _).mono (fun _ h => h.1) (run_main m ρ hC)))
    ((θ_run defs _ _).mono (fun _ h => h.2) (run_main m ρ hC))

end Cert.WordsIdeal.Pool

end
-- ==== Proof.WMaskTable.lean ====
/- The program's literal table is the mask of equal heads: entry (k, l) is the word of one where k and l lie in the same
   block of thirty-two, and zero elsewhere. (The second program.) -/
module

public import proofs.«01_k».proof.WordsIdeal

@[expose] public section

set_option maxRecDepth 16384

noncomputable section

namespace Cert.WordsIdeal.Pool

theorem mask_word : ∀ k l : Fin 128, lit0t (k.val * 128 + l.val) = if k.val / 32 = l.val / 32 then 0x3F800000#32 else 0#32 := by
  decide +kernel

end Cert.WordsIdeal.Pool

end
-- ==== Proof.WBlocks.lean ====
/- What each window's block holds at a grid point, over the extended reals, as entries of @main's argument arrays. (The second program.) -/
module

public import proofs.«01_k».proof.Proof.WLaunch
public import proofs.«01_k».proof.Proof.WMaskTable
public import Idealize.ShloMosaic.Lib.Claim
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.ValueKit.Geometry

@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

variable (m : (ℓ : Loc nD τ sig) → Buf (Elt Ideal) ℓ)

/-! ## The argument arrays, at their shapes -/

/-- The node features, the graph features, the degrees, the segment ids, the attention vector, and the two layers. -/
def argN (c : Dev nD) : S100000x128.Idx → EReal := m ((c : Thread nD τ).loc main_arg0)
def argG (c : Dev nD) : S1000x128.Idx → EReal := m ((c : Thread nD τ).loc main_arg1)
def argD (c : Dev nD) : S100000x1.Idx → EReal := m ((c : Thread nD τ).loc main_arg2)
def argS (c : Dev nD) : S100000.Idx → BitVec 32 := m ((c : Thread nD τ).loc main_arg3)
def argA (c : Dev nD) : S1x4x32.Idx → EReal := m ((c : Thread nD τ).loc main_arg4)
def argW1 (c : Dev nD) : S128x128.Idx → EReal := m ((c : Thread nD τ).loc main_arg5)
def argB1 (c : Dev nD) : S128.Idx → EReal := m ((c : Thread nD τ).loc main_arg6)
def argW2 (c : Dev nD) : S128x128.Idx → EReal := m ((c : Thread nD τ).loc main_arg7)
def argB2 (c : Dev nD) : S128.Idx → EReal := m ((c : Thread nD τ).loc main_arg8)

/-- The node that row `r` of point `t`'s block is. -/
def node (t : Fin cfg0.N) (r : Fin 4000) : Fin 100000 :=
  ⟨t.val * 4000 + r.val, by have := t.isLt; have h : cfg0.N = 25 := N_0; have := r.isLt; omega⟩

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 ∧ win0_2.index t 2 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel

variable (c : Dev nD) (t : Fin cfg0.N)

/-! ## The blocks as pieces of the arrays the launch finds -/

theorem block_0 (r : Fin 4000) (l : Fin 128) :
    (iblk m c 0 t : Vec Ideal S4000x128 .f32) (ix2 r l) = argN m c (ix2 (node t r) l) := by
  unfold argN; blk_ext [iblk, V, node, index_0 t] <;> rfl

theorem block_3 (r : Fin 4000) :
    (iblk m c 3 t : Vec Ideal S4000x1 .f32) (ix2 r 0) = argD m c (ix2 (node t r) 0) := by
  unfold argD; blk_ext [iblk, V, node, index_3 t] <;> rfl

theorem block_6 (b : Fin 1000) (l : Fin 128) :
    (iblk m c 6 t : Vec Ideal S1000x128 .f32) (ix2 b l) = argG m c (ix2 b l) := by
  unfold argG; blk_ext [iblk, V, index_6 t]

theorem block_1_entry (r : Fin 4000) :
    (iblk m c 1 t : Vec Ideal S4000x1 .f32) (ix2 r 0) = (V m c main_v1 : S100000x1.Idx → EReal) (ix2 (node t r) 0) := by
  blk_ext [iblk, node, index_1 t] <;> rfl

theorem block_2_entry (r : Fin 4000) :
    (iblk m c 2 t : Vec Ideal S1x1x4000 .f32) (ix3 0 0 r)
      = (V m c main_v2 : S25x1x4000.Idx → EReal) (ix3 ⟨t.val, lt_of_lt_of_eq t.isLt (show cfg0.N = 25 from N_0)⟩ 0 r) := by
  blk_ext [iblk, index_2 t]

theorem block_4_entry (l : Fin 128) :
    (iblk m c 4 t : Vec Ideal S1x128 .f32) (ix2 0 l) = (V m c main_v4 : S1x128.Idx → EReal) (ix2 0 l) := by
  blk_ext [iblk, index_4 t]

theorem block_5_entry (l : Fin 128) :
    (iblk m c 5 t : Vec Ideal S1x128 .f32) (ix2 0 l) = (V m c main_v5 : S1x128.Idx → EReal) (ix2 0 l) := by
  blk_ext [iblk, index_5 t]

theorem block_7_entry (k l : Fin 128) :
    (iblk m c 7 t : Vec Ideal S128x128 .bf16) (ix2 k l) = (V m c main_v9 : S128x128.Idx → EReal) (ix2 k l) := by
  blk_ext [iblk, index_7 t]

theorem block_8_entry (k l : Fin 128) :
    (iblk m c 8 t : Vec Ideal S128x128 .f32) (ix2 k l) = (V m c main_v10 : S128x128.Idx → EReal) (ix2 k l) := by
  blk_ext [iblk, index_8 t]

theorem block_9_entry (k l : Fin 128) :
    (iblk m c 9 t : Vec Ideal S128x128 .f32) (ix2 k l) = (V m c main_v11 : S128x128.Idx → EReal) (ix2 k l) := by
  blk_ext [iblk, index_9 t]

theorem block_10_entry (l : Fin 128) :
    (iblk m c 10 t : Vec Ideal S1x128 .f32) (ix2 0 l) = (V m c main_v12 : S1x128.Idx → EReal) (ix2 0 l) := by
  blk_ext [iblk, index_10 t]

theorem block_11_entry (l : Fin 128) :
    (iblk m c 11 t : Vec Ideal S1x128 .f32) (ix2 0 l) = (V m c main_v13 : S1x128.Idx → EReal) (ix2 0 l) := by
  blk_ext [iblk, index_11 t]

/-! ## The arrays the host lines make -/

theorem ids_column (n : Fin 100000) :
    (V m c main_v1 : S100000x1.Idx → EReal) (ix2 n 0) = (((argS m c (ix1 n)).toInt : ℝ) : EReal) := by
  entry_read
  exact shapeCast_a_a1_apply _ _ _ _

theorem ids_row (k : Fin 25) (r : Fin 4000) :
    (V m c main_v2 : S25x1x4000.Idx → EReal) (ix3 k 0 r)
      = (((argS m c (ix1 ⟨k.val * 4000 + r.val, by have := k.isLt; have := r.isLt; omega⟩)).toInt : ℝ) : EReal) := by
  entry_read
  refine (shapeCast_apply _ _ _ (ix1 ⟨k.val * 4000 + r.val, by have := k.isLt; have := r.isLt; omega⟩) ?_).trans rfl
  refine (Shape.rowMajor_val_one _).trans (Eq.trans ?_ (Shape.rowMajor_val_three (d := ![25, 1, 4000]) _).symm)
  show k.val * 4000 + r.val = (k.val * 1 + 0) * 4000 + r.val
  omega

theorem columns (l : Fin 128) : (V m c main_v4 : S1x128.Idx → EReal) (ix2 0 l) = ((l.val : ℝ) : EReal) := by
  entry_read
  refine (shapeCast_a_1a_apply _ _ _ _).trans ?_
  show (((BitVec.ofNat 32 l.val).toInt : ℝ) : EReal) = _
  have h : (BitVec.ofNat 32 l.val).toInt = (l.val : ℤ) := by
    have := l.isLt
    rw [BitVec.toInt_eq_toNat_of_lt (by rw [BitVec.toNat_ofNat]; omega), BitVec.toNat_ofNat, Nat.mod_eq_of_lt (by omega)]
  rw [h]; norm_cast

theorem ones_row (l : Fin 128) : (V m c main_v5 : S1x128.Idx → EReal) (ix2 0 l) = (1 : EReal) := by
  entry_read
  rw [broadcastInDim_scalar_apply, constant_apply]
  exact Ideal.ofBits_one_f32

theorem layer1 (k l : Fin 128) : (V m c main_v10 : S128x128.Idx → EReal) (ix2 k l) = argW1 m c (ix2 l k) := by
  entry_read
  exact transpose_ix2_apply _ _ _ _

theorem layer2 (k l : Fin 128) : (V m c main_v11 : S128x128.Idx → EReal) (ix2 k l) = argW2 m c (ix2 l k) := by
  entry_read
  exact transpose_ix2_apply _ _ _ _

theorem bias1 (l : Fin 128) : (V m c main_v12 : S1x128.Idx → EReal) (ix2 0 l) = argB1 m c (ix1 l) := by
  entry_read
  exact shapeCast_a_1a_apply _ _ _ _

theorem bias2 (l : Fin 128) : (V m c main_v13 : S1x128.Idx → EReal) (ix2 0 l) = argB2 m c (ix1 l) := by
  entry_read
  exact shapeCast_a_1a_apply _ _ _ _

/-- The attention weight of feature `k`. -/
def attn (k : Fin 128) : EReal := argA m c (ix3 0 ⟨k.val / 32, by have := k.isLt; omega⟩ ⟨k.val % 32, Nat.mod_lt _ (by decide)⟩)

theorem attention (k l : Fin 128) :
    (V m c main_v9 : S128x128.Idx → EReal) (ix2 k l) = if k.val / 32 = l.val / 32 then attn m c k else 0 := by
  entry_read
  rw [truncf_apply, mulf_apply]
  have hA : (broadcastInDim S128x128 ![0, 1] bcast_S128x1_S128x128_0_1
      (fun i => shapeCast main_v6.ty.shape (m (c, Proc.tc.devRef main_arg4)) shapeCasts_S1x4x32_S128x1 i) : S128x128.Idx → EReal) (ix2 k l)
      = attn m c k := by
    refine (broadcastInDim_apply _ _ _ _ (ix2 k 0) (fun a => by fin_cases a <;> rfl)).trans ?_
    refine shapeCast_apply _ _ _ _ ?_
    refine (Shape.rowMajor_val_three (d := ![1, 4, 32]) _).trans (Eq.trans ?_ (Shape.rowMajor_val_two (d := ![128, 1]) _).symm)
    show (0 * 4 + k.val / 32) * 32 + k.val % 32 = k.val * 1 + 0
    omega
  have hM : (lit0 (S128x128.rowMajor (ix2 k l)) : BitVec 32) = if k.val / 32 = l.val / 32 then 0x3F800000#32 else 0#32 := by
    rw [← mask_word k l]
    show lit0t (S128x128.rowMajor (ix2 k l)).val = _
    rw [Shape.rowMajor_val_two]
    rfl
  refine (congrArg₂ (· * ·) hA (congrArg (Ideal.ofBits .f32) hM)).trans ?_
  by_cases h : k.val / 32 = l.val / 32
  · rw [if_pos h, if_pos h, Ideal.ofBits_one_f32, mul_one]
  · rw [if_neg h, if_neg h]
    exact (congrArg (attn m c k * ·) Ideal.ofBits_zero_f32).trans (mul_zero _)

/-! ## The blocks as entries of the arguments -/

/-- Node `n`'s segment id as an integer. -/
def sid (n : Fin 100000) : ℤ := (argS m c (ix1 n)).toInt

theorem block_1 (r : Fin 4000) : (iblk m c 1 t : Vec Ideal S4000x1 .f32) (ix2 r 0) = ((sid m c (node t r) : ℝ) : EReal) :=
  (block_1_entry m c t r).trans (ids_column m c _)

theorem block_2 (r : Fin 4000) : (iblk m c 2 t : Vec Ideal S1x1x4000 .f32) (ix3 0 0 r) = ((sid m c (node t r) : ℝ) : EReal) :=
  (block_2_entry m c t r).trans (ids_row m c _ r)

theorem block_4 (l : Fin 128) : (iblk m c 4 t : Vec Ideal S1x128 .f32) (ix2 0 l) = ((l.val : ℝ) : EReal) :=
  (block_4_entry m c t l).trans (columns m c l)

theorem block_5 (l : Fin 128) : (iblk m c 5 t : Vec Ideal S1x128 .f32) (ix2 0 l) = (1 : EReal) :=
  (block_5_entry m c t l).trans (ones_row m c l)

theorem block_7 (k l : Fin 128) :
    (iblk m c 7 t : Vec Ideal S128x128 .bf16) (ix2 k l) = (if k.val / 32 = l.val / 32 then attn m c k else 0 : EReal) :=
  (block_7_entry m c t k l).trans (attention m c k l)

theorem block_8 (k l : Fin 128) : (iblk m c 8 t : Vec Ideal S128x128 .f32) (ix2 k l) = argW1 m c (ix2 l k) :=
  (block_8_entry m c t k l).trans (layer1 m c k l)

theorem block_9 (k l : Fin 128) : (iblk m c 9 t : Vec Ideal S128x128 .f32) (ix2 k l) = argW2 m c (ix2 l k) :=
  (block_9_entry m c t k l).trans (layer2 m c k l)

theorem block_10 (l : Fin 128) : (iblk m c 10 t : Vec Ideal S1x128 .f32) (ix2 0 l) = argB1 m c (ix1 l) :=
  (block_10_entry m c t l).trans (bias1 m c l)

theorem block_11 (l : Fin 128) : (iblk m c 11 t : Vec Ideal S1x128 .f32) (ix2 0 l) = argB2 m c (ix1 l) :=
  (block_11_entry m c t l).trans (bias2 m c l)

end Cert.WordsIdeal.Pool

end
-- ==== Proof.WChecks.lean ====
/- Ids in range put every window the kernel touches inside its buffer. (The second program.) -/
module
public import proofs.«01_k».proof.Proof.WBase
public import proofs.«01_k».proof.Proof.WBlocks
public import proofs.«01_k».proof.Proof.Pre

@[expose] public section

noncomputable section

namespace Cert.WordsIdeal.Pool

open Cert.WordsIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- Node `n`'s segment id as a natural number. -/
def sidN (n : Fin 100000) : ℕ := (sid m c n).toNat

theorem sid_cast (h : Cert.Pool.InRange (argS m c)) (n : Fin 100000) : sid m c n = (sidN m c n : ℤ) :=
  (Int.toNat_of_nonneg (h _).1).symm

theorem sidN_lt (h : Cert.Pool.InRange (argS m c)) (n : Fin 100000) : sidN m c n < 1000 := by
  have h1 := sid_cast m c h n
  have h2 : sid m c n < 1000 := (h _).2
  omega

/-- A block's ids are whole numbers below a thousand. -/
theorem ids (h : Cert.Pool.InRange (argS m c)) (t : Fin cfg0.N) :
    Ids (iblk m c 1 t) (fun r => sidN m c (node t r)) where
  col r := by
    rw [block_1, sid_cast m c h]
    norm_cast
  lt r := sidN_lt m c h _

theorem allChecks (h : ∀ c, Cert.Pool.InRange (argS m c)) : AllChecks m :=
  fun c t => checks (ids m c (h c) t)

end Cert.WordsIdeal.Pool
-- ==== Proof.WFrames.lean ====
/- The second program runs, over the extended reals, leaves its arguments unchanged and leaves every semaphore counter at zero. -/
module
public import proofs.«01_k».proof.Proof.WChecks
public import Idealize.ShloMosaic.Lib.Quiescent
public import Idealize.ShloMosaic.Lib.Claim

@[expose] public section

noncomputable section

namespace Cert.Pool

open Idealize.ShloMosaic Idealize.ShloMosaic.TcCoe Idealize.ShloMosaic.ValueIdx Idealize.SL.Sem

section
attribute [local instance] Cert.WordsIdeal.Gen.facts Cert.Pre_in_range.Gen.facts Cert.Pre_sound.Gen.facts

theorem words_in_range {m : (ℓ : Loc Cert.WordsIdeal.nD Cert.WordsIdeal.τ Cert.WordsIdeal.sig) → Buf (Elt Ideal) ℓ}
    (h : Cert.Pre_WordsIdeal m) (c : Dev Cert.WordsIdeal.nD) : InRange (Cert.WordsIdeal.Pool.argS m c) :=
  in_range_of (h c)

theorem words_sound {m : (ℓ : Loc Cert.WordsIdeal.nD Cert.WordsIdeal.τ Cert.WordsIdeal.sig) → Buf (Elt Ideal) ℓ}
    (h : Cert.Pre_WordsIdeal_sound m) (c : Dev Cert.WordsIdeal.nD) :
    Sound (Cert.WordsIdeal.Pool.argN m c) (Cert.WordsIdeal.Pool.argG m c) (Cert.WordsIdeal.Pool.argD m c)
      (Cert.WordsIdeal.Pool.argS m c) (Cert.WordsIdeal.Pool.argA m c) :=
  sound_of (h c)

theorem words_frame : Cert.quiescent_WordsIdeal := fun m g h =>
  Cert.WordsIdeal.Pool.frame_main m g (Cert.WordsIdeal.Pool.allChecks m (words_in_range h))

theorem words_frame_sound : Cert.quiescent_WordsIdeal_pre_sound := fun m g h =>
  Cert.WordsIdeal.Pool.frame_main m g (Cert.WordsIdeal.Pool.allChecks m fun c => (words_sound h c).range)

end

end Cert.Pool
-- ==== Proof.WOps.lean ====
/-
  The body's stored values read at an entry, over the extended reals: the block products as sums, the
  comparison matrices as zeros and ones, and each gather and scatter step in those terms. (The second program.) -/
module
public import proofs.«01_k».proof.Proof.WBase
public import Idealize.ShloMosaic.Lib.Pipeline.Value

@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

/-- A comparison as a number: one where it holds, zero elsewhere. -/
abbrev hot (p : Prop) [Decidable p] : EReal := if p then 1 else 0

theorem hot_word (a b : EReal) :
    FloatOps.sitofp (F := Ideal) .f32 ((FloatOps.cmpf (F := Ideal) (φ := .f32) .oeq a b).setWidth 32) = hot (a = b) := by
  show ((((BitVec.ofBool (decide (a = b))).setWidth 32).toInt : ℝ) : EReal) = _
  by_cases h : a = b
  · rw [hot, if_pos h, decide_eq_true h]; simp
  · rw [hot, if_neg h, decide_eq_false h]; simp

theorem product_1000_128 {φ₁ φ₂ : FTy} (x : FVec Ideal S1000x128 φ₁) (y : FVec Ideal S128x128 φ₂) (i : Fin 1000) (j : Fin 128) :
    matmul dot_S1000x128_S128x128_S1000x128_1_0_0_1_n_n none x y (constant S1000x128 .f32 0x00000000#32) (ix2 i j)
      = ∑ k : Fin 128, (x (ix2 i k) : EReal) * y (ix2 k j) := by
  refine (Ideal.matmul_constant_zero_apply dot_S1000x128_S128x128_S1000x128_1_0_0_1_n_n none x y (ix2 i j)).trans ?_
  rw [← (contrEquiv1 dot_S1000x128_S128x128_S1000x128_1_0_0_1_n_n 128 rfl rfl).symm.sum_comp]
  refine Finset.sum_congr rfl fun k _ => ?_
  have hl : (dot_S1000x128_S128x128_S1000x128_1_0_0_1_n_n).lhsIdx (ix2 i j) ((contrEquiv1 dot_S1000x128_S128x128_S1000x128_1_0_0_1_n_n 128 rfl rfl).symm k) = ix2 i k := by
    funext a; fin_cases a <;> rfl
  have hr : (dot_S1000x128_S128x128_S1000x128_1_0_0_1_n_n).rhsIdx (ix2 i j) ((contrEquiv1 dot_S1000x128_S128x128_S1000x128_1_0_0_1_n_n 128 rfl rfl).symm k) = ix2 k j := by
    funext a; fin_cases a <;> rfl
  rw [hl, hr]

theorem product_4000_1 {φ₁ φ₂ : FTy} (x : FVec Ideal S4000x1 φ₁) (y : FVec Ideal S1x128 φ₂) (i : Fin 4000) (j : Fin 128) :
    matmul dot_S4000x1_S1x128_S4000x128_1_0_0_1_n_n none x y (constant S4000x128 .f32 0x00000000#32) (ix2 i j)
      = ∑ k : Fin 1, (x (ix2 i k) : EReal) * y (ix2 k j) := by
  refine (Ideal.matmul_constant_zero_apply dot_S4000x1_S1x128_S4000x128_1_0_0_1_n_n none x y (ix2 i j)).trans ?_
  rw [← (contrEquiv1 dot_S4000x1_S1x128_S4000x128_1_0_0_1_n_n 1 rfl rfl).symm.sum_comp]
  refine Finset.sum_congr rfl fun k _ => ?_
  have hl : (dot_S4000x1_S1x128_S4000x128_1_0_0_1_n_n).lhsIdx (ix2 i j) ((contrEquiv1 dot_S4000x1_S1x128_S4000x128_1_0_0_1_n_n 1 rfl rfl).symm k) = ix2 i k := by
    funext a; fin_cases a <;> rfl
  have hr : (dot_S4000x1_S1x128_S4000x128_1_0_0_1_n_n).rhsIdx (ix2 i j) ((contrEquiv1 dot_S4000x1_S1x128_S4000x128_1_0_0_1_n_n 1 rfl rfl).symm k) = ix2 k j := by
    funext a; fin_cases a <;> rfl
  rw [hl, hr]

theorem product_4000_256 {φ₁ φ₂ : FTy} (x : FVec Ideal S4000x256 φ₁) (y : FVec Ideal S256x128 φ₂) (i : Fin 4000) (j : Fin 128) :
    matmul dot_S4000x256_S256x128_S4000x128_1_0_0_1_n_n none x y (constant S4000x128 .f32 0x00000000#32) (ix2 i j)
      = ∑ k : Fin 256, (x (ix2 i k) : EReal) * y (ix2 k j) := by
  refine (Ideal.matmul_constant_zero_apply dot_S4000x256_S256x128_S4000x128_1_0_0_1_n_n none x y (ix2 i j)).trans ?_
  rw [← (contrEquiv1 dot_S4000x256_S256x128_S4000x128_1_0_0_1_n_n 256 rfl rfl).symm.sum_comp]
  refine Finset.sum_congr rfl fun k _ => ?_
  have hl : (dot_S4000x256_S256x128_S4000x128_1_0_0_1_n_n).lhsIdx (ix2 i j) ((contrEquiv1 dot_S4000x256_S256x128_S4000x128_1_0_0_1_n_n 256 rfl rfl).symm k) = ix2 i k := by
    funext a; fin_cases a <;> rfl
  have hr : (dot_S4000x256_S256x128_S4000x128_1_0_0_1_n_n).rhsIdx (ix2 i j) ((contrEquiv1 dot_S4000x256_S256x128_S4000x128_1_0_0_1_n_n 256 rfl rfl).symm k) = ix2 k j := by
    funext a; fin_cases a <;> rfl
  rw [hl, hr]

theorem product_4000_128 {φ₁ φ₂ : FTy} (x : FVec Ideal S4000x128 φ₁) (y : FVec Ideal S128x128 φ₂) (i : Fin 4000) (j : Fin 128) :
    matmul dot_S4000x128_S128x128_S4000x128_1_0_0_1_n_n none x y (constant S4000x128 .f32 0x00000000#32) (ix2 i j)
      = ∑ k : Fin 128, (x (ix2 i k) : EReal) * y (ix2 k j) := by
  refine (Ideal.matmul_constant_zero_apply dot_S4000x128_S128x128_S4000x128_1_0_0_1_n_n none x y (ix2 i j)).trans ?_
  rw [← (contrEquiv1 dot_S4000x128_S128x128_S4000x128_1_0_0_1_n_n 128 rfl rfl).symm.sum_comp]
  refine Finset.sum_congr rfl fun k _ => ?_
  have hl : (dot_S4000x128_S128x128_S4000x128_1_0_0_1_n_n).lhsIdx (ix2 i j) ((contrEquiv1 dot_S4000x128_S128x128_S4000x128_1_0_0_1_n_n 128 rfl rfl).symm k) = ix2 i k := by
    funext a; fin_cases a <;> rfl
  have hr : (dot_S4000x128_S128x128_S4000x128_1_0_0_1_n_n).rhsIdx (ix2 i j) ((contrEquiv1 dot_S4000x128_S128x128_S4000x128_1_0_0_1_n_n 128 rfl rfl).symm k) = ix2 k j := by
    funext a; fin_cases a <;> rfl
  rw [hl, hr]

theorem product_128_4000 {φ₁ φ₂ : FTy} (x : FVec Ideal S128x4000 φ₁) (y : FVec Ideal S4000x256 φ₂) (i : Fin 128) (j : Fin 256) :
    matmul dot_S128x4000_S4000x256_S128x256_1_0_0_1_n_n none x y (constant S128x256 .f32 0x00000000#32) (ix2 i j)
      = ∑ k : Fin 4000, (x (ix2 i k) : EReal) * y (ix2 k j) := by
  refine (Ideal.matmul_constant_zero_apply dot_S128x4000_S4000x256_S128x256_1_0_0_1_n_n none x y (ix2 i j)).trans ?_
  rw [← (contrEquiv1 dot_S128x4000_S4000x256_S128x256_1_0_0_1_n_n 4000 rfl rfl).symm.sum_comp]
  refine Finset.sum_congr rfl fun k _ => ?_
  have hl : (dot_S128x4000_S4000x256_S128x256_1_0_0_1_n_n).lhsIdx (ix2 i j) ((contrEquiv1 dot_S128x4000_S4000x256_S128x256_1_0_0_1_n_n 4000 rfl rfl).symm k) = ix2 i k := by
    funext a; fin_cases a <;> rfl
  have hr : (dot_S128x4000_S4000x256_S128x256_1_0_0_1_n_n).rhsIdx (ix2 i j) ((contrEquiv1 dot_S128x4000_S4000x256_S128x256_1_0_0_1_n_n 4000 rfl rfl).symm k) = ix2 k j := by
    funext a; fin_cases a <;> rfl
  rw [hl, hr]

theorem product_rows {φ₁ φ₂ : FTy} (x : FVec Ideal S4000x128 φ₁) (y : FVec Ideal S4000x256 φ₂) (i : Fin 128) (j : Fin 256) :
    matmul dot_S4000x128_S4000x256_S128x256_0_0_1_1_n_n none x y (constant S128x256 .f32 0x00000000#32) (ix2 i j)
      = ∑ k : Fin 4000, (x (ix2 k i) : EReal) * y (ix2 k j) := by
  refine (Ideal.matmul_constant_zero_apply dot_S4000x128_S4000x256_S128x256_0_0_1_1_n_n none x y (ix2 i j)).trans ?_
  rw [← (contrEquiv1 dot_S4000x128_S4000x256_S128x256_0_0_1_1_n_n 4000 rfl rfl).symm.sum_comp]
  refine Finset.sum_congr rfl fun k _ => ?_
  have hl : (dot_S4000x128_S4000x256_S128x256_0_0_1_1_n_n).lhsIdx (ix2 i j) ((contrEquiv1 dot_S4000x128_S4000x256_S128x256_0_0_1_1_n_n 4000 rfl rfl).symm k) = ix2 k i := by
    funext a; fin_cases a <;> rfl
  have hr : (dot_S4000x128_S4000x256_S128x256_0_0_1_1_n_n).rhsIdx (ix2 i j) ((contrEquiv1 dot_S4000x128_S4000x256_S128x256_0_0_1_1_n_n 4000 rfl rfl).symm k) = ix2 k j := by
    funext a; fin_cases a <;> rfl
  rw [hl, hr]

theorem column_entry (a : FVec Ideal S4000x1 .f32) (r : Fin 4000) (k : Fin 128) :
    broadcastTo S4000x128 a broadcasts_S4000x1_S4000x128 (ix2 r k) = a (ix2 r 0) :=
  broadcastTo_apply _ _ _ _ (fun a => by fin_cases a <;> rfl)

theorem row_entry (b : FVec Ideal S1x128 .f32) (r : Fin 4000) (k : Fin 128) :
    broadcastTo S4000x128 b broadcasts_S1x128_S4000x128 (ix2 r k) = b (ix2 0 k) :=
  broadcastTo_apply _ _ _ _ (fun a => by fin_cases a <;> rfl)

theorem ids_entry (a : FVec Ideal S1x4000 .f32) (j : Fin 128) (r : Fin 4000) :
    broadcastTo S128x4000 a broadcasts_S1x4000_S128x4000 (ix2 j r) = a (ix2 0 r) :=
  broadcastTo_apply _ _ _ _ (fun a => by fin_cases a <;> rfl)

theorem hot_entry (a : FVec Ideal S4000x1 .f32) (b : FVec Ideal S1x128 .f32) (r : Fin 4000) (k : Fin 128) :
    (truncf .bf16 (sitofp .f32 (extui 32 (cmpf .oeq (broadcastTo S4000x128 a broadcasts_S4000x1_S4000x128)
      (broadcastTo S4000x128 b broadcasts_S1x128_S4000x128)) natLt_1_32)) bitsLt_bf16_f32 : FVec Ideal S4000x128 .bf16) (ix2 r k)
      = hot ((a (ix2 r 0) : EReal) = b (ix2 0 k)) := by
  rw [← column_entry a r k, ← row_entry b r k]
  exact hot_word _ _

/-- One gather step at an entry: the weight times the exponential of the window's row picked out by the comparison. -/
theorem gather_read (a : FVec Ideal S4000x1 .f32) (b : FVec Ideal S1x128 .f32) (win : FVec Ideal S128x128 .bf16)
    (w : FVec Ideal S4000x128 .bf16) (d : FVec Ideal S4000x128 .f32) (r : Fin 4000) (l : Fin 128) :
    (shapeCast S4000x128 (mulf w (truncf .bf16 (exp (mulf (matmul dot_S4000x128_S128x128_S4000x128_1_0_0_1_n_n none
      (truncf .bf16 (sitofp .f32 (extui 32 (cmpf .oeq (broadcastTo S4000x128 a broadcasts_S4000x1_S4000x128)
        (broadcastTo S4000x128 b broadcasts_S1x128_S4000x128)) natLt_1_32)) bitsLt_bf16_f32) win
      (constant S4000x128 .f32 0x00000000#32)) d)) bitsLt_bf16_f32)) shapeCasts_S4000x128_S4000x128 : FVec Ideal S4000x128 .bf16) (ix2 r l)
      = (w (ix2 r l) : EReal) * Ideal.exp ((∑ k : Fin 128, hot ((a (ix2 r 0) : EReal) = b (ix2 0 k)) * win (ix2 k l)) * d (ix2 r l)) := by
  refine (shapeCast_apply _ _ _ (ix2 r l) rfl).trans ?_
  refine congrArg (fun z : EReal => (w (ix2 r l) : EReal) * Ideal.exp (z * d (ix2 r l))) ?_
  refine (product_4000_128 _ _ r l).trans (Finset.sum_congr rfl fun k _ => ?_)
  exact congrArg (· * (win (ix2 k l) : EReal)) (hot_entry a b r k)

/-- One scatter step at an entry: what the window held plus the rows picked out by the comparison. -/
theorem scatter_read (a : FVec Ideal S4000x1 .f32) (b : FVec Ideal S1x128 .f32) (u : FVec Ideal S4000x256 .bf16)
    (win : FVec Ideal S128x256 .f32) (j : Fin 128) (q : Fin 256) :
    (shapeCast S128x256 (addf win (matmul dot_S4000x128_S4000x256_S128x256_0_0_1_1_n_n none
      (truncf .bf16 (sitofp .f32 (extui 32 (cmpf .oeq (broadcastTo S4000x128 a broadcasts_S4000x1_S4000x128)
        (broadcastTo S4000x128 b broadcasts_S1x128_S4000x128)) natLt_1_32)) bitsLt_bf16_f32) u
      (constant S128x256 .f32 0x00000000#32))) shapeCasts_S128x256_S128x256 : FVec Ideal S128x256 .f32) (ix2 j q)
      = (win (ix2 j q) : EReal) + ∑ r : Fin 4000, hot ((a (ix2 r 0) : EReal) = b (ix2 0 j)) * u (ix2 r q) := by
  refine (shapeCast_apply _ _ _ (ix2 j q) rfl).trans ?_
  refine congrArg (fun z : EReal => (win (ix2 j q) : EReal) + z) ?_
  refine (product_rows _ _ j q).trans (Finset.sum_congr rfl fun r _ => ?_)
  exact congrArg (· * (u (ix2 r q) : EReal)) (hot_entry a b r j)

theorem degree_read (x3 : Vec Ideal S4000x1 .f32) (x5 : Vec Ideal S1x128 .f32) (r : Fin 4000) (l : Fin 128) :
    (k0_pay25 x3 x5 (ix2 r l) : EReal) = (x3 (ix2 r 0) : EReal) * x5 (ix2 0 l) := by
  refine (product_4000_1 x3 (k0_pay22 x5) r l).trans ?_
  rw [Fin.sum_univ_one]
  exact congrArg ((x3 (ix2 r 0) : EReal) * ·) (shapeCast_apply _ _ _ (ix2 0 l) rfl)

theorem column_ids (x1 : Vec Ideal S4000x1 .f32) (r : Fin 4000) : (k0_pay19 x1 (ix2 r 0) : EReal) = x1 (ix2 r 0) :=
  shapeCast_apply _ _ _ _ rfl

theorem column_numbers (x4 : Vec Ideal S1x128 .f32) (k : Fin 128) : (k0_pay21 x4 (ix2 0 k) : EReal) = x4 (ix2 0 k) :=
  shapeCast_apply _ _ _ _ rfl

theorem row_ids (x2 : Vec Ideal S1x1x4000 .f32) (r : Fin 4000) : (k0_pay20 x2 (ix2 0 r) : EReal) = x2 (ix3 0 0 r) :=
  shapeCast_apply _ _ _ _ (by
    refine (Shape.rowMajor_val_three (d := ![1, 1, 4000]) _).trans (Eq.trans ?_ (Shape.rowMajor_val_two (d := ![1, 4000]) _).symm)
    rfl)

/-- The first 128 columns scattered: feature times weight. -/
theorem pair_left (n : FVec Ideal S4000x128 .bf16) (w : Vec Ideal S4000x128 .bf16) (r : Fin 4000) (q : Fin 256) (l : Fin 128) (h : q.val = l.val) :
    (k0_pay44 n w (ix2 r q) : EReal) = (n (ix2 r l) : EReal) * w (ix2 r l) :=
  concatenate_pair_apply_left (s₁ := S4000x128) (s₂ := S4000x128) (t := S4000x256) 1 (mulf n w) w
    concatenates_S4000x128_S4000x128_S4000x256_d1 (ix2 r q) rfl (ix2 r l) (fun b => by
    fin_cases b
    · rfl
    · exact h.symm)

/-- The last 128 columns scattered: the weight. -/
theorem pair_right (n : FVec Ideal S4000x128 .bf16) (w : Vec Ideal S4000x128 .bf16) (r : Fin 4000) (q : Fin 256) (l : Fin 128) (h : q.val = l.val + 128) :
    (k0_pay44 n w (ix2 r q) : EReal) = w (ix2 r l) :=
  concatenate_pair_apply_right (s₁ := S4000x128) (s₂ := S4000x128) (t := S4000x256) 1 (mulf n w) w
    concatenates_S4000x128_S4000x128_S4000x256_d1 (ix2 r q) rfl rfl (ix2 r l) (fun b hb => by
    fin_cases b
    · rfl
    · exact absurd rfl hb) h.symm

/-- A sum over 256 lanes as the sums over its two halves. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-- The first window's operand: comparisons on the left, features on the right. -/
theorem operand_left (x0 : Vec Ideal S4000x128 .f32) (x1 : Vec Ideal S4000x1 .f32) (x4 x5 : Vec Ideal S1x128 .f32) (r : Fin 4000) (k : Fin 128) :
    (k0_pay26 x0 x1 x4 x5 (ix2 r (Fin.castAdd 128 k)) : EReal)
      = hot (((x1 (ix2 r 0) : EReal) - baseId x1) * x5 (ix2 0 k) = x4 (ix2 0 k)) := by
  refine (concatenate_pair_apply_left (s₁ := S4000x128) (s₂ := S4000x128) (t := S4000x256) 1 _ (k0_pay18 x0)
    concatenates_S4000x128_S4000x128_S4000x256_d1 (ix2 r (Fin.castAdd 128 k)) rfl (ix2 r k) (fun b => by
    fin_cases b <;> rfl)).trans ?_
  have e1 : (matmul dot_S4000x1_S1x128_S4000x128_1_0_0_1_n_n none
      (truncf .bf16 (subf (k0_pay19 x1) (broadcast S4000x1 (k0_pay24 x1))) bitsLt_bf16_f32 : FVec Ideal S4000x1 .bf16)
      (truncf .bf16 (k0_pay22 x5) bitsLt_bf16_f32 : FVec Ideal S1x128 .bf16) (constant S4000x128 .f32 0x00000000#32)) (ix2 r k)
      = ((x1 (ix2 r 0) : EReal) - baseId x1) * x5 (ix2 0 k) := by
    refine (product_4000_1 _ _ r k).trans ?_
    rw [Fin.sum_univ_one]
    refine congrArg₂ (fun a b : EReal => (a - baseId x1) * b) (column_ids x1 r) (shapeCast_apply _ _ _ (ix2 0 k) rfl)
  have e2 : broadcastTo S4000x128 (k0_pay21 x4) broadcasts_S1x128_S4000x128 (ix2 r k) = x4 (ix2 0 k) :=
    (row_entry _ r k).trans (column_numbers x4 k)
  rw [← e1, ← e2]
  exact hot_word _ _

theorem operand_right (x0 : Vec Ideal S4000x128 .f32) (x1 : Vec Ideal S4000x1 .f32) (x4 x5 : Vec Ideal S1x128 .f32) (r : Fin 4000) (k : Fin 128) :
    (k0_pay26 x0 x1 x4 x5 (ix2 r (Fin.natAdd 128 k)) : EReal) = x0 (ix2 r k) :=
  (concatenate_pair_apply_right (s₁ := S4000x128) (s₂ := S4000x128) (t := S4000x256) 1 _ (k0_pay18 x0)
    concatenates_S4000x128_S4000x128_S4000x256_d1 (ix2 r (Fin.natAdd 128 k)) rfl rfl (ix2 r k) (fun b hb => by
    fin_cases b
    · rfl
    · exact absurd rfl hb) (Nat.add_comm _ _)).trans rfl

/-- The first window's step at an entry. -/
theorem first_read (d : FVec Ideal S4000x128 .f32) (x : FVec Ideal S4000x256 .bf16) (win : Vec Ideal S128x128 .bf16) (x7 : Vec Ideal S128x128 .bf16)
    (r : Fin 4000) (l : Fin 128) :
    (k0_pay27 d x win x7 (ix2 r l) : EReal)
      = Ideal.exp (((∑ k : Fin 128, (x (ix2 r (Fin.castAdd 128 k)) : EReal) * win (ix2 k l))
          + ∑ k : Fin 128, (x (ix2 r (Fin.natAdd 128 k)) : EReal) * x7 (ix2 k l)) * d (ix2 r l)) := by
  unfold k0_pay27
  refine (shapeCast_apply _ _ _ (ix2 r l) rfl).trans ?_
  refine congrArg (fun z : EReal => Ideal.exp (z * d (ix2 r l))) ?_
  refine (product_4000_256 _ _ r l).trans ((sum_halves _).trans ?_)
  refine congrArg₂ (· + ·) (Finset.sum_congr rfl fun k _ => congrArg ((x (ix2 r (Fin.castAdd 128 k)) : EReal) * ·) ?_)
    (Finset.sum_congr rfl fun k _ => congrArg ((x (ix2 r (Fin.natAdd 128 k)) : EReal) * ·) ?_)
  · exact concatenate_pair_apply_left (s₁ := S128x128) (s₂ := S128x128) (t := S256x128) 0 win _
      concatenates_S128x128_S128x128_S256x128_d0 (ix2 (Fin.castAdd 128 k) l) rfl (ix2 k l) (fun b => by fin_cases b <;> rfl)
  · refine (concatenate_pair_apply_right (s₁ := S128x128) (s₂ := S128x128) (t := S256x128) 0 win _
      concatenates_S128x128_S128x128_S256x128_d0 (ix2 (Fin.natAdd 128 k) l) rfl rfl (ix2 k l) (fun b hb => by
      fin_cases b
      · exact absurd rfl hb
      · rfl) (Nat.add_comm _ _)).trans ?_
    exact shapeCast_apply _ _ _ (ix2 k l) rfl

/-- The first window's scatter at an entry. -/
theorem scatter_first_read (n : FVec Ideal S4000x128 .bf16) (x2 : Vec Ideal S1x1x4000 .f32) (b : EReal) (w : Vec Ideal S4000x128 .bf16)
    (win : Vec Ideal S128x256 .f32) (j : Fin 128) (q : Fin 256) :
    (k0_pay45 (F := Ideal) n (k0_pay20 x2) b w win (ix2 j q) : EReal)
      = (win (ix2 j q) : EReal) + ∑ r : Fin 4000, hot (nr j.val = (x2 (ix3 0 0 r) : EReal) - b) * k0_pay44 n w (ix2 r q) := by
  unfold k0_pay45
  refine (shapeCast_apply _ _ _ (ix2 j q) rfl).trans ?_
  refine congrArg (fun z : EReal => (win (ix2 j q) : EReal) + z) ?_
  refine (product_128_4000 _ _ j q).trans (Finset.sum_congr rfl fun r _ => ?_)
  refine congrArg (· * (k0_pay44 n w (ix2 r q) : EReal)) ?_
  have e1 : (sitofp .f32 (iota .tc S128x4000 32 [0] iota_S128x4000_d0_w32) : FVec Ideal S128x4000 .f32) (ix2 j r) = nr j.val := by
    show (((iota .tc S128x4000 32 [0] iota_S128x4000_d0_w32 (ix2 j r)).toInt : ℝ) : EReal) = _
    rw [iota_single_apply]
    show (((BitVec.ofNat 32 j.val).toInt : ℝ) : EReal) = _
    have h : (BitVec.ofNat 32 j.val).toInt = (j.val : ℤ) := by
      have := j.isLt
      rw [BitVec.toInt_eq_toNat_of_lt (by rw [BitVec.toNat_ofNat]; omega), BitVec.toNat_ofNat, Nat.mod_eq_of_lt (by omega)]
    rw [h, Int.cast_natCast]
  have e2 : broadcastTo S128x4000 (subf (k0_pay20 x2) (broadcast S1x4000 b) : FVec Ideal S1x4000 .f32) broadcasts_S1x4000_S128x4000 (ix2 j r)
      = (x2 (ix3 0 0 r) : EReal) - b :=
    (ids_entry _ j r).trans (congrArg (· - b) (row_ids x2 r))
  rw [← e1, ← e2]
  exact hot_word _ _

end Cert.WordsIdeal.Pool
-- ==== Proof.WGather.lean ====
/-
  One block's weights, over the extended reals.

  With the block's ids between its first and last, a node's id lies in exactly one of the nine windows.
  The gather steps multiply in the exponential of the node's projected graph row times its degree at that
  window and one at every other, so after the nine windows the weight is the exponential of the whole score. (The second program.) -/
module
public import proofs.«01_k».proof.Proof.WOps

@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

/-- A finite sum of reals is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- The blocks of one grid point as real numbers. -/
structure Blk (x0 : Vec Ideal S4000x128 .f32) (x1 : Vec Ideal S4000x1 .f32) (x2 : Vec Ideal S1x1x4000 .f32) (x3 : Vec Ideal S4000x1 .f32)
    (x4 : Vec Ideal S1x128 .f32) (x5 : Vec Ideal S1x128 .f32) (x7 : Vec Ideal S128x128 .bf16)
    (S : Fin 4000 → ℕ) (nf : Fin 4000 → Fin 128 → ℝ) (dg : Fin 4000 → ℝ) (aw : Fin 128 → Fin 128 → ℝ) : Prop where
  ids : Ids x1 S
  ge : ∀ r, S 0 ≤ S r
  le : ∀ r, S r ≤ S 3999
  row : ∀ r, (x2 (ix3 0 0 r) : EReal) = nr (S r)
  node : ∀ r l, (x0 (ix2 r l) : EReal) = (nf r l : ℝ)
  deg : ∀ r, (x3 (ix2 r 0) : EReal) = (dg r : ℝ)
  num : ∀ l : Fin 128, (x4 (ix2 0 l) : EReal) = nr l.val
  one : ∀ l, (x5 (ix2 0 l) : EReal) = 1
  att : ∀ k l, (x7 (ix2 k l) : EReal) = (aw k l : ℝ)

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw) {gz : ℕ → Fin 128 → ℝ} {gzv : Vec Ideal S1152x128 .bf16}
  (hgz : ∀ (b : Fin 1152) (l : Fin 128), (gzv (ix2 b l) : EReal) = (gz b.val l : ℝ))

/-- The difference of two ids is the number `k` exactly when the first is `k` above the second. -/
theorem sub_eq_iff (a b k : ℕ) : nr a - nr b = nr k ↔ a = b + k := by
  unfold nr
  rw [← EReal.coe_sub, EReal.coe_eq_coe_iff, sub_eq_iff_eq_add, ← Nat.cast_add, Nat.cast_inj, Nat.add_comm]

theorem hot_congr {p q : Prop} [Decidable p] [Decidable q] (h : p ↔ q) : hot p = hot q := by
  unfold hot
  by_cases hp : p
  · rw [if_pos hp, if_pos (h.1 hp)]
  · rw [if_neg hp, if_neg (mt h.2 hp)]

/-- The row of the table that a comparison picks out of the window at `o`: the node's own where its id lies in it. -/
theorem pick (s o : ℕ) (f : Fin 128 → EReal) (g : ℕ → EReal) (hf : ∀ k : Fin 128, f k = g (o + k.val)) :
    ∑ k : Fin 128, hot (s = o + k.val) * f k = if o ≤ s ∧ s < o + 128 then g s else 0 := by
  by_cases h : o ≤ s ∧ s < o + 128
  · rw [if_pos h, Fintype.sum_eq_single (⟨s - o, by omega⟩ : Fin 128)]
    · rw [hot, if_pos (by show s = o + (s - o); omega), one_mul, hf]
      congr 1; show o + (s - o) = s; omega
    · intro k hk
      rw [hot, if_neg (fun e => hk (Fin.ext (by show k.val = s - o; omega))), zero_mul]
  · rw [if_neg h]
    refine Finset.sum_eq_zero fun k _ => ?_
    rw [hot, if_neg (fun e => h ⟨by omega, by have := k.isLt; omega⟩), zero_mul]

/-- What the table adds to a node's score after the windows 0 to `w`: its own graph's row once that window is past. -/
def part (S : Fin 4000 → ℕ) (gz : ℕ → Fin 128 → ℝ) (w : ℕ) (r : Fin 4000) (l : Fin 128) : ℝ :=
  if S r < base S + 128 * (w + 1) then gz (S r) l else 0

/-- The node's own part of its score. -/
def own (nf : Fin 4000 → Fin 128 → ℝ) (aw : Fin 128 → Fin 128 → ℝ) (r : Fin 4000) (l : Fin 128) : ℝ := ∑ k : Fin 128, nf r k * aw k l

/-- The window of the table at rows `o` on. -/
theorem table_window (off : Fin 2 → ℕ) (o : ℕ) (ho : off = ![o, 0]) (inb : ∀ a, off a + S128x128.size a ≤ S1152x128.size a) (k l : Fin 128)
    (g : ℕ → Fin 128 → EReal) (hg : ∀ (b : Fin 1152) (l : Fin 128), (gzv (ix2 b l) : EReal) = g b.val l) :
    (VecWindow.window gzv off S128x128.size inb (ix2 k l) : EReal) = g (o + k.val) l := by
  subst ho
  have hb : o + k.val < 1152 := by
    have h0 : o + 128 ≤ 1152 := inb 0
    have := k.isLt; omega
  rw [← hg ⟨o + k.val, hb⟩ l]
  refine congrArg gzv (funext fun a => ?_)
  fin_cases a
  · exact Fin.ext (by show o + 1 * k.val = o + k.val; omega)
  · exact Fin.ext (by show 0 + 1 * l.val = l.val; omega)

include B in
theorem degree_eq (r : Fin 4000) (l : Fin 128) : (k0_pay25 x3 x5 (ix2 r l) : EReal) = (dg r : ℝ) := by
  rw [degree_read, B.deg, B.one, mul_one]

include B hgz in
/-- The weights after the first window. -/
theorem weight_first (hk : Checks x1) (r : Fin 4000) (l : Fin 128) :
    (wgt1 x0 x1 x3 x4 x5 x7 hk gzv (ix2 r l) : EReal) = ((Real.exp ((part S gz 0 r l + own nf aw r l) * dg r) : ℝ) : EReal) := by
  unfold wgt1
  rw [first_read, degree_eq B]
  have e1 : ∑ k : Fin 128, (k0_pay26 x0 x1 x4 x5 (ix2 r (Fin.castAdd 128 k)) : EReal)
      * VecWindow.window gzv (k0_off1 (baseW x1)) S128x128.size (k0_off1_inb (baseW x1) hk.c1) (ix2 k l) = (part S gz 0 r l : ℝ) := by
    have := pick (S r) (base S) (fun k => VecWindow.window gzv (k0_off1 (baseW x1)) S128x128.size (k0_off1_inb (baseW x1) hk.c1) (ix2 k l))
      (fun b => ((gz b l : ℝ) : EReal)) (fun k => table_window _ _ (off1_eq B.ids) _ k l (fun b l => ((gz b l : ℝ) : EReal)) hgz)
    refine Eq.trans (Finset.sum_congr rfl fun k _ => ?_) (this.trans ?_)
    · refine congrArg (· * (VecWindow.window gzv (k0_off1 (baseW x1)) S128x128.size (k0_off1_inb (baseW x1) hk.c1) (ix2 k l) : EReal)) ?_
      rw [operand_left, B.one, mul_one, B.num, B.ids.col, baseId_eq B.ids]
      exact hot_congr (sub_eq_iff _ _ _)
    · have hb := base_le_id r (B.ge r)
      unfold part
      by_cases h : S r < base S + 128
      · rw [if_pos ⟨hb, h⟩, if_pos (by omega)]
      · rw [if_neg (fun h' => h h'.2), if_neg (by omega)]; rfl
  have e2 : ∑ k : Fin 128, (k0_pay26 x0 x1 x4 x5 (ix2 r (Fin.natAdd 128 k)) : EReal) * x7 (ix2 k l) = (own nf aw r l : ℝ) := by
    unfold own
    rw [← sum_coe]
    refine Finset.sum_congr rfl fun k _ => ?_
    rw [operand_right, B.node, B.att, EReal.coe_mul]
  rw [e1, e2, ← EReal.coe_add, ← EReal.coe_mul]
  rfl

/-- A gather step, over any stored value that reads as one. -/
theorem weight_step (hS : ∀ r, S 0 ≤ S r) (hL : ∀ r, S r ≤ S 3999) {C : Prop} [Decidable C] (w : ℕ)
    (hC : C ↔ base S + 128 * (w + 1) ≤ S 3999) (off : Fin 2 → ℕ) (hoff : off = ![base S + 128 * (w + 1), 0])
    (inb : C → ∀ a, off a + S128x128.size a ≤ S1152x128.size a)
    (pay : Vec Ideal S128x128 .bf16 → Vec Ideal S4000x128 .bf16 → Vec Ideal S4000x128 .bf16)
    (hpay : ∀ win v r l, (pay win v (ix2 r l) : EReal)
      = (v (ix2 r l) : EReal) * Ideal.exp ((∑ k : Fin 128, hot (S r = base S + 128 * (w + 1) + k.val) * win (ix2 k l)) * ((dg r : ℝ) : EReal)))
    (hgz : ∀ (b : Fin 1152) (l : Fin 128), (gzv (ix2 b l) : EReal) = (gz b.val l : ℝ))
    (v : Vec Ideal S4000x128 .bf16)
    (hv : ∀ r l, (v (ix2 r l) : EReal) = ((Real.exp ((part S gz w r l + own nf aw r l) * dg r) : ℝ) : EReal)) (r : Fin 4000) (l : Fin 128) :
    (gathered (C := C) off inb pay gzv v (ix2 r l) : EReal)
      = ((Real.exp ((part S gz (w + 1) r l + own nf aw r l) * dg r) : ℝ) : EReal) := by
  have hb := base_le_id r (hS r)
  have hl := hL r
  unfold gathered
  by_cases h : C
  · rw [dif_pos h, hpay, hv]
    have e := pick (S r) (base S + 128 * (w + 1)) (fun k => VecWindow.window gzv off S128x128.size (inb h) (ix2 k l))
      (fun b => ((gz b l : ℝ) : EReal)) (fun k => table_window _ _ hoff _ k l (fun b l => ((gz b l : ℝ) : EReal)) hgz)
    rw [e]
    by_cases hw : base S + 128 * (w + 1) ≤ S r ∧ S r < base S + 128 * (w + 1) + 128
    · rw [if_pos hw, ← EReal.coe_mul]
      refine (EReal.coe_mul _ _).symm.trans ?_
      rw [← Real.exp_add]
      congr 2
      unfold part
      rw [if_neg (by omega), if_pos (by omega)]
      ring
    · rw [if_neg hw, zero_mul]
      have e1 : Ideal.exp (0 : EReal) = 1 := by
        show ((Real.exp 0 : ℝ) : EReal) = 1
        rw [Real.exp_zero]; rfl
      rw [e1, mul_one]
      congr 4
      unfold part
      by_cases h1 : S r < base S + 128 * (w + 1)
      · rw [if_pos h1, if_pos (by omega)]
      · rw [if_neg h1, if_neg (by omega)]
  · rw [dif_neg h, hv]
    rw [hC] at h
    congr 4
    unfold part
    rw [if_pos (by omega), if_pos (by omega)]

end Cert.WordsIdeal.Pool
-- ==== Proof.WWeights.lean ====
/- The nine gather steps of a block one after the other: each printed step reads as one, so the weights end at the exponential of the score. (The second program.) -/
module
public import proofs.«01_k».proof.Proof.WGather

@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw)

  {gz : ℕ → Fin 128 → ℝ} {gzv : Vec Ideal S1152x128 .bf16}
  (hgz : ∀ (b : Fin 1152) (l : Fin 128), (gzv (ix2 b l) : EReal) = (gz b.val l : ℝ))

include B in
/-- The comparison of a window whose base is `n` ids above the block's. -/
theorem hot_window (n : ℕ) (cst : EReal) (hc : cst = nr n) (r : Fin 4000) (k : Fin 128) :
    hot ((subf (k0_pay19 x1) (broadcast S4000x1 (baseId x1 + cst)) (ix2 r 0) : EReal) = k0_pay21 x4 (ix2 0 k)) = hot (S r = base S + n + k.val) := by
  subst hc
  rw [column_numbers, B.num]
  have e : (subf (k0_pay19 x1) (broadcast S4000x1 (baseId x1 + nr n)) (ix2 r 0) : EReal) = nr (S r) - nr (base S + n) := by
    rw [← nr_add, ← baseId_eq B.ids, ← B.ids.col r]
    exact congrArg (· - (baseId x1 + nr n)) (column_ids x1 r)
  rw [e]
  exact hot_congr (sub_eq_iff _ _ _)

include B in
theorem gather_pay29 (win : Vec Ideal S128x128 .bf16) (v : Vec Ideal S4000x128 .bf16) (r : Fin 4000) (l : Fin 128) :
    (k0_pay29 (k0_pay19 x1) (k0_pay21 x4) (baseId x1) (k0_pay25 x3 x5) win v (ix2 r l) : EReal)
      = (v (ix2 r l) : EReal) * Ideal.exp ((∑ k : Fin 128, hot (S r = base S + 128 * (0 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_128 r k)

include B hgz in
theorem weight_1 (hk : Checks x1) (r : Fin 4000) (l : Fin 128) :
    (wgt2 x0 x1 x3 x4 x5 x7 hk gzv (ix2 r l) : EReal) = ((Real.exp ((part S gz 1 r l + own nf aw r l) * dg r) : ℝ) : EReal) :=
  weight_step B.ge B.le 0 (on2 B.ids) _ (off2_eq B.ids) _ _ (gather_pay29 B) hgz _
    (weight_first B hgz hk) r l

include B in
theorem gather_pay31 (win : Vec Ideal S128x128 .bf16) (v : Vec Ideal S4000x128 .bf16) (r : Fin 4000) (l : Fin 128) :
    (k0_pay31 (k0_pay19 x1) (k0_pay21 x4) (baseId x1) (k0_pay25 x3 x5) win v (ix2 r l) : EReal)
      = (v (ix2 r l) : EReal) * Ideal.exp ((∑ k : Fin 128, hot (S r = base S + 128 * (1 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_256 r k)

include B hgz in
theorem weight_2 (hk : Checks x1) (r : Fin 4000) (l : Fin 128) :
    (wgt3 x0 x1 x3 x4 x5 x7 hk gzv (ix2 r l) : EReal) = ((Real.exp ((part S gz 2 r l + own nf aw r l) * dg r) : ℝ) : EReal) :=
  weight_step B.ge B.le 1 (on3 B.ids) _ (off3_eq B.ids) _ _ (gather_pay31 B) hgz _
    (weight_1 B hgz hk) r l

include B in
theorem gather_pay33 (win : Vec Ideal S128x128 .bf16) (v : Vec Ideal S4000x128 .bf16) (r : Fin 4000) (l : Fin 128) :
    (k0_pay33 (k0_pay19 x1) (k0_pay21 x4) (baseId x1) (k0_pay25 x3 x5) win v (ix2 r l) : EReal)
      = (v (ix2 r l) : EReal) * Ideal.exp ((∑ k : Fin 128, hot (S r = base S + 128 * (2 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_384 r k)

include B hgz in
theorem weight_3 (hk : Checks x1) (r : Fin 4000) (l : Fin 128) :
    (wgt4 x0 x1 x3 x4 x5 x7 hk gzv (ix2 r l) : EReal) = ((Real.exp ((part S gz 3 r l + own nf aw r l) * dg r) : ℝ) : EReal) :=
  weight_step B.ge B.le 2 (on4 B.ids) _ (off4_eq B.ids) _ _ (gather_pay33 B) hgz _
    (weight_2 B hgz hk) r l

include B in
theorem gather_pay35 (win : Vec Ideal S128x128 .bf16) (v : Vec Ideal S4000x128 .bf16) (r : Fin 4000) (l : Fin 128) :
    (k0_pay35 (k0_pay19 x1) (k0_pay21 x4) (baseId x1) (k0_pay25 x3 x5) win v (ix2 r l) : EReal)
      = (v (ix2 r l) : EReal) * Ideal.exp ((∑ k : Fin 128, hot (S r = base S + 128 * (3 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_512 r k)

include B hgz in
theorem weight_4 (hk : Checks x1) (r : Fin 4000) (l : Fin 128) :
    (wgt5 x0 x1 x3 x4 x5 x7 hk gzv (ix2 r l) : EReal) = ((Real.exp ((part S gz 4 r l + own nf aw r l) * dg r) : ℝ) : EReal) :=
  weight_step B.ge B.le 3 (on5 B.ids) _ (off5_eq B.ids) _ _ (gather_pay35 B) hgz _
    (weight_3 B hgz hk) r l

include B in
theorem gather_pay37 (win : Vec Ideal S128x128 .bf16) (v : Vec Ideal S4000x128 .bf16) (r : Fin 4000) (l : Fin 128) :
    (k0_pay37 (k0_pay19 x1) (k0_pay21 x4) (baseId x1) (k0_pay25 x3 x5) win v (ix2 r l) : EReal)
      = (v (ix2 r l) : EReal) * Ideal.exp ((∑ k : Fin 128, hot (S r = base S + 128 * (4 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_640 r k)

include B hgz in
theorem weight_5 (hk : Checks x1) (r : Fin 4000) (l : Fin 128) :
    (wgt6 x0 x1 x3 x4 x5 x7 hk gzv (ix2 r l) : EReal) = ((Real.exp ((part S gz 5 r l + own nf aw r l) * dg r) : ℝ) : EReal) :=
  weight_step B.ge B.le 4 (on6 B.ids) _ (off6_eq B.ids) _ _ (gather_pay37 B) hgz _
    (weight_4 B hgz hk) r l

include B in
theorem gather_pay39 (win : Vec Ideal S128x128 .bf16) (v : Vec Ideal S4000x128 .bf16) (r : Fin 4000) (l : Fin 128) :
    (k0_pay39 (k0_pay19 x1) (k0_pay21 x4) (baseId x1) (k0_pay25 x3 x5) win v (ix2 r l) : EReal)
      = (v (ix2 r l) : EReal) * Ideal.exp ((∑ k : Fin 128, hot (S r = base S + 128 * (5 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_768 r k)

include B hgz in
theorem weight_6 (hk : Checks x1) (r : Fin 4000) (l : Fin 128) :
    (wgt7 x0 x1 x3 x4 x5 x7 hk gzv (ix2 r l) : EReal) = ((Real.exp ((part S gz 6 r l + own nf aw r l) * dg r) : ℝ) : EReal) :=
  weight_step B.ge B.le 5 (on7 B.ids) _ (off7_eq B.ids) _ _ (gather_pay39 B) hgz _
    (weight_5 B hgz hk) r l

include B in
theorem gather_pay41 (win : Vec Ideal S128x128 .bf16) (v : Vec Ideal S4000x128 .bf16) (r : Fin 4000) (l : Fin 128) :
    (k0_pay41 (k0_pay19 x1) (k0_pay21 x4) (baseId x1) (k0_pay25 x3 x5) win v (ix2 r l) : EReal)
      = (v (ix2 r l) : EReal) * Ideal.exp ((∑ k : Fin 128, hot (S r = base S + 128 * (6 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_896 r k)

include B hgz in
theorem weight_7 (hk : Checks x1) (r : Fin 4000) (l : Fin 128) :
    (wgt8 x0 x1 x3 x4 x5 x7 hk gzv (ix2 r l) : EReal) = ((Real.exp ((part S gz 7 r l + own nf aw r l) * dg r) : ℝ) : EReal) :=
  weight_step B.ge B.le 6 (on8 B.ids) _ (off8_eq B.ids) _ _ (gather_pay41 B) hgz _
    (weight_6 B hgz hk) r l

include B in
theorem gather_pay43 (win : Vec Ideal S128x128 .bf16) (v : Vec Ideal S4000x128 .bf16) (r : Fin 4000) (l : Fin 128) :
    (k0_pay43 (k0_pay19 x1) (k0_pay21 x4) (baseId x1) (k0_pay25 x3 x5) win v (ix2 r l) : EReal)
      = (v (ix2 r l) : EReal) * Ideal.exp ((∑ k : Fin 128, hot (S r = base S + 128 * (7 + 1) + k.val) * win (ix2 k l)) * ((dg r : ℝ) : EReal)) := by
  refine (gather_read _ _ win v _ r l).trans ?_
  rw [degree_eq B]
  refine congrArg (fun z : EReal => (v (ix2 r l) : EReal) * Ideal.exp (z * (dg r : ℝ))) (Finset.sum_congr rfl fun k _ => ?_)
  exact congrArg (· * (win (ix2 k l) : EReal)) (hot_window B _ _ word_1024 r k)

include B hgz in
theorem weight_8 (hk : Checks x1) (r : Fin 4000) (l : Fin 128) :
    (wgt9 x0 x1 x3 x4 x5 x7 hk gzv (ix2 r l) : EReal) = ((Real.exp ((part S gz 8 r l + own nf aw r l) * dg r) : ℝ) : EReal) :=
  weight_step B.ge B.le 7 (on9 B.ids) _ (off9_eq B.ids) _ _ (gather_pay43 B) hgz _
    (weight_7 B hgz hk) r l

include B hgz in
/-- The weights after the nine windows: the exponential of the score. -/
theorem weights (hk : Checks x1) (r : Fin 4000) (l : Fin 128) :
    (wgt9 x0 x1 x3 x4 x5 x7 hk gzv (ix2 r l) : EReal) = ((Real.exp ((gz (S r) l + own nf aw r l) * dg r) : ℝ) : EReal) := by
  rw [weight_8 B hgz hk]
  have := B.ids.lt r
  unfold part
  rw [if_pos (by omega)]

end Cert.WordsIdeal.Pool
-- ==== Proof.WScatter.lean ====
/-
  One block's contribution to the accumulator, over the extended reals: every row gains the sum, over the
  block's nodes of that id, of the node's scattered row. (The second program.) -/
module
public import proofs.«01_k».proof.Proof.WWeights

@[expose] public section

set_option maxRecDepth 16384

noncomputable section

namespace Cert.WordsIdeal.Pool

open Cert.WordsIdeal.Gen
open Idealize.ShloMosaic Idealize.ShloMosaic.TcCoe Idealize.ShloMosaic.Tactic Idealize.ShloMosaic.ValueIdx

variable {x0 : Vec Ideal S4000x128 .f32} {x1 : Vec Ideal S4000x1 .f32} {x2 : Vec Ideal S1x1x4000 .f32} {x3 : Vec Ideal S4000x1 .f32}
  {x4 : Vec Ideal S1x128 .f32} {x5 : Vec Ideal S1x128 .f32} {x7 : Vec Ideal S128x128 .bf16}
  {S : Fin 4000 → ℕ} {nf : Fin 4000 → Fin 128 → ℝ} {dg : Fin 4000 → ℝ} {aw : Fin 128 → Fin 128 → ℝ}
  (B : Blk x0 x1 x2 x3 x4 x5 x7 S nf dg aw)

/-- What a block adds to row `i`: the rows of its nodes with id `i`. -/
def gain (S : Fin 4000 → ℕ) (U : Fin 4000 → Fin 256 → EReal) (i : ℕ) (q : Fin 256) : EReal := ∑ r : Fin 4000, hot (S r = i) * U r q

theorem gain_none (U : Fin 4000 → Fin 256 → EReal) (i : ℕ) (q : Fin 256) (h : ∀ r, S r ≠ i) : gain S U i q = 0 :=
  Finset.sum_eq_zero fun r _ => by rw [hot, if_neg (h r), zero_mul]

/-- The accumulator with a window put back, at an entry. -/
theorem put_entry (sd : Vec Ideal S1152x256 .f32) (off : Fin 2 → ℕ) (o : ℕ) (ho : off = ![o, 0]) (v : Vec Ideal S128x256 .f32) (i : Fin 1152) (q : Fin 256) :
    (VecWindow.put sd off S128x256.size v (ix2 i q) : EReal)
      = if h : o ≤ i.val ∧ i.val < o + 128 then v (ix2 (⟨i.val - o, by omega⟩ : Fin 128) q) else sd (ix2 i q) := by
  subst ho
  unfold VecWindow.put
  by_cases h : o ≤ i.val ∧ i.val < o + 128
  · rw [dif_pos h, dif_pos (by
      intro a; fin_cases a
      · exact h
      · exact ⟨Nat.zero_le _, by show q.val < 0 + 256; have := q.isLt; omega⟩)]
    refine congrArg v (funext fun a => ?_)
    fin_cases a
    · rfl
    · rfl
  · rw [dif_neg h, dif_neg (fun h' => h (h' 0))]

/-- The accumulator's window at an entry. -/
theorem window_entry (sd : Vec Ideal S1152x256 .f32) (off : Fin 2 → ℕ) (o : ℕ) (ho : off = ![o, 0]) (inb : ∀ a, off a + S128x256.size a ≤ S1152x256.size a)
    (i : Fin 1152) (q : Fin 256) (h : o ≤ i.val ∧ i.val < o + 128) :
    (VecWindow.window sd off S128x256.size inb (ix2 (⟨i.val - o, by omega⟩ : Fin 128) q) : EReal) = sd (ix2 i q) := by
  subst ho
  refine congrArg sd (funext fun a => ?_)
  fin_cases a
  · exact Fin.ext (by show o + 1 * (i.val - o) = i.val; omega)
  · exact Fin.ext (by show 0 + 1 * q.val = q.val; omega)

/-- One scatter, over any stored value that reads as one: at a window at `o` every row of it gains its nodes' rows. -/
theorem put_gain (sd : Vec Ideal S1152x256 .f32) (U : Fin 4000 → Fin 256 → EReal) (off : Fin 2 → ℕ) (o : ℕ) (ho : off = ![o, 0])
    (inb : ∀ a, off a + S128x256.size a ≤ S1152x256.size a) (pay : Vec Ideal S128x256 .f32 → Vec Ideal S128x256 .f32)
    (hpay : ∀ win j q, (pay win (ix2 j q) : EReal) = (win (ix2 j q) : EReal) + ∑ r : Fin 4000, hot (S r = o + j.val) * U r q)
    (i : Fin 1152) (q : Fin 256) :
    (VecWindow.put sd off S128x256.size (pay (VecWindow.window sd off S128x256.size inb)) (ix2 i q) : EReal)
      = (sd (ix2 i q) : EReal) + if o ≤ i.val ∧ i.val < o + 128 then gain S U i.val q else 0 := by
  rw [put_entry sd off o ho]
  by_cases h : o ≤ i.val ∧ i.val < o + 128
  · rw [dif_pos h, if_pos h, hpay, window_entry sd off o ho inb i q h]
    congr 1
    unfold gain
    refine Finset.sum_congr rfl fun r _ => ?_
    have e : o + (i.val - o) = i.val := by omega
    rw [show o + (⟨i.val - o, by omega⟩ : Fin 128).val = i.val from e]
  · rw [dif_neg h, if_neg h, add_zero]

/-- A scatter step: rows below the windows gone through so far have all their gain. -/
theorem gain_step (hS : ∀ r, S 0 ≤ S r) (hL : ∀ r, S r ≤ S 3999) (U : Fin 4000 → Fin 256 → EReal) {C : Prop} [Decidable C] (w : ℕ)
    (hC : C ↔ base S + 128 * (w + 1) ≤ S 3999) (off : Fin 2 → ℕ) (hoff : off = ![base S + 128 * (w + 1), 0])
    (inb : C → ∀ a, off a + S128x256.size a ≤ S1152x256.size a) (pay : Vec Ideal S128x256 .f32 → Vec Ideal S128x256 .f32)
    (hpay : ∀ win j q, (pay win (ix2 j q) : EReal) = (win (ix2 j q) : EReal) + ∑ r : Fin 4000, hot (S r = base S + 128 * (w + 1) + j.val) * U r q)
    (sd acc : Vec Ideal S1152x256 .f32)
    (hacc : ∀ i q, (acc (ix2 i q) : EReal) = (sd (ix2 i q) : EReal) + if i.val < base S + 128 * (w + 1) then gain S U i.val q else 0)
    (i : Fin 1152) (q : Fin 256) :
    (scattered (C := C) off inb pay acc (ix2 i q) : EReal)
      = (sd (ix2 i q) : EReal) + if i.val < base S + 128 * (w + 1 + 1) then gain S U i.val q else 0 := by
  unfold scattered
  by_cases h : C
  · rw [dif_pos h, put_gain acc U off _ hoff (inb h) pay hpay, hacc, add_assoc]
    congr 1
    by_cases h1 : i.val < base S + 128 * (w + 1)
    · rw [if_pos h1, if_neg (by omega), if_pos (by omega), add_zero]
    · rw [if_neg h1, zero_add]
      by_cases h2 : i.val < base S + 128 * (w + 1 + 1)
      · rw [if_pos ⟨by omega, by omega⟩, if_pos h2]
      · rw [if_neg (by omega), if_neg h2]
  · rw [dif_neg h, hacc]
    rw [hC] at h
    congr 1
    by_cases h1 : i.val < base S + 128 * (w + 1)
    · rw [if_pos h1, if_pos (by omega)]
    · rw [if_neg h1, gain_none U i.val q (fun r e => by have := hL r; omega), ite_self]

include B in
theorem gain_first (hk : Checks x1) (w : Vec Ideal S4000x128 .bf16) (sd : Vec Ideal S1152x256 .f32) (i : Fin 1152) (q : Fin 256) :
    (acc9 x0 x1 x2 hk w sd (ix2 i q) : EReal)
      = (sd (ix2 i q) : EReal) + if i.val < base S + 128 * (0 + 1) then gain S (fun r q => k0_pay44 (k0_pay18 x0) w (ix2 r q)) i.val q else 0 := by
  unfold acc9
  rw [put_gain sd (fun r q => k0_pay44 (k0_pay18 x0) w (ix2 r q)) _ _ (off10_eq B.ids) (k0_off10_inb (baseW x1) hk.c1)
    (k0_pay45 (k0_pay18 x0) (k0_pay20 x2) (baseId x1) w) (fun win j q => ?_)]
  · congr 1
    by_cases h : i.val < base S
    · rw [if_neg (by omega), gain_none _ i.val q (fun r e => by have := base_le_id r (B.ge r); omega), ite_self]
    · by_cases h1 : i.val < base S + 128
      · rw [if_pos ⟨by omega, h1⟩, if_pos (by omega)]
      · rw [if_neg (by omega), if_neg (by omega)]
  · refine (scatter_first_read _ x2 _ w win j q).trans ?_
    refine congrArg (fun z : EReal => (win (ix2 j q) : EReal) + z) (Finset.sum_congr rfl fun r _ => ?_)
    refine congrArg (· * (k0_pay44 (k0_pay18 x0) w (ix2 r q) : EReal)) ?_
    rw [B.row, baseId_eq B.ids]
    exact hot_congr (eq_comm.trans (sub_eq_iff _ _ _))

include B in
theorem scatter_pay47 (w : Vec Ideal S4000x128 .bf16) (win : Vec Ideal S128x256 .f32) (j : Fin 128) (q : Fin 256) :
    (k0_pay47 (F := Ideal) (k0_pay18 x0) (k0_pay19 x1) (k0_pay21 x4) (baseId x1) w win (ix2 j q) : EReal)
      = (win (ix2 j q) : EReal) + ∑ r : Fin 4000, hot (S r = base S + 128 * (0 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_128 r j)

include B in
theorem gain_1 (hk : Checks x1) (w : Vec Ideal S4000x128 .bf16) (sd : Vec Ideal S1152x256 .f32) (i : Fin 1152) (q : Fin 256) :
    (acc10 x0 x1 x2 x4 hk w sd (ix2 i q) : EReal)
      = (sd (ix2 i q) : EReal) + if i.val < base S + 128 * (0 + 1 + 1) then gain S (fun r q => k0_pay44 (k0_pay18 x0) w (ix2 r q)) i.val q else 0 :=
  gain_step B.ge B.le (fun r q => k0_pay44 (k0_pay18 x0) w (ix2 r q)) 0 (on10 B.ids) _ (off11_eq B.ids) _ _ (scatter_pay47 B w) sd _
    (gain_first B hk w sd) i q

include B in
theorem scatter_pay1 (w : Vec Ideal S4000x128 .bf16) (win : Vec Ideal S128x256 .f32) (j : Fin 128) (q : Fin 256) :
    (k0_pay1 (F := Ideal) (k0_pay19 x1) (k0_pay21 x4) (baseId x1) (k0_pay44 (k0_pay18 x0) w) win (ix2 j q) : EReal)
      = (win (ix2 j q) : EReal) + ∑ r : Fin 4000, hot (S r = base S + 128 * (1 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_256 r j)

include B in
theorem gain_2 (hk : Checks x1) (w : Vec Ideal S4000x128 .bf16) (sd : Vec Ideal S1152x256 .f32) (i : Fin 1152) (q : Fin 256) :
    (acc11 x0 x1 x2 x4 hk w sd (ix2 i q) : EReal)
      = (sd (ix2 i q) : EReal) + if i.val < base S + 128 * (1 + 1 + 1) then gain S (fun r q => k0_pay44 (k0_pay18 x0) w (ix2 r q)) i.val q else 0 :=
  gain_step B.ge B.le (fun r q => k0_pay44 (k0_pay18 x0) w (ix2 r q)) 1 (on11 B.ids) _ (off12_eq B.ids) _ _ (scatter_pay1 B w) sd _
    (gain_1 B hk w sd) i q

include B in
theorem scatter_pay3 (w : Vec Ideal S4000x128 .bf16) (win : Vec Ideal S128x256 .f32) (j : Fin 128) (q : Fin 256) :
    (k0_pay3 (F := Ideal) (k0_pay19 x1) (k0_pay21 x4) (baseId x1) (k0_pay44 (k0_pay18 x0) w) win (ix2 j q) : EReal)
      = (win (ix2 j q) : EReal) + ∑ r : Fin 4000, hot (S r = base S + 128 * (2 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_384 r j)

include B in
theorem gain_3 (hk : Checks x1) (w : Vec Ideal S4000x128 .bf16) (sd : Vec Ideal S1152x256 .f32) (i : Fin 1152) (q : Fin 256) :
    (acc12 x0 x1 x2 x4 hk w sd (ix2 i q) : EReal)
      = (sd (ix2 i q) : EReal) + if i.val < base S + 128 * (2 + 1 + 1) then gain S (fun r q => k0_pay44 (k0_pay18 x0) w (ix2 r q)) i.val q else 0 :=
  gain_step B.ge B.le (fun r q => k0_pay44 (k0_pay18 x0) w (ix2 r q)) 2 (on12 B.ids) _ (off13_eq B.ids) _ _ (scatter_pay3 B w) sd _
    (gain_2 B hk w sd) i q

include B in
theorem scatter_pay5 (w : Vec Ideal S4000x128 .bf16) (win : Vec Ideal S128x256 .f32) (j : Fin 128) (q : Fin 256) :
    (k0_pay5 (F := Ideal) (k0_pay19 x1) (k0_pay21 x4) (baseId x1) (k0_pay44 (k0_pay18 x0) w) win (ix2 j q) : EReal)
      = (win (ix2 j q) : EReal) + ∑ r : Fin 4000, hot (S r = base S + 128 * (3 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_512 r j)

include B in
theorem gain_4 (hk : Checks x1) (w : Vec Ideal S4000x128 .bf16) (sd : Vec Ideal S1152x256 .f32) (i : Fin 1152) (q : Fin 256) :
    (acc13 x0 x1 x2 x4 hk w sd (ix2 i q) : EReal)
      = (sd (ix2 i q) : EReal) + if i.val < base S + 128 * (3 + 1 + 1) then gain S (fun r q => k0_pay44 (k0_pay18 x0) w (ix2 r q)) i.val q else 0 :=
  gain_step B.ge B.le (fun r q => k0_pay44 (k0_pay18 x0) w (ix2 r q)) 3 (on13 B.ids) _ (off14_eq B.ids) _ _ (scatter_pay5 B w) sd _
    (gain_3 B hk w sd) i q

include B in
theorem scatter_pay7 (w : Vec Ideal S4000x128 .bf16) (win : Vec Ideal S128x256 .f32) (j : Fin 128) (q : Fin 256) :
    (k0_pay7 (F := Ideal) (k0_pay19 x1) (k0_pay21 x4) (baseId x1) (k0_pay44 (k0_pay18 x0) w) win (ix2 j q) : EReal)
      = (win (ix2 j q) : EReal) + ∑ r : Fin 4000, hot (S r = base S + 128 * (4 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_640 r j)

include B in
theorem gain_5 (hk : Checks x1) (w : Vec Ideal S4000x128 .bf16) (sd : Vec Ideal S1152x256 .f32) (i : Fin 1152) (q : Fin 256) :
    (acc14 x0 x1 x2 x4 hk w sd (ix2 i q) : EReal)
      = (sd (ix2 i q) : EReal) + if i.val < base S + 128 * (4 + 1 + 1) then gain S (fun r q => k0_pay44 (k0_pay18 x0) w (ix2 r q)) i.val q else 0 :=
  gain_step B.ge B.le (fun r q => k0_pay44 (k0_pay18 x0) w (ix2 r q)) 4 (on14 B.ids) _ (off15_eq B.ids) _ _ (scatter_pay7 B w) sd _
    (gain_4 B hk w sd) i q

include B in
theorem scatter_pay9 (w : Vec Ideal S4000x128 .bf16) (win : Vec Ideal S128x256 .f32) (j : Fin 128) (q : Fin 256) :
    (k0_pay9 (F := Ideal) (k0_pay19 x1) (k0_pay21 x4) (baseId x1) (k0_pay44 (k0_pay18 x0) w) win (ix2 j q) : EReal)
      = (win (ix2 j q) : EReal) + ∑ r : Fin 4000, hot (S r = base S + 128 * (5 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_768 r j)

include B in
theorem gain_6 (hk : Checks x1) (w : Vec Ideal S4000x128 .bf16) (sd : Vec Ideal S1152x256 .f32) (i : Fin 1152) (q : Fin 256) :
    (acc15 x0 x1 x2 x4 hk w sd (ix2 i q) : EReal)
      = (sd (ix2 i q) : EReal) + if i.val < base S + 128 * (5 + 1 + 1) then gain S (fun r q => k0_pay44 (k0_pay18 x0) w (ix2 r q)) i.val q else 0 :=
  gain_step B.ge B.le (fun r q => k0_pay44 (k0_pay18 x0) w (ix2 r q)) 5 (on15 B.ids) _ (off16_eq B.ids) _ _ (scatter_pay9 B w) sd _
    (gain_5 B hk w sd) i q

include B in
theorem scatter_pay11 (w : Vec Ideal S4000x128 .bf16) (win : Vec Ideal S128x256 .f32) (j : Fin 128) (q : Fin 256) :
    (k0_pay11 (F := Ideal) (k0_pay19 x1) (k0_pay21 x4) (baseId x1) (k0_pay44 (k0_pay18 x0) w) win (ix2 j q) : EReal)
      = (win (ix2 j q) : EReal) + ∑ r : Fin 4000, hot (S r = base S + 128 * (6 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_896 r j)

include B in
theorem gain_7 (hk : Checks x1) (w : Vec Ideal S4000x128 .bf16) (sd : Vec Ideal S1152x256 .f32) (i : Fin 1152) (q : Fin 256) :
    (acc16 x0 x1 x2 x4 hk w sd (ix2 i q) : EReal)
      = (sd (ix2 i q) : EReal) + if i.val < base S + 128 * (6 + 1 + 1) then gain S (fun r q => k0_pay44 (k0_pay18 x0) w (ix2 r q)) i.val q else 0 :=
  gain_step B.ge B.le (fun r q => k0_pay44 (k0_pay18 x0) w (ix2 r q)) 6 (on16 B.ids) _ (off17_eq B.ids) _ _ (scatter_pay11 B w) sd _
    (gain_6 B hk w sd) i q

include B in
theorem scatter_pay13 (w : Vec Ideal S4000x128 .bf16) (win : Vec Ideal S128x256 .f32) (j : Fin 128) (q : Fin 256) :
    (k0_pay13 (F := Ideal) (k0_pay19 x1) (k0_pay21 x4) (baseId x1) (k0_pay44 (k0_pay18 x0) w) win (ix2 j q) : EReal)
      = (win (ix2 j q) : EReal) + ∑ r : Fin 4000, hot (S r = base S + 128 * (7 + 1) + j.val) * k0_pay44 (k0_pay18 x0) w (ix2 r q) := by
  refine (scatter_read _ _ (k0_pay44 (k0_pay18 x0) w) win j q).trans ?_
  refine congrArg (fun z : EReal => (win (ix2 j q) : EReal) + z) (Finset.sum_congr rfl fun r _ => ?_)
  exact congrArg (· * (k0_pay44 (k0_pay18 x0) w (ix2 r q) : EReal)) (hot_window B _ _ word_1024 r j)

include B in
theorem gain_8 (hk : Checks x1) (w : Vec Ideal S4000x128 .bf16) (sd : Vec Ideal S1152x256 .f32) (i : Fin 1152) (q : Fin 256) :
    (acc17 x0 x1 x2 x4 hk w sd (ix2 i q) : EReal)
      = (sd (ix2 i q) : EReal) + if i.val < base S + 128 * (7 + 1 + 1) then gain S (fun r q => k0_pay44 (k0_pay18 x0) w (ix2 r q)) i.val q else 0 :=
  gain_step B.ge B.le (fun r q => k0_pay44 (k0_pay18 x0) w (ix2 r q)) 7 (on17 B.ids) _ (off18_eq B.ids) _ _ (scatter_pay13 B w) sd _
    (gain_7 B hk w sd) i q

include B in
/-- The accumulator after a block: every row gains the rows of the block's nodes with its id. -/
theorem gains (hk : Checks x1) (w : Vec Ideal S4000x128 .bf16) (sd : Vec Ideal S1152x256 .f32) (i : Fin 1152) (q : Fin 256) :
    (acc17 x0 x1 x2 x4 hk w sd (ix2 i q) : EReal)
      = (sd (ix2 i q) : EReal) + gain S (fun r q => k0_pay44 (k0_pay18 x0) w (ix2 r q)) i.val q := by
  rw [gain_8 B hk w sd, if_pos (by have := i.isLt; omega)]

end Cert.WordsIdeal.Pool
-- ==== Proof.WTotal.lean ====
/-
  The kernel's scratch and result over the whole grid, over the extended reals: after the last block the
  accumulator's rows hold the two sums of each segment, and the result block is the two layers over the
  pooled features. (The second program.) -/
module
public import proofs.«01_k».proof.Proof.WScatter
public import proofs.«01_k».proof.Proof.WChecks
public import proofs.«01_k».proof.Proof.Spec

@[expose] public section

set_option maxRecDepth 16384

noncomputable section

namespace Cert.WordsIdeal.Pool

open Cert.WordsIdeal.Gen Cert.Pool
open Idealize.ShloMosaic Idealize.ShloMosaic.TcCoe Idealize.ShloMosaic.Tactic Idealize.ShloMosaic.ValueIdx

variable (m : (ℓ : Loc nD τ sig) → Buf (Elt Ideal) ℓ) (c : Dev nD)

/-- What the precondition says of one device's arrays. -/
abbrev SoundAt : Prop := Sound (argN m c) (argG m c) (argD m c) (argS m c) (argA m c)

/-- The weight of node `n` at lane `l`. -/
abbrev wR (n : Fin 100000) (l : Fin 128) : ℝ := weight (argN m c) (argG m c) (argD m c) (argS m c) (argA m c) n l

/-- What node `n` scatters: its weighted features, then its weights. -/
def rowR (n : Fin 100000) (q : Fin 256) : ℝ :=
  if h : q.val < 128 then nodeR (argN m c) n ⟨q.val, h⟩ * wR m c n ⟨q.val, h⟩ else wR m c n ⟨q.val - 128, by have := q.isLt; omega⟩

variable {m c} (h : SoundAt m c)

include h in
theorem att_entry (k l : Fin 128) : (if k.val / 32 = l.val / 32 then attn m c k else 0 : EReal) = (awR (argA m c) k l : ℝ) := by
  unfold awR
  by_cases hk : k.val / 32 = l.val / 32
  · rw [if_pos hk, if_pos hk]; exact att_eq h k
  · rw [if_neg hk, if_neg hk]; rfl

include h in
/-- The blocks of a grid point as real numbers. -/
theorem blk (t : Fin cfg0.N) :
    Blk (iblk m c 0 t) (iblk m c 1 t) (iblk m c 2 t) (iblk m c 3 t) (iblk m c 4 t) (iblk m c 5 t) (iblk m c 7 t)
      (fun r => seg (argS m c) (node t r)) (fun r l => nodeR (argN m c) (node t r) l) (fun r => degR (argD m c) (node t r))
      (awR (argA m c)) where
  ids := ids m c h.range t
  ge r := seg_le h (Fin.mk_le_mk.2 (Nat.add_le_add_left (Nat.zero_le _) _))
  le r := seg_le h (Fin.mk_le_mk.2 (Nat.add_le_add_left (Nat.le_of_lt_succ r.isLt) _))
  row r := by
    rw [block_2, show sid m c (node t r) = _ from seg_cast h (node t r)]
    norm_cast
  node r l := (block_0 m c t r l).trans (node_eq h _ l)
  deg r := (block_3 m c t r).trans (deg_eq h _)
  num l := block_4 m c t l
  one l := block_5 m c t l
  att k l := (block_7 m c t k l).trans (att_entry h k l)

include h in
/-- The projected table the first point seeds. -/
theorem table_seed (t : Fin cfg0.N) (b : Fin 1152) (l : Fin 128) :
    (VecWindow.put (k0_pay16 (F := Ideal)) ![0, 0] S1000x128.size (k0_pay17 (iblk m c 6 t) (iblk m c 7 t)) (ix2 b l) : EReal)
      = (gzR (argG m c) (argA m c) b.val l : ℝ) := by
  unfold VecWindow.put gzR
  by_cases hb : b.val < 1000
  · rw [dif_pos hb, dif_pos (by
      intro a; fin_cases a
      · exact ⟨Nat.zero_le _, by show b.val < 0 + 1000; omega⟩
      · exact ⟨Nat.zero_le _, by show l.val < 0 + 128; have := l.isLt; omega⟩)]
    have e : (k0_pay17 (iblk m c 6 t) (iblk m c 7 t) (ix2 (⟨b.val, hb⟩ : Fin 1000) l) : EReal)
        = ((∑ d : Fin 128, graphR (argG m c) ⟨b.val, hb⟩ d * awR (argA m c) d l : ℝ) : EReal) := by
      unfold k0_pay17
      refine (shapeCast_apply _ _ _ (ix2 (⟨b.val, hb⟩ : Fin 1000) l) rfl).trans ?_
      refine (product_1000_128 _ _ (⟨b.val, hb⟩ : Fin 1000) l).trans ?_
      rw [← sum_coe]
      refine Finset.sum_congr rfl fun d _ => ?_
      rw [EReal.coe_mul, ← graph_eq h, ← att_entry h, ← block_6 m c t, ← block_7 m c t]
      exact congrArg (HMul.hMul (α := EReal) (β := EReal) (γ := EReal) (iblk m c 6 t (ix2 (⟨b.val, hb⟩ : Fin 1000) d))) (shapeCast_apply _ _ _ (ix2 d l) rfl)
    rw [← e]
    refine congrArg (k0_pay17 (iblk m c 6 t) (iblk m c 7 t)) (funext fun a => ?_)
    fin_cases a <;> rfl
  · rw [dif_neg hb, dif_neg (fun h' => hb (by have := (h' 0).2; exact this.trans_eq (Nat.zero_add _)))]
    unfold k0_pay16
    refine (shapeCast_apply _ _ _ (ix2 b l) rfl).trans ?_
    exact Ideal.ofBits_zero_bf16

/-- Node `k`'s contribution to an entry of the accumulator. -/
def contrib (m : (ℓ : Loc nD τ sig) → Buf (Elt Ideal) ℓ) (c : Dev nD) (i : ℕ) (q : Fin 256) (k : ℕ) : EReal :=
  if hk : k < 100000 then hot (seg (argS m c) ⟨k, hk⟩ = i) * ((rowR m c ⟨k, hk⟩ q : ℝ) : EReal) else 0

include h in
/-- One point over a table already seeded: every entry gains its nodes' contributions. -/
theorem point_gain (t : Fin cfg0.N) (hk : Checks (iblk m c 1 t)) (gzv : Vec Ideal S1152x128 .bf16)
    (hgz : ∀ (b : Fin 1152) (l : Fin 128), (gzv (ix2 b l) : EReal) = (gzR (argG m c) (argA m c) b.val l : ℝ))
    (sd : Vec Ideal S1152x256 .f32) (i : Fin 1152) (q : Fin 256) :
    (acc17 (iblk m c 0 t) (iblk m c 1 t) (iblk m c 2 t) (iblk m c 4 t) hk
      (wgt9 (iblk m c 0 t) (iblk m c 1 t) (iblk m c 3 t) (iblk m c 4 t) (iblk m c 5 t) (iblk m c 7 t) hk gzv) sd (ix2 i q) : EReal)
      = (sd (ix2 i q) : EReal) + ∑ r ∈ Finset.range 4000, contrib m c i.val q (t.val * 4000 + r) := by
  rw [gains (blk h t) hk]
  congr 1
  rw [Finset.sum_range]
  refine Finset.sum_congr rfl fun r _ => ?_
  have hn : t.val * 4000 + r.val < 100000 := (node t r).isLt
  unfold contrib
  rw [dif_pos hn]
  refine congrArg (hot (seg (argS m c) (node t r) = i.val) * ·) ?_
  show (k0_pay44 (k0_pay18 (iblk m c 0 t)) _ (ix2 r q) : EReal) = ((rowR m c (node t r) q : ℝ) : EReal)
  have hw : ∀ l : Fin 128, (wgt9 (iblk m c 0 t) (iblk m c 1 t) (iblk m c 3 t) (iblk m c 4 t) (iblk m c 5 t) (iblk m c 7 t) hk gzv (ix2 r l) : EReal)
      = (wR m c (node t r) l : ℝ) := fun l => weights (blk h t) hgz hk r l
  unfold rowR
  by_cases hq : q.val < 128
  · rw [dif_pos hq, EReal.coe_mul, ← hw]
    refine (pair_left _ _ r q ⟨q.val, hq⟩ rfl).trans ?_
    exact congrArg (· * (wgt9 (iblk m c 0 t) (iblk m c 1 t) (iblk m c 3 t) (iblk m c 4 t) (iblk m c 5 t) (iblk m c 7 t) hk gzv (ix2 r ⟨q.val, hq⟩) : EReal))
      ((blk h t).node r ⟨q.val, hq⟩)
  · rw [dif_neg hq, ← hw]
    exact pair_right _ _ r q _ (by show q.val = q.val - 128 + 128; omega)

set_option maxHeartbeats 1000000 in
include h in
/-- The scratch after point `n`: the projected table, and the contributions of all nodes so far. -/
theorem scratch (hC : AllChecks m) : ∀ (n : ℕ) (hn : n < cfg0.N),
    (∀ (b : Fin 1152) (l : Fin 128), ((scr m hC c n hn).2 (ix2 b l) : EReal) = (gzR (argG m c) (argA m c) b.val l : ℝ))
    ∧ ∀ (i : Fin 1152) (q : Fin 256), ((scr m hC c n hn).1 (ix2 i q) : EReal) = ∑ k ∈ Finset.range ((n + 1) * 4000), contrib m c i.val q k := by
  intro n
  induction n with
  | zero =>
    intro hn
    have hf : IsFirst (grid0.coords ⟨0, hn⟩) := (isFirst_iff ⟨0, hn⟩).mpr rfl
    have e := scr_first m hC c ⟨0, hn⟩ rfl (fun _ => (0 : EReal)) (fun _ => (0 : EReal))
    have hg : ∀ (b : Fin 1152) (l : Fin 128), (gzAfter (grid0.coords ⟨0, hn⟩) (iblk m c 6 ⟨0, hn⟩) (iblk m c 7 ⟨0, hn⟩) (fun _ => (0 : EReal)) (ix2 b l) : EReal)
        = (gzR (argG m c) (argA m c) b.val l : ℝ) := by
      intro b l
      unfold gzAfter seeded
      rw [if_pos hf]
      exact table_seed h _ b l
    refine ⟨fun b l => ?_, fun i q => ?_⟩
    · rw [show (scr m hC c 0 hn).2 = _ from congrArg Prod.snd e]
      exact hg b l
    · rw [show (scr m hC c 0 hn).1 = _ from congrArg Prod.fst e]
      unfold sdAfter
      refine (point_gain h ⟨0, hn⟩ _ _ hg _ i q).trans ?_
      unfold cleared
      rw [if_pos hf]
      have e0 : (k0_pay15 (F := Ideal) (ix2 i q) : EReal) = 0 := by
        unfold k0_pay15
        refine (shapeCast_apply _ _ _ (ix2 i q) rfl).trans ?_
        exact Ideal.ofBits_zero_f32
      rw [e0, zero_add]
      refine Finset.sum_congr (by norm_num) fun r _ => ?_
      exact congrArg (contrib m c i.val q) (by show 0 * 4000 + r = r; omega)
  | succ n ih =>
    intro hn
    obtain ⟨ih1, ih2⟩ := ih (Nat.lt_of_succ_lt hn)
    have hf : ¬ IsFirst (grid0.coords ⟨n + 1, hn⟩) := fun hf => Nat.succ_ne_zero n ((isFirst_iff ⟨n + 1, hn⟩).mp hf)
    have e := scr_next m hC c ⟨n + 1, hn⟩ (Nat.succ_ne_zero n) (Nat.lt_of_succ_lt hn)
    have hg : ∀ (b : Fin 1152) (l : Fin 128), (gzAfter (grid0.coords ⟨n + 1, hn⟩) (iblk m c 6 ⟨n + 1, hn⟩) (iblk m c 7 ⟨n + 1, hn⟩)
        (scr m hC c n (Nat.lt_of_succ_lt hn)).2 (ix2 b l) : EReal) = (gzR (argG m c) (argA m c) b.val l : ℝ) := by
      intro b l
      unfold gzAfter seeded
      rw [if_neg hf]
      exact ih1 b l
    refine ⟨fun b l => ?_, fun i q => ?_⟩
    · rw [show (scr m hC c (n + 1) hn).2 = _ from congrArg Prod.snd e]
      exact hg b l
    · rw [show (scr m hC c (n + 1) hn).1 = _ from congrArg Prod.fst e]
      unfold sdAfter
      refine (point_gain h ⟨n + 1, hn⟩ _ _ hg _ i q).trans ?_
      unfold cleared
      rw [if_neg hf]
      rw [show (n + 1 + 1) * 4000 = (n + 1) * 4000 + 4000 by omega, Finset.sum_range_add]
      refine congrArg₂ (· + ·) (ih2 i q) rfl

/-- Every node's contribution, as the real sum over the segment. -/
theorem contrib_sum (i : ℕ) (q : Fin 256) :
    ∑ k ∈ Finset.range 100000, contrib m c i q k = ((∑ n : Fin 100000, if seg (argS m c) n = i then rowR m c n q else 0 : ℝ) : EReal) := by
  rw [Finset.sum_range, ← sum_coe]
  refine Finset.sum_congr rfl fun n _ => ?_
  unfold contrib
  rw [dif_pos n.isLt]
  by_cases hn : seg (argS m c) n = i
  · rw [hot, if_pos hn, if_pos hn, one_mul]
  · rw [hot, if_neg hn, if_neg hn, zero_mul]; rfl

include h in
/-- After the last point, lanes 0 to 127 hold the weighted sums and lanes 128 to 255 the sums of the weights. -/
theorem accumulated (hC : AllChecks m) (t : Fin cfg0.N) (ht : t.val = 24) (i : Fin 1152) (l : Fin 128) :
    ((scr m hC c t.val t.isLt).1 (ix2 i (Fin.castAdd 128 l)) : EReal) = (mixed (argN m c) (argG m c) (argD m c) (argS m c) (argA m c) i.val l : ℝ)
    ∧ ((scr m hC c t.val t.isLt).1 (ix2 i (Fin.natAdd 128 l)) : EReal) = (total (argN m c) (argG m c) (argD m c) (argS m c) (argA m c) i.val l : ℝ) := by
  constructor
  · rw [show (scr m hC c t.val t.isLt).1 (ix2 i (Fin.castAdd 128 l)) = _ from (scratch h hC t.val t.isLt).2 i _, ht]
    refine (contrib_sum i.val _).trans (congrArg _ ?_)
    unfold mixed
    refine Finset.sum_congr rfl fun n _ => ?_
    unfold rowR
    rw [dif_pos (show (Fin.castAdd 128 l).val < 128 from l.isLt)]
    rfl
  · rw [show (scr m hC c t.val t.isLt).1 (ix2 i (Fin.natAdd 128 l)) = _ from (scratch h hC t.val t.isLt).2 i _, ht]
    refine (contrib_sum i.val _).trans (congrArg _ ?_)
    unfold total
    refine Finset.sum_congr rfl fun n _ => ?_
    unfold rowR
    rw [dif_neg (show ¬ (Fin.natAdd 128 l).val < 128 by show ¬ 128 + l.val < 128; omega)]
    congr 2
    exact Fin.ext (by show 128 + l.val - 128 = l.val; omega)

end Cert.WordsIdeal.Pool
-- ==== Proof.WFinish.lean ====
/- What the last point writes to the result: the two linear layers over the pooled features, and the residual. (The second program.) -/
module
public import proofs.«01_k».proof.Proof.WTotal

@[expose] public section

set_option maxRecDepth 16384

noncomputable section

namespace Cert.WordsIdeal.Pool

open Cert.WordsIdeal.Gen Cert.Pool
open Idealize.ShloMosaic Idealize.ShloMosaic.TcCoe Idealize.ShloMosaic.Tactic Idealize.ShloMosaic.ValueIdx

/-- The kernel's pooled block: the quotient plus the graph's features where the weights' sum is positive, else zero. -/
def pool (s d g : Vec Ideal S1000x128 .f32) : FVec Ideal S1000x128 .f32 :=
  select (cmpf .ogt (d : FVec Ideal S1000x128 .f32) (broadcast S1000x128 (Scalar.ofBits (F := Ideal) .f32 0x00000000#32)))
    (addf (divf s d) g) (broadcast S1000x128 (Scalar.ofBits (F := Ideal) .f32 0x00000000#32))

theorem pool_entry (s d g : Vec Ideal S1000x128 .f32) (b : Fin 1000) (j : Fin 128) (x y z : ℝ)
    (hs : (s (ix2 b j) : EReal) = (x : ℝ)) (hd : (d (ix2 b j) : EReal) = (y : ℝ)) (hg : (g (ix2 b j) : EReal) = (z : ℝ)) :
    (pool s d g (ix2 b j) : EReal) = ((if 0 < y then x / y + z else 0 : ℝ) : EReal) := by
  have hc : (cmpf .ogt (d : FVec Ideal S1000x128 .f32) (broadcast S1000x128 (Scalar.ofBits (F := Ideal) .f32 0x00000000#32)) (ix2 b j))
      = BitVec.ofBool (decide ((0 : EReal) < (d (ix2 b j) : EReal))) := by
    show BitVec.ofBool (decide (Ideal.ofBits .f32 0x00000000#32 < (d (ix2 b j) : EReal))) = _
    rw [Ideal.ofBits_zero_f32]
  show (Scalar.select _ (Ideal.div (s (ix2 b j)) (d (ix2 b j)) + (g (ix2 b j) : EReal)) (Ideal.ofBits .f32 0x00000000#32)) = _
  refine (congrArg (fun w => Scalar.select w (Ideal.div (s (ix2 b j)) (d (ix2 b j)) + (g (ix2 b j) : EReal)) (Ideal.ofBits .f32 0x00000000#32)) hc).trans ?_
  rw [hs, hd, hg, Ideal.ofBits_zero_f32]
  by_cases hy : 0 < y
  · rw [if_pos hy, decide_eq_true (EReal.coe_pos.2 hy), Ideal.div_coe hy.ne', ← EReal.coe_mul, mul_one_div, EReal.coe_add]
    rfl
  · rw [if_neg hy, decide_eq_false (fun h => hy (EReal.coe_pos.1 h))]
    rfl

/-- The two layers, entry by entry. -/
theorem finish_entry (s d g : Vec Ideal S1000x128 .f32) (w₁ w₂ : Vec Ideal S128x128 .f32) (b₁ b₂ : Vec Ideal S1x128 .f32) (b : Fin 1000) (l : Fin 128) :
    (k0_pay14 s d g w₁ b₁ w₂ b₂ (ix2 b l) : EReal)
      = (∑ k : Fin 128, max ((∑ j : Fin 128, (pool s d g (ix2 b j) : EReal) * w₁ (ix2 j k)) + b₁ (ix2 0 k)) 0 * (w₂ (ix2 k l) : EReal)) + b₂ (ix2 0 l)
        + g (ix2 b l) := by
  unfold k0_pay14
  have hb : ∀ (v : Vec Ideal S1x128 .f32) (k : Fin 128),
      (broadcastTo S1000x128 (shapeCast S1x128 v shapeCasts_S1x128_S1x128) broadcasts_S1x128_S1000x128 (ix2 b k) : EReal) = v (ix2 0 k) := fun v k =>
    (broadcastTo_apply _ _ _ (ix2 (0 : Fin 1) k) (fun a => by fin_cases a <;> rfl)).trans (shapeCast_apply _ _ _ (ix2 (0 : Fin 1) k) rfl)
  refine congrArg₂ (· + ·) (congrArg₂ (· + ·) ((product_1000_128 _ _ b l).trans ?_) (hb b₂ l)) rfl
  refine Finset.sum_congr rfl fun k _ => ?_
  refine congrArg₂ (fun x y : EReal => x * y) ?_ (shapeCast_apply _ _ _ (ix2 k l) rfl)
  refine congrArg₂ (fun x y : EReal => max x y) ?_ Ideal.ofBits_zero_f32
  refine congrArg₂ (fun x y : EReal => x + y) ((product_1000_128 _ _ b k).trans ?_) (hb b₁ k)
  refine Finset.sum_congr rfl fun j _ => ?_
  exact congrArg₂ (fun x y : EReal => x * y) rfl (shapeCast_apply _ _ _ (ix2 j k) rfl)

variable (m : (ℓ : Loc nD τ sig) → Buf (Elt Ideal) ℓ) (c : Dev nD)

/-- The result array: the two layers over the pooled features. -/
def answer : FVec Ideal ⟨2, ![1000, 128]⟩ .f32 := fun i =>
  layers (argG m c) (argW1 m c) (argB1 m c) (argW2 m c) (argB2 m c)
    (fun b j => ((pooled (argN m c) (argG m c) (argD m c) (argS m c) (argA m c) b j : ℝ) : EReal)) (i 0) (i 1)

variable {m c} (h : SoundAt m c)

include h in
theorem outBlock_entry (hC : AllChecks m) (t : Fin cfg0.N) (ht : t.val = 24) (b : Fin 1000) (l : Fin 128) :
    (outBlock m hC c t (ix2 b l) : EReal) = answer m c (ix2 b l) := by
  unfold outBlock
  refine (finish_entry _ _ _ _ _ _ _ b l).trans ?_
  unfold answer layers
  have hp : ∀ j : Fin 128, (pool (VecWindow.window (scr m hC c t.val t.isLt).1 ![0, 0] S1000x128.size inb_S1152x256_S1000x128_0_0)
      (VecWindow.window (scr m hC c t.val t.isLt).1 ![0, 128] S1000x128.size inb_S1152x256_S1000x128_0_128) (iblk m c 6 t) (ix2 b j) : EReal)
      = ((pooled (argN m c) (argG m c) (argD m c) (argS m c) (argA m c) b j : ℝ) : EReal) := by
    intro j
    have ha := accumulated h hC t ht ⟨b.val, by have := b.isLt; omega⟩ j
    refine pool_entry _ _ _ b j _ _ _ (Eq.trans ?_ ha.1) (Eq.trans ?_ ha.2) ((block_6 m c t b j).trans (graph_eq h b j))
    · refine congrArg (scr m hC c t.val t.isLt).1 (funext fun a => ?_)
      fin_cases a
      · exact Fin.ext (by show 0 + 1 * b.val = b.val; omega)
      · exact Fin.ext (by show 0 + 1 * j.val = j.val; omega)
    · refine congrArg (scr m hC c t.val t.isLt).1 (funext fun a => ?_)
      fin_cases a
      · exact Fin.ext (by show 0 + 1 * b.val = b.val; omega)
      · exact Fin.ext (by show 128 + 1 * j.val = 128 + j.val; omega)
  refine congrArg₂ (fun x y : EReal => x + y) (congrArg₂ (fun x y : EReal => x + y) ?_ (block_11 m c t l)) (block_6 m c t b l)
  refine Finset.sum_congr rfl fun k _ => ?_
  refine congrArg₂ (fun x y : EReal => x * y) (congrArg₂ (fun x y : EReal => max x y) ?_ rfl) (block_9 m c t k l)
  refine congrArg₂ (fun x y : EReal => x + y) ?_ (block_10 m c t k)
  refine Finset.sum_congr rfl fun j _ => ?_
  exact congrArg₂ (fun x y : EReal => x * y) (hp j) (block_8 m c t j k)

include h in
theorem outBlock_all (hC : AllChecks m) (t : Fin cfg0.N) (ht : t.val = 24) (i : S1000x128.Idx) :
    (outBlock m hC c t i : EReal) = answer m c i := by
  have e : i = ix2 (i 0) (i 1) := by funext a; fin_cases a <;> rfl
  rw [e]
  exact outBlock_entry h hC t ht (i 0) (i 1)

/-- The last grid point. -/
def lastPoint : Fin cfg0.N := ⟨24, by decide +kernel⟩

include h in
/-- The result array after the run. -/
theorem result_array (hC : AllChecks m) : (dats m hC 0 c).arrAt 12 cfg0.N = answer m c := by
  refine (dats m hC 0 c).arrAt_eq_of_after_last 12 lastPoint (by decide +kernel) _ fun j => ?_
  rw [after_12]
  exact outBlock_all h hC lastPoint rfl _

end Cert.WordsIdeal.Pool
-- ==== Proof.WAgree.lean ====
/- The value claim of the second program: it and the reference end with the same result array. -/
module
public import proofs.«01_k».proof.Proof.WFrames
public import proofs.«01_k».proof.Proof.WFinish
public import proofs.«01_k».proof.Proof.RefValue

@[expose] public section

noncomputable section

namespace Cert.WordsIdeal.Pool

open Cert.WordsIdeal.Gen Cert.Pool
open Idealize.ShloMosaic Idealize.ShloMosaic.TcCoe Idealize.ShloMosaic.Tactic Idealize.SL.Sem

variable (m : (ℓ : Loc nD τ sig) → Buf (Elt Ideal) ℓ) (ρ : Dev nD → PrngReg) (h : ∀ c, SoundAt m c)

include h in
/-- The kernel runs and leaves `answer` in its result array. -/
theorem result_main : θ_run defs (onTc (τ := τ) (main (F := Ideal))) ⟨m, fun _ => 0, ρ⟩
    (fun r => ∀ c : Dev nD, r.2.mem ((c.tc : Thread nD τ).loc main_v14) = answer m c) :=
  θ_run_mono (run_main m ρ (allChecks m fun c => (h c).range)) fun r hr c =>
    (hr.1.out_eq c 12).trans (result_array (h c) (allChecks m fun c => (h c).range))

end Cert.WordsIdeal.Pool

namespace Cert.Pool

open Idealize.ShloMosaic Idealize.ShloMosaic.TcCoe Idealize.SL.Sem

section
attribute [local instance] Cert.WordsIdeal.Gen.facts Cert.ReferenceIdeal.Gen.facts Cert.Pre_in_range.Gen.facts Cert.Pre_sound.Gen.facts

theorem words_results_agree : Cert.algebraic_WordsIdeal_ReferenceIdeal_pre_sound := fun m g m' g' hs hm => by
  refine ⟨fun c => Cert.WordsIdeal.Pool.answer m c, ?_, ?_⟩
  · refine θ_run_mono (θ_run_and (Cert.WordsIdeal.Pool.result_main m g (words_sound hs)) (words_frame_sound m g hs)) fun r hr c => ?_
    exact ⟨hr.1 c, hr.2.1 c⟩
  · refine θ_run_mono (Cert.ReferenceIdeal.Value.run m' g') fun r hr c => ⟨?_, (hr c).2⟩
    refine (hr c).1.trans ((Cert.ReferenceIdeal.Pool.result_eq m' c).trans ?_)
    obtain ⟨e0, e1, e2, e3, e4, e5, e6, e7, e8⟩ := hm c
    rw [e0, e1, e2, e3, e4, e5, e6, e7, e8]
    exact Cert.ReferenceIdeal.Pool.whole_eq (words_sound hs c) _ _ _ _

end

end Cert.Pool
-- ==== Proof.AtWordsBase.lean ====
/-
  The second program's window base and window conditions over words.

  A block's ids are the words of whole numbers `S r` below a thousand. Its base is the word of
  `16 * (S 0 / 16)`; window `w` is on exactly when `base + 128 w` is at most the block's last id; and
  every window that is on lies inside the table and the accumulator.
-/
module
public import proofs.«01_k».proof.Proof.WBase
public import Idealize.ShloMosaic.PureOps.BitExact
public import Idealize.ShloMosaic.Lib.NatWords
public import Idealize.ShloMosaic.Lib.NatWordsOrder
@[expose] public section

set_option maxRecDepth 16384

noncomputable section

namespace Cert.WordsIdeal.Pool.AtWords

open Cert.WordsIdeal.Gen
open Idealize.ShloMosaic Idealize.ShloMosaic.TcCoe Idealize.ShloMosaic.Tactic Idealize.ShloMosaic.ValueIdx

/-- A whole number's word. -/
abbrev wd (n : ℕ) : Bits .f32 := Bits.f32OfNat n

/-- The word of 128. -/
theorem word_128 : (Bits.ofBits .f32 0x43000000#32 : Bits .f32) = wd 128 := by
  unfold wd
  rw [Bits.f32OfNat_eq _ (by norm_num)]
  decide +kernel

/-- The word of 256. -/
theorem word_256 : (Bits.ofBits .f32 0x43800000#32 : Bits .f32) = wd 256 := by
  unfold wd
  rw [Bits.f32OfNat_eq _ (by norm_num)]
  decide +kernel

/-- The word of 384. -/
theorem word_384 : (Bits.ofBits .f32 0x43C00000#32 : Bits .f32) = wd 384 := by
  unfold wd
  rw [Bits.f32OfNat_eq _ (by norm_num)]
  decide +kernel

/-- The word of 512. -/
theorem word_512 : (Bits.ofBits .f32 0x44000000#32 : Bits .f32) = wd 512 := by
  unfold wd
  rw [Bits.f32OfNat_eq _ (by norm_num)]
  decide +kernel

/-- The word of 640. -/
theorem word_640 : (Bits.ofBits .f32 0x44200000#32 : Bits .f32) = wd 640 := by
  unfold wd
  rw [Bits.f32OfNat_eq _ (by norm_num)]
  decide +kernel

/-- The word of 768. -/
theorem word_768 : (Bits.ofBits .f32 0x44400000#32 : Bits .f32) = wd 768 := by
  unfold wd
  rw [Bits.f32OfNat_eq _ (by norm_num)]
  decide +kernel

/-- The word of 896. -/
theorem word_896 : (Bits.ofBits .f32 0x44600000#32 : Bits .f32) = wd 896 := by
  unfold wd
  rw [Bits.f32OfNat_eq _ (by norm_num)]
  decide +kernel

/-- The word of 1024. -/
theorem word_1024 : (Bits.ofBits .f32 0x44800000#32 : Bits .f32) = wd 1024 := by
  unfold wd
  rw [Bits.f32OfNat_eq _ (by norm_num)]
  decide +kernel

/-- One block's ids: the column the body reads holds the whole numbers `S`, below a thousand. -/
structure Ids (x1 : Vec Bits S4000x1 .f32) (S : Fin 4000 → ℕ) : Prop where
  col : ∀ r, x1 (ix2 r 0) = wd (S r)
  lt : ∀ r, S r < 1000

variable {x1 : Vec Bits S4000x1 .f32} {S : Fin 4000 → ℕ} (h : Ids x1 S)
include h

theorem lastId_eq : lastId x1 = wd (S 3999) := by
  rw [← h.col]
  show (shapeCast S4000x1 x1 _) _ = _
  exact shapeCast_apply _ _ _ _ rfl

theorem firstId_eq : extractAt ![0, 0] (extractStridedSlice S1x1 ![0, 0] (k0_pay19 x1) slices_S4000x1_o0_0_S1x1) inpos_S1x1_p0_0 = wd (S 0) := by
  rw [← h.col]
  show (shapeCast S4000x1 x1 _) _ = _
  exact shapeCast_apply _ _ _ _ rfl

theorem firstW_eq : Bits.fptosi32 32 (extractAt ![0, 0] (extractStridedSlice S1x1 ![0, 0] (k0_pay19 x1) slices_S4000x1_o0_0_S1x1) inpos_S1x1_p0_0) = BitVec.ofNat 32 (S 0) := by
  have h0 := h.lt 0
  rw [firstId_eq h]
  exact Bits.fptosi32_nat _ (by omega)

theorem baseId_eq : baseId x1 = wd (base S) := by
  have h0 := h.lt 0
  show Bits.sitofp32 (Bits.fptosi32 32 (extractAt ![0, 0] (extractStridedSlice S1x1 ![0, 0] (k0_pay19 x1) slices_S4000x1_o0_0_S1x1) inpos_S1x1_p0_0)
    - (Bits.fptosi32 32 (extractAt ![0, 0] (extractStridedSlice S1x1 ![0, 0] (k0_pay19 x1) slices_S4000x1_o0_0_S1x1) inpos_S1x1_p0_0) &&& 15#32)) = _
  rw [firstW_eq h, low_cleared _ h0]
  exact Bits.sitofp32_ofNat (by omega)

theorem baseW_eq : baseW x1 = BitVec.ofNat 32 (base S) := by
  have h0 := h.lt 0
  show Bits.fptosi32 32 (baseId x1) = _
  rw [baseId_eq h]
  exact Bits.fptosi32_nat _ (by unfold base; omega)

theorem base_le : base S ≤ 992 := by
  have h0 := h.lt 0
  unfold base; omega

/-- A window whose first row is `w` past the base: its condition over words. -/
theorem on_of {w : ℕ} {v : Bits .f32} (hv : v = wd w) {e : BitVec 1} (he : e = Bits.cmpf32 .ole (Bits.addf32 (baseId x1) v) (lastId x1))
    (hw : w ≤ 1024 := by norm_num) : e = 1#1 ↔ base S + w ≤ S 3999 := by
  have h0 := h.lt 0
  have h1 := h.lt 3999
  rw [he, hv, baseId_eq h, lastId_eq h, Bits.addf32_nat _ _ (by unfold base; omega),
    Bits.cmpf32_ole_nat (by unfold base; omega) (by omega)]
  by_cases hh : base S + w ≤ S 3999
  · simp [hh]
  · simp [hh]

theorem bit2_iff : bit2 x1 = 1#1 ↔ base S + 128 ≤ S 3999 := by
  exact on_of h word_128 rfl

theorem bit10_iff : bit10 x1 = 1#1 ↔ base S + 128 ≤ S 3999 := by
  exact on_of h word_128 rfl

theorem bit3_iff : bit3 x1 = 1#1 ↔ base S + 256 ≤ S 3999 := by
  exact on_of h word_256 rfl

theorem bit11_iff : bit11 x1 = 1#1 ↔ base S + 256 ≤ S 3999 := by
  exact on_of h word_256 rfl

theorem bit4_iff : bit4 x1 = 1#1 ↔ base S + 384 ≤ S 3999 := by
  exact on_of h word_384 rfl

theorem bit12_iff : bit12 x1 = 1#1 ↔ base S + 384 ≤ S 3999 := by
  exact on_of h word_384 rfl

theorem bit5_iff : bit5 x1 = 1#1 ↔ base S + 512 ≤ S 3999 := by
  exact on_of h word_512 rfl

theorem bit13_iff : bit13 x1 = 1#1 ↔ base S + 512 ≤ S 3999 := by
  exact on_of h word_512 rfl

theorem bit6_iff : bit6 x1 = 1#1 ↔ base S + 640 ≤ S 3999 := by
  exact on_of h word_640 rfl

theorem bit14_iff : bit14 x1 = 1#1 ↔ base S + 640 ≤ S 3999 := by
  exact on_of h word_640 rfl

theorem bit7_iff : bit7 x1 = 1#1 ↔ base S + 768 ≤ S 3999 := by
  exact on_of h word_768 rfl

theorem bit15_iff : bit15 x1 = 1#1 ↔ base S + 768 ≤ S 3999 := by
  exact on_of h word_768 rfl

theorem bit8_iff : bit8 x1 = 1#1 ↔ base S + 896 ≤ S 3999 := by
  exact on_of h word_896 rfl

theorem bit16_iff : bit16 x1 = 1#1 ↔ base S + 896 ≤ S 3999 := by
  exact on_of h word_896 rfl

theorem bit9_iff : bit9 x1 = 1#1 ↔ base S + 1024 ≤ S 3999 := by
  exact on_of h word_1024 rfl

theorem bit17_iff : bit17 x1 = 1#1 ↔ base S + 1024 ≤ S 3999 := by
  exact on_of h word_1024 rfl

theorem on2 : k0_cond2 (bit2 x1) = 1#1 ↔ base S + 128 ≤ S 3999 := (on_iff _).trans (bit2_iff h)

theorem on10 : k0_cond10 (bit10 x1) = 1#1 ↔ base S + 128 ≤ S 3999 := (on_iff _).trans (bit10_iff h)

theorem on3 : k0_cond3 (bit3 x1) = 1#1 ↔ base S + 256 ≤ S 3999 := (on_iff _).trans (bit3_iff h)

theorem on11 : k0_cond11 (bit11 x1) = 1#1 ↔ base S + 256 ≤ S 3999 := (on_iff _).trans (bit11_iff h)

theorem on4 : k0_cond4 (bit4 x1) = 1#1 ↔ base S + 384 ≤ S 3999 := (on_iff _).trans (bit4_iff h)

theorem on12 : k0_cond12 (bit12 x1) = 1#1 ↔ base S + 384 ≤ S 3999 := (on_iff _).trans (bit12_iff h)

theorem on5 : k0_cond5 (bit5 x1) = 1#1 ↔ base S + 512 ≤ S 3999 := (on_iff _).trans (bit5_iff h)

theorem on13 : k0_cond13 (bit13 x1) = 1#1 ↔ base S + 512 ≤ S 3999 := (on_iff _).trans (bit13_iff h)

theorem on6 : k0_cond6 (bit6 x1) = 1#1 ↔ base S + 640 ≤ S 3999 := (on_iff _).trans (bit6_iff h)

theorem on14 : k0_cond14 (bit14 x1) = 1#1 ↔ base S + 640 ≤ S 3999 := (on_iff _).trans (bit14_iff h)

theorem on7 : k0_cond7 (bit7 x1) = 1#1 ↔ base S + 768 ≤ S 3999 := (on_iff _).trans (bit7_iff h)

theorem on15 : k0_cond15 (bit15 x1) = 1#1 ↔ base S + 768 ≤ S 3999 := (on_iff _).trans (bit15_iff h)

theorem on8 : k0_cond8 (bit8 x1) = 1#1 ↔ base S + 896 ≤ S 3999 := (on_iff _).trans (bit8_iff h)

theorem on16 : k0_cond16 (bit16 x1) = 1#1 ↔ base S + 896 ≤ S 3999 := (on_iff _).trans (bit16_iff h)

theorem on9 : k0_cond9 (bit9 x1) = 1#1 ↔ base S + 1024 ≤ S 3999 := (on_iff _).trans (bit9_iff h)

theorem on17 : k0_cond17 (bit17 x1) = 1#1 ↔ base S + 1024 ≤ S 3999 := (on_iff _).trans (bit17_iff h)

theorem off1_eq : k0_off1 (baseW x1) = ![base S, 0] := by
  have hb := base_le h
  show ![(baseW x1).toNat, 0] = _
  rw [baseW_eq h, BitVec.toNat_ofNat, Nat.mod_eq_of_lt (by omega)]

theorem off10_eq : k0_off10 (baseW x1) = ![base S, 0] := by
  have hb := base_le h
  show ![(baseW x1).toNat, 0] = _
  rw [baseW_eq h, BitVec.toNat_ofNat, Nat.mod_eq_of_lt (by omega)]

theorem off2_eq : k0_off2 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off11_eq : k0_off11 (baseW x1) = ![base S + 128, 0] := by
  have hb := base_le h
  show ![(baseW x1 + 128#32).toNat, 0] = _
  rw [baseW_eq h, BitVec.toNat_add, BitVec.toNat_ofNat, BitVec.toNat_ofNat, Nat.mod_eq_of_lt (by omega)]
  congr 1
  omega

theorem off3_eq : k0_off3 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off12_eq : k0_off12 (baseW x1) = ![base S + 256, 0] := by
  have hb := base_le h
  show ![(baseW x1 + 256#32).toNat, 0] = _
  rw [baseW_eq h, BitVec.toNat_add, BitVec.toNat_ofNat, BitVec.toNat_ofNat, Nat.mod_eq_of_lt (by omega)]
  congr 1
  omega

theorem off4_eq : k0_off4 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off13_eq : k0_off13 (baseW x1) = ![base S + 384, 0] := by
  have hb := base_le h
  show ![(baseW x1 + 384#32).toNat, 0] = _
  rw [baseW_eq h, BitVec.toNat_add, BitVec.toNat_ofNat, BitVec.toNat_ofNat, Nat.mod_eq_of_lt (by omega)]
  congr 1
  omega

theorem off5_eq : k0_off5 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off14_eq : k0_off14 (baseW x1) = ![base S + 512, 0] := by
  have hb := base_le h
  show ![(baseW x1 + 512#32).toNat, 0] = _
  rw [baseW_eq h, BitVec.toNat_add, BitVec.toNat_ofNat, BitVec.toNat_ofNat, Nat.mod_eq_of_lt (by omega)]
  congr 1
  omega

theorem off6_eq : k0_off6 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off15_eq : k0_off15 (baseW x1) = ![base S + 640, 0] := by
  have hb := base_le h
  show ![(baseW x1 + 640#32).toNat, 0] = _
  rw [baseW_eq h, BitVec.toNat_add, BitVec.toNat_ofNat, BitVec.toNat_ofNat, Nat.mod_eq_of_lt (by omega)]
  congr 1
  omega

theorem off7_eq : k0_off7 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off16_eq : k0_off16 (baseW x1) = ![base S + 768, 0] := by
  have hb := base_le h
  show ![(baseW x1 + 768#32).toNat, 0] = _
  rw [baseW_eq h, BitVec.toNat_add, BitVec.toNat_ofNat, BitVec.toNat_ofNat, Nat.mod_eq_of_lt (by omega)]
  congr 1
  omega

theorem off8_eq : k0_off8 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off17_eq : k0_off17 (baseW x1) = ![base S + 896, 0] := by
  have hb := base_le h
  show ![(baseW x1 + 896#32).toNat, 0] = _
  rw [baseW_eq h, BitVec.toNat_add, BitVec.toNat_ofNat, BitVec.toNat_ofNat, Nat.mod_eq_of_lt (by omega)]
  congr 1
  omega

theorem off9_eq : k0_off9 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

theorem off18_eq : k0_off18 (baseW x1) = ![base S + 1024, 0] := by
  have hb := base_le h
  show ![(baseW x1 + 1024#32).toNat, 0] = _
  rw [baseW_eq h, BitVec.toNat_add, BitVec.toNat_ofNat, BitVec.toNat_ofNat, Nat.mod_eq_of_lt (by omega)]
  congr 1
  omega

/-- Every window the body touches lies inside its buffer. -/
theorem checks : Checks x1 := by
  have hb := base_le h
  have hl := h.lt 3999
  refine ⟨⟨?_, ?_, ?_⟩, ?_, ?_, ?_, ?_, ?_, ?_, ?_, ?_, ?_, ?_, ?_, ?_, ?_, ?_, ?_, ?_⟩
  · show 16 ∣ (baseW x1).toNat
    rw [baseW_eq h, BitVec.toNat_ofNat, Nat.mod_eq_of_lt (by omega)]
    exact ⟨_, rfl⟩
  · intro a; rw [off1_eq h]
    fin_cases a
    · show base S + 128 ≤ 1152; omega
    · show 0 + 128 ≤ 128; omega
  · intro a; rw [off10_eq h]
    fin_cases a
    · show base S + 128 ≤ 1152; omega
    · show 0 + 256 ≤ 256; omega

  · intro hc a
    have hon := (on2 h).1 hc
    rw [off2_eq h]
    fin_cases a
    · show base S + 128 + 128 ≤ 1152; omega
    · show 0 + 128 ≤ 128; omega

  · intro hc a
    have hon := (on3 h).1 hc
    rw [off3_eq h]
    fin_cases a
    · show base S + 256 + 128 ≤ 1152; omega
    · show 0 + 128 ≤ 128; omega

  · intro hc a
    have hon := (on4 h).1 hc
    rw [off4_eq h]
    fin_cases a
    · show base S + 384 + 128 ≤ 1152; omega
    · show 0 + 128 ≤ 128; omega

  · intro hc a
    have hon := (on5 h).1 hc
    rw [off5_eq h]
    fin_cases a
    · show base S + 512 + 128 ≤ 1152; omega
    · show 0 + 128 ≤ 128; omega

  · intro hc a
    have hon := (on6 h).1 hc
    rw [off6_eq h]
    fin_cases a
    · show base S + 640 + 128 ≤ 1152; omega
    · show 0 + 128 ≤ 128; omega

  · intro hc a
    have hon := (on7 h).1 hc
    rw [off7_eq h]
    fin_cases a
    · show base S + 768 + 128 ≤ 1152; omega
    · show 0 + 128 ≤ 128; omega

  · intro hc a
    have hon := (on8 h).1 hc
    rw [off8_eq h]
    fin_cases a
    · show base S + 896 + 128 ≤ 1152; omega
    · show 0 + 128 ≤ 128; omega

  · intro hc a
    have hon := (on9 h).1 hc
    rw [off9_eq h]
    fin_cases a
    · show base S + 1024 + 128 ≤ 1152; omega
    · show 0 + 128 ≤ 128; omega

  · intro hc a
    have hon := (on10 h).1 hc
    rw [off11_eq h]
    fin_cases a
    · show base S + 128 + 128 ≤ 1152; omega
    · show 0 + 256 ≤ 256; omega

  · intro hc a
    have hon := (on11 h).1 hc
    rw [off12_eq h]
    fin_cases a
    · show base S + 256 + 128 ≤ 1152; omega
    · show 0 + 256 ≤ 256; omega

  · intro hc a
    have hon := (on12 h).1 hc
    rw [off13_eq h]
    fin_cases a
    · show base S + 384 + 128 ≤ 1152; omega
    · show 0 + 256 ≤ 256; omega

  · intro hc a
    have hon := (on13 h).1 hc
    rw [off14_eq h]
    fin_cases a
    · show base S + 512 + 128 ≤ 1152; omega
    · show 0 + 256 ≤ 256; omega

  · intro hc a
    have hon := (on14 h).1 hc
    rw [off15_eq h]
    fin_cases a
    · show base S + 640 + 128 ≤ 1152; omega
    · show 0 + 256 ≤ 256; omega

  · intro hc a
    have hon := (on15 h).1 hc
    rw [off16_eq h]
    fin_cases a
    · show base S + 768 + 128 ≤ 1152; omega
    · show 0 + 256 ≤ 256; omega

  · intro hc a
    have hon := (on16 h).1 hc
    rw [off17_eq h]
    fin_cases a
    · show base S + 896 + 128 ≤ 1152; omega
    · show 0 + 256 ≤ 256; omega

  · intro hc a
    have hon := (on17 h).1 hc
    rw [off18_eq h]
    fin_cases a
    · show base S + 1024 + 128 ≤ 1152; omega
    · show 0 + 256 ≤ 256; omega

end Cert.WordsIdeal.Pool.AtWords
-- ==== Proof.WSame.lean ====
/-
  The second program as printed for words and as printed for the extended reals are one text: run over
  words, the two kernels, their body tables and their main functions are equal.
-/
module
public import proofs.«01_k».proof.Words
public import proofs.«01_k».proof.WordsIdeal
public import Idealize.ShloMosaic.PureOps.BitExact
public import Idealize.ShloMosaic.Lib.Tactic
public import Idealize.ShloMosaic.Lib.Tactic.ProgEq

@[expose] public section

set_option maxRecDepth 65536
set_option maxHeartbeats 4000000

noncomputable section

open Idealize.ShloMosaic Idealize.ShloMosaic.Tactic
open scoped Idealize.ShloMosaic.ProgEq

prog_eq Cert.Pool.same_kernel : Cert.Words.cc0__pool_body_words Cert.WordsIdeal.cc0__pool_body_words from Cert.Words to Cert.WordsIdeal at Idealize.ShloMosaic.Bits inferInstance by
  intros; rfl

lift_eq Cert.Pool.same_table₀ : Cert.Words.defs₀ Cert.WordsIdeal.defs₀ via Cert.Pool.same_kernel of Cert.Words.cc0__pool_body_words Cert.WordsIdeal.cc0__pool_body_words from Cert.Words to Cert.WordsIdeal at Idealize.ShloMosaic.Bits inferInstance

lift_eq Cert.Pool.same_table : Cert.Words.defs Cert.WordsIdeal.defs via Cert.Pool.same_table₀ of Cert.Words.defs₀ Cert.WordsIdeal.defs₀ from Cert.Words to Cert.WordsIdeal at Idealize.ShloMosaic.Bits inferInstance

end
-- ==== Proof.WSameMain.lean ====
/- The second program's two main functions are equal over words. -/
module
public import proofs.«01_k».proof.Proof.WSame

@[expose] public section

set_option maxRecDepth 65536
set_option maxHeartbeats 4000000

noncomputable section

namespace Cert.Pool

open Idealize.ShloMosaic Idealize.ShloMosaic.Tactic

/-- The mask's words, as each print lists them. -/
theorem same_mask : Cert.Words.lit0 = Cert.WordsIdeal.lit0 := by
  funext i
  exact (show ∀ i : Fin 16384, Cert.Words.lit0 i = Cert.WordsIdeal.lit0 i by decide +kernel) i

theorem same_main (fW : Cert.Words.Facts) (fI : Cert.WordsIdeal.Facts) :
    @Cert.Words.main Bits _ fW = @Cert.WordsIdeal.main Bits _ fI := by
  unfold Cert.Words.main
  rw [same_mask]
  sl_kernel_rfl

end Cert.Pool

end
-- ==== Proof.AtWordsFrame.lean ====
/-
  The second program over words: with every segment id from 0 to 999 it runs, leaves its arguments
  unchanged and leaves every semaphore counter at zero.
-/
module
public import proofs.«01_k».proof.Proof.AtWordsBase
public import proofs.«01_k».proof.Proof.WChecks
public import proofs.«01_k».proof.Proof.WSameMain
public import proofs.«01_k».proof.Proof.Gen.Words
public import Idealize.ShloMosaic.Lib.Quiescent
public import Idealize.ShloMosaic.Lib.Claim

@[expose] public section

set_option maxRecDepth 16384

noncomputable section

namespace Cert.WordsIdeal.Pool.AtWords

open Cert.WordsIdeal.Gen
open Idealize.ShloMosaic Idealize.ShloMosaic.TcCoe Idealize.ShloMosaic.Tactic Idealize.ShloMosaic.ValueIdx

variable (m : (ℓ : Loc nD τ sig) → Buf (Elt Bits) ℓ) (c : Dev nD)

/-- The segment ids. -/
def argS : S100000.Idx → BitVec 32 := m ((c : Thread nD τ).loc main_arg3)

theorem block_1_entry (t : Fin cfg0.N) (r : Fin 4000) :
    (iblk m c 1 t : Vec Bits S4000x1 .f32) (ix2 r 0) = (V m c main_v1 : S100000x1.Idx → Bits .f32) (ix2 (node t r) 0) := by
  blk_ext [iblk, node, index_1 t] <;> rfl

theorem ids_column (n : Fin 100000) :
    (V m c main_v1 : S100000x1.Idx → Bits .f32) (ix2 n 0) = Bits.sitofp32 (argS m c (ix1 n)) := by
  entry_read
  exact shapeCast_a_a1_apply _ _ _ _

/-- A word whose integer is from 0 to 999 is that number's. -/
theorem word_of_toInt {x : BitVec 32} (h1 : 0 ≤ x.toInt) (h2 : x.toInt < 1000) : x = BitVec.ofNat 32 x.toInt.toNat := by
  have h3 : 2 * x.toNat < 2 ^ 32 := by
    by_contra h4
    rw [BitVec.toInt_eq_toNat_cond, if_neg h4] at h1
    have := x.isLt
    omega
  rw [BitVec.toInt_eq_toNat_cond, if_pos h3, Int.toNat_natCast, BitVec.ofNat_toNat, BitVec.setWidth_eq]

/-- A block's ids are the words of whole numbers below a thousand. -/
theorem ids (h : Cert.Pool.InRange (argS m c)) (t : Fin cfg0.N) :
    Ids (iblk m c 1 t) (fun r => (argS m c (ix1 (node t r))).toInt.toNat) where
  col r := by
    rw [block_1_entry, ids_column]
    obtain ⟨h1, h2⟩ := h (ix1 (node t r))
    have e := word_of_toInt h1 h2
    rw [e, Bits.sitofp32_ofNat (by omega), ← e]
  lt r := by
    obtain ⟨h1, h2⟩ := h (ix1 (node t r))
    show (argS m c (ix1 (node t r))).toInt.toNat < 1000
    omega

theorem allChecks (h : ∀ c, Cert.Pool.InRange (argS m c)) : AllChecks m :=
  fun c t => checks (ids m c (h c) t)

end Cert.WordsIdeal.Pool.AtWords

namespace Cert.Pool

open Idealize.ShloMosaic Idealize.ShloMosaic.TcCoe Idealize.ShloMosaic.ValueIdx Idealize.SL.Sem

section
variable {a0 : FVec Bits ⟨2, ![100000, 128]⟩ .f32} {a1 : FVec Bits ⟨2, ![1000, 128]⟩ .f32} {a2 : FVec Bits ⟨2, ![100000, 1]⟩ .f32}
  {a3 : IVec ⟨1, ![100000]⟩ 32} {a4 : FVec Bits ⟨3, ![1, 4, 32]⟩ .f32} {a5 : FVec Bits ⟨2, ![128, 128]⟩ .f32} {a6 : FVec Bits ⟨1, ![128]⟩ .f32}
  {a7 : FVec Bits ⟨2, ![128, 128]⟩ .f32} {a8 : FVec Bits ⟨1, ![128]⟩ .f32}

theorem in_range_of_words [Cert.Pre_in_range.Facts]
    (h : (Cert.Pre_in_range.fn (F := Bits) a0 a1 a2 a3 a4 a5 a6 a7 a8).1 = (fun _ => 1#1)
      ∧ (Cert.Pre_in_range.fn (F := Bits) a0 a1 a2 a3 a4 a5 a6 a7 a8).2 = (fun _ => 1#1)) : InRange a3 := by
  intro n
  dsimp only [Cert.Pre_in_range.fn] at h
  have e1 := all_one h.1 n
  have e2 := all_one h.2 n
  exact ⟨IntOp.cmpi_sge.1 e1, IntOp.cmpi_slt.1 e2⟩

end

section
attribute [local instance] Cert.Words.Gen.facts Cert.WordsIdeal.Gen.facts Cert.Pre_in_range.Gen.facts

theorem at_words_in_range {m : (ℓ : Loc Cert.Words.nD Cert.Words.τ Cert.Words.sig) → Buf (Elt Bits) ℓ}
    (h : Cert.Pre_Words m) (c : Dev Cert.Words.nD) : InRange (Cert.WordsIdeal.Pool.AtWords.argS m c) :=
  in_range_of_words (h c)

theorem at_words_frame : Cert.quiescent_Words := fun m g h => by
  rw [same_table Cert.WordsIdeal.Gen.facts, same_main Cert.Words.Gen.facts Cert.WordsIdeal.Gen.facts]
  exact Cert.WordsIdeal.Pool.frame_main (F := Bits) m g (Cert.WordsIdeal.Pool.AtWords.allChecks m (at_words_in_range h))

end

end Cert.Pool
-- ==== Proof.lean ====
/- The claims of the segment-softmax pooling kernel, assembled from the modules under proof/Proof/. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Words
public import proofs.«01_k».proof.Proof.Gen.WordsIdeal
public import proofs.«01_k».proof.Proof.Gen.WordsIdeal.Skeleton
public import proofs.«01_k».proof.Proof.Gen.WordsIdeal.Launch
public import proofs.«01_k».proof.Proof.Gen.WordsIdeal.Points
public import proofs.«01_k».proof.Proof.Gen.WordsIdeal.Frame
public import proofs.«01_k».proof.Proof.Gen.Pre_in_range
public import proofs.«01_k».proof.Proof.Gen.Pre_sound
public import proofs.«01_k».proof.Proof.Frames
public import proofs.«01_k».proof.Proof.Agree
public import proofs.«01_k».proof.Proof.WFrames
public import proofs.«01_k».proof.Proof.WAgree
public import proofs.«01_k».proof.Proof.AtWordsFrame
public import Idealize.ShloMosaic.Adequacy
public import Idealize.ShloMosaic.Init

@[expose] public section

noncomputable section

namespace Cert.Proof

open Idealize.ShloMosaic Idealize.SL.Sem Cert.KernelIdeal

theorem claim : Cert.Claim := ⟨Cert.KernelIdeal.Gen.facts, Cert.ReferenceIdeal.Gen.facts, Cert.Words.Gen.facts, Cert.WordsIdeal.Gen.facts,
  Cert.Pre_in_range.Gen.facts, Cert.Pre_sound.Gen.facts,
  Cert.Pool.kernel_frame, Cert.Pool.kernel_frame_sound, Cert.Pool.reference_frame, Cert.Pool.reference_frame_sound,
  Cert.Pool.at_words_frame, Cert.Pool.words_frame, Cert.Pool.words_frame_sound,
  Cert.Pool.results_agree, trivial, Cert.Pool.words_results_agree⟩

end Cert.Proof

end
